-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelEvenIn (m : (ℓ : Loc Cert.KernelEvenIn.nD Cert.KernelEvenIn.τ Cert.KernelEvenIn.sig) → Buf (Elt Bits) ℓ) : Prop :=
  True

def Pre_KernelEvenInIdeal (m : (ℓ : Loc Cert.KernelEvenInIdeal.nD Cert.KernelEvenInIdeal.τ Cert.KernelEvenInIdeal.sig) → Buf (Elt Ideal) ℓ) : Prop :=
  True

def Pre_ReferenceEvenInIdeal (m : (ℓ : Loc Cert.ReferenceEvenInIdeal.nD Cert.ReferenceEvenInIdeal.τ Cert.ReferenceEvenInIdeal.sig) → Buf (Elt Ideal) ℓ) : Prop :=
  True

def Pre_KernelEvenOut (m : (ℓ : Loc Cert.KernelEvenOut.nD Cert.KernelEvenOut.τ Cert.KernelEvenOut.sig) → Buf (Elt Bits) ℓ) : Prop :=
  True

def Pre_KernelEvenOutIdeal (m : (ℓ : Loc Cert.KernelEvenOutIdeal.nD Cert.KernelEvenOutIdeal.τ Cert.KernelEvenOutIdeal.sig) → Buf (Elt Ideal) ℓ) : Prop :=
  True

def Pre_ReferenceEvenOutIdeal (m : (ℓ : Loc Cert.ReferenceEvenOutIdeal.nD Cert.ReferenceEvenOutIdeal.τ Cert.ReferenceEvenOutIdeal.sig) → Buf (Elt Ideal) ℓ) : Prop :=
  True

def Pre_KernelFfnUp (m : (ℓ : Loc Cert.KernelFfnUp.nD Cert.KernelFfnUp.τ Cert.KernelFfnUp.sig) → Buf (Elt Bits) ℓ) : Prop :=
  True

def Pre_KernelFfnUpIdeal (m : (ℓ : Loc Cert.KernelFfnUpIdeal.nD Cert.KernelFfnUpIdeal.τ Cert.KernelFfnUpIdeal.sig) → Buf (Elt Ideal) ℓ) : Prop :=
  True

def Pre_ReferenceFfnUpIdeal (m : (ℓ : Loc Cert.ReferenceFfnUpIdeal.nD Cert.ReferenceFfnUpIdeal.τ Cert.ReferenceFfnUpIdeal.sig) → Buf (Elt Ideal) ℓ) : Prop :=
  True

def Pre_KernelFfnDown (m : (ℓ : Loc Cert.KernelFfnDown.nD Cert.KernelFfnDown.τ Cert.KernelFfnDown.sig) → Buf (Elt Bits) ℓ) : Prop :=
  True

def Pre_KernelFfnDownIdeal (m : (ℓ : Loc Cert.KernelFfnDownIdeal.nD Cert.KernelFfnDownIdeal.τ Cert.KernelFfnDownIdeal.sig) → Buf (Elt Ideal) ℓ) : Prop :=
  True

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_KernelOddIn (m : (ℓ : Loc Cert.KernelOddIn.nD Cert.KernelOddIn.τ Cert.KernelOddIn.sig) → Buf (Elt Bits) ℓ) : Prop :=
  True

def Pre_KernelOddInIdeal (m : (ℓ : Loc Cert.KernelOddInIdeal.nD Cert.KernelOddInIdeal.τ Cert.KernelOddInIdeal.sig) → Buf (Elt Ideal) ℓ) : Prop :=
  True

def Pre_ReferenceOddInIdeal (m : (ℓ : Loc Cert.ReferenceOddInIdeal.nD Cert.ReferenceOddInIdeal.τ Cert.ReferenceOddInIdeal.sig) → Buf (Elt Ideal) ℓ) : Prop :=
  True

def Pre_KernelOddOut (m : (ℓ : Loc Cert.KernelOddOut.nD Cert.KernelOddOut.τ Cert.KernelOddOut.sig) → Buf (Elt Bits) ℓ) : Prop :=
  True

def Pre_KernelOddOutIdeal (m : (ℓ : Loc Cert.KernelOddOutIdeal.nD Cert.KernelOddOutIdeal.τ Cert.KernelOddOutIdeal.sig) → Buf (Elt Ideal) ℓ) : Prop :=
  True

def Pre_ReferenceOddOutIdeal (m : (ℓ : Loc Cert.ReferenceOddOutIdeal.nD Cert.ReferenceOddOutIdeal.τ Cert.ReferenceOddOutIdeal.sig) → Buf (Elt Ideal) ℓ) : Prop :=
  True

def Pre_KernelOddTail (m : (ℓ : Loc Cert.KernelOddTail.nD Cert.KernelOddTail.τ Cert.KernelOddTail.sig) → Buf (Elt Bits) ℓ) : Prop :=
  True

def Pre_KernelOddTailIdeal (m : (ℓ : Loc Cert.KernelOddTailIdeal.nD Cert.KernelOddTailIdeal.τ Cert.KernelOddTailIdeal.sig) → Buf (Elt Ideal) ℓ) : Prop :=
  True

def Pre_ReferenceOddTailIdeal (m : (ℓ : Loc Cert.ReferenceOddTailIdeal.nD Cert.ReferenceOddTailIdeal.τ Cert.ReferenceOddTailIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelCast (m : (ℓ : Loc Cert.KernelCast.nD Cert.KernelCast.τ Cert.KernelCast.sig) → Buf (Elt Bits) ℓ) : Prop :=
  True

def Pre_KernelCastIdeal (m : (ℓ : Loc Cert.KernelCastIdeal.nD Cert.KernelCastIdeal.τ Cert.KernelCastIdeal.sig) → Buf (Elt Ideal) ℓ) : Prop :=
  True

def Pre_ReferenceCastIdeal (m : (ℓ : Loc Cert.ReferenceCastIdeal.nD Cert.ReferenceCastIdeal.τ Cert.ReferenceCastIdeal.sig) → Buf (Elt Ideal) ℓ) : Prop :=
  True

def Pre_KernelIdxQ (m : (ℓ : Loc Cert.KernelIdxQ.nD Cert.KernelIdxQ.τ Cert.KernelIdxQ.sig) → Buf (Elt Bits) ℓ) : Prop :=
  True

def Pre_KernelIdxQIdeal (m : (ℓ : Loc Cert.KernelIdxQIdeal.nD Cert.KernelIdxQIdeal.τ Cert.KernelIdxQIdeal.sig) → Buf (Elt Ideal) ℓ) : Prop :=
  True

def Pre_ReferenceIdxQIdeal (m : (ℓ : Loc Cert.ReferenceIdxQIdeal.nD Cert.ReferenceIdxQIdeal.τ Cert.ReferenceIdxQIdeal.sig) → Buf (Elt Ideal) ℓ) : Prop :=
  True

def Pre_KernelIdxTail (m : (ℓ : Loc Cert.KernelIdxTail.nD Cert.KernelIdxTail.τ Cert.KernelIdxTail.sig) → Buf (Elt Bits) ℓ) : Prop :=
  True

def Pre_KernelIdxTailIdeal (m : (ℓ : Loc Cert.KernelIdxTailIdeal.nD Cert.KernelIdxTailIdeal.τ Cert.KernelIdxTailIdeal.sig) → Buf (Elt Ideal) ℓ) : Prop :=
  True

def Pre_ReferenceIdxTailIdeal (m : (ℓ : Loc Cert.ReferenceIdxTailIdeal.nD Cert.ReferenceIdxTailIdeal.τ Cert.ReferenceIdxTailIdeal.sig) → Buf (Elt Ideal) ℓ) : Prop :=
  True

def Pre_KernelMoeUp (m : (ℓ : Loc Cert.KernelMoeUp.nD Cert.KernelMoeUp.τ Cert.KernelMoeUp.sig) → Buf (Elt Bits) ℓ) : Prop :=
  True

def Pre_KernelMoeUpIdeal (m : (ℓ : Loc Cert.KernelMoeUpIdeal.nD Cert.KernelMoeUpIdeal.τ Cert.KernelMoeUpIdeal.sig) → Buf (Elt Ideal) ℓ) : Prop :=
  True

def Pre_KernelMoeUpIdeal_moe_up_counts [hPre_moe_up_counts : Cert.Pre_moe_up_counts.Facts] (m : (ℓ : Loc Cert.KernelMoeUpIdeal.nD Cert.KernelMoeUpIdeal.τ Cert.KernelMoeUpIdeal.sig) → Buf (Elt Ideal) ℓ) : Prop :=
  ∀ c : Dev Cert.KernelMoeUpIdeal.nD,
    (Cert.Pre_moe_up_counts.fn (F := Ideal) (m ((c.tc : Thread Cert.KernelMoeUpIdeal.nD Cert.KernelMoeUpIdeal.τ).loc Cert.KernelMoeUpIdeal.main_arg0)) (m ((c.tc : Thread Cert.KernelMoeUpIdeal.nD Cert.KernelMoeUpIdeal.τ).loc Cert.KernelMoeUpIdeal.main_arg1)) (m ((c.tc : Thread Cert.KernelMoeUpIdeal.nD Cert.KernelMoeUpIdeal.τ).loc Cert.KernelMoeUpIdeal.main_arg2)) (m ((c.tc : Thread Cert.KernelMoeUpIdeal.nD Cert.KernelMoeUpIdeal.τ).loc Cert.KernelMoeUpIdeal.main_arg3))) = (fun _ => 1#1)

def Pre_ReferenceMoeUpIdeal (m : (ℓ : Loc Cert.ReferenceMoeUpIdeal.nD Cert.ReferenceMoeUpIdeal.τ Cert.ReferenceMoeUpIdeal.sig) → Buf (Elt Ideal) ℓ) : Prop :=
  True

def Pre_ReferenceMoeUpIdeal_moe_up_counts [hPre_moe_up_counts : Cert.Pre_moe_up_counts.Facts] (m : (ℓ : Loc Cert.ReferenceMoeUpIdeal.nD Cert.ReferenceMoeUpIdeal.τ Cert.ReferenceMoeUpIdeal.sig) → Buf (Elt Ideal) ℓ) : Prop :=
  ∀ c : Dev Cert.ReferenceMoeUpIdeal.nD,
    (Cert.Pre_moe_up_counts.fn (F := Ideal) (m ((c.tc : Thread Cert.ReferenceMoeUpIdeal.nD Cert.ReferenceMoeUpIdeal.τ).loc Cert.ReferenceMoeUpIdeal.main_arg0)) (m ((c.tc : Thread Cert.ReferenceMoeUpIdeal.nD Cert.ReferenceMoeUpIdeal.τ).loc Cert.ReferenceMoeUpIdeal.main_arg1)) (m ((c.tc : Thread Cert.ReferenceMoeUpIdeal.nD Cert.ReferenceMoeUpIdeal.τ).loc Cert.ReferenceMoeUpIdeal.main_arg2)) (m ((c.tc : Thread Cert.ReferenceMoeUpIdeal.nD Cert.ReferenceMoeUpIdeal.τ).loc Cert.ReferenceMoeUpIdeal.main_arg3))) = (fun _ => 1#1)

def Pre_KernelMoeDown (m : (ℓ : Loc Cert.KernelMoeDown.nD Cert.KernelMoeDown.τ Cert.KernelMoeDown.sig) → Buf (Elt Bits) ℓ) : Prop :=
  True

def Pre_KernelMoeDownIdeal (m : (ℓ : Loc Cert.KernelMoeDownIdeal.nD Cert.KernelMoeDownIdeal.τ Cert.KernelMoeDownIdeal.sig) → Buf (Elt Ideal) ℓ) : Prop :=
  True

def Pre_KernelMoeDownIdeal_moe_down_counts [hPre_moe_down_counts : Cert.Pre_moe_down_counts.Facts] (m : (ℓ : Loc Cert.KernelMoeDownIdeal.nD Cert.KernelMoeDownIdeal.τ Cert.KernelMoeDownIdeal.sig) → Buf (Elt Ideal) ℓ) : Prop :=
  ∀ c : Dev Cert.KernelMoeDownIdeal.nD,
    (Cert.Pre_moe_down_counts.fn (F := Ideal) (m ((c.tc : Thread Cert.KernelMoeDownIdeal.nD Cert.KernelMoeDownIdeal.τ).loc Cert.KernelMoeDownIdeal.main_arg0)) (m ((c.tc : Thread Cert.KernelMoeDownIdeal.nD Cert.KernelMoeDownIdeal.τ).loc Cert.KernelMoeDownIdeal.main_arg1)) (m ((c.tc : Thread Cert.KernelMoeDownIdeal.nD Cert.KernelMoeDownIdeal.τ).loc Cert.KernelMoeDownIdeal.main_arg2))) = (fun _ => 1#1)

def Pre_ReferenceMoeDownIdeal (m : (ℓ : Loc Cert.ReferenceMoeDownIdeal.nD Cert.ReferenceMoeDownIdeal.τ Cert.ReferenceMoeDownIdeal.sig) → Buf (Elt Ideal) ℓ) : Prop :=
  True

def Pre_ReferenceMoeDownIdeal_moe_down_counts [hPre_moe_down_counts : Cert.Pre_moe_down_counts.Facts] (m : (ℓ : Loc Cert.ReferenceMoeDownIdeal.nD Cert.ReferenceMoeDownIdeal.τ Cert.ReferenceMoeDownIdeal.sig) → Buf (Elt Ideal) ℓ) : Prop :=
  ∀ c : Dev Cert.ReferenceMoeDownIdeal.nD,
    (Cert.Pre_moe_down_counts.fn (F := Ideal) (m ((c.tc : Thread Cert.ReferenceMoeDownIdeal.nD Cert.ReferenceMoeDownIdeal.τ).loc Cert.ReferenceMoeDownIdeal.main_arg0)) (m ((c.tc : Thread Cert.ReferenceMoeDownIdeal.nD Cert.ReferenceMoeDownIdeal.τ).loc Cert.ReferenceMoeDownIdeal.main_arg1)) (m ((c.tc : Thread Cert.ReferenceMoeDownIdeal.nD Cert.ReferenceMoeDownIdeal.τ).loc Cert.ReferenceMoeDownIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelEvenIn [hKernelEvenIn : Cert.KernelEvenIn.Facts] : Prop :=
  ∀ (m : (ℓ : Loc Cert.KernelEvenIn.nD Cert.KernelEvenIn.τ Cert.KernelEvenIn.sig) → Buf (Elt Bits) ℓ) (g : Dev Cert.KernelEvenIn.nD → PrngReg), Pre_KernelEvenIn m →
    θ_run (Cert.KernelEvenIn.defs (F := Bits)) (onTc (τ := Cert.KernelEvenIn.τ) (Cert.KernelEvenIn.main (F := Bits))) ⟨m, fun _ => 0, g⟩ (fun r => (∀ c : Dev Cert.KernelEvenIn.nD,
      r.2.mem ((c.tc : Thread Cert.KernelEvenIn.nD Cert.KernelEvenIn.τ).loc Cert.KernelEvenIn.main_arg0) = m ((c.tc : Thread Cert.KernelEvenIn.nD Cert.KernelEvenIn.τ).loc Cert.KernelEvenIn.main_arg0)
      ∧ r.2.mem ((c.tc : Thread Cert.KernelEvenIn.nD Cert.KernelEvenIn.τ).loc Cert.KernelEvenIn.main_arg1) = m ((c.tc : Thread Cert.KernelEvenIn.nD Cert.KernelEvenIn.τ).loc Cert.KernelEvenIn.main_arg1))
      ∧ r.2.sem = fun _ => 0)

def quiescent_KernelEvenInIdeal [hKernelEvenInIdeal : Cert.KernelEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg), Pre_KernelEvenInIdeal m →
    θ_run (Cert.KernelEvenInIdeal.defs (F := Ideal)) (onTc (τ := Cert.KernelEvenInIdeal.τ) (Cert.KernelEvenInIdeal.main (F := Ideal))) ⟨m, fun _ => 0, g⟩ (fun r => (∀ c : Dev Cert.KernelEvenInIdeal.nD,
      r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
      ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1))
      ∧ r.2.sem = fun _ => 0)

def quiescent_ReferenceEvenInIdeal [hReferenceEvenInIdeal : Cert.ReferenceEvenInIdeal.Facts] : Prop :=
  ∀ (m : (ℓ : Loc Cert.ReferenceEvenInIdeal.nD Cert.ReferenceEvenInIdeal.τ Cert.ReferenceEvenInIdeal.sig) → Buf (Elt Ideal) ℓ) (g : Dev Cert.ReferenceEvenInIdeal.nD → PrngReg), Pre_ReferenceEvenInIdeal m →
    θ_run (Cert.ReferenceEvenInIdeal.defs (F := Ideal)) (onTc (τ := Cert.ReferenceEvenInIdeal.τ) (Cert.ReferenceEvenInIdeal.main (F := Ideal))) ⟨m, fun _ => 0, g⟩ (fun r => (∀ c : Dev Cert.ReferenceEvenInIdeal.nD,
      r.2.mem ((c.tc : Thread Cert.ReferenceEvenInIdeal.nD Cert.ReferenceEvenInIdeal.τ).loc Cert.ReferenceEvenInIdeal.main_arg0) = m ((c.tc : Thread Cert.ReferenceEvenInIdeal.nD Cert.ReferenceEvenInIdeal.τ).loc Cert.ReferenceEvenInIdeal.main_arg0)
      ∧ r.2.mem ((c.tc : Thread Cert.ReferenceEvenInIdeal.nD Cert.ReferenceEvenInIdeal.τ).loc Cert.ReferenceEvenInIdeal.main_arg1) = m ((c.tc : Thread Cert.ReferenceEvenInIdeal.nD Cert.ReferenceEvenInIdeal.τ).loc Cert.ReferenceEvenInIdeal.main_arg1))
      ∧ r.2.sem = fun _ => 0)

def quiescent_KernelEvenOut [hKernelEvenOut : Cert.KernelEvenOut.Facts] : Prop :=
  ∀ (m : (ℓ : Loc Cert.KernelEvenOut.nD Cert.KernelEvenOut.τ Cert.KernelEvenOut.sig) → Buf (Elt Bits) ℓ) (g : Dev Cert.KernelEvenOut.nD → PrngReg), Pre_KernelEvenOut m →
    θ_run (Cert.KernelEvenOut.defs (F := Bits)) (onTc (τ := Cert.KernelEvenOut.τ) (Cert.KernelEvenOut.main (F := Bits))) ⟨m, fun _ => 0, g⟩ (fun r => (∀ c : Dev Cert.KernelEvenOut.nD,
      r.2.mem ((c.tc : Thread Cert.KernelEvenOut.nD Cert.KernelEvenOut.τ).loc Cert.KernelEvenOut.main_arg0) = m ((c.tc : Thread Cert.KernelEvenOut.nD Cert.KernelEvenOut.τ).loc Cert.KernelEvenOut.main_arg0)
      ∧ r.2.mem ((c.tc : Thread Cert.KernelEvenOut.nD Cert.KernelEvenOut.τ).loc Cert.KernelEvenOut.main_arg1) = m ((c.tc : Thread Cert.KernelEvenOut.nD Cert.KernelEvenOut.τ).loc Cert.KernelEvenOut.main_arg1)
      ∧ r.2.mem ((c.tc : Thread Cert.KernelEvenOut.nD Cert.KernelEvenOut.τ).loc Cert.KernelEvenOut.main_arg2) = m ((c.tc : Thread Cert.KernelEvenOut.nD Cert.KernelEvenOut.τ).loc Cert.KernelEvenOut.main_arg2))
      ∧ r.2.sem = fun _ => 0)

def quiescent_KernelEvenOutIdeal [hKernelEvenOutIdeal : Cert.KernelEvenOutIdeal.Facts] : Prop :=
  ∀ (m : (ℓ : Loc Cert.KernelEvenOutIdeal.nD Cert.KernelEvenOutIdeal.τ Cert.KernelEvenOutIdeal.sig) → Buf (Elt Ideal) ℓ) (g : Dev Cert.KernelEvenOutIdeal.nD → PrngReg), Pre_KernelEvenOutIdeal m →
    θ_run (Cert.KernelEvenOutIdeal.defs (F := Ideal)) (onTc (τ := Cert.KernelEvenOutIdeal.τ) (Cert.KernelEvenOutIdeal.main (F := Ideal))) ⟨m, fun _ => 0, g⟩ (fun r => (∀ c : Dev Cert.KernelEvenOutIdeal.nD,
      r.2.mem ((c.tc : Thread Cert.KernelEvenOutIdeal.nD Cert.KernelEvenOutIdeal.τ).loc Cert.KernelEvenOutIdeal.main_arg0) = m ((c.tc : Thread Cert.KernelEvenOutIdeal.nD Cert.KernelEvenOutIdeal.τ).loc Cert.KernelEvenOutIdeal.main_arg0)
      ∧ r.2.mem ((c.tc : Thread Cert.KernelEvenOutIdeal.nD Cert.KernelEvenOutIdeal.τ).loc Cert.KernelEvenOutIdeal.main_arg1) = m ((c.tc : Thread Cert.KernelEvenOutIdeal.nD Cert.KernelEvenOutIdeal.τ).loc Cert.KernelEvenOutIdeal.main_arg1)
      ∧ r.2.mem ((c.tc : Thread Cert.KernelEvenOutIdeal.nD Cert.KernelEvenOutIdeal.τ).loc Cert.KernelEvenOutIdeal.main_arg2) = m ((c.tc : Thread Cert.KernelEvenOutIdeal.nD Cert.KernelEvenOutIdeal.τ).loc Cert.KernelEvenOutIdeal.main_arg2))
      ∧ r.2.sem = fun _ => 0)

def quiescent_ReferenceEvenOutIdeal [hReferenceEvenOutIdeal : Cert.ReferenceEvenOutIdeal.Facts] : Prop :=
  ∀ (m : (ℓ : Loc Cert.ReferenceEvenOutIdeal.nD Cert.ReferenceEvenOutIdeal.τ Cert.ReferenceEvenOutIdeal.sig) → Buf (Elt Ideal) ℓ) (g : Dev Cert.ReferenceEvenOutIdeal.nD → PrngReg), Pre_ReferenceEvenOutIdeal m →
    θ_run (Cert.ReferenceEvenOutIdeal.defs (F := Ideal)) (onTc (τ := Cert.ReferenceEvenOutIdeal.τ) (Cert.ReferenceEvenOutIdeal.main (F := Ideal))) ⟨m, fun _ => 0, g⟩ (fun r => (∀ c : Dev Cert.ReferenceEvenOutIdeal.nD,
      r.2.mem ((c.tc : Thread Cert.ReferenceEvenOutIdeal.nD Cert.ReferenceEvenOutIdeal.τ).loc Cert.ReferenceEvenOutIdeal.main_arg0) = m ((c.tc : Thread Cert.ReferenceEvenOutIdeal.nD Cert.ReferenceEvenOutIdeal.τ).loc Cert.ReferenceEvenOutIdeal.main_arg0)
      ∧ r.2.mem ((c.tc : Thread Cert.ReferenceEvenOutIdeal.nD Cert.ReferenceEvenOutIdeal.τ).loc Cert.ReferenceEvenOutIdeal.main_arg1) = m ((c.tc : Thread Cert.ReferenceEvenOutIdeal.nD Cert.ReferenceEvenOutIdeal.τ).loc Cert.ReferenceEvenOutIdeal.main_arg1)
      ∧ r.2.mem ((c.tc : Thread Cert.ReferenceEvenOutIdeal.nD Cert.ReferenceEvenOutIdeal.τ).loc Cert.ReferenceEvenOutIdeal.main_arg2) = m ((c.tc : Thread Cert.ReferenceEvenOutIdeal.nD Cert.ReferenceEvenOutIdeal.τ).loc Cert.ReferenceEvenOutIdeal.main_arg2))
      ∧ r.2.sem = fun _ => 0)

def quiescent_KernelFfnUp [hKernelFfnUp : Cert.KernelFfnUp.Facts] : Prop :=
  ∀ (m : (ℓ : Loc Cert.KernelFfnUp.nD Cert.KernelFfnUp.τ Cert.KernelFfnUp.sig) → Buf (Elt Bits) ℓ) (g : Dev Cert.KernelFfnUp.nD → PrngReg), Pre_KernelFfnUp m →
    θ_run (Cert.KernelFfnUp.defs (F := Bits)) (onTc (τ := Cert.KernelFfnUp.τ) (Cert.KernelFfnUp.main (F := Bits))) ⟨m, fun _ => 0, g⟩ (fun r => (∀ c : Dev Cert.KernelFfnUp.nD,
      r.2.mem ((c.tc : Thread Cert.KernelFfnUp.nD Cert.KernelFfnUp.τ).loc Cert.KernelFfnUp.main_arg0) = m ((c.tc : Thread Cert.KernelFfnUp.nD Cert.KernelFfnUp.τ).loc Cert.KernelFfnUp.main_arg0)
      ∧ r.2.mem ((c.tc : Thread Cert.KernelFfnUp.nD Cert.KernelFfnUp.τ).loc Cert.KernelFfnUp.main_arg1) = m ((c.tc : Thread Cert.KernelFfnUp.nD Cert.KernelFfnUp.τ).loc Cert.KernelFfnUp.main_arg1)
      ∧ r.2.mem ((c.tc : Thread Cert.KernelFfnUp.nD Cert.KernelFfnUp.τ).loc Cert.KernelFfnUp.main_arg2) = m ((c.tc : Thread Cert.KernelFfnUp.nD Cert.KernelFfnUp.τ).loc Cert.KernelFfnUp.main_arg2))
      ∧ r.2.sem = fun _ => 0)

def quiescent_KernelFfnUpIdeal [hKernelFfnUpIdeal : Cert.KernelFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg), Pre_KernelFfnUpIdeal m →
    θ_run (Cert.KernelFfnUpIdeal.defs (F := Ideal)) (onTc (τ := Cert.KernelFfnUpIdeal.τ) (Cert.KernelFfnUpIdeal.main (F := Ideal))) ⟨m, fun _ => 0, g⟩ (fun r => (∀ c : Dev Cert.KernelFfnUpIdeal.nD,
      r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
      ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1)
      ∧ r.2.mem ((c.tc : Thread Cert.KernelFfnUpIdeal.nD Cert.KernelFfnUpIdeal.τ).loc Cert.KernelFfnUpIdeal.main_arg2) = m ((c.tc : Thread Cert.KernelFfnUpIdeal.nD Cert.KernelFfnUpIdeal.τ).loc Cert.KernelFfnUpIdeal.main_arg2))
      ∧ r.2.sem = fun _ => 0)

def quiescent_ReferenceFfnUpIdeal [hReferenceFfnUpIdeal : Cert.ReferenceFfnUpIdeal.Facts] : Prop :=
  ∀ (m : (ℓ : Loc Cert.ReferenceFfnUpIdeal.nD Cert.ReferenceFfnUpIdeal.τ Cert.ReferenceFfnUpIdeal.sig) → Buf (Elt Ideal) ℓ) (g : Dev Cert.ReferenceFfnUpIdeal.nD → PrngReg), Pre_ReferenceFfnUpIdeal m →
    θ_run (Cert.ReferenceFfnUpIdeal.defs (F := Ideal)) (onTc (τ := Cert.ReferenceFfnUpIdeal.τ) (Cert.ReferenceFfnUpIdeal.main (F := Ideal))) ⟨m, fun _ => 0, g⟩ (fun r => (∀ c : Dev Cert.ReferenceFfnUpIdeal.nD,
      r.2.mem ((c.tc : Thread Cert.ReferenceFfnUpIdeal.nD Cert.ReferenceFfnUpIdeal.τ).loc Cert.ReferenceFfnUpIdeal.main_arg0) = m ((c.tc : Thread Cert.ReferenceFfnUpIdeal.nD Cert.ReferenceFfnUpIdeal.τ).loc Cert.ReferenceFfnUpIdeal.main_arg0)
      ∧ r.2.mem ((c.tc : Thread Cert.ReferenceFfnUpIdeal.nD Cert.ReferenceFfnUpIdeal.τ).loc Cert.ReferenceFfnUpIdeal.main_arg1) = m ((c.tc : Thread Cert.ReferenceFfnUpIdeal.nD Cert.ReferenceFfnUpIdeal.τ).loc Cert.ReferenceFfnUpIdeal.main_arg1)
      ∧ r.2.mem ((c.tc : Thread Cert.ReferenceFfnUpIdeal.nD Cert.ReferenceFfnUpIdeal.τ).loc Cert.ReferenceFfnUpIdeal.main_arg2) = m ((c.tc : Thread Cert.ReferenceFfnUpIdeal.nD Cert.ReferenceFfnUpIdeal.τ).loc Cert.ReferenceFfnUpIdeal.main_arg2))
      ∧ r.2.sem = fun _ => 0)

def quiescent_KernelFfnDown [hKernelFfnDown : Cert.KernelFfnDown.Facts] : Prop :=
  ∀ (m : (ℓ : Loc Cert.KernelFfnDown.nD Cert.KernelFfnDown.τ Cert.KernelFfnDown.sig) → Buf (Elt Bits) ℓ) (g : Dev Cert.KernelFfnDown.nD → PrngReg), Pre_KernelFfnDown m →
    θ_run (Cert.KernelFfnDown.defs (F := Bits)) (onTc (τ := Cert.KernelFfnDown.τ) (Cert.KernelFfnDown.main (F := Bits))) ⟨m, fun _ => 0, g⟩ (fun r => (∀ c : Dev Cert.KernelFfnDown.nD,
      r.2.mem ((c.tc : Thread Cert.KernelFfnDown.nD Cert.KernelFfnDown.τ).loc Cert.KernelFfnDown.main_arg0) = m ((c.tc : Thread Cert.KernelFfnDown.nD Cert.KernelFfnDown.τ).loc Cert.KernelFfnDown.main_arg0)
      ∧ r.2.mem ((c.tc : Thread Cert.KernelFfnDown.nD Cert.KernelFfnDown.τ).loc Cert.KernelFfnDown.main_arg1) = m ((c.tc : Thread Cert.KernelFfnDown.nD Cert.KernelFfnDown.τ).loc Cert.KernelFfnDown.main_arg1))
      ∧ r.2.sem = fun _ => 0)

def quiescent_KernelFfnDownIdeal [hKernelFfnDownIdeal : Cert.KernelFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1))
      ∧ r.2.sem = fun _ => 0)

def quiescent_KernelOddIn [hKernelOddIn : Cert.KernelOddIn.Facts] : Prop :=
  ∀ (m : (ℓ : Loc Cert.KernelOddIn.nD Cert.KernelOddIn.τ Cert.KernelOddIn.sig) → Buf (Elt Bits) ℓ) (g : Dev Cert.KernelOddIn.nD → PrngReg), Pre_KernelOddIn m →
    θ_run (Cert.KernelOddIn.defs (F := Bits)) (onTc (τ := Cert.KernelOddIn.τ) (Cert.KernelOddIn.main (F := Bits))) ⟨m, fun _ => 0, g⟩ (fun r => (∀ c : Dev Cert.KernelOddIn.nD,
      r.2.mem ((c.tc : Thread Cert.KernelOddIn.nD Cert.KernelOddIn.τ).loc Cert.KernelOddIn.main_arg0) = m ((c.tc : Thread Cert.KernelOddIn.nD Cert.KernelOddIn.τ).loc Cert.KernelOddIn.main_arg0)
      ∧ r.2.mem ((c.tc : Thread Cert.KernelOddIn.nD Cert.KernelOddIn.τ).loc Cert.KernelOddIn.main_arg1) = m ((c.tc : Thread Cert.KernelOddIn.nD Cert.KernelOddIn.τ).loc Cert.KernelOddIn.main_arg1))
      ∧ r.2.sem = fun _ => 0)

def quiescent_KernelOddInIdeal [hKernelOddInIdeal : Cert.KernelOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg), Pre_KernelOddInIdeal m →
    θ_run (Cert.KernelOddInIdeal.defs (F := Ideal)) (onTc (τ := Cert.KernelOddInIdeal.τ) (Cert.KernelOddInIdeal.main (F := Ideal))) ⟨m, fun _ => 0, g⟩ (fun r => (∀ c : Dev Cert.KernelOddInIdeal.nD,
      r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
      ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1))
      ∧ r.2.sem = fun _ => 0)

def quiescent_ReferenceOddInIdeal [hReferenceOddInIdeal : Cert.ReferenceOddInIdeal.Facts] : Prop :=
  ∀ (m : (ℓ : Loc Cert.ReferenceOddInIdeal.nD Cert.ReferenceOddInIdeal.τ Cert.ReferenceOddInIdeal.sig) → Buf (Elt Ideal) ℓ) (g : Dev Cert.ReferenceOddInIdeal.nD → PrngReg), Pre_ReferenceOddInIdeal m →
    θ_run (Cert.ReferenceOddInIdeal.defs (F := Ideal)) (onTc (τ := Cert.ReferenceOddInIdeal.τ) (Cert.ReferenceOddInIdeal.main (F := Ideal))) ⟨m, fun _ => 0, g⟩ (fun r => (∀ c : Dev Cert.ReferenceOddInIdeal.nD,
      r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
      ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1))
      ∧ r.2.sem = fun _ => 0)

def quiescent_KernelOddOut [hKernelOddOut : Cert.KernelOddOut.Facts] : Prop :=
  ∀ (m : (ℓ : Loc Cert.KernelOddOut.nD Cert.KernelOddOut.τ Cert.KernelOddOut.sig) → Buf (Elt Bits) ℓ) (g : Dev Cert.KernelOddOut.nD → PrngReg), Pre_KernelOddOut m →
    θ_run (Cert.KernelOddOut.defs (F := Bits)) (onTc (τ := Cert.KernelOddOut.τ) (Cert.KernelOddOut.main (F := Bits))) ⟨m, fun _ => 0, g⟩ (fun r => (∀ c : Dev Cert.KernelOddOut.nD,
      r.2.mem ((c.tc : Thread Cert.KernelOddOut.nD Cert.KernelOddOut.τ).loc Cert.KernelOddOut.main_arg0) = m ((c.tc : Thread Cert.KernelOddOut.nD Cert.KernelOddOut.τ).loc Cert.KernelOddOut.main_arg0)
      ∧ r.2.mem ((c.tc : Thread Cert.KernelOddOut.nD Cert.KernelOddOut.τ).loc Cert.KernelOddOut.main_arg1) = m ((c.tc : Thread Cert.KernelOddOut.nD Cert.KernelOddOut.τ).loc Cert.KernelOddOut.main_arg1))
      ∧ r.2.sem = fun _ => 0)

def quiescent_KernelOddOutIdeal [hKernelOddOutIdeal : Cert.KernelOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg), Pre_KernelOddOutIdeal m →
    θ_run (Cert.KernelOddOutIdeal.defs (F := Ideal)) (onTc (τ := Cert.KernelOddOutIdeal.τ) (Cert.KernelOddOutIdeal.main (F := Ideal))) ⟨m, fun _ => 0, g⟩ (fun r => (∀ c : Dev Cert.KernelOddOutIdeal.nD,
      r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
      ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1))
      ∧ r.2.sem = fun _ => 0)

def quiescent_ReferenceOddOutIdeal [hReferenceOddOutIdeal : Cert.ReferenceOddOutIdeal.Facts] : Prop :=
  ∀ (m : (ℓ : Loc Cert.ReferenceOddOutIdeal.nD Cert.ReferenceOddOutIdeal.τ Cert.ReferenceOddOutIdeal.sig) → Buf (Elt Ideal) ℓ) (g : Dev Cert.ReferenceOddOutIdeal.nD → PrngReg), Pre_ReferenceOddOutIdeal m →
    θ_run (Cert.ReferenceOddOutIdeal.defs (F := Ideal)) (onTc (τ := Cert.ReferenceOddOutIdeal.τ) (Cert.ReferenceOddOutIdeal.main (F := Ideal))) ⟨m, fun _ => 0, g⟩ (fun r => (∀ c : Dev Cert.ReferenceOddOutIdeal.nD,
      r.2.mem ((c.tc : Thread Cert.ReferenceOddOutIdeal.nD Cert.ReferenceOddOutIdeal.τ).loc Cert.ReferenceOddOutIdeal.main_arg0) = m ((c.tc : Thread Cert.ReferenceOddOutIdeal.nD Cert.ReferenceOddOutIdeal.τ).loc Cert.ReferenceOddOutIdeal.main_arg0)
      ∧ r.2.mem ((c.tc : Thread Cert.ReferenceOddOutIdeal.nD Cert.ReferenceOddOutIdeal.τ).loc Cert.ReferenceOddOutIdeal.main_arg1) = m ((c.tc : Thread Cert.ReferenceOddOutIdeal.nD Cert.ReferenceOddOutIdeal.τ).loc Cert.ReferenceOddOutIdeal.main_arg1))
      ∧ r.2.sem = fun _ => 0)

def quiescent_KernelOddTail [hKernelOddTail : Cert.KernelOddTail.Facts] : Prop :=
  ∀ (m : (ℓ : Loc Cert.KernelOddTail.nD Cert.KernelOddTail.τ Cert.KernelOddTail.sig) → Buf (Elt Bits) ℓ) (g : Dev Cert.KernelOddTail.nD → PrngReg), Pre_KernelOddTail m →
    θ_run (Cert.KernelOddTail.defs (F := Bits)) (onTc (τ := Cert.KernelOddTail.τ) (Cert.KernelOddTail.main (F := Bits))) ⟨m, fun _ => 0, g⟩ (fun r => (∀ c : Dev Cert.KernelOddTail.nD,
      r.2.mem ((c.tc : Thread Cert.KernelOddTail.nD Cert.KernelOddTail.τ).loc Cert.KernelOddTail.main_arg0) = m ((c.tc : Thread Cert.KernelOddTail.nD Cert.KernelOddTail.τ).loc Cert.KernelOddTail.main_arg0)
      ∧ r.2.mem ((c.tc : Thread Cert.KernelOddTail.nD Cert.KernelOddTail.τ).loc Cert.KernelOddTail.main_arg1) = m ((c.tc : Thread Cert.KernelOddTail.nD Cert.KernelOddTail.τ).loc Cert.KernelOddTail.main_arg1))
      ∧ r.2.sem = fun _ => 0)

def quiescent_KernelOddTailIdeal [hKernelOddTailIdeal : Cert.KernelOddTailIdeal.Facts] : Prop :=
  ∀ (m : (ℓ : Loc Cert.KernelOddTailIdeal.nD Cert.KernelOddTailIdeal.τ Cert.KernelOddTailIdeal.sig) → Buf (Elt Ideal) ℓ) (g : Dev Cert.KernelOddTailIdeal.nD → PrngReg), Pre_KernelOddTailIdeal m →
    θ_run (Cert.KernelOddTailIdeal.defs (F := Ideal)) (onTc (τ := Cert.KernelOddTailIdeal.τ) (Cert.KernelOddTailIdeal.main (F := Ideal))) ⟨m, fun _ => 0, g⟩ (fun r => (∀ c : Dev Cert.KernelOddTailIdeal.nD,
      r.2.mem ((c.tc : Thread Cert.KernelOddTailIdeal.nD Cert.KernelOddTailIdeal.τ).loc Cert.KernelOddTailIdeal.main_arg0) = m ((c.tc : Thread Cert.KernelOddTailIdeal.nD Cert.KernelOddTailIdeal.τ).loc Cert.KernelOddTailIdeal.main_arg0)
      ∧ r.2.mem ((c.tc : Thread Cert.KernelOddTailIdeal.nD Cert.KernelOddTailIdeal.τ).loc Cert.KernelOddTailIdeal.main_arg1) = m ((c.tc : Thread Cert.KernelOddTailIdeal.nD Cert.KernelOddTailIdeal.τ).loc Cert.KernelOddTailIdeal.main_arg1))
      ∧ r.2.sem = fun _ => 0)

def quiescent_ReferenceOddTailIdeal [hReferenceOddTailIdeal : Cert.ReferenceOddTailIdeal.Facts] : Prop :=
  ∀ (m : (ℓ : Loc Cert.ReferenceOddTailIdeal.nD Cert.ReferenceOddTailIdeal.τ Cert.ReferenceOddTailIdeal.sig) → Buf (Elt Ideal) ℓ) (g : Dev Cert.ReferenceOddTailIdeal.nD → PrngReg), Pre_ReferenceOddTailIdeal m →
    θ_run (Cert.ReferenceOddTailIdeal.defs (F := Ideal)) (onTc (τ := Cert.ReferenceOddTailIdeal.τ) (Cert.ReferenceOddTailIdeal.main (F := Ideal))) ⟨m, fun _ => 0, g⟩ (fun r => (∀ c : Dev Cert.ReferenceOddTailIdeal.nD,
      r.2.mem ((c.tc : Thread Cert.ReferenceOddTailIdeal.nD Cert.ReferenceOddTailIdeal.τ).loc Cert.ReferenceOddTailIdeal.main_arg0) = m ((c.tc : Thread Cert.ReferenceOddTailIdeal.nD Cert.ReferenceOddTailIdeal.τ).loc Cert.ReferenceOddTailIdeal.main_arg0)
      ∧ r.2.mem ((c.tc : Thread Cert.ReferenceOddTailIdeal.nD Cert.ReferenceOddTailIdeal.τ).loc Cert.ReferenceOddTailIdeal.main_arg1) = m ((c.tc : Thread Cert.ReferenceOddTailIdeal.nD Cert.ReferenceOddTailIdeal.τ).loc Cert.ReferenceOddTailIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0))
      ∧ r.2.sem = fun _ => 0)

def quiescent_KernelCast [hKernelCast : Cert.KernelCast.Facts] : Prop :=
  ∀ (m : (ℓ : Loc Cert.KernelCast.nD Cert.KernelCast.τ Cert.KernelCast.sig) → Buf (Elt Bits) ℓ) (g : Dev Cert.KernelCast.nD → PrngReg), Pre_KernelCast m →
    θ_run (Cert.KernelCast.defs (F := Bits)) (onTc (τ := Cert.KernelCast.τ) (Cert.KernelCast.main (F := Bits))) ⟨m, fun _ => 0, g⟩ (fun r => (∀ c : Dev Cert.KernelCast.nD,
      r.2.mem ((c.tc : Thread Cert.KernelCast.nD Cert.KernelCast.τ).loc Cert.KernelCast.main_arg0) = m ((c.tc : Thread Cert.KernelCast.nD Cert.KernelCast.τ).loc Cert.KernelCast.main_arg0))
      ∧ r.2.sem = fun _ => 0)

def quiescent_KernelCastIdeal [hKernelCastIdeal : Cert.KernelCastIdeal.Facts] : Prop :=
  ∀ (m : (ℓ : Loc Cert.KernelCastIdeal.nD Cert.KernelCastIdeal.τ Cert.KernelCastIdeal.sig) → Buf (Elt Ideal) ℓ) (g : Dev Cert.KernelCastIdeal.nD → PrngReg), Pre_KernelCastIdeal m →
    θ_run (Cert.KernelCastIdeal.defs (F := Ideal)) (onTc (τ := Cert.KernelCastIdeal.τ) (Cert.KernelCastIdeal.main (F := Ideal))) ⟨m, fun _ => 0, g⟩ (fun r => (∀ c : Dev Cert.KernelCastIdeal.nD,
      r.2.mem ((c.tc : Thread Cert.KernelCastIdeal.nD Cert.KernelCastIdeal.τ).loc Cert.KernelCastIdeal.main_arg0) = m ((c.tc : Thread Cert.KernelCastIdeal.nD Cert.KernelCastIdeal.τ).loc Cert.KernelCastIdeal.main_arg0))
      ∧ r.2.sem = fun _ => 0)

def quiescent_ReferenceCastIdeal [hReferenceCastIdeal : Cert.ReferenceCastIdeal.Facts] : Prop :=
  ∀ (m : (ℓ : Loc Cert.ReferenceCastIdeal.nD Cert.ReferenceCastIdeal.τ Cert.ReferenceCastIdeal.sig) → Buf (Elt Ideal) ℓ) (g : Dev Cert.ReferenceCastIdeal.nD → PrngReg), Pre_ReferenceCastIdeal m →
    θ_run (Cert.ReferenceCastIdeal.defs (F := Ideal)) (onTc (τ := Cert.ReferenceCastIdeal.τ) (Cert.ReferenceCastIdeal.main (F := Ideal))) ⟨m, fun _ => 0, g⟩ (fun r => (∀ c : Dev Cert.ReferenceCastIdeal.nD,
      r.2.mem ((c.tc : Thread Cert.ReferenceCastIdeal.nD Cert.ReferenceCastIdeal.τ).loc Cert.ReferenceCastIdeal.main_arg0) = m ((c.tc : Thread Cert.ReferenceCastIdeal.nD Cert.ReferenceCastIdeal.τ).loc Cert.ReferenceCastIdeal.main_arg0))
      ∧ r.2.sem = fun _ => 0)

def quiescent_KernelIdxQ [hKernelIdxQ : Cert.KernelIdxQ.Facts] : Prop :=
  ∀ (m : (ℓ : Loc Cert.KernelIdxQ.nD Cert.KernelIdxQ.τ Cert.KernelIdxQ.sig) → Buf (Elt Bits) ℓ) (g : Dev Cert.KernelIdxQ.nD → PrngReg), Pre_KernelIdxQ m →
    θ_run (Cert.KernelIdxQ.defs (F := Bits)) (onTc (τ := Cert.KernelIdxQ.τ) (Cert.KernelIdxQ.main (F := Bits))) ⟨m, fun _ => 0, g⟩ (fun r => (∀ c : Dev Cert.KernelIdxQ.nD,
      r.2.mem ((c.tc : Thread Cert.KernelIdxQ.nD Cert.KernelIdxQ.τ).loc Cert.KernelIdxQ.main_arg0) = m ((c.tc : Thread Cert.KernelIdxQ.nD Cert.KernelIdxQ.τ).loc Cert.KernelIdxQ.main_arg0))
      ∧ r.2.sem = fun _ => 0)

def quiescent_KernelIdxQIdeal [hKernelIdxQIdeal : Cert.KernelIdxQIdeal.Facts] : Prop :=
  ∀ (m : (ℓ : Loc Cert.KernelIdxQIdeal.nD Cert.KernelIdxQIdeal.τ Cert.KernelIdxQIdeal.sig) → Buf (Elt Ideal) ℓ) (g : Dev Cert.KernelIdxQIdeal.nD → PrngReg), Pre_KernelIdxQIdeal m →
    θ_run (Cert.KernelIdxQIdeal.defs (F := Ideal)) (onTc (τ := Cert.KernelIdxQIdeal.τ) (Cert.KernelIdxQIdeal.main (F := Ideal))) ⟨m, fun _ => 0, g⟩ (fun r => (∀ c : Dev Cert.KernelIdxQIdeal.nD,
      r.2.mem ((c.tc : Thread Cert.KernelIdxQIdeal.nD Cert.KernelIdxQIdeal.τ).loc Cert.KernelIdxQIdeal.main_arg0) = m ((c.tc : Thread Cert.KernelIdxQIdeal.nD Cert.KernelIdxQIdeal.τ).loc Cert.KernelIdxQIdeal.main_arg0))
      ∧ r.2.sem = fun _ => 0)

def quiescent_ReferenceIdxQIdeal [hReferenceIdxQIdeal : Cert.ReferenceIdxQIdeal.Facts] : Prop :=
  ∀ (m : (ℓ : Loc Cert.ReferenceIdxQIdeal.nD Cert.ReferenceIdxQIdeal.τ Cert.ReferenceIdxQIdeal.sig) → Buf (Elt Ideal) ℓ) (g : Dev Cert.ReferenceIdxQIdeal.nD → PrngReg), Pre_ReferenceIdxQIdeal m →
    θ_run (Cert.ReferenceIdxQIdeal.defs (F := Ideal)) (onTc (τ := Cert.ReferenceIdxQIdeal.τ) (Cert.ReferenceIdxQIdeal.main (F := Ideal))) ⟨m, fun _ => 0, g⟩ (fun r => (∀ c : Dev Cert.ReferenceIdxQIdeal.nD,
      r.2.mem ((c.tc : Thread Cert.ReferenceIdxQIdeal.nD Cert.ReferenceIdxQIdeal.τ).loc Cert.ReferenceIdxQIdeal.main_arg0) = m ((c.tc : Thread Cert.ReferenceIdxQIdeal.nD Cert.ReferenceIdxQIdeal.τ).loc Cert.ReferenceIdxQIdeal.main_arg0))
      ∧ r.2.sem = fun _ => 0)

def quiescent_KernelIdxTail [hKernelIdxTail : Cert.KernelIdxTail.Facts] : Prop :=
  ∀ (m : (ℓ : Loc Cert.KernelIdxTail.nD Cert.KernelIdxTail.τ Cert.KernelIdxTail.sig) → Buf (Elt Bits) ℓ) (g : Dev Cert.KernelIdxTail.nD → PrngReg), Pre_KernelIdxTail m →
    θ_run (Cert.KernelIdxTail.defs (F := Bits)) (onTc (τ := Cert.KernelIdxTail.τ) (Cert.KernelIdxTail.main (F := Bits))) ⟨m, fun _ => 0, g⟩ (fun r => (∀ c : Dev Cert.KernelIdxTail.nD,
      r.2.mem ((c.tc : Thread Cert.KernelIdxTail.nD Cert.KernelIdxTail.τ).loc Cert.KernelIdxTail.main_arg0) = m ((c.tc : Thread Cert.KernelIdxTail.nD Cert.KernelIdxTail.τ).loc Cert.KernelIdxTail.main_arg0))
      ∧ r.2.sem = fun _ => 0)

def quiescent_KernelIdxTailIdeal [hKernelIdxTailIdeal : Cert.KernelIdxTailIdeal.Facts] : Prop :=
  ∀ (m : (ℓ : Loc Cert.KernelIdxTailIdeal.nD Cert.KernelIdxTailIdeal.τ Cert.KernelIdxTailIdeal.sig) → Buf (Elt Ideal) ℓ) (g : Dev Cert.KernelIdxTailIdeal.nD → PrngReg), Pre_KernelIdxTailIdeal m →
    θ_run (Cert.KernelIdxTailIdeal.defs (F := Ideal)) (onTc (τ := Cert.KernelIdxTailIdeal.τ) (Cert.KernelIdxTailIdeal.main (F := Ideal))) ⟨m, fun _ => 0, g⟩ (fun r => (∀ c : Dev Cert.KernelIdxTailIdeal.nD,
      r.2.mem ((c.tc : Thread Cert.KernelIdxTailIdeal.nD Cert.KernelIdxTailIdeal.τ).loc Cert.KernelIdxTailIdeal.main_arg0) = m ((c.tc : Thread Cert.KernelIdxTailIdeal.nD Cert.KernelIdxTailIdeal.τ).loc Cert.KernelIdxTailIdeal.main_arg0))
      ∧ r.2.sem = fun _ => 0)

def quiescent_ReferenceIdxTailIdeal [hReferenceIdxTailIdeal : Cert.ReferenceIdxTailIdeal.Facts] : Prop :=
  ∀ (m : (ℓ : Loc Cert.ReferenceIdxTailIdeal.nD Cert.ReferenceIdxTailIdeal.τ Cert.ReferenceIdxTailIdeal.sig) → Buf (Elt Ideal) ℓ) (g : Dev Cert.ReferenceIdxTailIdeal.nD → PrngReg), Pre_ReferenceIdxTailIdeal m →
    θ_run (Cert.ReferenceIdxTailIdeal.defs (F := Ideal)) (onTc (τ := Cert.ReferenceIdxTailIdeal.τ) (Cert.ReferenceIdxTailIdeal.main (F := Ideal))) ⟨m, fun _ => 0, g⟩ (fun r => (∀ c : Dev Cert.ReferenceIdxTailIdeal.nD,
      r.2.mem ((c.tc : Thread Cert.ReferenceIdxTailIdeal.nD Cert.ReferenceIdxTailIdeal.τ).loc Cert.ReferenceIdxTailIdeal.main_arg0) = m ((c.tc : Thread Cert.ReferenceIdxTailIdeal.nD Cert.ReferenceIdxTailIdeal.τ).loc Cert.ReferenceIdxTailIdeal.main_arg0))
      ∧ r.2.sem = fun _ => 0)

def quiescent_KernelMoeUp [hKernelMoeUp : Cert.KernelMoeUp.Facts] : Prop :=
  ∀ (m : (ℓ : Loc Cert.KernelMoeUp.nD Cert.KernelMoeUp.τ Cert.KernelMoeUp.sig) → Buf (Elt Bits) ℓ) (g : Dev Cert.KernelMoeUp.nD → PrngReg), Pre_KernelMoeUp m →
    θ_run (Cert.KernelMoeUp.defs (F := Bits)) (onTc (τ := Cert.KernelMoeUp.τ) (Cert.KernelMoeUp.main (F := Bits))) ⟨m, fun _ => 0, g⟩ (fun r => (∀ c : Dev Cert.KernelMoeUp.nD,
      r.2.mem ((c.tc : Thread Cert.KernelMoeUp.nD Cert.KernelMoeUp.τ).loc Cert.KernelMoeUp.main_arg0) = m ((c.tc : Thread Cert.KernelMoeUp.nD Cert.KernelMoeUp.τ).loc Cert.KernelMoeUp.main_arg0)
      ∧ r.2.mem ((c.tc : Thread Cert.KernelMoeUp.nD Cert.KernelMoeUp.τ).loc Cert.KernelMoeUp.main_arg1) = m ((c.tc : Thread Cert.KernelMoeUp.nD Cert.KernelMoeUp.τ).loc Cert.KernelMoeUp.main_arg1)
      ∧ r.2.mem ((c.tc : Thread Cert.KernelMoeUp.nD Cert.KernelMoeUp.τ).loc Cert.KernelMoeUp.main_arg2) = m ((c.tc : Thread Cert.KernelMoeUp.nD Cert.KernelMoeUp.τ).loc Cert.KernelMoeUp.main_arg2)
      ∧ r.2.mem ((c.tc : Thread Cert.KernelMoeUp.nD Cert.KernelMoeUp.τ).loc Cert.KernelMoeUp.main_arg3) = m ((c.tc : Thread Cert.KernelMoeUp.nD Cert.KernelMoeUp.τ).loc Cert.KernelMoeUp.main_arg3))
      ∧ r.2.sem = fun _ => 0)

def quiescent_KernelMoeUpIdeal [hKernelMoeUpIdeal : Cert.KernelMoeUpIdeal.Facts] : Prop :=
  ∀ (m : (ℓ : Loc Cert.KernelMoeUpIdeal.nD Cert.KernelMoeUpIdeal.τ Cert.KernelMoeUpIdeal.sig) → Buf (Elt Ideal) ℓ) (g : Dev Cert.KernelMoeUpIdeal.nD → PrngReg), Pre_KernelMoeUpIdeal m →
    θ_run (Cert.KernelMoeUpIdeal.defs (F := Ideal)) (onTc (τ := Cert.KernelMoeUpIdeal.τ) (Cert.KernelMoeUpIdeal.main (F := Ideal))) ⟨m, fun _ => 0, g⟩ (fun r => (∀ c : Dev Cert.KernelMoeUpIdeal.nD,
      r.2.mem ((c.tc : Thread Cert.KernelMoeUpIdeal.nD Cert.KernelMoeUpIdeal.τ).loc Cert.KernelMoeUpIdeal.main_arg0) = m ((c.tc : Thread Cert.KernelMoeUpIdeal.nD Cert.KernelMoeUpIdeal.τ).loc Cert.KernelMoeUpIdeal.main_arg0)
      ∧ r.2.mem ((c.tc : Thread Cert.KernelMoeUpIdeal.nD Cert.KernelMoeUpIdeal.τ).loc Cert.KernelMoeUpIdeal.main_arg1) = m ((c.tc : Thread Cert.KernelMoeUpIdeal.nD Cert.KernelMoeUpIdeal.τ).loc Cert.KernelMoeUpIdeal.main_arg1)
      ∧ r.2.mem ((c.tc : Thread Cert.KernelMoeUpIdeal.nD Cert.KernelMoeUpIdeal.τ).loc Cert.KernelMoeUpIdeal.main_arg2) = m ((c.tc : Thread Cert.KernelMoeUpIdeal.nD Cert.KernelMoeUpIdeal.τ).loc Cert.KernelMoeUpIdeal.main_arg2)
      ∧ r.2.mem ((c.tc : Thread Cert.KernelMoeUpIdeal.nD Cert.KernelMoeUpIdeal.τ).loc Cert.KernelMoeUpIdeal.main_arg3) = m ((c.tc : Thread Cert.KernelMoeUpIdeal.nD Cert.KernelMoeUpIdeal.τ).loc Cert.KernelMoeUpIdeal.main_arg3))
      ∧ r.2.sem = fun _ => 0)

def quiescent_KernelMoeUpIdeal_pre_moe_up_counts [hKernelMoeUpIdeal : Cert.KernelMoeUpIdeal.Facts] [hPre_moe_up_counts : Cert.Pre_moe_up_counts.Facts] : Prop :=
  ∀ (m : (ℓ : Loc Cert.KernelMoeUpIdeal.nD Cert.KernelMoeUpIdeal.τ Cert.KernelMoeUpIdeal.sig) → Buf (Elt Ideal) ℓ) (g : Dev Cert.KernelMoeUpIdeal.nD → PrngReg), Pre_KernelMoeUpIdeal_moe_up_counts m →
    θ_run (Cert.KernelMoeUpIdeal.defs (F := Ideal)) (onTc (τ := Cert.KernelMoeUpIdeal.τ) (Cert.KernelMoeUpIdeal.main (F := Ideal))) ⟨m, fun _ => 0, g⟩ (fun r => (∀ c : Dev Cert.KernelMoeUpIdeal.nD,
      r.2.mem ((c.tc : Thread Cert.KernelMoeUpIdeal.nD Cert.KernelMoeUpIdeal.τ).loc Cert.KernelMoeUpIdeal.main_arg0) = m ((c.tc : Thread Cert.KernelMoeUpIdeal.nD Cert.KernelMoeUpIdeal.τ).loc Cert.KernelMoeUpIdeal.main_arg0)
      ∧ r.2.mem ((c.tc : Thread Cert.KernelMoeUpIdeal.nD Cert.KernelMoeUpIdeal.τ).loc Cert.KernelMoeUpIdeal.main_arg1) = m ((c.tc : Thread Cert.KernelMoeUpIdeal.nD Cert.KernelMoeUpIdeal.τ).loc Cert.KernelMoeUpIdeal.main_arg1)
      ∧ r.2.mem ((c.tc : Thread Cert.KernelMoeUpIdeal.nD Cert.KernelMoeUpIdeal.τ).loc Cert.KernelMoeUpIdeal.main_arg2) = m ((c.tc : Thread Cert.KernelMoeUpIdeal.nD Cert.KernelMoeUpIdeal.τ).loc Cert.KernelMoeUpIdeal.main_arg2)
      ∧ r.2.mem ((c.tc : Thread Cert.KernelMoeUpIdeal.nD Cert.KernelMoeUpIdeal.τ).loc Cert.KernelMoeUpIdeal.main_arg3) = m ((c.tc : Thread Cert.KernelMoeUpIdeal.nD Cert.KernelMoeUpIdeal.τ).loc Cert.KernelMoeUpIdeal.main_arg3))
      ∧ r.2.sem = fun _ => 0)

def quiescent_ReferenceMoeUpIdeal [hReferenceMoeUpIdeal : Cert.ReferenceMoeUpIdeal.Facts] : Prop :=
  ∀ (m : (ℓ : Loc Cert.ReferenceMoeUpIdeal.nD Cert.ReferenceMoeUpIdeal.τ Cert.ReferenceMoeUpIdeal.sig) → Buf (Elt Ideal) ℓ) (g : Dev Cert.ReferenceMoeUpIdeal.nD → PrngReg), Pre_ReferenceMoeUpIdeal m →
    θ_run (Cert.ReferenceMoeUpIdeal.defs (F := Ideal)) (onTc (τ := Cert.ReferenceMoeUpIdeal.τ) (Cert.ReferenceMoeUpIdeal.main (F := Ideal))) ⟨m, fun _ => 0, g⟩ (fun r => (∀ c : Dev Cert.ReferenceMoeUpIdeal.nD,
      r.2.mem ((c.tc : Thread Cert.ReferenceMoeUpIdeal.nD Cert.ReferenceMoeUpIdeal.τ).loc Cert.ReferenceMoeUpIdeal.main_arg0) = m ((c.tc : Thread Cert.ReferenceMoeUpIdeal.nD Cert.ReferenceMoeUpIdeal.τ).loc Cert.ReferenceMoeUpIdeal.main_arg0)
      ∧ r.2.mem ((c.tc : Thread Cert.ReferenceMoeUpIdeal.nD Cert.ReferenceMoeUpIdeal.τ).loc Cert.ReferenceMoeUpIdeal.main_arg1) = m ((c.tc : Thread Cert.ReferenceMoeUpIdeal.nD Cert.ReferenceMoeUpIdeal.τ).loc Cert.ReferenceMoeUpIdeal.main_arg1)
      ∧ r.2.mem ((c.tc : Thread Cert.ReferenceMoeUpIdeal.nD Cert.ReferenceMoeUpIdeal.τ).loc Cert.ReferenceMoeUpIdeal.main_arg2) = m ((c.tc : Thread Cert.ReferenceMoeUpIdeal.nD Cert.ReferenceMoeUpIdeal.τ).loc Cert.ReferenceMoeUpIdeal.main_arg2)
      ∧ r.2.mem ((c.tc : Thread Cert.ReferenceMoeUpIdeal.nD Cert.ReferenceMoeUpIdeal.τ).loc Cert.ReferenceMoeUpIdeal.main_arg3) = m ((c.tc : Thread Cert.ReferenceMoeUpIdeal.nD Cert.ReferenceMoeUpIdeal.τ).loc Cert.ReferenceMoeUpIdeal.main_arg3))
      ∧ r.2.sem = fun _ => 0)

def quiescent_ReferenceMoeUpIdeal_pre_moe_up_counts [hReferenceMoeUpIdeal : Cert.ReferenceMoeUpIdeal.Facts] [hPre_moe_up_counts : Cert.Pre_moe_up_counts.Facts] : Prop :=
  ∀ (m : (ℓ : Loc Cert.ReferenceMoeUpIdeal.nD Cert.ReferenceMoeUpIdeal.τ Cert.ReferenceMoeUpIdeal.sig) → Buf (Elt Ideal) ℓ) (g : Dev Cert.ReferenceMoeUpIdeal.nD → PrngReg), Pre_ReferenceMoeUpIdeal_moe_up_counts m →
    θ_run (Cert.ReferenceMoeUpIdeal.defs (F := Ideal)) (onTc (τ := Cert.ReferenceMoeUpIdeal.τ) (Cert.ReferenceMoeUpIdeal.main (F := Ideal))) ⟨m, fun _ => 0, g⟩ (fun r => (∀ c : Dev Cert.ReferenceMoeUpIdeal.nD,
      r.2.mem ((c.tc : Thread Cert.ReferenceMoeUpIdeal.nD Cert.ReferenceMoeUpIdeal.τ).loc Cert.ReferenceMoeUpIdeal.main_arg0) = m ((c.tc : Thread Cert.ReferenceMoeUpIdeal.nD Cert.ReferenceMoeUpIdeal.τ).loc Cert.ReferenceMoeUpIdeal.main_arg0)
      ∧ r.2.mem ((c.tc : Thread Cert.ReferenceMoeUpIdeal.nD Cert.ReferenceMoeUpIdeal.τ).loc Cert.ReferenceMoeUpIdeal.main_arg1) = m ((c.tc : Thread Cert.ReferenceMoeUpIdeal.nD Cert.ReferenceMoeUpIdeal.τ).loc Cert.ReferenceMoeUpIdeal.main_arg1)
      ∧ r.2.mem ((c.tc : Thread Cert.ReferenceMoeUpIdeal.nD Cert.ReferenceMoeUpIdeal.τ).loc Cert.ReferenceMoeUpIdeal.main_arg2) = m ((c.tc : Thread Cert.ReferenceMoeUpIdeal.nD Cert.ReferenceMoeUpIdeal.τ).loc Cert.ReferenceMoeUpIdeal.main_arg2)
      ∧ r.2.mem ((c.tc : Thread Cert.ReferenceMoeUpIdeal.nD Cert.ReferenceMoeUpIdeal.τ).loc Cert.ReferenceMoeUpIdeal.main_arg3) = m ((c.tc : Thread Cert.ReferenceMoeUpIdeal.nD Cert.ReferenceMoeUpIdeal.τ).loc Cert.ReferenceMoeUpIdeal.main_arg3))
      ∧ r.2.sem = fun _ => 0)

def quiescent_KernelMoeDown [hKernelMoeDown : Cert.KernelMoeDown.Facts] : Prop :=
  ∀ (m : (ℓ : Loc Cert.KernelMoeDown.nD Cert.KernelMoeDown.τ Cert.KernelMoeDown.sig) → Buf (Elt Bits) ℓ) (g : Dev Cert.KernelMoeDown.nD → PrngReg), Pre_KernelMoeDown m →
    θ_run (Cert.KernelMoeDown.defs (F := Bits)) (onTc (τ := Cert.KernelMoeDown.τ) (Cert.KernelMoeDown.main (F := Bits))) ⟨m, fun _ => 0, g⟩ (fun r => (∀ c : Dev Cert.KernelMoeDown.nD,
      r.2.mem ((c.tc : Thread Cert.KernelMoeDown.nD Cert.KernelMoeDown.τ).loc Cert.KernelMoeDown.main_arg0) = m ((c.tc : Thread Cert.KernelMoeDown.nD Cert.KernelMoeDown.τ).loc Cert.KernelMoeDown.main_arg0)
      ∧ r.2.mem ((c.tc : Thread Cert.KernelMoeDown.nD Cert.KernelMoeDown.τ).loc Cert.KernelMoeDown.main_arg1) = m ((c.tc : Thread Cert.KernelMoeDown.nD Cert.KernelMoeDown.τ).loc Cert.KernelMoeDown.main_arg1)
      ∧ r.2.mem ((c.tc : Thread Cert.KernelMoeDown.nD Cert.KernelMoeDown.τ).loc Cert.KernelMoeDown.main_arg2) = m ((c.tc : Thread Cert.KernelMoeDown.nD Cert.KernelMoeDown.τ).loc Cert.KernelMoeDown.main_arg2))
      ∧ r.2.sem = fun _ => 0)

def quiescent_KernelMoeDownIdeal [hKernelMoeDownIdeal : Cert.KernelMoeDownIdeal.Facts] : Prop :=
  ∀ (m : (ℓ : Loc Cert.KernelMoeDownIdeal.nD Cert.KernelMoeDownIdeal.τ Cert.KernelMoeDownIdeal.sig) → Buf (Elt Ideal) ℓ) (g : Dev Cert.KernelMoeDownIdeal.nD → PrngReg), Pre_KernelMoeDownIdeal m →
    θ_run (Cert.KernelMoeDownIdeal.defs (F := Ideal)) (onTc (τ := Cert.KernelMoeDownIdeal.τ) (Cert.KernelMoeDownIdeal.main (F := Ideal))) ⟨m, fun _ => 0, g⟩ (fun r => (∀ c : Dev Cert.KernelMoeDownIdeal.nD,
      r.2.mem ((c.tc : Thread Cert.KernelMoeDownIdeal.nD Cert.KernelMoeDownIdeal.τ).loc Cert.KernelMoeDownIdeal.main_arg0) = m ((c.tc : Thread Cert.KernelMoeDownIdeal.nD Cert.KernelMoeDownIdeal.τ).loc Cert.KernelMoeDownIdeal.main_arg0)
      ∧ r.2.mem ((c.tc : Thread Cert.KernelMoeDownIdeal.nD Cert.KernelMoeDownIdeal.τ).loc Cert.KernelMoeDownIdeal.main_arg1) = m ((c.tc : Thread Cert.KernelMoeDownIdeal.nD Cert.KernelMoeDownIdeal.τ).loc Cert.KernelMoeDownIdeal.main_arg1)
      ∧ r.2.mem ((c.tc : Thread Cert.KernelMoeDownIdeal.nD Cert.KernelMoeDownIdeal.τ).loc Cert.KernelMoeDownIdeal.main_arg2) = m ((c.tc : Thread Cert.KernelMoeDownIdeal.nD Cert.KernelMoeDownIdeal.τ).loc Cert.KernelMoeDownIdeal.main_arg2))
      ∧ r.2.sem = fun _ => 0)

def quiescent_KernelMoeDownIdeal_pre_moe_down_counts [hKernelMoeDownIdeal : Cert.KernelMoeDownIdeal.Facts] [hPre_moe_down_counts : Cert.Pre_moe_down_counts.Facts] : Prop :=
  ∀ (m : (ℓ : Loc Cert.KernelMoeDownIdeal.nD Cert.KernelMoeDownIdeal.τ Cert.KernelMoeDownIdeal.sig) → Buf (Elt Ideal) ℓ) (g : Dev Cert.KernelMoeDownIdeal.nD → PrngReg), Pre_KernelMoeDownIdeal_moe_down_counts m →
    θ_run (Cert.KernelMoeDownIdeal.defs (F := Ideal)) (onTc (τ := Cert.KernelMoeDownIdeal.τ) (Cert.KernelMoeDownIdeal.main (F := Ideal))) ⟨m, fun _ => 0, g⟩ (fun r => (∀ c : Dev Cert.KernelMoeDownIdeal.nD,
      r.2.mem ((c.tc : Thread Cert.KernelMoeDownIdeal.nD Cert.KernelMoeDownIdeal.τ).loc Cert.KernelMoeDownIdeal.main_arg0) = m ((c.tc : Thread Cert.KernelMoeDownIdeal.nD Cert.KernelMoeDownIdeal.τ).loc Cert.KernelMoeDownIdeal.main_arg0)
      ∧ r.2.mem ((c.tc : Thread Cert.KernelMoeDownIdeal.nD Cert.KernelMoeDownIdeal.τ).loc Cert.KernelMoeDownIdeal.main_arg1) = m ((c.tc : Thread Cert.KernelMoeDownIdeal.nD Cert.KernelMoeDownIdeal.τ).loc Cert.KernelMoeDownIdeal.main_arg1)
      ∧ r.2.mem ((c.tc : Thread Cert.KernelMoeDownIdeal.nD Cert.KernelMoeDownIdeal.τ).loc Cert.KernelMoeDownIdeal.main_arg2) = m ((c.tc : Thread Cert.KernelMoeDownIdeal.nD Cert.KernelMoeDownIdeal.τ).loc Cert.KernelMoeDownIdeal.main_arg2))
      ∧ r.2.sem = fun _ => 0)

def quiescent_ReferenceMoeDownIdeal [hReferenceMoeDownIdeal : Cert.ReferenceMoeDownIdeal.Facts] : Prop :=
  ∀ (m : (ℓ : Loc Cert.ReferenceMoeDownIdeal.nD Cert.ReferenceMoeDownIdeal.τ Cert.ReferenceMoeDownIdeal.sig) → Buf (Elt Ideal) ℓ) (g : Dev Cert.ReferenceMoeDownIdeal.nD → PrngReg), Pre_ReferenceMoeDownIdeal m →
    θ_run (Cert.ReferenceMoeDownIdeal.defs (F := Ideal)) (onTc (τ := Cert.ReferenceMoeDownIdeal.τ) (Cert.ReferenceMoeDownIdeal.main (F := Ideal))) ⟨m, fun _ => 0, g⟩ (fun r => (∀ c : Dev Cert.ReferenceMoeDownIdeal.nD,
      r.2.mem ((c.tc : Thread Cert.ReferenceMoeDownIdeal.nD Cert.ReferenceMoeDownIdeal.τ).loc Cert.ReferenceMoeDownIdeal.main_arg0) = m ((c.tc : Thread Cert.ReferenceMoeDownIdeal.nD Cert.ReferenceMoeDownIdeal.τ).loc Cert.ReferenceMoeDownIdeal.main_arg0)
      ∧ r.2.mem ((c.tc : Thread Cert.ReferenceMoeDownIdeal.nD Cert.ReferenceMoeDownIdeal.τ).loc Cert.ReferenceMoeDownIdeal.main_arg1) = m ((c.tc : Thread Cert.ReferenceMoeDownIdeal.nD Cert.ReferenceMoeDownIdeal.τ).loc Cert.ReferenceMoeDownIdeal.main_arg1)
      ∧ r.2.mem ((c.tc : Thread Cert.ReferenceMoeDownIdeal.nD Cert.ReferenceMoeDownIdeal.τ).loc Cert.ReferenceMoeDownIdeal.main_arg2) = m ((c.tc : Thread Cert.ReferenceMoeDownIdeal.nD Cert.ReferenceMoeDownIdeal.τ).loc Cert.ReferenceMoeDownIdeal.main_arg2))
      ∧ r.2.sem = fun _ => 0)

def quiescent_ReferenceMoeDownIdeal_pre_moe_down_counts [hReferenceMoeDownIdeal : Cert.ReferenceMoeDownIdeal.Facts] [hPre_moe_down_counts : Cert.Pre_moe_down_counts.Facts] : Prop :=
  ∀ (m : (ℓ : Loc Cert.ReferenceMoeDownIdeal.nD Cert.ReferenceMoeDownIdeal.τ Cert.ReferenceMoeDownIdeal.sig) → Buf (Elt Ideal) ℓ) (g : Dev Cert.ReferenceMoeDownIdeal.nD → PrngReg), Pre_ReferenceMoeDownIdeal_moe_down_counts m →
    θ_run (Cert.ReferenceMoeDownIdeal.defs (F := Ideal)) (onTc (τ := Cert.ReferenceMoeDownIdeal.τ) (Cert.ReferenceMoeDownIdeal.main (F := Ideal))) ⟨m, fun _ => 0, g⟩ (fun r => (∀ c : Dev Cert.ReferenceMoeDownIdeal.nD,
      r.2.mem ((c.tc : Thread Cert.ReferenceMoeDownIdeal.nD Cert.ReferenceMoeDownIdeal.τ).loc Cert.ReferenceMoeDownIdeal.main_arg0) = m ((c.tc : Thread Cert.ReferenceMoeDownIdeal.nD Cert.ReferenceMoeDownIdeal.τ).loc Cert.ReferenceMoeDownIdeal.main_arg0)
      ∧ r.2.mem ((c.tc : Thread Cert.ReferenceMoeDownIdeal.nD Cert.ReferenceMoeDownIdeal.τ).loc Cert.ReferenceMoeDownIdeal.main_arg1) = m ((c.tc : Thread Cert.ReferenceMoeDownIdeal.nD Cert.ReferenceMoeDownIdeal.τ).loc Cert.ReferenceMoeDownIdeal.main_arg1)
      ∧ r.2.mem ((c.tc : Thread Cert.ReferenceMoeDownIdeal.nD Cert.ReferenceMoeDownIdeal.τ).loc Cert.ReferenceMoeDownIdeal.main_arg2) = m ((c.tc : Thread Cert.ReferenceMoeDownIdeal.nD Cert.ReferenceMoeDownIdeal.τ).loc Cert.ReferenceMoeDownIdeal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "dead" .f32 0x43200000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelEvenIn_KernelEvenInIdeal : Prop :=
  True

def algebraic_KernelEvenInIdeal_ReferenceEvenInIdeal [hKernelEvenInIdeal : Cert.KernelEvenInIdeal.Facts] [hReferenceEvenInIdeal : Cert.ReferenceEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg)
    (m' : (ℓ : Loc Cert.ReferenceEvenInIdeal.nD Cert.ReferenceEvenInIdeal.τ Cert.ReferenceEvenInIdeal.sig) → Buf (Elt Ideal) ℓ) (g' : Dev Cert.ReferenceEvenInIdeal.nD → PrngReg), Pre_KernelEvenInIdeal m →
    (∀ c : Dev Cert.KernelEvenInIdeal.nD,
      m' ((c.tc : Thread Cert.ReferenceEvenInIdeal.nD Cert.ReferenceEvenInIdeal.τ).loc Cert.ReferenceEvenInIdeal.main_arg0) = m ((c.tc : Thread Cert.KernelEvenInIdeal.nD Cert.KernelEvenInIdeal.τ).loc Cert.KernelEvenInIdeal.main_arg0)
      ∧ m' ((c.tc : Thread Cert.ReferenceEvenInIdeal.nD Cert.ReferenceEvenInIdeal.τ).loc Cert.ReferenceEvenInIdeal.main_arg1) = m ((c.tc : Thread Cert.KernelEvenInIdeal.nD Cert.KernelEvenInIdeal.τ).loc Cert.KernelEvenInIdeal.main_arg1)) →
    ∃ (v0 : (c : Dev Cert.KernelEvenInIdeal.nD) → Buf (Elt Ideal) ((c.tc : Thread Cert.KernelEvenInIdeal.nD Cert.KernelEvenInIdeal.τ).loc Cert.KernelEvenInIdeal.main_v1)),
      θ_run (Cert.KernelEvenInIdeal.defs (F := Ideal)) (onTc (τ := Cert.KernelEvenInIdeal.τ) (Cert.KernelEvenInIdeal.main (F := Ideal))) ⟨m, fun _ => 0, g⟩ (fun r => ∀ c : Dev Cert.KernelEvenInIdeal.nD,
          r.2.mem ((c.tc : Thread Cert.KernelEvenInIdeal.nD Cert.KernelEvenInIdeal.τ).loc Cert.KernelEvenInIdeal.main_v1) = v0 c
          ∧ r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
          ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1))
      ∧ θ_run (Cert.ReferenceEvenInIdeal.defs (F := Ideal)) (onTc (τ := Cert.ReferenceEvenInIdeal.τ) (Cert.ReferenceEvenInIdeal.main (F := Ideal))) ⟨m', fun _ => 0, g'⟩ (fun r => ∀ c : Dev Cert.ReferenceEvenInIdeal.nD,
          r.2.mem ((c.tc : Thread Cert.ReferenceEvenInIdeal.nD Cert.ReferenceEvenInIdeal.τ).loc Cert.ReferenceEvenInIdeal.main_v2) = v0 c
          ∧ r.2.mem ((c.tc : Thread Cert.ReferenceEvenInIdeal.nD Cert.ReferenceEvenInIdeal.τ).loc Cert.ReferenceEvenInIdeal.main_arg0) = m' ((c.tc : Thread Cert.ReferenceEvenInIdeal.nD Cert.ReferenceEvenInIdeal.τ).loc Cert.ReferenceEvenInIdeal.main_arg0)
          ∧ r.2.mem ((c.tc : Thread Cert.ReferenceEvenInIdeal.nD Cert.ReferenceEvenInIdeal.τ).loc Cert.ReferenceEvenInIdeal.main_arg1) = m' ((c.tc : Thread Cert.ReferenceEvenInIdeal.nD Cert.ReferenceEvenInIdeal.τ).loc Cert.ReferenceEvenInIdeal.main_arg1))

def preserves_KernelEvenOut_KernelEvenOutIdeal : Prop :=
  True

def algebraic_KernelEvenOutIdeal_ReferenceEvenOutIdeal [hKernelEvenOutIdeal : Cert.KernelEvenOutIdeal.Facts] [hReferenceEvenOutIdeal : Cert.ReferenceEvenOutIdeal.Facts] : Prop :=
  ∀ (m : (ℓ : Loc Cert.KernelEvenOutIdeal.nD Cert.KernelEvenOutIdeal.τ Cert.KernelEvenOutIdeal.sig) → Buf (Elt Ideal) ℓ) (g : Dev Cert.KernelEvenOutIdeal.nD → PrngReg)
    (m' : (ℓ : Loc Cert.ReferenceEvenOutIdeal.nD Cert.ReferenceEvenOutIdeal.τ Cert.ReferenceEvenOutIdeal.sig) → Buf (Elt Ideal) ℓ) (g' : Dev Cert.ReferenceEvenOutIdeal.nD → PrngReg), Pre_KernelEvenOutIdeal m →
    (∀ c : Dev Cert.KernelEvenOutIdeal.nD,
      m' ((c.tc : Thread Cert.ReferenceEvenOutIdeal.nD Cert.ReferenceEvenOutIdeal.τ).loc Cert.ReferenceEvenOutIdeal.main_arg0) = m ((c.tc : Thread Cert.KernelEvenOutIdeal.nD Cert.KernelEvenOutIdeal.τ).loc Cert.KernelEvenOutIdeal.main_arg0)
      ∧ m' ((c.tc : Thread Cert.ReferenceEvenOutIdeal.nD Cert.ReferenceEvenOutIdeal.τ).loc Cert.ReferenceEvenOutIdeal.main_arg1) = m ((c.tc : Thread Cert.KernelEvenOutIdeal.nD Cert.KernelEvenOutIdeal.τ).loc Cert.KernelEvenOutIdeal.main_arg1)
      ∧ m' ((c.tc : Thread Cert.ReferenceEvenOutIdeal.nD Cert.ReferenceEvenOutIdeal.τ).loc Cert.ReferenceEvenOutIdeal.main_arg2) = m ((c.tc : Thread Cert.KernelEvenOutIdeal.nD Cert.KernelEvenOutIdeal.τ).loc Cert.KernelEvenOutIdeal.main_arg2)) →
    ∃ (v0 : (c : Dev Cert.KernelEvenOutIdeal.nD) → Buf (Elt Ideal) ((c.tc : Thread Cert.KernelEvenOutIdeal.nD Cert.KernelEvenOutIdeal.τ).loc Cert.KernelEvenOutIdeal.main_v2)),
      θ_run (Cert.KernelEvenOutIdeal.defs (F := Ideal)) (onTc (τ := Cert.KernelEvenOutIdeal.τ) (Cert.KernelEvenOutIdeal.main (F := Ideal))) ⟨m, fun _ => 0, g⟩ (fun r => ∀ c : Dev Cert.KernelEvenOutIdeal.nD,
          r.2.mem ((c.tc : Thread Cert.KernelEvenOutIdeal.nD Cert.KernelEvenOutIdeal.τ).loc Cert.KernelEvenOutIdeal.main_v2) = v0 c
          ∧ r.2.mem ((c.tc : Thread Cert.KernelEvenOutIdeal.nD Cert.KernelEvenOutIdeal.τ).loc Cert.KernelEvenOutIdeal.main_arg0) = m ((c.tc : Thread Cert.KernelEvenOutIdeal.nD Cert.KernelEvenOutIdeal.τ).loc Cert.KernelEvenOutIdeal.main_arg0)
          ∧ r.2.mem ((c.tc : Thread Cert.KernelEvenOutIdeal.nD Cert.KernelEvenOutIdeal.τ).loc Cert.KernelEvenOutIdeal.main_arg1) = m ((c.tc : Thread Cert.KernelEvenOutIdeal.nD Cert.KernelEvenOutIdeal.τ).loc Cert.KernelEvenOutIdeal.main_arg1)
          ∧ r.2.mem ((c.tc : Thread Cert.KernelEvenOutIdeal.nD Cert.KernelEvenOutIdeal.τ).loc Cert.KernelEvenOutIdeal.main_arg2) = m ((c.tc : Thread Cert.KernelEvenOutIdeal.nD Cert.KernelEvenOutIdeal.τ).loc Cert.KernelEvenOutIdeal.main_arg2))
      ∧ θ_run (Cert.ReferenceEvenOutIdeal.defs (F := Ideal)) (onTc (τ := Cert.ReferenceEvenOutIdeal.τ) (Cert.ReferenceEvenOutIdeal.main (F := Ideal))) ⟨m', fun _ => 0, g'⟩ (fun r => ∀ c : Dev Cert.ReferenceEvenOutIdeal.nD,
          r.2.mem ((c.tc : Thread Cert.ReferenceEvenOutIdeal.nD Cert.ReferenceEvenOutIdeal.τ).loc Cert.ReferenceEvenOutIdeal.main_v3) = v0 c
          ∧ r.2.mem ((c.tc : Thread Cert.ReferenceEvenOutIdeal.nD Cert.ReferenceEvenOutIdeal.τ).loc Cert.ReferenceEvenOutIdeal.main_arg0) = m' ((c.tc : Thread Cert.ReferenceEvenOutIdeal.nD Cert.ReferenceEvenOutIdeal.τ).loc Cert.ReferenceEvenOutIdeal.main_arg0)
          ∧ r.2.mem ((c.tc : Thread Cert.ReferenceEvenOutIdeal.nD Cert.ReferenceEvenOutIdeal.τ).loc Cert.ReferenceEvenOutIdeal.main_arg1) = m' ((c.tc : Thread Cert.ReferenceEvenOutIdeal.nD Cert.ReferenceEvenOutIdeal.τ).loc Cert.ReferenceEvenOutIdeal.main_arg1)
          ∧ r.2.mem ((c.tc : Thread Cert.ReferenceEvenOutIdeal.nD Cert.ReferenceEvenOutIdeal.τ).loc Cert.ReferenceEvenOutIdeal.main_arg2) = m' ((c.tc : Thread Cert.ReferenceEvenOutIdeal.nD Cert.ReferenceEvenOutIdeal.τ).loc Cert.ReferenceEvenOutIdeal.main_arg2))

def preserves_KernelFfnUp_KernelFfnUpIdeal : Prop :=
  True

def algebraic_KernelFfnUpIdeal_ReferenceFfnUpIdeal [hKernelFfnUpIdeal : Cert.KernelFfnUpIdeal.Facts] [hReferenceFfnUpIdeal : Cert.ReferenceFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg)
    (m' : (ℓ : Loc Cert.ReferenceFfnUpIdeal.nD Cert.ReferenceFfnUpIdeal.τ Cert.ReferenceFfnUpIdeal.sig) → Buf (Elt Ideal) ℓ) (g' : Dev Cert.ReferenceFfnUpIdeal.nD → PrngReg), Pre_KernelFfnUpIdeal m →
    (∀ c : Dev Cert.KernelFfnUpIdeal.nD,
      m' ((c.tc : Thread Cert.ReferenceFfnUpIdeal.nD Cert.ReferenceFfnUpIdeal.τ).loc Cert.ReferenceFfnUpIdeal.main_arg0) = m ((c.tc : Thread Cert.KernelFfnUpIdeal.nD Cert.KernelFfnUpIdeal.τ).loc Cert.KernelFfnUpIdeal.main_arg0)
      ∧ m' ((c.tc : Thread Cert.ReferenceFfnUpIdeal.nD Cert.ReferenceFfnUpIdeal.τ).loc Cert.ReferenceFfnUpIdeal.main_arg1) = m ((c.tc : Thread Cert.KernelFfnUpIdeal.nD Cert.KernelFfnUpIdeal.τ).loc Cert.KernelFfnUpIdeal.main_arg1)
      ∧ m' ((c.tc : Thread Cert.ReferenceFfnUpIdeal.nD Cert.ReferenceFfnUpIdeal.τ).loc Cert.ReferenceFfnUpIdeal.main_arg2) = m ((c.tc : Thread Cert.KernelFfnUpIdeal.nD Cert.KernelFfnUpIdeal.τ).loc Cert.KernelFfnUpIdeal.main_arg2)) →
    ∃ (v0 : (c : Dev Cert.KernelFfnUpIdeal.nD) → Buf (Elt Ideal) ((c.tc : Thread Cert.KernelFfnUpIdeal.nD Cert.KernelFfnUpIdeal.τ).loc Cert.KernelFfnUpIdeal.main_v1)),
      θ_run (Cert.KernelFfnUpIdeal.defs (F := Ideal)) (onTc (τ := Cert.KernelFfnUpIdeal.τ) (Cert.KernelFfnUpIdeal.main (F := Ideal))) ⟨m, fun _ => 0, g⟩ (fun r => ∀ c : Dev Cert.KernelFfnUpIdeal.nD,
          r.2.mem ((c.tc : Thread Cert.KernelFfnUpIdeal.nD Cert.KernelFfnUpIdeal.τ).loc Cert.KernelFfnUpIdeal.main_v1) = v0 c
          ∧ r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
          ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1)
          ∧ r.2.mem ((c.tc : Thread Cert.KernelFfnUpIdeal.nD Cert.KernelFfnUpIdeal.τ).loc Cert.KernelFfnUpIdeal.main_arg2) = m ((c.tc : Thread Cert.KernelFfnUpIdeal.nD Cert.KernelFfnUpIdeal.τ).loc Cert.KernelFfnUpIdeal.main_arg2))
      ∧ θ_run (Cert.ReferenceFfnUpIdeal.defs (F := Ideal)) (onTc (τ := Cert.ReferenceFfnUpIdeal.τ) (Cert.ReferenceFfnUpIdeal.main (F := Ideal))) ⟨m', fun _ => 0, g'⟩ (fun r => ∀ c : Dev Cert.ReferenceFfnUpIdeal.nD,
          r.2.mem ((c.tc : Thread Cert.ReferenceFfnUpIdeal.nD Cert.ReferenceFfnUpIdeal.τ).loc Cert.ReferenceFfnUpIdeal.main_v8) = v0 c
          ∧ r.2.mem ((c.tc : Thread Cert.ReferenceFfnUpIdeal.nD Cert.ReferenceFfnUpIdeal.τ).loc Cert.ReferenceFfnUpIdeal.main_arg0) = m' ((c.tc : Thread Cert.ReferenceFfnUpIdeal.nD Cert.ReferenceFfnUpIdeal.τ).loc Cert.ReferenceFfnUpIdeal.main_arg0)
          ∧ r.2.mem ((c.tc : Thread Cert.ReferenceFfnUpIdeal.nD Cert.ReferenceFfnUpIdeal.τ).loc Cert.ReferenceFfnUpIdeal.main_arg1) = m' ((c.tc : Thread Cert.ReferenceFfnUpIdeal.nD Cert.ReferenceFfnUpIdeal.τ).loc Cert.ReferenceFfnUpIdeal.main_arg1)
          ∧ r.2.mem ((c.tc : Thread Cert.ReferenceFfnUpIdeal.nD Cert.ReferenceFfnUpIdeal.τ).loc Cert.ReferenceFfnUpIdeal.main_arg2) = m' ((c.tc : Thread Cert.ReferenceFfnUpIdeal.nD Cert.ReferenceFfnUpIdeal.τ).loc Cert.ReferenceFfnUpIdeal.main_arg2))

def preserves_KernelFfnDown_KernelFfnDownIdeal : Prop :=
  True

def algebraic_KernelFfnDownIdeal_ReferenceFfnDownIdeal [hKernelFfnDownIdeal : Cert.KernelFfnDownIdeal.Facts] [hReferenceFfnDownIdeal : Cert.ReferenceFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_KernelFfnDownIdeal m →
    (∀ c : Dev Cert.KernelFfnDownIdeal.nD,
      m' ((c.tc : Thread Cert.ReferenceFfnDownIdeal.nD Cert.ReferenceFfnDownIdeal.τ).loc Cert.ReferenceFfnDownIdeal.main_arg0) = m ((c.tc : Thread Cert.KernelFfnDownIdeal.nD Cert.KernelFfnDownIdeal.τ).loc Cert.KernelFfnDownIdeal.main_arg0)
      ∧ m' ((c.tc : Thread Cert.ReferenceFfnDownIdeal.nD Cert.ReferenceFfnDownIdeal.τ).loc Cert.ReferenceFfnDownIdeal.main_arg1) = m ((c.tc : Thread Cert.KernelFfnDownIdeal.nD Cert.KernelFfnDownIdeal.τ).loc Cert.KernelFfnDownIdeal.main_arg1)) →
    ∃ (v0 : (c : Dev Cert.KernelFfnDownIdeal.nD) → Buf (Elt Ideal) ((c.tc : Thread Cert.KernelFfnDownIdeal.nD Cert.KernelFfnDownIdeal.τ).loc Cert.KernelFfnDownIdeal.main_v1)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v1) = v0 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v2) = v0 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1))

def preserves_KernelOddIn_KernelOddInIdeal : Prop :=
  True

def algebraic_KernelOddInIdeal_ReferenceOddInIdeal [hKernelOddInIdeal : Cert.KernelOddInIdeal.Facts] [hReferenceOddInIdeal : Cert.ReferenceOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg)
    (m' : (ℓ : Loc Cert.ReferenceOddInIdeal.nD Cert.ReferenceOddInIdeal.τ Cert.ReferenceOddInIdeal.sig) → Buf (Elt Ideal) ℓ) (g' : Dev Cert.ReferenceOddInIdeal.nD → PrngReg), Pre_KernelOddInIdeal m →
    (∀ c : Dev Cert.KernelOddInIdeal.nD,
      m' ((c.tc : Thread Cert.ReferenceOddInIdeal.nD Cert.ReferenceOddInIdeal.τ).loc Cert.ReferenceOddInIdeal.main_arg0) = m ((c.tc : Thread Cert.KernelOddInIdeal.nD Cert.KernelOddInIdeal.τ).loc Cert.KernelOddInIdeal.main_arg0)
      ∧ m' ((c.tc : Thread Cert.ReferenceOddInIdeal.nD Cert.ReferenceOddInIdeal.τ).loc Cert.ReferenceOddInIdeal.main_arg1) = m ((c.tc : Thread Cert.KernelOddInIdeal.nD Cert.KernelOddInIdeal.τ).loc Cert.KernelOddInIdeal.main_arg1)) →
    ∃ (v0 : (c : Dev Cert.KernelOddInIdeal.nD) → Buf (Elt Ideal) ((c.tc : Thread Cert.KernelOddInIdeal.nD Cert.KernelOddInIdeal.τ).loc Cert.KernelOddInIdeal.main_v2)),
      θ_run (Cert.KernelOddInIdeal.defs (F := Ideal)) (onTc (τ := Cert.KernelOddInIdeal.τ) (Cert.KernelOddInIdeal.main (F := Ideal))) ⟨m, fun _ => 0, g⟩ (fun r => ∀ c : Dev Cert.KernelOddInIdeal.nD,
          r.2.mem ((c.tc : Thread Cert.KernelOddInIdeal.nD Cert.KernelOddInIdeal.τ).loc Cert.KernelOddInIdeal.main_v2) = v0 c
          ∧ r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
          ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1))
      ∧ θ_run (Cert.ReferenceOddInIdeal.defs (F := Ideal)) (onTc (τ := Cert.ReferenceOddInIdeal.τ) (Cert.ReferenceOddInIdeal.main (F := Ideal))) ⟨m', fun _ => 0, g'⟩ (fun r => ∀ c : Dev Cert.ReferenceOddInIdeal.nD,
          r.2.mem ((c.tc : Thread Cert.ReferenceOddInIdeal.nD Cert.ReferenceOddInIdeal.τ).loc Cert.ReferenceOddInIdeal.main_v3) = v0 c
          ∧ r.2.mem ((c.tc : Thread Cert.ReferenceOddInIdeal.nD Cert.ReferenceOddInIdeal.τ).loc Cert.ReferenceOddInIdeal.main_arg0) = m' ((c.tc : Thread Cert.ReferenceOddInIdeal.nD Cert.ReferenceOddInIdeal.τ).loc Cert.ReferenceOddInIdeal.main_arg0)
          ∧ r.2.mem ((c.tc : Thread Cert.ReferenceOddInIdeal.nD Cert.ReferenceOddInIdeal.τ).loc Cert.ReferenceOddInIdeal.main_arg1) = m' ((c.tc : Thread Cert.ReferenceOddInIdeal.nD Cert.ReferenceOddInIdeal.τ).loc Cert.ReferenceOddInIdeal.main_arg1))

def preserves_KernelOddOut_KernelOddOutIdeal : Prop :=
  True

def algebraic_KernelOddOutIdeal_ReferenceOddOutIdeal [hKernelOddOutIdeal : Cert.KernelOddOutIdeal.Facts] [hReferenceOddOutIdeal : Cert.ReferenceOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg)
    (m' : (ℓ : Loc Cert.ReferenceOddOutIdeal.nD Cert.ReferenceOddOutIdeal.τ Cert.ReferenceOddOutIdeal.sig) → Buf (Elt Ideal) ℓ) (g' : Dev Cert.ReferenceOddOutIdeal.nD → PrngReg), Pre_KernelOddOutIdeal m →
    (∀ c : Dev Cert.KernelOddOutIdeal.nD,
      m' ((c.tc : Thread Cert.ReferenceOddOutIdeal.nD Cert.ReferenceOddOutIdeal.τ).loc Cert.ReferenceOddOutIdeal.main_arg0) = m ((c.tc : Thread Cert.KernelOddOutIdeal.nD Cert.KernelOddOutIdeal.τ).loc Cert.KernelOddOutIdeal.main_arg0)
      ∧ m' ((c.tc : Thread Cert.ReferenceOddOutIdeal.nD Cert.ReferenceOddOutIdeal.τ).loc Cert.ReferenceOddOutIdeal.main_arg1) = m ((c.tc : Thread Cert.KernelOddOutIdeal.nD Cert.KernelOddOutIdeal.τ).loc Cert.KernelOddOutIdeal.main_arg1)) →
    ∃ (v0 : (c : Dev Cert.KernelOddOutIdeal.nD) → Buf (Elt Ideal) ((c.tc : Thread Cert.KernelOddOutIdeal.nD Cert.KernelOddOutIdeal.τ).loc Cert.KernelOddOutIdeal.main_v1)),
      θ_run (Cert.KernelOddOutIdeal.defs (F := Ideal)) (onTc (τ := Cert.KernelOddOutIdeal.τ) (Cert.KernelOddOutIdeal.main (F := Ideal))) ⟨m, fun _ => 0, g⟩ (fun r => ∀ c : Dev Cert.KernelOddOutIdeal.nD,
          r.2.mem ((c.tc : Thread Cert.KernelOddOutIdeal.nD Cert.KernelOddOutIdeal.τ).loc Cert.KernelOddOutIdeal.main_v1) = v0 c
          ∧ r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
          ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1))
      ∧ θ_run (Cert.ReferenceOddOutIdeal.defs (F := Ideal)) (onTc (τ := Cert.ReferenceOddOutIdeal.τ) (Cert.ReferenceOddOutIdeal.main (F := Ideal))) ⟨m', fun _ => 0, g'⟩ (fun r => ∀ c : Dev Cert.ReferenceOddOutIdeal.nD,
          r.2.mem ((c.tc : Thread Cert.ReferenceOddOutIdeal.nD Cert.ReferenceOddOutIdeal.τ).loc Cert.ReferenceOddOutIdeal.main_v2) = v0 c
          ∧ r.2.mem ((c.tc : Thread Cert.ReferenceOddOutIdeal.nD Cert.ReferenceOddOutIdeal.τ).loc Cert.ReferenceOddOutIdeal.main_arg0) = m' ((c.tc : Thread Cert.ReferenceOddOutIdeal.nD Cert.ReferenceOddOutIdeal.τ).loc Cert.ReferenceOddOutIdeal.main_arg0)
          ∧ r.2.mem ((c.tc : Thread Cert.ReferenceOddOutIdeal.nD Cert.ReferenceOddOutIdeal.τ).loc Cert.ReferenceOddOutIdeal.main_arg1) = m' ((c.tc : Thread Cert.ReferenceOddOutIdeal.nD Cert.ReferenceOddOutIdeal.τ).loc Cert.ReferenceOddOutIdeal.main_arg1))

def preserves_KernelOddTail_KernelOddTailIdeal : Prop :=
  True

def algebraic_KernelOddTailIdeal_ReferenceOddTailIdeal [hKernelOddTailIdeal : Cert.KernelOddTailIdeal.Facts] [hReferenceOddTailIdeal : Cert.ReferenceOddTailIdeal.Facts] : Prop :=
  ∀ (m : (ℓ : Loc Cert.KernelOddTailIdeal.nD Cert.KernelOddTailIdeal.τ Cert.KernelOddTailIdeal.sig) → Buf (Elt Ideal) ℓ) (g : Dev Cert.KernelOddTailIdeal.nD → PrngReg)
    (m' : (ℓ : Loc Cert.ReferenceOddTailIdeal.nD Cert.ReferenceOddTailIdeal.τ Cert.ReferenceOddTailIdeal.sig) → Buf (Elt Ideal) ℓ) (g' : Dev Cert.ReferenceOddTailIdeal.nD → PrngReg), Pre_KernelOddTailIdeal m →
    (∀ c : Dev Cert.KernelOddTailIdeal.nD,
      m' ((c.tc : Thread Cert.ReferenceOddTailIdeal.nD Cert.ReferenceOddTailIdeal.τ).loc Cert.ReferenceOddTailIdeal.main_arg0) = m ((c.tc : Thread Cert.KernelOddTailIdeal.nD Cert.KernelOddTailIdeal.τ).loc Cert.KernelOddTailIdeal.main_arg0)
      ∧ m' ((c.tc : Thread Cert.ReferenceOddTailIdeal.nD Cert.ReferenceOddTailIdeal.τ).loc Cert.ReferenceOddTailIdeal.main_arg1) = m ((c.tc : Thread Cert.KernelOddTailIdeal.nD Cert.KernelOddTailIdeal.τ).loc Cert.KernelOddTailIdeal.main_arg1)) →
    ∃ (v0 : (c : Dev Cert.KernelOddTailIdeal.nD) → Buf (Elt Ideal) ((c.tc : Thread Cert.KernelOddTailIdeal.nD Cert.KernelOddTailIdeal.τ).loc Cert.KernelOddTailIdeal.main_v5)),
      θ_run (Cert.KernelOddTailIdeal.defs (F := Ideal)) (onTc (τ := Cert.KernelOddTailIdeal.τ) (Cert.KernelOddTailIdeal.main (F := Ideal))) ⟨m, fun _ => 0, g⟩ (fun r => ∀ c : Dev Cert.KernelOddTailIdeal.nD,
          r.2.mem ((c.tc : Thread Cert.KernelOddTailIdeal.nD Cert.KernelOddTailIdeal.τ).loc Cert.KernelOddTailIdeal.main_v5) = v0 c
          ∧ r.2.mem ((c.tc : Thread Cert.KernelOddTailIdeal.nD Cert.KernelOddTailIdeal.τ).loc Cert.KernelOddTailIdeal.main_arg0) = m ((c.tc : Thread Cert.KernelOddTailIdeal.nD Cert.KernelOddTailIdeal.τ).loc Cert.KernelOddTailIdeal.main_arg0)
          ∧ r.2.mem ((c.tc : Thread Cert.KernelOddTailIdeal.nD Cert.KernelOddTailIdeal.τ).loc Cert.KernelOddTailIdeal.main_arg1) = m ((c.tc : Thread Cert.KernelOddTailIdeal.nD Cert.KernelOddTailIdeal.τ).loc Cert.KernelOddTailIdeal.main_arg1))
      ∧ θ_run (Cert.ReferenceOddTailIdeal.defs (F := Ideal)) (onTc (τ := Cert.ReferenceOddTailIdeal.τ) (Cert.ReferenceOddTailIdeal.main (F := Ideal))) ⟨m', fun _ => 0, g'⟩ (fun r => ∀ c : Dev Cert.ReferenceOddTailIdeal.nD,
          r.2.mem ((c.tc : Thread Cert.ReferenceOddTailIdeal.nD Cert.ReferenceOddTailIdeal.τ).loc Cert.ReferenceOddTailIdeal.main_v4) = v0 c
          ∧ r.2.mem ((c.tc : Thread Cert.ReferenceOddTailIdeal.nD Cert.ReferenceOddTailIdeal.τ).loc Cert.ReferenceOddTailIdeal.main_arg0) = m' ((c.tc : Thread Cert.ReferenceOddTailIdeal.nD Cert.ReferenceOddTailIdeal.τ).loc Cert.ReferenceOddTailIdeal.main_arg0)
          ∧ r.2.mem ((c.tc : Thread Cert.ReferenceOddTailIdeal.nD Cert.ReferenceOddTailIdeal.τ).loc Cert.ReferenceOddTailIdeal.main_arg1) = m' ((c.tc : Thread Cert.ReferenceOddTailIdeal.nD Cert.ReferenceOddTailIdeal.τ).loc Cert.ReferenceOddTailIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v2_0)) (v1 : (c : Dev Cert.KernelNormIdeal.nD) → Buf (Elt Ideal) ((c.tc : Thread Cert.KernelNormIdeal.nD Cert.KernelNormIdeal.τ).loc Cert.KernelNormIdeal.main_v2_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2_0) = v0 c
          ∧ r.2.mem ((c.tc : Thread Cert.KernelNormIdeal.nD Cert.KernelNormIdeal.τ).loc Cert.KernelNormIdeal.main_v2_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v30) = v0 c
          ∧ r.2.mem ((c.tc : Thread Cert.ReferenceNormIdeal.nD Cert.ReferenceNormIdeal.τ).loc Cert.ReferenceNormIdeal.main_v31) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v25)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v25) = v0 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v32) = v0 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0))

def preserves_KernelCast_KernelCastIdeal : Prop :=
  True

def algebraic_KernelCastIdeal_ReferenceCastIdeal [hKernelCastIdeal : Cert.KernelCastIdeal.Facts] [hReferenceCastIdeal : Cert.ReferenceCastIdeal.Facts] : Prop :=
  ∀ (m : (ℓ : Loc Cert.KernelCastIdeal.nD Cert.KernelCastIdeal.τ Cert.KernelCastIdeal.sig) → Buf (Elt Ideal) ℓ) (g : Dev Cert.KernelCastIdeal.nD → PrngReg)
    (m' : (ℓ : Loc Cert.ReferenceCastIdeal.nD Cert.ReferenceCastIdeal.τ Cert.ReferenceCastIdeal.sig) → Buf (Elt Ideal) ℓ) (g' : Dev Cert.ReferenceCastIdeal.nD → PrngReg), Pre_KernelCastIdeal m →
    (∀ c : Dev Cert.KernelCastIdeal.nD,
      m' ((c.tc : Thread Cert.ReferenceCastIdeal.nD Cert.ReferenceCastIdeal.τ).loc Cert.ReferenceCastIdeal.main_arg0) = m ((c.tc : Thread Cert.KernelCastIdeal.nD Cert.KernelCastIdeal.τ).loc Cert.KernelCastIdeal.main_arg0)) →
    ∃ (v0 : (c : Dev Cert.KernelCastIdeal.nD) → Buf (Elt Ideal) ((c.tc : Thread Cert.KernelCastIdeal.nD Cert.KernelCastIdeal.τ).loc Cert.KernelCastIdeal.main_v0)),
      θ_run (Cert.KernelCastIdeal.defs (F := Ideal)) (onTc (τ := Cert.KernelCastIdeal.τ) (Cert.KernelCastIdeal.main (F := Ideal))) ⟨m, fun _ => 0, g⟩ (fun r => ∀ c : Dev Cert.KernelCastIdeal.nD,
          r.2.mem ((c.tc : Thread Cert.KernelCastIdeal.nD Cert.KernelCastIdeal.τ).loc Cert.KernelCastIdeal.main_v0) = v0 c
          ∧ r.2.mem ((c.tc : Thread Cert.KernelCastIdeal.nD Cert.KernelCastIdeal.τ).loc Cert.KernelCastIdeal.main_arg0) = m ((c.tc : Thread Cert.KernelCastIdeal.nD Cert.KernelCastIdeal.τ).loc Cert.KernelCastIdeal.main_arg0))
      ∧ θ_run (Cert.ReferenceCastIdeal.defs (F := Ideal)) (onTc (τ := Cert.ReferenceCastIdeal.τ) (Cert.ReferenceCastIdeal.main (F := Ideal))) ⟨m', fun _ => 0, g'⟩ (fun r => ∀ c : Dev Cert.ReferenceCastIdeal.nD,
          r.2.mem ((c.tc : Thread Cert.ReferenceCastIdeal.nD Cert.ReferenceCastIdeal.τ).loc Cert.ReferenceCastIdeal.main_v1) = v0 c
          ∧ r.2.mem ((c.tc : Thread Cert.ReferenceCastIdeal.nD Cert.ReferenceCastIdeal.τ).loc Cert.ReferenceCastIdeal.main_arg0) = m' ((c.tc : Thread Cert.ReferenceCastIdeal.nD Cert.ReferenceCastIdeal.τ).loc Cert.ReferenceCastIdeal.main_arg0))

def preserves_KernelIdxQ_KernelIdxQIdeal : Prop :=
  True

def algebraic_KernelIdxQIdeal_ReferenceIdxQIdeal [hKernelIdxQIdeal : Cert.KernelIdxQIdeal.Facts] [hReferenceIdxQIdeal : Cert.ReferenceIdxQIdeal.Facts] : Prop :=
  ∀ (m : (ℓ : Loc Cert.KernelIdxQIdeal.nD Cert.KernelIdxQIdeal.τ Cert.KernelIdxQIdeal.sig) → Buf (Elt Ideal) ℓ) (g : Dev Cert.KernelIdxQIdeal.nD → PrngReg)
    (m' : (ℓ : Loc Cert.ReferenceIdxQIdeal.nD Cert.ReferenceIdxQIdeal.τ Cert.ReferenceIdxQIdeal.sig) → Buf (Elt Ideal) ℓ) (g' : Dev Cert.ReferenceIdxQIdeal.nD → PrngReg), Pre_KernelIdxQIdeal m →
    (∀ c : Dev Cert.KernelIdxQIdeal.nD,
      m' ((c.tc : Thread Cert.ReferenceIdxQIdeal.nD Cert.ReferenceIdxQIdeal.τ).loc Cert.ReferenceIdxQIdeal.main_arg0) = m ((c.tc : Thread Cert.KernelIdxQIdeal.nD Cert.KernelIdxQIdeal.τ).loc Cert.KernelIdxQIdeal.main_arg0)) →
    ∃ (v0 : (c : Dev Cert.KernelIdxQIdeal.nD) → Buf (Elt Ideal) ((c.tc : Thread Cert.KernelIdxQIdeal.nD Cert.KernelIdxQIdeal.τ).loc Cert.KernelIdxQIdeal.main_v25)),
      θ_run (Cert.KernelIdxQIdeal.defs (F := Ideal)) (onTc (τ := Cert.KernelIdxQIdeal.τ) (Cert.KernelIdxQIdeal.main (F := Ideal))) ⟨m, fun _ => 0, g⟩ (fun r => ∀ c : Dev Cert.KernelIdxQIdeal.nD,
          r.2.mem ((c.tc : Thread Cert.KernelIdxQIdeal.nD Cert.KernelIdxQIdeal.τ).loc Cert.KernelIdxQIdeal.main_v25) = v0 c
          ∧ r.2.mem ((c.tc : Thread Cert.KernelIdxQIdeal.nD Cert.KernelIdxQIdeal.τ).loc Cert.KernelIdxQIdeal.main_arg0) = m ((c.tc : Thread Cert.KernelIdxQIdeal.nD Cert.KernelIdxQIdeal.τ).loc Cert.KernelIdxQIdeal.main_arg0))
      ∧ θ_run (Cert.ReferenceIdxQIdeal.defs (F := Ideal)) (onTc (τ := Cert.ReferenceIdxQIdeal.τ) (Cert.ReferenceIdxQIdeal.main (F := Ideal))) ⟨m', fun _ => 0, g'⟩ (fun r => ∀ c : Dev Cert.ReferenceIdxQIdeal.nD,
          r.2.mem ((c.tc : Thread Cert.ReferenceIdxQIdeal.nD Cert.ReferenceIdxQIdeal.τ).loc Cert.ReferenceIdxQIdeal.main_v33) = v0 c
          ∧ r.2.mem ((c.tc : Thread Cert.ReferenceIdxQIdeal.nD Cert.ReferenceIdxQIdeal.τ).loc Cert.ReferenceIdxQIdeal.main_arg0) = m' ((c.tc : Thread Cert.ReferenceIdxQIdeal.nD Cert.ReferenceIdxQIdeal.τ).loc Cert.ReferenceIdxQIdeal.main_arg0))

def preserves_KernelIdxTail_KernelIdxTailIdeal : Prop :=
  True

def algebraic_KernelIdxTailIdeal_ReferenceIdxTailIdeal [hKernelIdxTailIdeal : Cert.KernelIdxTailIdeal.Facts] [hReferenceIdxTailIdeal : Cert.ReferenceIdxTailIdeal.Facts] : Prop :=
  ∀ (m : (ℓ : Loc Cert.KernelIdxTailIdeal.nD Cert.KernelIdxTailIdeal.τ Cert.KernelIdxTailIdeal.sig) → Buf (Elt Ideal) ℓ) (g : Dev Cert.KernelIdxTailIdeal.nD → PrngReg)
    (m' : (ℓ : Loc Cert.ReferenceIdxTailIdeal.nD Cert.ReferenceIdxTailIdeal.τ Cert.ReferenceIdxTailIdeal.sig) → Buf (Elt Ideal) ℓ) (g' : Dev Cert.ReferenceIdxTailIdeal.nD → PrngReg), Pre_KernelIdxTailIdeal m →
    (∀ c : Dev Cert.KernelIdxTailIdeal.nD,
      m' ((c.tc : Thread Cert.ReferenceIdxTailIdeal.nD Cert.ReferenceIdxTailIdeal.τ).loc Cert.ReferenceIdxTailIdeal.main_arg0) = m ((c.tc : Thread Cert.KernelIdxTailIdeal.nD Cert.KernelIdxTailIdeal.τ).loc Cert.KernelIdxTailIdeal.main_arg0)) →
    ∃ (v0 : (c : Dev Cert.KernelIdxTailIdeal.nD) → Buf (Elt Ideal) ((c.tc : Thread Cert.KernelIdxTailIdeal.nD Cert.KernelIdxTailIdeal.τ).loc Cert.KernelIdxTailIdeal.main_v33_0)) (v1 : (c : Dev Cert.KernelIdxTailIdeal.nD) → Buf (Elt Ideal) ((c.tc : Thread Cert.KernelIdxTailIdeal.nD Cert.KernelIdxTailIdeal.τ).loc Cert.KernelIdxTailIdeal.main_v33_1)),
      θ_run (Cert.KernelIdxTailIdeal.defs (F := Ideal)) (onTc (τ := Cert.KernelIdxTailIdeal.τ) (Cert.KernelIdxTailIdeal.main (F := Ideal))) ⟨m, fun _ => 0, g⟩ (fun r => ∀ c : Dev Cert.KernelIdxTailIdeal.nD,
          r.2.mem ((c.tc : Thread Cert.KernelIdxTailIdeal.nD Cert.KernelIdxTailIdeal.τ).loc Cert.KernelIdxTailIdeal.main_v33_0) = v0 c
          ∧ r.2.mem ((c.tc : Thread Cert.KernelIdxTailIdeal.nD Cert.KernelIdxTailIdeal.τ).loc Cert.KernelIdxTailIdeal.main_v33_1) = v1 c
          ∧ r.2.mem ((c.tc : Thread Cert.KernelIdxTailIdeal.nD Cert.KernelIdxTailIdeal.τ).loc Cert.KernelIdxTailIdeal.main_arg0) = m ((c.tc : Thread Cert.KernelIdxTailIdeal.nD Cert.KernelIdxTailIdeal.τ).loc Cert.KernelIdxTailIdeal.main_arg0))
      ∧ θ_run (Cert.ReferenceIdxTailIdeal.defs (F := Ideal)) (onTc (τ := Cert.ReferenceIdxTailIdeal.τ) (Cert.ReferenceIdxTailIdeal.main (F := Ideal))) ⟨m', fun _ => 0, g'⟩ (fun r => ∀ c : Dev Cert.ReferenceIdxTailIdeal.nD,
          r.2.mem ((c.tc : Thread Cert.ReferenceIdxTailIdeal.nD Cert.ReferenceIdxTailIdeal.τ).loc Cert.ReferenceIdxTailIdeal.main_v28) = v0 c
          ∧ r.2.mem ((c.tc : Thread Cert.ReferenceIdxTailIdeal.nD Cert.ReferenceIdxTailIdeal.τ).loc Cert.ReferenceIdxTailIdeal.main_v30) = v1 c
          ∧ r.2.mem ((c.tc : Thread Cert.ReferenceIdxTailIdeal.nD Cert.ReferenceIdxTailIdeal.τ).loc Cert.ReferenceIdxTailIdeal.main_arg0) = m' ((c.tc : Thread Cert.ReferenceIdxTailIdeal.nD Cert.ReferenceIdxTailIdeal.τ).loc Cert.ReferenceIdxTailIdeal.main_arg0))

def preserves_KernelMoeUp_KernelMoeUpIdeal : Prop :=
  True

def algebraic_KernelMoeUpIdeal_ReferenceMoeUpIdeal_pre_moe_up_counts [hKernelMoeUpIdeal : Cert.KernelMoeUpIdeal.Facts] [hReferenceMoeUpIdeal : Cert.ReferenceMoeUpIdeal.Facts] [hPre_moe_up_counts : Cert.Pre_moe_up_counts.Facts] : Prop :=
  ∀ (m : (ℓ : Loc Cert.KernelMoeUpIdeal.nD Cert.KernelMoeUpIdeal.τ Cert.KernelMoeUpIdeal.sig) → Buf (Elt Ideal) ℓ) (g : Dev Cert.KernelMoeUpIdeal.nD → PrngReg)
    (m' : (ℓ : Loc Cert.ReferenceMoeUpIdeal.nD Cert.ReferenceMoeUpIdeal.τ Cert.ReferenceMoeUpIdeal.sig) → Buf (Elt Ideal) ℓ) (g' : Dev Cert.ReferenceMoeUpIdeal.nD → PrngReg), Pre_KernelMoeUpIdeal_moe_up_counts m →
    (∀ c : Dev Cert.KernelMoeUpIdeal.nD,
      m' ((c.tc : Thread Cert.ReferenceMoeUpIdeal.nD Cert.ReferenceMoeUpIdeal.τ).loc Cert.ReferenceMoeUpIdeal.main_arg0) = m ((c.tc : Thread Cert.KernelMoeUpIdeal.nD Cert.KernelMoeUpIdeal.τ).loc Cert.KernelMoeUpIdeal.main_arg0)
      ∧ m' ((c.tc : Thread Cert.ReferenceMoeUpIdeal.nD Cert.ReferenceMoeUpIdeal.τ).loc Cert.ReferenceMoeUpIdeal.main_arg1) = m ((c.tc : Thread Cert.KernelMoeUpIdeal.nD Cert.KernelMoeUpIdeal.τ).loc Cert.KernelMoeUpIdeal.main_arg1)
      ∧ m' ((c.tc : Thread Cert.ReferenceMoeUpIdeal.nD Cert.ReferenceMoeUpIdeal.τ).loc Cert.ReferenceMoeUpIdeal.main_arg2) = m ((c.tc : Thread Cert.KernelMoeUpIdeal.nD Cert.KernelMoeUpIdeal.τ).loc Cert.KernelMoeUpIdeal.main_arg2)
      ∧ m' ((c.tc : Thread Cert.ReferenceMoeUpIdeal.nD Cert.ReferenceMoeUpIdeal.τ).loc Cert.ReferenceMoeUpIdeal.main_arg3) = m ((c.tc : Thread Cert.KernelMoeUpIdeal.nD Cert.KernelMoeUpIdeal.τ).loc Cert.KernelMoeUpIdeal.main_arg3)) →
    ∃ (v0 : (c : Dev Cert.KernelMoeUpIdeal.nD) → Buf (Elt Ideal) ((c.tc : Thread Cert.KernelMoeUpIdeal.nD Cert.KernelMoeUpIdeal.τ).loc Cert.KernelMoeUpIdeal.main_v23)),
      θ_run (Cert.KernelMoeUpIdeal.defs (F := Ideal)) (onTc (τ := Cert.KernelMoeUpIdeal.τ) (Cert.KernelMoeUpIdeal.main (F := Ideal))) ⟨m, fun _ => 0, g⟩ (fun r => ∀ c : Dev Cert.KernelMoeUpIdeal.nD,
          r.2.mem ((c.tc : Thread Cert.KernelMoeUpIdeal.nD Cert.KernelMoeUpIdeal.τ).loc Cert.KernelMoeUpIdeal.main_v23) = v0 c
          ∧ r.2.mem ((c.tc : Thread Cert.KernelMoeUpIdeal.nD Cert.KernelMoeUpIdeal.τ).loc Cert.KernelMoeUpIdeal.main_arg0) = m ((c.tc : Thread Cert.KernelMoeUpIdeal.nD Cert.KernelMoeUpIdeal.τ).loc Cert.KernelMoeUpIdeal.main_arg0)
          ∧ r.2.mem ((c.tc : Thread Cert.KernelMoeUpIdeal.nD Cert.KernelMoeUpIdeal.τ).loc Cert.KernelMoeUpIdeal.main_arg1) = m ((c.tc : Thread Cert.KernelMoeUpIdeal.nD Cert.KernelMoeUpIdeal.τ).loc Cert.KernelMoeUpIdeal.main_arg1)
          ∧ r.2.mem ((c.tc : Thread Cert.KernelMoeUpIdeal.nD Cert.KernelMoeUpIdeal.τ).loc Cert.KernelMoeUpIdeal.main_arg2) = m ((c.tc : Thread Cert.KernelMoeUpIdeal.nD Cert.KernelMoeUpIdeal.τ).loc Cert.KernelMoeUpIdeal.main_arg2)
          ∧ r.2.mem ((c.tc : Thread Cert.KernelMoeUpIdeal.nD Cert.KernelMoeUpIdeal.τ).loc Cert.KernelMoeUpIdeal.main_arg3) = m ((c.tc : Thread Cert.KernelMoeUpIdeal.nD Cert.KernelMoeUpIdeal.τ).loc Cert.KernelMoeUpIdeal.main_arg3))
      ∧ θ_run (Cert.ReferenceMoeUpIdeal.defs (F := Ideal)) (onTc (τ := Cert.ReferenceMoeUpIdeal.τ) (Cert.ReferenceMoeUpIdeal.main (F := Ideal))) ⟨m', fun _ => 0, g'⟩ (fun r => ∀ c : Dev Cert.ReferenceMoeUpIdeal.nD,
          r.2.mem ((c.tc : Thread Cert.ReferenceMoeUpIdeal.nD Cert.ReferenceMoeUpIdeal.τ).loc Cert.ReferenceMoeUpIdeal.main_v31) = v0 c
          ∧ r.2.mem ((c.tc : Thread Cert.ReferenceMoeUpIdeal.nD Cert.ReferenceMoeUpIdeal.τ).loc Cert.ReferenceMoeUpIdeal.main_arg0) = m' ((c.tc : Thread Cert.ReferenceMoeUpIdeal.nD Cert.ReferenceMoeUpIdeal.τ).loc Cert.ReferenceMoeUpIdeal.main_arg0)
          ∧ r.2.mem ((c.tc : Thread Cert.ReferenceMoeUpIdeal.nD Cert.ReferenceMoeUpIdeal.τ).loc Cert.ReferenceMoeUpIdeal.main_arg1) = m' ((c.tc : Thread Cert.ReferenceMoeUpIdeal.nD Cert.ReferenceMoeUpIdeal.τ).loc Cert.ReferenceMoeUpIdeal.main_arg1)
          ∧ r.2.mem ((c.tc : Thread Cert.ReferenceMoeUpIdeal.nD Cert.ReferenceMoeUpIdeal.τ).loc Cert.ReferenceMoeUpIdeal.main_arg2) = m' ((c.tc : Thread Cert.ReferenceMoeUpIdeal.nD Cert.ReferenceMoeUpIdeal.τ).loc Cert.ReferenceMoeUpIdeal.main_arg2)
          ∧ r.2.mem ((c.tc : Thread Cert.ReferenceMoeUpIdeal.nD Cert.ReferenceMoeUpIdeal.τ).loc Cert.ReferenceMoeUpIdeal.main_arg3) = m' ((c.tc : Thread Cert.ReferenceMoeUpIdeal.nD Cert.ReferenceMoeUpIdeal.τ).loc Cert.ReferenceMoeUpIdeal.main_arg3))

def preserves_KernelMoeDown_KernelMoeDownIdeal : Prop :=
  True

def algebraic_KernelMoeDownIdeal_ReferenceMoeDownIdeal_pre_moe_down_counts [hKernelMoeDownIdeal : Cert.KernelMoeDownIdeal.Facts] [hReferenceMoeDownIdeal : Cert.ReferenceMoeDownIdeal.Facts] [hPre_moe_down_counts : Cert.Pre_moe_down_counts.Facts] : Prop :=
  ∀ (m : (ℓ : Loc Cert.KernelMoeDownIdeal.nD Cert.KernelMoeDownIdeal.τ Cert.KernelMoeDownIdeal.sig) → Buf (Elt Ideal) ℓ) (g : Dev Cert.KernelMoeDownIdeal.nD → PrngReg)
    (m' : (ℓ : Loc Cert.ReferenceMoeDownIdeal.nD Cert.ReferenceMoeDownIdeal.τ Cert.ReferenceMoeDownIdeal.sig) → Buf (Elt Ideal) ℓ) (g' : Dev Cert.ReferenceMoeDownIdeal.nD → PrngReg), Pre_KernelMoeDownIdeal_moe_down_counts m →
    (∀ c : Dev Cert.KernelMoeDownIdeal.nD,
      m' ((c.tc : Thread Cert.ReferenceMoeDownIdeal.nD Cert.ReferenceMoeDownIdeal.τ).loc Cert.ReferenceMoeDownIdeal.main_arg0) = m ((c.tc : Thread Cert.KernelMoeDownIdeal.nD Cert.KernelMoeDownIdeal.τ).loc Cert.KernelMoeDownIdeal.main_arg0)
      ∧ m' ((c.tc : Thread Cert.ReferenceMoeDownIdeal.nD Cert.ReferenceMoeDownIdeal.τ).loc Cert.ReferenceMoeDownIdeal.main_arg1) = m ((c.tc : Thread Cert.KernelMoeDownIdeal.nD Cert.KernelMoeDownIdeal.τ).loc Cert.KernelMoeDownIdeal.main_arg1)
      ∧ m' ((c.tc : Thread Cert.ReferenceMoeDownIdeal.nD Cert.ReferenceMoeDownIdeal.τ).loc Cert.ReferenceMoeDownIdeal.main_arg2) = m ((c.tc : Thread Cert.KernelMoeDownIdeal.nD Cert.KernelMoeDownIdeal.τ).loc Cert.KernelMoeDownIdeal.main_arg2)) →
    ∃ (v0 : (c : Dev Cert.KernelMoeDownIdeal.nD) → Buf (Elt Ideal) ((c.tc : Thread Cert.KernelMoeDownIdeal.nD Cert.KernelMoeDownIdeal.τ).loc Cert.KernelMoeDownIdeal.main_v23)),
      θ_run (Cert.KernelMoeDownIdeal.defs (F := Ideal)) (onTc (τ := Cert.KernelMoeDownIdeal.τ) (Cert.KernelMoeDownIdeal.main (F := Ideal))) ⟨m, fun _ => 0, g⟩ (fun r => ∀ c : Dev Cert.KernelMoeDownIdeal.nD,
          r.2.mem ((c.tc : Thread Cert.KernelMoeDownIdeal.nD Cert.KernelMoeDownIdeal.τ).loc Cert.KernelMoeDownIdeal.main_v23) = v0 c
          ∧ r.2.mem ((c.tc : Thread Cert.KernelMoeDownIdeal.nD Cert.KernelMoeDownIdeal.τ).loc Cert.KernelMoeDownIdeal.main_arg0) = m ((c.tc : Thread Cert.KernelMoeDownIdeal.nD Cert.KernelMoeDownIdeal.τ).loc Cert.KernelMoeDownIdeal.main_arg0)
          ∧ r.2.mem ((c.tc : Thread Cert.KernelMoeDownIdeal.nD Cert.KernelMoeDownIdeal.τ).loc Cert.KernelMoeDownIdeal.main_arg1) = m ((c.tc : Thread Cert.KernelMoeDownIdeal.nD Cert.KernelMoeDownIdeal.τ).loc Cert.KernelMoeDownIdeal.main_arg1)
          ∧ r.2.mem ((c.tc : Thread Cert.KernelMoeDownIdeal.nD Cert.KernelMoeDownIdeal.τ).loc Cert.KernelMoeDownIdeal.main_arg2) = m ((c.tc : Thread Cert.KernelMoeDownIdeal.nD Cert.KernelMoeDownIdeal.τ).loc Cert.KernelMoeDownIdeal.main_arg2))
      ∧ θ_run (Cert.ReferenceMoeDownIdeal.defs (F := Ideal)) (onTc (τ := Cert.ReferenceMoeDownIdeal.τ) (Cert.ReferenceMoeDownIdeal.main (F := Ideal))) ⟨m', fun _ => 0, g'⟩ (fun r => ∀ c : Dev Cert.ReferenceMoeDownIdeal.nD,
          r.2.mem ((c.tc : Thread Cert.ReferenceMoeDownIdeal.nD Cert.ReferenceMoeDownIdeal.τ).loc Cert.ReferenceMoeDownIdeal.main_v25) = v0 c
          ∧ r.2.mem ((c.tc : Thread Cert.ReferenceMoeDownIdeal.nD Cert.ReferenceMoeDownIdeal.τ).loc Cert.ReferenceMoeDownIdeal.main_arg0) = m' ((c.tc : Thread Cert.ReferenceMoeDownIdeal.nD Cert.ReferenceMoeDownIdeal.τ).loc Cert.ReferenceMoeDownIdeal.main_arg0)
          ∧ r.2.mem ((c.tc : Thread Cert.ReferenceMoeDownIdeal.nD Cert.ReferenceMoeDownIdeal.τ).loc Cert.ReferenceMoeDownIdeal.main_arg1) = m' ((c.tc : Thread Cert.ReferenceMoeDownIdeal.nD Cert.ReferenceMoeDownIdeal.τ).loc Cert.ReferenceMoeDownIdeal.main_arg1)
          ∧ r.2.mem ((c.tc : Thread Cert.ReferenceMoeDownIdeal.nD Cert.ReferenceMoeDownIdeal.τ).loc Cert.ReferenceMoeDownIdeal.main_arg2) = m' ((c.tc : Thread Cert.ReferenceMoeDownIdeal.nD Cert.ReferenceMoeDownIdeal.τ).loc Cert.ReferenceMoeDownIdeal.main_arg2))

def Claim : Prop :=
  ∃ (hKernel : Cert.Kernel.Facts) (hKernelIdeal : Cert.KernelIdeal.Facts) (hReferenceIdeal : Cert.ReferenceIdeal.Facts) (hKernelEvenIn : Cert.KernelEvenIn.Facts) (hKernelEvenInIdeal : Cert.KernelEvenInIdeal.Facts) (hReferenceEvenInIdeal : Cert.ReferenceEvenInIdeal.Facts) (hKernelEvenOut : Cert.KernelEvenOut.Facts) (hKernelEvenOutIdeal : Cert.KernelEvenOutIdeal.Facts) (hReferenceEvenOutIdeal : Cert.ReferenceEvenOutIdeal.Facts) (hKernelFfnUp : Cert.KernelFfnUp.Facts) (hKernelFfnUpIdeal : Cert.KernelFfnUpIdeal.Facts) (hReferenceFfnUpIdeal : Cert.ReferenceFfnUpIdeal.Facts) (hKernelFfnDown : Cert.KernelFfnDown.Facts) (hKernelFfnDownIdeal : Cert.KernelFfnDownIdeal.Facts) (hReferenceFfnDownIdeal : Cert.ReferenceFfnDownIdeal.Facts) (hKernelOddIn : Cert.KernelOddIn.Facts) (hKernelOddInIdeal : Cert.KernelOddInIdeal.Facts) (hReferenceOddInIdeal : Cert.ReferenceOddInIdeal.Facts) (hKernelOddOut : Cert.KernelOddOut.Facts) (hKernelOddOutIdeal : Cert.KernelOddOutIdeal.Facts) (hReferenceOddOutIdeal : Cert.ReferenceOddOutIdeal.Facts) (hKernelOddTail : Cert.KernelOddTail.Facts) (hKernelOddTailIdeal : Cert.KernelOddTailIdeal.Facts) (hReferenceOddTailIdeal : Cert.ReferenceOddTailIdeal.Facts) (hKernelNorm : Cert.KernelNorm.Facts) (hKernelNormIdeal : Cert.KernelNormIdeal.Facts) (hReferenceNormIdeal : Cert.ReferenceNormIdeal.Facts) (hKernelRope : Cert.KernelRope.Facts) (hKernelRopeIdeal : Cert.KernelRopeIdeal.Facts) (hReferenceRopeIdeal : Cert.ReferenceRopeIdeal.Facts) (hKernelCast : Cert.KernelCast.Facts) (hKernelCastIdeal : Cert.KernelCastIdeal.Facts) (hReferenceCastIdeal : Cert.ReferenceCastIdeal.Facts) (hKernelIdxQ : Cert.KernelIdxQ.Facts) (hKernelIdxQIdeal : Cert.KernelIdxQIdeal.Facts) (hReferenceIdxQIdeal : Cert.ReferenceIdxQIdeal.Facts) (hKernelIdxTail : Cert.KernelIdxTail.Facts) (hKernelIdxTailIdeal : Cert.KernelIdxTailIdeal.Facts) (hReferenceIdxTailIdeal : Cert.ReferenceIdxTailIdeal.Facts) (hKernelMoeUp : Cert.KernelMoeUp.Facts) (hKernelMoeUpIdeal : Cert.KernelMoeUpIdeal.Facts) (hReferenceMoeUpIdeal : Cert.ReferenceMoeUpIdeal.Facts) (hKernelMoeDown : Cert.KernelMoeDown.Facts) (hKernelMoeDownIdeal : Cert.KernelMoeDownIdeal.Facts) (hReferenceMoeDownIdeal : Cert.ReferenceMoeDownIdeal.Facts) (hPre_moe_up_counts : Cert.Pre_moe_up_counts.Facts) (hPre_moe_down_counts : Cert.Pre_moe_down_counts.Facts),
    quiescent_Kernel (hKernel := hKernel)
    ∧ quiescent_KernelIdeal (hKernelIdeal := hKernelIdeal)
    ∧ quiescent_ReferenceIdeal (hReferenceIdeal := hReferenceIdeal)
    ∧ quiescent_KernelEvenIn (hKernelEvenIn := hKernelEvenIn)
    ∧ quiescent_KernelEvenInIdeal (hKernelEvenInIdeal := hKernelEvenInIdeal)
    ∧ quiescent_ReferenceEvenInIdeal (hReferenceEvenInIdeal := hReferenceEvenInIdeal)
    ∧ quiescent_KernelEvenOut (hKernelEvenOut := hKernelEvenOut)
    ∧ quiescent_KernelEvenOutIdeal (hKernelEvenOutIdeal := hKernelEvenOutIdeal)
    ∧ quiescent_ReferenceEvenOutIdeal (hReferenceEvenOutIdeal := hReferenceEvenOutIdeal)
    ∧ quiescent_KernelFfnUp (hKernelFfnUp := hKernelFfnUp)
    ∧ quiescent_KernelFfnUpIdeal (hKernelFfnUpIdeal := hKernelFfnUpIdeal)
    ∧ quiescent_ReferenceFfnUpIdeal (hReferenceFfnUpIdeal := hReferenceFfnUpIdeal)
    ∧ quiescent_KernelFfnDown (hKernelFfnDown := hKernelFfnDown)
    ∧ quiescent_KernelFfnDownIdeal (hKernelFfnDownIdeal := hKernelFfnDownIdeal)
    ∧ quiescent_ReferenceFfnDownIdeal (hReferenceFfnDownIdeal := hReferenceFfnDownIdeal)
    ∧ quiescent_KernelOddIn (hKernelOddIn := hKernelOddIn)
    ∧ quiescent_KernelOddInIdeal (hKernelOddInIdeal := hKernelOddInIdeal)
    ∧ quiescent_ReferenceOddInIdeal (hReferenceOddInIdeal := hReferenceOddInIdeal)
    ∧ quiescent_KernelOddOut (hKernelOddOut := hKernelOddOut)
    ∧ quiescent_KernelOddOutIdeal (hKernelOddOutIdeal := hKernelOddOutIdeal)
    ∧ quiescent_ReferenceOddOutIdeal (hReferenceOddOutIdeal := hReferenceOddOutIdeal)
    ∧ quiescent_KernelOddTail (hKernelOddTail := hKernelOddTail)
    ∧ quiescent_KernelOddTailIdeal (hKernelOddTailIdeal := hKernelOddTailIdeal)
    ∧ quiescent_ReferenceOddTailIdeal (hReferenceOddTailIdeal := hReferenceOddTailIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelCast (hKernelCast := hKernelCast)
    ∧ quiescent_KernelCastIdeal (hKernelCastIdeal := hKernelCastIdeal)
    ∧ quiescent_ReferenceCastIdeal (hReferenceCastIdeal := hReferenceCastIdeal)
    ∧ quiescent_KernelIdxQ (hKernelIdxQ := hKernelIdxQ)
    ∧ quiescent_KernelIdxQIdeal (hKernelIdxQIdeal := hKernelIdxQIdeal)
    ∧ quiescent_ReferenceIdxQIdeal (hReferenceIdxQIdeal := hReferenceIdxQIdeal)
    ∧ quiescent_KernelIdxTail (hKernelIdxTail := hKernelIdxTail)
    ∧ quiescent_KernelIdxTailIdeal (hKernelIdxTailIdeal := hKernelIdxTailIdeal)
    ∧ quiescent_ReferenceIdxTailIdeal (hReferenceIdxTailIdeal := hReferenceIdxTailIdeal)
    ∧ quiescent_KernelMoeUp (hKernelMoeUp := hKernelMoeUp)
    ∧ quiescent_KernelMoeUpIdeal (hKernelMoeUpIdeal := hKernelMoeUpIdeal)
    ∧ quiescent_KernelMoeUpIdeal_pre_moe_up_counts (hKernelMoeUpIdeal := hKernelMoeUpIdeal) (hPre_moe_up_counts := hPre_moe_up_counts)
    ∧ quiescent_ReferenceMoeUpIdeal (hReferenceMoeUpIdeal := hReferenceMoeUpIdeal)
    ∧ quiescent_ReferenceMoeUpIdeal_pre_moe_up_counts (hReferenceMoeUpIdeal := hReferenceMoeUpIdeal) (hPre_moe_up_counts := hPre_moe_up_counts)
    ∧ quiescent_KernelMoeDown (hKernelMoeDown := hKernelMoeDown)
    ∧ quiescent_KernelMoeDownIdeal (hKernelMoeDownIdeal := hKernelMoeDownIdeal)
    ∧ quiescent_KernelMoeDownIdeal_pre_moe_down_counts (hKernelMoeDownIdeal := hKernelMoeDownIdeal) (hPre_moe_down_counts := hPre_moe_down_counts)
    ∧ quiescent_ReferenceMoeDownIdeal (hReferenceMoeDownIdeal := hReferenceMoeDownIdeal)
    ∧ quiescent_ReferenceMoeDownIdeal_pre_moe_down_counts (hReferenceMoeDownIdeal := hReferenceMoeDownIdeal) (hPre_moe_down_counts := hPre_moe_down_counts)
    ∧ preserves_Kernel_KernelIdeal
    ∧ algebraic_KernelIdeal_ReferenceIdeal (hKernelIdeal := hKernelIdeal) (hReferenceIdeal := hReferenceIdeal)
    ∧ preserves_KernelEvenIn_KernelEvenInIdeal
    ∧ algebraic_KernelEvenInIdeal_ReferenceEvenInIdeal (hKernelEvenInIdeal := hKernelEvenInIdeal) (hReferenceEvenInIdeal := hReferenceEvenInIdeal)
    ∧ preserves_KernelEvenOut_KernelEvenOutIdeal
    ∧ algebraic_KernelEvenOutIdeal_ReferenceEvenOutIdeal (hKernelEvenOutIdeal := hKernelEvenOutIdeal) (hReferenceEvenOutIdeal := hReferenceEvenOutIdeal)
    ∧ preserves_KernelFfnUp_KernelFfnUpIdeal
    ∧ algebraic_KernelFfnUpIdeal_ReferenceFfnUpIdeal (hKernelFfnUpIdeal := hKernelFfnUpIdeal) (hReferenceFfnUpIdeal := hReferenceFfnUpIdeal)
    ∧ preserves_KernelFfnDown_KernelFfnDownIdeal
    ∧ algebraic_KernelFfnDownIdeal_ReferenceFfnDownIdeal (hKernelFfnDownIdeal := hKernelFfnDownIdeal) (hReferenceFfnDownIdeal := hReferenceFfnDownIdeal)
    ∧ preserves_KernelOddIn_KernelOddInIdeal
    ∧ algebraic_KernelOddInIdeal_ReferenceOddInIdeal (hKernelOddInIdeal := hKernelOddInIdeal) (hReferenceOddInIdeal := hReferenceOddInIdeal)
    ∧ preserves_KernelOddOut_KernelOddOutIdeal
    ∧ algebraic_KernelOddOutIdeal_ReferenceOddOutIdeal (hKernelOddOutIdeal := hKernelOddOutIdeal) (hReferenceOddOutIdeal := hReferenceOddOutIdeal)
    ∧ preserves_KernelOddTail_KernelOddTailIdeal
    ∧ algebraic_KernelOddTailIdeal_ReferenceOddTailIdeal (hKernelOddTailIdeal := hKernelOddTailIdeal) (hReferenceOddTailIdeal := hReferenceOddTailIdeal)
    ∧ preserves_KernelNorm_KernelNormIdeal
    ∧ algebraic_KernelNormIdeal_ReferenceNormIdeal (hKernelNormIdeal := hKernelNormIdeal) (hReferenceNormIdeal := hReferenceNormIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelCast_KernelCastIdeal
    ∧ algebraic_KernelCastIdeal_ReferenceCastIdeal (hKernelCastIdeal := hKernelCastIdeal) (hReferenceCastIdeal := hReferenceCastIdeal)
    ∧ preserves_KernelIdxQ_KernelIdxQIdeal
    ∧ algebraic_KernelIdxQIdeal_ReferenceIdxQIdeal (hKernelIdxQIdeal := hKernelIdxQIdeal) (hReferenceIdxQIdeal := hReferenceIdxQIdeal)
    ∧ preserves_KernelIdxTail_KernelIdxTailIdeal
    ∧ algebraic_KernelIdxTailIdeal_ReferenceIdxTailIdeal (hKernelIdxTailIdeal := hKernelIdxTailIdeal) (hReferenceIdxTailIdeal := hReferenceIdxTailIdeal)
    ∧ preserves_KernelMoeUp_KernelMoeUpIdeal
    ∧ algebraic_KernelMoeUpIdeal_ReferenceMoeUpIdeal_pre_moe_up_counts (hKernelMoeUpIdeal := hKernelMoeUpIdeal) (hReferenceMoeUpIdeal := hReferenceMoeUpIdeal) (hPre_moe_up_counts := hPre_moe_up_counts)
    ∧ preserves_KernelMoeDown_KernelMoeDownIdeal
    ∧ algebraic_KernelMoeDownIdeal_ReferenceMoeDownIdeal_pre_moe_down_counts (hKernelMoeDownIdeal := hKernelMoeDownIdeal) (hReferenceMoeDownIdeal := hReferenceMoeDownIdeal) (hPre_moe_down_counts := hPre_moe_down_counts)
-- ==== Pre_moe_down_counts.lean ====
abbrev S8 : Shape := ⟨1, ![8]⟩
abbrev S20480x1792 : Shape := ⟨2, ![20480, 1792]⟩
abbrev S2x8x1792x4096 : Shape := ⟨4, ![2, 8, 1792, 4096]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S8 32) (main_arg1 : FVec F S20480x1792 .f32) (main_arg2 : FVec F S2x8x1792x4096 .f32) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 16384#32
  let main_v2 : IVec S8 32 := broadcastInDim S8 ![] bcast_S_S8 main_c_0
  let main_v3 : IVec S8 1 := cmpi .sle main_arg0 main_v2
  let main_v4 : IVec S8 1 := andi main_v1 main_v3
  main_v4
-- ==== Pre_moe_up_counts.lean ====
abbrev S8 : Shape := ⟨1, ![8]⟩
abbrev S20480x4096 : Shape := ⟨2, ![20480, 4096]⟩
abbrev S2x8x4096x1792 : Shape := ⟨4, ![2, 8, 4096, 1792]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S8 32) (main_arg1 : FVec F S20480x4096 .f32) (main_arg2 : FVec F S2x8x4096x1792 .f32) (main_arg3 : FVec F S2x8x4096x1792 .f32) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 16384#32
  let main_v2 : IVec S8 32 := broadcastInDim S8 ![] bcast_S_S8 main_c_0
  let main_v3 : IVec S8 1 := cmpi .sle main_arg0 main_v2
  let main_v4 : IVec S8 1 := andi main_v1 main_v3
  main_v4
-- ==== Kernel.lean ====
abbrev S8192x12288 : Shape := ⟨2, ![8192, 12288]⟩
abbrev S8192x2048 : Shape := ⟨2, ![8192, 2048]⟩
abbrev S256x128 : Shape := ⟨2, ![256, 128]⟩
abbrev S8192x128 : Shape := ⟨2, ![8192, 128]⟩
abbrev S256x256 : Shape := ⟨2, ![256, 256]⟩
abbrev S256x1 : Shape := ⟨2, ![256, 1]⟩
abbrev S512x128 : Shape := ⟨2, ![512, 128]⟩
abbrev S256x512 : Shape := ⟨2, ![256, 512]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 10
  | .smem => 0
  | _ => 0

abbrev bufTy : (tb : Table) → Fin (tcTables nBuf tb) → BufTy
  | .hbm, ⟨0, _⟩ => ⟨S8192x12288, .f32⟩
  | .hbm, ⟨1, _⟩ => ⟨S8192x2048, .bf16⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .bf16⟩
  | .local _ .vmem, ⟨7, _⟩ => ⟨S256x128, .bf16⟩
  | .local _ .vmem, ⟨8, _⟩ => ⟨S8192x128, .bf16⟩
  | .local _ .vmem, ⟨9, _⟩ => ⟨S8192x128, .bf16⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c1_i32 : BitVec 32 := 1#32
  let v14 : BitVec 32 := Scalar.subi arg1 c1_i32
  let c0_i32_4 : BitVec 32 := 0#32
  let v15 : BitVec 32 := Scalar.maxsi v14 c0_i32_4
  let c256_i32 : BitVec 32 := 256#32
  let v37 : BitVec 32 := Scalar.muli v15 c256_i32
  v37
def k0_off1 (i : grid0.Coords) : Fin 2 → Nat :=
  let arg1 : BitVec 32 := BitVec.ofNat 32 (i 1).val
  let c1_i32 : BitVec 32 := 1#32
  let v14 : BitVec 32 := Scalar.subi arg1 c1_i32
  let c0_i32_4 : BitVec 32 := 0#32
  let v15 : BitVec 32 := Scalar.maxsi v14 c0_i32_4
  let c256_i32 : BitVec 32 := 256#32
  let v37 : BitVec 32 := Scalar.muli v15 c256_i32
  let v38 : BitVec 32 := v37
  let v41 : Index := Scalar.indexCast v38
  let c0_16 : Index := 0#32
  ![v41.toNat, 0]
def k0_mult2 (i : grid0.Coords) (arg8 : BitVec 32) : BitVec 32 :=
  let arg1 : BitVec 32 := BitVec.ofNat 32 (i 1).val
  let c1_i32 : BitVec 32 := 1#32
  let v14 : BitVec 32 := Scalar.subi arg1 c1_i32
  let c0_i32_4 : BitVec 32 := 0#32
  let v15 : BitVec 32 := Scalar.maxsi v14 c0_i32_4
  let c2_i32_39 : BitVec 32 := 2#32
  let c1_i32_38 : BitVec 32 := 1#32
  let v111 : BitVec 32 := Scalar.addi arg8 c1_i32_38
  let v112 : BitVec 32 := Scalar.muli c2_i32_39 v111
  let v113 : BitVec 32 := Scalar.subi v15 v112
  let c256_i32_40 : BitVec 32 := 256#32
  let v114 : BitVec 32 := Scalar.muli v113 c256_i32_40
  v114

def k0_off2 (i : grid0.Coords) (arg8 : BitVec 32) : Fin 2 → Nat :=
  let arg1 : BitVec 32 := BitVec.ofNat 32 (i 1).val
  let c1_i32 : BitVec 32 := 1#32
  let v14 : BitVec 32 := Scalar.subi arg1 c1_i32
  let c0_i32_4 : BitVec 32 := 0#32
  let v15 : BitVec 32 := Scalar.maxsi v14 c0_i32_4
  let c2_i32_39 : BitVec 32 := 2#32
  let c1_i32_38 : BitVec 32 := 1#32
  let v111 : BitVec 32 := Scalar.addi arg8 c1_i32_38
  let v112 : BitVec 32 := Scalar.muli c2_i32_39 v111
  let v113 : BitVec 32 := Scalar.subi v15 v112
  let c256_i32_40 : BitVec 32 := 256#32
  let v114 : BitVec 32 := Scalar.muli v113 c256_i32_40
  let v115 : BitVec 32 := v114
  let v116 : Index := Scalar.indexCast v115
  let c0_41 : Index := 0#32
  ![v116.toNat, 0]

def k0_chk1 (i : grid0.Coords) (arg8 : BitVec 32) : Prop :=
  (256 ∣ (k0_mult2 i arg8).toNat) ∧
  (∀ a, (k0_off2 i arg8) a + S512x128.size a ≤ S8192x128.size a)
theorem k0_mult2_dvd : ∀ (i : grid0.Coords) (arg8 : BitVec 32) (k0_hw1 : k0_chk1 i arg8), 256 ∣ (k0_mult2 i arg8).toNat := fun i arg8 k0_hw1 => k0_hw1.1
theorem k0_off2_inb : ∀ (i : grid0.Coords) (arg8 : BitVec 32) (k0_hw1 : k0_chk1 i arg8), ∀ a, (k0_off2 i arg8) a + S512x128.size a ≤ S8192x128.size a := fun i arg8 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊤
  | "log2e" => some (((Real.log 2)⁻¹ : ℝ) : EReal)
  | "scale_log2e" => some (((11863283 / 134217728) * (Real.log 2)⁻¹ : ℝ) : EReal)
  | _ => none
-- ==== ReferenceIdeal.lean ====
abbrev S8192x12288 : Shape := ⟨2, ![8192, 12288]⟩
abbrev S8192x2048 : Shape := ⟨2, ![8192, 2048]⟩
abbrev S8192x6144 : Shape := ⟨2, ![8192, 6144]⟩
abbrev S8192x16x128 : Shape := ⟨3, ![8192, 16, 128]⟩
abbrev S8192 : Shape := ⟨1, ![8192]⟩
abbrev S16x8192x8192 : Shape := ⟨3, ![16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x6144, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S8192, .i32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S_, .f32⟩
  | .hbm, ⟨35, _⟩ => ⟨S16x8192x8192, .i1⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S_, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .i1⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S_, .f32⟩
  | .hbm, ⟨62, _⟩ => ⟨S16x8192x8192, .i1⟩
  | .hbm, ⟨63, _⟩ => ⟨S16x8192x8192, .f32⟩
  | .hbm, ⟨64, _⟩ => ⟨S16x8192x8192, .f32⟩
  | .hbm, ⟨65, _⟩ => ⟨S16x128x8192, .f32⟩
  | .hbm, ⟨66, _⟩ => ⟨S8192x16x128, .f32⟩
  | .hbm, ⟨67, _⟩ => ⟨S8192x2048, .f32⟩
  | .hbm, ⟨68, _⟩ => ⟨S8192x2048, .bf16⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_call2_cst : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩

abbrev nD : Nat := 1
abbrev τ : Topo := Topo.v7x

variable {F : FTy → Type} [FloatOps F]
-- ==== KernelEvenIn.lean ====
abbrev S8192x4096 : Shape := ⟨2, ![8192, 4096]⟩
abbrev S2x4096x12288 : Shape := ⟨3, ![2, 4096, 12288]⟩
abbrev S8192x12288 : Shape := ⟨2, ![8192, 12288]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096x12288, .f32⟩
  | .hbm, ⟨2, _⟩ => ⟨S8192x4096, .bf16⟩
  | .hbm, ⟨3, _⟩ => ⟨S8192x12288, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceEvenInIdeal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x12288, .f32⟩
  | .hbm, ⟨2, _⟩ => ⟨S1x4096x12288, .f32⟩
  | .hbm, ⟨3, _⟩ => ⟨S4096x12288, .f32⟩
  | .hbm, ⟨4, _⟩ => ⟨S8192x12288, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelEvenOut.lean ====
abbrev S8192x2048 : Shape := ⟨2, ![8192, 2048]⟩
abbrev S2x4096x4096 : Shape := ⟨3, ![2, 4096, 4096]⟩
abbrev S8192x4096 : Shape := ⟨2, ![8192, 4096]⟩
abbrev S1x4096x512 : Shape := ⟨3, ![1, 4096, 512]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x4096x4096, .f32⟩
  | .hbm, ⟨3, _⟩ => ⟨S8192x2048, .bf16⟩
  | .hbm, ⟨4, _⟩ => ⟨S8192x2048, .bf16⟩
  | .hbm, ⟨5, _⟩ => ⟨S8192x4096, .f32⟩
  | .local _ .vmem, ⟨0, _⟩ => ⟨S1x4096x512, .f32⟩
  | .local _ .vmem, ⟨1, _⟩ => ⟨S1x4096x512, .f32⟩
  | .local _ .vmem, ⟨2, _⟩ => ⟨S2048x2048, .bf16⟩
  | .local _ .vmem, ⟨3, _⟩ => ⟨S2048x2048, .bf16⟩
  | .local _ .vmem, ⟨4, _⟩ => ⟨S2048x512, .f32⟩
  | .local _ .vmem, ⟨5, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceEvenOutIdeal.lean ====
abbrev S8192x2048 : Shape := ⟨2, ![8192, 2048]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2x4096x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfnUp.lean ====
abbrev S8192x4096 : Shape := ⟨2, ![8192, 4096]⟩
abbrev S2x4096x11008 : Shape := ⟨3, ![2, 4096, 11008]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S2x4096x11008, .f32⟩
  | .hbm, ⟨3, _⟩ => ⟨S8192x4096, .bf16⟩
  | .hbm, ⟨4, _⟩ => ⟨S8192x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2048x256, .bf16⟩
  | .local _ .vmem, ⟨6, _⟩ => ⟨S2048x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnUpIdeal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x11008, .f32⟩
  | .hbm, ⟨2, _⟩ => ⟨S2x4096x11008, .f32⟩
  | .hbm, ⟨3, _⟩ => ⟨S1x4096x11008, .f32⟩
  | .hbm, ⟨4, _⟩ => ⟨S4096x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S1x4096x11008, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== KernelFfnDown.lean ====
abbrev S8192x11008 : Shape := ⟨2, ![8192, 11008]⟩
abbrev S2x11008x4096 : Shape := ⟨3, ![2, 11008, 4096]⟩
abbrev S8192x4096 : Shape := ⟨2, ![8192, 4096]⟩
abbrev S1024x11008 : Shape := ⟨2, ![1024, 11008]⟩
abbrev S1x11008x256 : Shape := ⟨3, ![1, 11008, 256]⟩
abbrev S1024x256 : Shape := ⟨2, ![1024, 256]⟩
abbrev S11008x256 : Shape := ⟨2, ![11008, 256]⟩

abbrev nBuf : Space → Nat
  | .hbm => 4
  | .vmem => 5
  | .smem => 0
  | _ => 0

abbrev bufTy : (tb : Table) → Fin (tcTables nBuf tb) → BufTy
  | .hbm, ⟨0, _⟩ => ⟨S8192x11008, .f32⟩
  | .hbm, ⟨1, _⟩ => ⟨S2x11008x4096, .f32⟩
  | .hbm, ⟨2, _⟩ => ⟨S8192x11008, .bf16⟩
  | .hbm, ⟨3, _⟩ => ⟨S8192x4096, .f32⟩
  | .local _ .vmem, ⟨0, _⟩ => ⟨S1024x11008, .bf16⟩
  | .local _ .vmem, ⟨1, _⟩ => ⟨S1x11008x256, .f32⟩
  | .local _ .vmem, ⟨2, _⟩ => ⟨S1x11008x256, .f32⟩
  | .local _ .vmem, ⟨3, _⟩ => ⟨S1024x256, .f32⟩
  | .local _ .vmem, ⟨4, _⟩ => ⟨S1024x256, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFfnDownIdeal.lean ====
abbrev S8192x11008 : Shape := ⟨2, ![8192, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S2x11008x4096, .f32⟩
  | .hbm, ⟨2, _⟩ => ⟨S1x11008x4096, .f32⟩
  | .hbm, ⟨3, _⟩ => ⟨S11008x4096, .f32⟩
  | .hbm, ⟨4, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOddIn.lean ====
abbrev S8192x4096 : Shape := ⟨2, ![8192, 4096]⟩
abbrev S2x4096x7248 : Shape := ⟨3, ![2, 4096, 7248]⟩
abbrev S2x7248x4096 : Shape := ⟨3, ![2, 7248, 4096]⟩
abbrev S8192x7168 : Shape := ⟨2, ![8192, 7168]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096x7248, .f32⟩
  | .hbm, ⟨2, _⟩ => ⟨S2x7248x4096, .f32⟩
  | .hbm, ⟨3, _⟩ => ⟨S8192x4096, .bf16⟩
  | .hbm, ⟨4, _⟩ => ⟨S8192x7168, .f32⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2048x512, .f32⟩
  | .local _ .vmem, ⟨4, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOddInIdeal.lean ====
abbrev S8192x4096 : Shape := ⟨2, ![8192, 4096]⟩
abbrev S2x4096x7248 : Shape := ⟨3, ![2, 4096, 7248]⟩
abbrev S1x4096x7248 : Shape := ⟨3, ![1, 4096, 7248]⟩
abbrev S4096x7248 : Shape := ⟨2, ![4096, 7248]⟩
abbrev S8192x7248 : Shape := ⟨2, ![8192, 7248]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x7248, .f32⟩
  | .hbm, ⟨2, _⟩ => ⟨S1x4096x7248, .f32⟩
  | .hbm, ⟨3, _⟩ => ⟨S4096x7248, .f32⟩
  | .hbm, ⟨4, _⟩ => ⟨S8192x7248, .f32⟩
  | .hbm, ⟨5, _⟩ => ⟨S8192x7168, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOddOut.lean ====
abbrev S8192x4096 : Shape := ⟨2, ![8192, 4096]⟩
abbrev S2x4096x4096 : Shape := ⟨3, ![2, 4096, 4096]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S8192x4096, .bf16⟩
  | .hbm, ⟨3, _⟩ => ⟨S8192x4096, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOddOutIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S1x4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOddTail.lean ====
abbrev S8192x4096 : Shape := ⟨2, ![8192, 4096]⟩
abbrev S2x4096x7248 : Shape := ⟨3, ![2, 4096, 7248]⟩
abbrev S2x7248x4096 : Shape := ⟨3, ![2, 7248, 4096]⟩
abbrev S1x80x4096 : Shape := ⟨3, ![1, 80, 4096]⟩
abbrev S80x4096 : Shape := ⟨2, ![80, 4096]⟩
abbrev S_ : Shape := ⟨0, ![]⟩
abbrev S128x4096 : Shape := ⟨2, ![128, 4096]⟩
abbrev S8192x128 : Shape := ⟨2, ![8192, 128]⟩
abbrev S2048x4096 : Shape := ⟨2, ![2048, 4096]⟩
abbrev S2048x128 : Shape := ⟨2, ![2048, 128]⟩

abbrev nBuf : Space → Nat
  | .hbm => 10
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S2x4096x7248, .f32⟩
  | .hbm, ⟨2, _⟩ => ⟨S2x7248x4096, .f32⟩
  | .hbm, ⟨3, _⟩ => ⟨S1x80x4096, .f32⟩
  | .hbm, ⟨4, _⟩ => ⟨S80x4096, .f32⟩
  | .hbm, ⟨5, _⟩ => ⟨S_, .i32⟩
  | .hbm, ⟨6, _⟩ => ⟨S_, .f32⟩
  | .hbm, ⟨7, _⟩ => ⟨S128x4096, .f32⟩
  | .hbm, ⟨8, _⟩ => ⟨S8192x4096, .bf16⟩
  | .hbm, ⟨9, _⟩ => ⟨S8192x128, .f32⟩
  | .local _ .vmem, ⟨0, _⟩ => ⟨S2048x4096, .bf16⟩
  | .local _ .vmem, ⟨1, _⟩ => ⟨S128x4096, .f32⟩
  | .local _ .vmem, ⟨2, _⟩ => ⟨S2048x128, .f32⟩
  | .local _ .vmem, ⟨3, _⟩ => ⟨S2048x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOddTailIdeal.lean ====
abbrev S8192x4096 : Shape := ⟨2, ![8192, 4096]⟩
abbrev S2x4096x7248 : Shape := ⟨3, ![2, 4096, 7248]⟩
abbrev S1x4096x7248 : Shape := ⟨3, ![1, 4096, 7248]⟩
abbrev S4096x7248 : Shape := ⟨2, ![4096, 7248]⟩
abbrev S8192x7248 : Shape := ⟨2, ![8192, 7248]⟩
abbrev S8192x80 : Shape := ⟨2, ![8192, 80]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x7248, .f32⟩
  | .hbm, ⟨2, _⟩ => ⟨S1x4096x7248, .f32⟩
  | .hbm, ⟨3, _⟩ => ⟨S4096x7248, .f32⟩
  | .hbm, ⟨4, _⟩ => ⟨S8192x7248, .f32⟩
  | .hbm, ⟨5, _⟩ => ⟨S8192x80, .f32⟩
  | .hbm, ⟨6, _⟩ => ⟨S_, .i32⟩
  | .hbm, ⟨7, _⟩ => ⟨S_, .f32⟩
  | .hbm, ⟨8, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelNorm.lean ====
abbrev S8192x4096 : Shape := ⟨2, ![8192, 4096]⟩
abbrev S4x2x4096 : Shape := ⟨3, ![4, 2, 4096]⟩
abbrev S8x1x4096 : Shape := ⟨3, ![8, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x2x4096, .f32⟩
  | .hbm, ⟨3, _⟩ => ⟨S4x2x4096, .f32⟩
  | .hbm, ⟨4, _⟩ => ⟨S8x1x4096, .f32⟩
  | .hbm, ⟨5, _⟩ => ⟨S8x1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S8192x4096 : Shape := ⟨2, ![8192, 4096]⟩
abbrev S4x2x4096 : Shape := ⟨3, ![4, 2, 4096]⟩
abbrev S_ : Shape := ⟨0, ![]⟩
abbrev S1x1x4096 : Shape := ⟨3, ![1, 1, 4096]⟩
abbrev S4096 : Shape := ⟨1, ![4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x2x4096, .f32⟩
  | .hbm, ⟨3, _⟩ => ⟨S4x2x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S1x1x4096, .f32⟩
  | .hbm, ⟨9, _⟩ => ⟨S4096, .f32⟩
  | .hbm, ⟨10, _⟩ => ⟨S1x1x4096, .f32⟩
  | .hbm, ⟨11, _⟩ => ⟨S4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== KernelRope.lean ====
abbrev S8192x7168 : Shape := ⟨2, ![8192, 7168]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S1x8192x1x128 : Shape := ⟨4, ![1, 8192, 1, 128]⟩
abbrev S8192x1024 : Shape := ⟨2, ![8192, 1024]⟩
abbrev S512x1024 : Shape := ⟨2, ![512, 1024]⟩
abbrev S512x128 : Shape := ⟨2, ![512, 128]⟩

abbrev nBuf : Space → Nat
  | .hbm => 31
  | .vmem => 8
  | .smem => 0
  | _ => 0

abbrev bufTy : (tb : Table) → Fin (tcTables nBuf tb) → BufTy
  | .hbm, ⟨0, _⟩ => ⟨S8192x7168, .f32⟩
  | .hbm, ⟨1, _⟩ => ⟨S8192, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S8192x1, .f32⟩
  | .hbm, ⟨11, _⟩ => ⟨S1x16, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192x96, .f32⟩
  | .hbm, ⟨19, _⟩ => ⟨S_, .f32⟩
  | .hbm, ⟨20, _⟩ => ⟨S8192x96, .f32⟩
  | .hbm, ⟨21, _⟩ => ⟨S8192x128, .f32⟩
  | .hbm, ⟨22, _⟩ => ⟨S8192x16, .f32⟩
  | .hbm, ⟨23, _⟩ => ⟨S8192x128, .f32⟩
  | .hbm, ⟨24, _⟩ => ⟨S1x8192x1x128, .f32⟩
  | .hbm, ⟨25, _⟩ => ⟨S1x8192x1x128, .f32⟩
  | .hbm, ⟨26, _⟩ => ⟨S8192x128, .f32⟩
  | .hbm, ⟨27, _⟩ => ⟨S1x8192x1x128, .f32⟩
  | .hbm, ⟨28, _⟩ => ⟨S1x8192x1x128, .f32⟩
  | .hbm, ⟨29, _⟩ => ⟨S8192x128, .f32⟩
  | .hbm, ⟨30, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRopeIdeal.lean ====
abbrev S8192x7168 : Shape := ⟨2, ![8192, 7168]⟩
abbrev S8192x1024 : Shape := ⟨2, ![8192, 1024]⟩
abbrev S8192x8x128 : Shape := ⟨3, ![8192, 8, 128]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x8x96 : Shape := ⟨3, ![8192, 8, 96]⟩

abbrev nBuf : Space → Nat
  | .hbm => 36
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x8x128, .f32⟩
  | .hbm, ⟨3, _⟩ => ⟨S8192, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S8192x1, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x1x16, .f32⟩
  | .hbm, ⟨18, _⟩ => ⟨S8192x1x16, .f32⟩
  | .hbm, ⟨19, _⟩ => ⟨S8192x1x16, .f32⟩
  | .hbm, ⟨20, _⟩ => ⟨S8192x8x16, .f32⟩
  | .hbm, ⟨21, _⟩ => ⟨S8192x8x16, .f32⟩
  | .hbm, ⟨22, _⟩ => ⟨S8192x8x96, .f32⟩
  | .hbm, ⟨23, _⟩ => ⟨S8192x8x16, .f32⟩
  | .hbm, ⟨24, _⟩ => ⟨S8192x8x16, .f32⟩
  | .hbm, ⟨25, _⟩ => ⟨S8192x8x16, .f32⟩
  | .hbm, ⟨26, _⟩ => ⟨S8192x8x16, .f32⟩
  | .hbm, ⟨27, _⟩ => ⟨S8192x8x16, .f32⟩
  | .hbm, ⟨28, _⟩ => ⟨S8192x8x16, .f32⟩
  | .hbm, ⟨29, _⟩ => ⟨S8192x8x16, .f32⟩
  | .hbm, ⟨30, _⟩ => ⟨S8192x8x16, .f32⟩
  | .hbm, ⟨31, _⟩ => ⟨S8192x8x16, .f32⟩
  | .hbm, ⟨32, _⟩ => ⟨S8192x8x16, .f32⟩
  | .hbm, ⟨33, _⟩ => ⟨S8192x8x128, .f32⟩
  | .hbm, ⟨34, _⟩ => ⟨S8192x1024, .f32⟩
  | .hbm, ⟨35, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== KernelCast.lean ====
abbrev S8192x7168 : Shape := ⟨2, ![8192, 7168]⟩
abbrev S8192x1024 : Shape := ⟨2, ![8192, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x7168, .f32⟩
  | .hbm, ⟨1, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceCastIdeal.lean ====
abbrev S8192x7168 : Shape := ⟨2, ![8192, 7168]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelIdxQ.lean ====
abbrev S8192x7168 : Shape := ⟨2, ![8192, 7168]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x2048 : Shape := ⟨2, ![8192, 2048]⟩
abbrev S512x1024 : Shape := ⟨2, ![512, 1024]⟩
abbrev S512x128 : Shape := ⟨2, ![512, 128]⟩
abbrev S512x2048 : Shape := ⟨2, ![512, 2048]⟩

abbrev nBuf : Space → Nat
  | .hbm => 31
  | .vmem => 8
  | .smem => 0
  | _ => 0

abbrev bufTy : (tb : Table) → Fin (tcTables nBuf tb) → BufTy
  | .hbm, ⟨0, _⟩ => ⟨S8192x7168, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8192x1, .f32⟩
  | .hbm, ⟨11, _⟩ => ⟨S1x8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x48, .f32⟩
  | .hbm, ⟨19, _⟩ => ⟨S_, .f32⟩
  | .hbm, ⟨20, _⟩ => ⟨S8192x48, .f32⟩
  | .hbm, ⟨21, _⟩ => ⟨S8192x64, .f32⟩
  | .hbm, ⟨22, _⟩ => ⟨S8192x8, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | .local _ .vmem, ⟨7, _⟩ => ⟨S512x2048, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdxQIdeal.lean ====
abbrev S8192x7168 : Shape := ⟨2, ![8192, 7168]⟩
abbrev S8192x1024 : Shape := ⟨2, ![8192, 1024]⟩
abbrev S8192x16x64 : Shape := ⟨3, ![8192, 16, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x16x8 : Shape := ⟨3, ![8192, 16, 8]⟩
abbrev S8192x16x48 : Shape := ⟨3, ![8192, 16, 48]⟩
abbrev S8192x16x128 : Shape := ⟨3, ![8192, 16, 128]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x1024, .f32⟩
  | .hbm, ⟨2, _⟩ => ⟨S8192x16x64, .f32⟩
  | .hbm, ⟨3, _⟩ => ⟨S8192, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8192x1, .f32⟩
  | .hbm, ⟨13, _⟩ => ⟨S1x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x1x8, .f32⟩
  | .hbm, ⟨18, _⟩ => ⟨S8192x1x8, .f32⟩
  | .hbm, ⟨19, _⟩ => ⟨S8192x1x8, .f32⟩
  | .hbm, ⟨20, _⟩ => ⟨S8192x16x8, .f32⟩
  | .hbm, ⟨21, _⟩ => ⟨S8192x16x8, .f32⟩
  | .hbm, ⟨22, _⟩ => ⟨S8192x16x48, .f32⟩
  | .hbm, ⟨23, _⟩ => ⟨S8192x16x8, .f32⟩
  | .hbm, ⟨24, _⟩ => ⟨S8192x16x8, .f32⟩
  | .hbm, ⟨25, _⟩ => ⟨S8192x16x8, .f32⟩
  | .hbm, ⟨26, _⟩ => ⟨S8192x16x8, .f32⟩
  | .hbm, ⟨27, _⟩ => ⟨S8192x16x8, .f32⟩
  | .hbm, ⟨28, _⟩ => ⟨S8192x16x8, .f32⟩
  | .hbm, ⟨29, _⟩ => ⟨S8192x16x8, .f32⟩
  | .hbm, ⟨30, _⟩ => ⟨S8192x16x8, .f32⟩
  | .hbm, ⟨31, _⟩ => ⟨S8192x16x8, .f32⟩
  | .hbm, ⟨32, _⟩ => ⟨S8192x16x8, .f32⟩
  | .hbm, ⟨33, _⟩ => ⟨S8192x16x64, .f32⟩
  | .hbm, ⟨34, _⟩ => ⟨S_, .i32⟩
  | .hbm, ⟨35, _⟩ => ⟨S_, .f32⟩
  | .hbm, ⟨36, _⟩ => ⟨S8192x16x128, .f32⟩
  | .hbm, ⟨37, _⟩ => ⟨S8192x2048, .f32⟩
  | .hbm, ⟨38, _⟩ => ⟨S8192x2048, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_c : Ref sig .tc := ⟨.hbm, 34, rfl⟩
abbrev main_call0_v0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== KernelIdxTail.lean ====
abbrev S8192x128 : Shape := ⟨2, ![8192, 128]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S128 : Shape := ⟨1, ![128]⟩
abbrev S1x128 : Shape := ⟨2, ![1, 128]⟩
abbrev S512x128 : Shape := ⟨2, ![512, 128]⟩

abbrev nBuf : Space → Nat
  | .hbm => 50
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8192x1, .f32⟩
  | .hbm, ⟨11, _⟩ => ⟨S1x8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x48, .f32⟩
  | .hbm, ⟨19, _⟩ => ⟨S_, .f32⟩
  | .hbm, ⟨20, _⟩ => ⟨S8192x48, .f32⟩
  | .hbm, ⟨21, _⟩ => ⟨S8192x64, .f32⟩
  | .hbm, ⟨22, _⟩ => ⟨S8192x8, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S1x8192x1x64, .f32⟩
  | .hbm, ⟨28, _⟩ => ⟨S1x8192x2x64, .f32⟩
  | .hbm, ⟨29, _⟩ => ⟨S8192x128, .f32⟩
  | .hbm, ⟨30, _⟩ => ⟨S128, .i32⟩
  | .hbm, ⟨31, _⟩ => ⟨S1x128, .i32⟩
  | .hbm, ⟨32, _⟩ => ⟨S_, .i32⟩
  | .hbm, ⟨33, _⟩ => ⟨S1x128, .i32⟩
  | .hbm, ⟨34, _⟩ => ⟨S1x128, .i1⟩
  | .hbm, ⟨35, _⟩ => ⟨S_, .f32⟩
  | .hbm, ⟨36, _⟩ => ⟨S_, .f32⟩
  | .hbm, ⟨37, _⟩ => ⟨S8192x128, .i1⟩
  | .hbm, ⟨38, _⟩ => ⟨S8192x128, .f32⟩
  | .hbm, ⟨39, _⟩ => ⟨S8192x128, .f32⟩
  | .hbm, ⟨40, _⟩ => ⟨S_, .i32⟩
  | .hbm, ⟨41, _⟩ => ⟨S1x128, .i32⟩
  | .hbm, ⟨42, _⟩ => ⟨S1x128, .i1⟩
  | .hbm, ⟨43, _⟩ => ⟨S_, .f32⟩
  | .hbm, ⟨44, _⟩ => ⟨S_, .f32⟩
  | .hbm, ⟨45, _⟩ => ⟨S8192x128, .i1⟩
  | .hbm, ⟨46, _⟩ => ⟨S8192x128, .f32⟩
  | .hbm, ⟨47, _⟩ => ⟨S8192x128, .f32⟩
  | .hbm, ⟨48, _⟩ => ⟨S8192x128, .bf16⟩
  | .hbm, ⟨49, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdxTailIdeal.lean ====
abbrev S8192x128 : Shape := ⟨2, ![8192, 128]⟩
abbrev S8192x64 : Shape := ⟨2, ![8192, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩

abbrev nBuf : Space → Nat
  | .hbm => 38
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x64, .f32⟩
  | .hbm, ⟨2, _⟩ => ⟨S8192, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8192x1, .f32⟩
  | .hbm, ⟨12, _⟩ => ⟨S1x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x48, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S_, .i32⟩
  | .hbm, ⟨32, _⟩ => ⟨S_, .f32⟩
  | .hbm, ⟨33, _⟩ => ⟨S8192x128, .f32⟩
  | .hbm, ⟨34, _⟩ => ⟨S8192x128, .bf16⟩
  | .hbm, ⟨35, _⟩ => ⟨S_, .f32⟩
  | .hbm, ⟨36, _⟩ => ⟨S8192x128, .f32⟩
  | .hbm, ⟨37, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_call0_v0 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== KernelMoeUp.lean ====
abbrev S8 : Shape := ⟨1, ![8]⟩
abbrev S20480x4096 : Shape := ⟨2, ![20480, 4096]⟩
abbrev S2x8x4096x1792 : Shape := ⟨4, ![2, 8, 4096, 1792]⟩
abbrev S_ : Shape := ⟨0, ![]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S1 : Shape := ⟨1, ![1]⟩
abbrev S20480x1792 : Shape := ⟨2, ![20480, 1792]⟩
abbrev S512x4096 : Shape := ⟨2, ![512, 4096]⟩
abbrev S1x1x4096x256 : Shape := ⟨4, ![1, 1, 4096, 256]⟩
abbrev S512x256 : Shape := ⟨2, ![512, 256]⟩
abbrev S4096x256 : Shape := ⟨2, ![4096, 256]⟩

abbrev nBuf : Space → Nat
  | .hbm => 68
  | .vmem => 8
  | .smem => 2
  | _ => 0

abbrev bufTy : (tb : Table) → Fin (tcTables nBuf tb) → BufTy
  | .hbm, ⟨0, _⟩ => ⟨S8, .i32⟩
  | .hbm, ⟨1, _⟩ => ⟨S20480x4096, .f32⟩
  | .hbm, ⟨2, _⟩ => ⟨S2x8x4096x1792, .f32⟩
  | .hbm, ⟨3, _⟩ => ⟨S2x8x4096x1792, .f32⟩
  | .hbm, ⟨4, _⟩ => ⟨S20480x4096, .bf16⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S40, .i32⟩
  | .hbm, ⟨36, _⟩ => ⟨S_, .i32⟩
  | .hbm, ⟨37, _⟩ => ⟨S40, .i32⟩
  | .hbm, ⟨38, _⟩ => ⟨S40, .i32⟩
  | .hbm, ⟨39, _⟩ => ⟨S1x8, .i32⟩
  | .hbm, ⟨40, _⟩ => ⟨S40x1, .i32⟩
  | .hbm, ⟨41, _⟩ => ⟨S40x8, .i32⟩
  | .hbm, ⟨42, _⟩ => ⟨S40x8, .i32⟩
  | .hbm, ⟨43, _⟩ => ⟨S40x8, .i1⟩
  | .hbm, ⟨44, _⟩ => ⟨S40x8, .i32⟩
  | .hbm, ⟨45, _⟩ => ⟨S_, .i32⟩
  | .hbm, ⟨46, _⟩ => ⟨S40, .i32⟩
  | .hbm, ⟨47, _⟩ => ⟨S_, .i32⟩
  | .hbm, ⟨48, _⟩ => ⟨S40, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S20480x1792, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S512x256, .bf16⟩
  | .local _ .vmem, ⟨7, _⟩ => ⟨S512x256, .bf16⟩
  | .local _ .smem, ⟨0, _⟩ => ⟨S40, .i32⟩
  | .local _ .smem, ⟨1, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_c_2 : Ref sig .tc := ⟨.hbm, 29, rfl⟩
abbrev main_v6 : Ref sig .tc := ⟨.hbm, 30, rfl⟩
abbrev main_v7 : Ref sig .tc := ⟨.hbm, 31, rfl⟩
abbrev main_call1_call0_c : Ref sig .tc := ⟨.hbm, 32, rfl⟩
abbrev main_call1_call0_v0 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_c_5 : Ref sig .tc := ⟨.hbm, 47, rfl⟩
abbrev main_v19 : Ref sig .tc := ⟨.hbm, 48, rfl⟩
abbrev main_v21 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v23 : Ref sig .tc := ⟨.hbm, 67, rfl⟩
abbrev main_v20 : Ref sig .tc := ⟨.smem, 0, rfl⟩
abbrev main_v22 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 40], ![false, false]⟩

abbrev pre0 : Pipeline.Prefetch sig := ⟨2, ![main_v20.idx, main_v22.idx], fun | 0 => main_v20.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMoeUpIdeal.lean ====
abbrev S8 : Shape := ⟨1, ![8]⟩
abbrev S20480x4096 : Shape := ⟨2, ![20480, 4096]⟩
abbrev S2x8x4096x1792 : Shape := ⟨4, ![2, 8, 4096, 1792]⟩
abbrev S1x8x4096x1792 : Shape := ⟨4, ![1, 8, 4096, 1792]⟩
abbrev S8x4096x1792 : Shape := ⟨3, ![8, 4096, 1792]⟩
abbrev S20480x8x1792 : Shape := ⟨3, ![20480, 8, 1792]⟩
abbrev S_ : Shape := ⟨0, ![]⟩
abbrev S20480 : Shape := ⟨1, ![20480]⟩
abbrev S20480x1 : Shape := ⟨2, ![20480, 1]⟩
abbrev S1x8 : Shape := ⟨2, ![1, 8]⟩
abbrev S20480x8 : Shape := ⟨2, ![20480, 8]⟩
abbrev S20480x8x1 : Shape := ⟨3, ![20480, 8, 1]⟩
abbrev S20480x1792 : Shape := ⟨2, ![20480, 1792]⟩

abbrev nBuf : Space → Nat
  | .hbm => 71
  | .vmem => 0
  | .smem => 0
  | _ => 0

abbrev bufTy : (tb : Table) → Fin (tcTables nBuf tb) → BufTy
  | .hbm, ⟨0, _⟩ => ⟨S8, .i32⟩
  | .hbm, ⟨1, _⟩ => ⟨S20480x4096, .f32⟩
  | .hbm, ⟨2, _⟩ => ⟨S2x8x4096x1792, .f32⟩
  | .hbm, ⟨3, _⟩ => ⟨S2x8x4096x1792, .f32⟩
  | .hbm, ⟨4, _⟩ => ⟨S1x8x4096x1792, .f32⟩
  | .hbm, ⟨5, _⟩ => ⟨S8x4096x1792, .f32⟩
  | .hbm, ⟨6, _⟩ => ⟨S20480x8x1792, .f32⟩
  | .hbm, ⟨7, _⟩ => ⟨S20480x8x1792, .f32⟩
  | .hbm, ⟨8, _⟩ => ⟨S20480x8x1792, .f32⟩
  | .hbm, ⟨9, _⟩ => ⟨S_, .f32⟩
  | .hbm, ⟨10, _⟩ => ⟨S20480x8x1792, .f32⟩
  | .hbm, ⟨11, _⟩ => ⟨S20480x8x1792, .f32⟩
  | .hbm, ⟨12, _⟩ => ⟨S_, .f32⟩
  | .hbm, ⟨13, _⟩ => ⟨S20480x8x1792, .f32⟩
  | .hbm, ⟨14, _⟩ => ⟨S20480x8x1792, .f32⟩
  | .hbm, ⟨15, _⟩ => ⟨S20480x8x1792, .f32⟩
  | .hbm, ⟨16, _⟩ => ⟨S1x8x4096x1792, .f32⟩
  | .hbm, ⟨17, _⟩ => ⟨S8x4096x1792, .f32⟩
  | .hbm, ⟨18, _⟩ => ⟨S20480x8x1792, .f32⟩
  | .hbm, ⟨19, _⟩ => ⟨S20480x8x1792, .f32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i1⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i1⟩
  | .hbm, ⟨39, _⟩ => ⟨S8, .i1⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S_, .i32⟩
  | .hbm, ⟨49, _⟩ => ⟨S8, .i32⟩
  | .hbm, ⟨50, _⟩ => ⟨S20480, .i32⟩
  | .hbm, ⟨51, _⟩ => ⟨S20480x1, .i32⟩
  | .hbm, ⟨52, _⟩ => ⟨S8, .i32⟩
  | .hbm, ⟨53, _⟩ => ⟨S1x8, .i32⟩
  | .hbm, ⟨54, _⟩ => ⟨S20480x8, .i32⟩
  | .hbm, ⟨55, _⟩ => ⟨S20480x8, .i32⟩
  | .hbm, ⟨56, _⟩ => ⟨S20480x8, .i1⟩
  | .hbm, ⟨57, _⟩ => ⟨S1x8, .i32⟩
  | .hbm, ⟨58, _⟩ => ⟨S20480x8, .i32⟩
  | .hbm, ⟨59, _⟩ => ⟨S20480x8, .i32⟩
  | .hbm, ⟨60, _⟩ => ⟨S20480x8, .i1⟩
  | .hbm, ⟨61, _⟩ => ⟨S20480x8, .i1⟩
  | .hbm, ⟨62, _⟩ => ⟨S20480x8x1, .i1⟩
  | .hbm, ⟨63, _⟩ => ⟨S_, .f32⟩
  | .hbm, ⟨64, _⟩ => ⟨S_, .f32⟩
  | .hbm, ⟨65, _⟩ => ⟨S20480x8x1792, .i1⟩
  | .hbm, ⟨66, _⟩ => ⟨S20480x8x1792, .f32⟩
  | .hbm, ⟨67, _⟩ => ⟨S20480x8x1792, .f32⟩
  | .hbm, ⟨68, _⟩ => ⟨S_, .f32⟩
  | .hbm, ⟨69, _⟩ => ⟨S20480x1792, .f32⟩
  | .hbm, ⟨70, _⟩ => ⟨S20480x1792, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_call2_call0_c : Ref sig .tc := ⟨.hbm, 47, rfl⟩
abbrev main_call2_call0_v0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v29 : Ref sig .tc := ⟨.hbm, 67, rfl⟩
abbrev main_cst_3 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]
-- ==== KernelMoeDown.lean ====
abbrev S8 : Shape := ⟨1, ![8]⟩
abbrev S20480x1792 : Shape := ⟨2, ![20480, 1792]⟩
abbrev S2x8x1792x4096 : Shape := ⟨4, ![2, 8, 1792, 4096]⟩
abbrev S_ : Shape := ⟨0, ![]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S1 : Shape := ⟨1, ![1]⟩
abbrev S20480x4096 : Shape := ⟨2, ![20480, 4096]⟩
abbrev S512x1792 : Shape := ⟨2, ![512, 1792]⟩
abbrev S1x1x1792x2048 : Shape := ⟨4, ![1, 1, 1792, 2048]⟩
abbrev S512x2048 : Shape := ⟨2, ![512, 2048]⟩
abbrev S1792x2048 : Shape := ⟨2, ![1792, 2048]⟩

abbrev nBuf : Space → Nat
  | .hbm => 67
  | .vmem => 6
  | .smem => 2
  | _ => 0

abbrev bufTy : (tb : Table) → Fin (tcTables nBuf tb) → BufTy
  | .hbm, ⟨0, _⟩ => ⟨S8, .i32⟩
  | .hbm, ⟨1, _⟩ => ⟨S20480x1792, .f32⟩
  | .hbm, ⟨2, _⟩ => ⟨S2x8x1792x4096, .f32⟩
  | .hbm, ⟨3, _⟩ => ⟨S20480x1792, .bf16⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S40, .i32⟩
  | .hbm, ⟨35, _⟩ => ⟨S_, .i32⟩
  | .hbm, ⟨36, _⟩ => ⟨S40, .i32⟩
  | .hbm, ⟨37, _⟩ => ⟨S40, .i32⟩
  | .hbm, ⟨38, _⟩ => ⟨S1x8, .i32⟩
  | .hbm, ⟨39, _⟩ => ⟨S40x1, .i32⟩
  | .hbm, ⟨40, _⟩ => ⟨S40x8, .i32⟩
  | .hbm, ⟨41, _⟩ => ⟨S40x8, .i32⟩
  | .hbm, ⟨42, _⟩ => ⟨S40x8, .i1⟩
  | .hbm, ⟨43, _⟩ => ⟨S40x8, .i32⟩
  | .hbm, ⟨44, _⟩ => ⟨S_, .i32⟩
  | .hbm, ⟨45, _⟩ => ⟨S40, .i32⟩
  | .hbm, ⟨46, _⟩ => ⟨S_, .i32⟩
  | .hbm, ⟨47, _⟩ => ⟨S40, .i32⟩
  | .hbm, ⟨48, _⟩ => ⟨S1, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S1, .i1⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S20480x4096, .f32⟩
  | .local _ .vmem, ⟨0, _⟩ => ⟨S512x1792, .bf16⟩
  | .local _ .vmem, ⟨1, _⟩ => ⟨S512x1792, .bf16⟩
  | .local _ .vmem, ⟨2, _⟩ => ⟨S1x1x1792x2048, .f32⟩
  | .local _ .vmem, ⟨3, _⟩ => ⟨S1x1x1792x2048, .f32⟩
  | .local _ .vmem, ⟨4, _⟩ => ⟨S512x2048, .f32⟩
  | .local _ .vmem, ⟨5, _⟩ => ⟨S512x2048, .f32⟩
  | .local _ .smem, ⟨0, _⟩ => ⟨S40, .i32⟩
  | .local _ .smem, ⟨1, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_c_2 : Ref sig .tc := ⟨.hbm, 28, rfl⟩
abbrev main_v6 : Ref sig .tc := ⟨.hbm, 29, rfl⟩
abbrev main_v7 : Ref sig .tc := ⟨.hbm, 30, rfl⟩
abbrev main_call1_call0_c : Ref sig .tc := ⟨.hbm, 31, rfl⟩
abbrev main_call1_call0_v0 : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v21 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v23 : Ref sig .tc := ⟨.hbm, 66, rfl⟩
abbrev main_v20 : Ref sig .tc := ⟨.smem, 0, rfl⟩
abbrev main_v22 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 40], ![false, false]⟩

abbrev pre0 : Pipeline.Prefetch sig := ⟨2, ![main_v20.idx, main_v22.idx], fun | 0 => main_v20.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1792x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMoeDownIdeal.lean ====
abbrev S8 : Shape := ⟨1, ![8]⟩
abbrev S20480x1792 : Shape := ⟨2, ![20480, 1792]⟩
abbrev S2x8x1792x4096 : Shape := ⟨4, ![2, 8, 1792, 4096]⟩
abbrev S1x8x1792x4096 : Shape := ⟨4, ![1, 8, 1792, 4096]⟩
abbrev S8x1792x4096 : Shape := ⟨3, ![8, 1792, 4096]⟩
abbrev S20480x8x4096 : Shape := ⟨3, ![20480, 8, 4096]⟩
abbrev S_ : Shape := ⟨0, ![]⟩
abbrev S20480 : Shape := ⟨1, ![20480]⟩
abbrev S20480x1 : Shape := ⟨2, ![20480, 1]⟩
abbrev S1x8 : Shape := ⟨2, ![1, 8]⟩
abbrev S20480x8 : Shape := ⟨2, ![20480, 8]⟩
abbrev S20480x8x1 : Shape := ⟨3, ![20480, 8, 1]⟩
abbrev S20480x4096 : Shape := ⟨2, ![20480, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8, .i32⟩
  | .hbm, ⟨1, _⟩ => ⟨S20480x1792, .f32⟩
  | .hbm, ⟨2, _⟩ => ⟨S2x8x1792x4096, .f32⟩
  | .hbm, ⟨3, _⟩ => ⟨S1x8x1792x4096, .f32⟩
  | .hbm, ⟨4, _⟩ => ⟨S8x1792x4096, .f32⟩
  | .hbm, ⟨5, _⟩ => ⟨S20480x8x4096, .f32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S20480, .i32⟩
  | .hbm, ⟨37, _⟩ => ⟨S20480x1, .i32⟩
  | .hbm, ⟨38, _⟩ => ⟨S8, .i32⟩
  | .hbm, ⟨39, _⟩ => ⟨S1x8, .i32⟩
  | .hbm, ⟨40, _⟩ => ⟨S20480x8, .i32⟩
  | .hbm, ⟨41, _⟩ => ⟨S20480x8, .i32⟩
  | .hbm, ⟨42, _⟩ => ⟨S20480x8, .i1⟩
  | .hbm, ⟨43, _⟩ => ⟨S1x8, .i32⟩
  | .hbm, ⟨44, _⟩ => ⟨S20480x8, .i32⟩
  | .hbm, ⟨45, _⟩ => ⟨S20480x8, .i32⟩
  | .hbm, ⟨46, _⟩ => ⟨S20480x8, .i1⟩
  | .hbm, ⟨47, _⟩ => ⟨S20480x8, .i1⟩
  | .hbm, ⟨48, _⟩ => ⟨S20480x8x1, .i1⟩
  | .hbm, ⟨49, _⟩ => ⟨S_, .f32⟩
  | .hbm, ⟨50, _⟩ => ⟨S_, .f32⟩
  | .hbm, ⟨51, _⟩ => ⟨S20480x8x4096, .i1⟩
  | .hbm, ⟨52, _⟩ => ⟨S20480x8x4096, .f32⟩
  | .hbm, ⟨53, _⟩ => ⟨S20480x8x4096, .f32⟩
  | .hbm, ⟨54, _⟩ => ⟨S_, .f32⟩
  | .hbm, ⟨55, _⟩ => ⟨S20480x4096, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_call1_call0_c : Ref sig .tc := ⟨.hbm, 33, rfl⟩
abbrev main_call1_call0_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩

abbrev nD : Nat := 1
abbrev τ : Topo := Topo.v7x

variable {F : FTy → Type} [FloatOps F]
-- ==== Proof.KI.Common.lean ====
/-
  The stick-breaking attention kernel at one grid point, as a value. The kernel walks the keys below a
  block of 256 queries from the nearest to the farthest, 512 keys at a time, and carries the weighted
  sum of values (`acc`) and the sum of the log-terms of the keys already passed (`run`). Here: the
  words the loop counts with (`w15` the number of key blocks below the first group, `w32` the number of
  whole groups among them, `w34` the block left over), what the counted part of the loop returns
  (`loop`, by the number of groups still allowed), and what the body stores (`out`).
-/
module

public import proofs.«01_k».proof.KernelIdeal
public import Idealize.ShloMosaic.Lib.Pipeline.Sound
public import Idealize.ShloMosaic.Lib.Pipeline.Value
public import Idealize.ShloMosaic.Lib.Pipeline.FrameBody
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-! ## The words -/

/-- The query block. -/
def w1 (n : ℕ) : BitVec 32 := BitVec.ofNat 32 n

/-- How many key blocks lie below the first group. -/
def w15 (n : ℕ) : BitVec 32 := Scalar.maxsi (Scalar.subi (w1 n) 1#32) 0#32

/-- How many whole groups of two blocks those are: the quotient by two, rounded down. -/
def w32 (n : ℕ) : BitVec 32 :=
  Scalar.select
    (Scalar.andi
      (Scalar.cmpi .ne
        (Scalar.subi (Scalar.extui (Scalar.cmpi .sgt (w15 n) 0#32)) (Scalar.extui (Scalar.cmpi .slt (w15 n) 0#32)))
        (Scalar.subi (Scalar.extui (Scalar.cmpi .sgt 2#32 0#32)) (Scalar.extui (Scalar.cmpi .slt 2#32 0#32))))
      (Scalar.cmpi .ne (Scalar.remsi (w15 n) 2#32) 0#32))
    (Scalar.subi (Scalar.divsi (w15 n) 2#32) 1#32) (Scalar.divsi (w15 n) 2#32)

/-- The block left over. -/
def w34 (n : ℕ) : BitVec 32 := Scalar.subi (w15 n) (Scalar.muli (w32 n) 2#32)

theorem w32_eq : ∀ n < 32, w32 n = BitVec.ofNat 32 ((n - 1) / 2) := by decide +kernel

theorem slt_lt : ∀ T < 17, ∀ j < T, Scalar.cmpi .slt (BitVec.ofNat 32 j) (BitVec.ofNat 32 T) = 1#1 := by decide +kernel
theorem slt_self : ∀ T < 17, Scalar.cmpi .slt (BitVec.ofNat 32 T) (BitVec.ofNat 32 T) = 0#1 := by decide +kernel
theorem addi_one : ∀ j < 17, Scalar.addi (BitVec.ofNat 32 j) 1#32 = BitVec.ofNat 32 (j + 1) := by decide +kernel

/-- Where the kernel's first group starts, and the group after `j` others, as functions of the query block. -/
theorem off1_eq (i : grid0.Coords) : k0_off1 i = ![(Scalar.indexCast (Scalar.muli (w15 (i 1).val) 256#32) : Index).toNat, 0] := rfl

/-- Where group `j` of the loop starts, in rows. -/
def start (n j : ℕ) : ℕ :=
  (Scalar.muli (Scalar.subi (w15 n) (Scalar.muli 2#32 (Scalar.addi (BitVec.ofNat 32 j) 1#32))) 256#32).toNat

theorem start_eq : ∀ n < 32, ∀ j < (n - 1) / 2, start n j = ((n - 1) - 2 * (j + 1)) * 256 := by decide +kernel

theorem off2_eq (i : grid0.Coords) (j : ℕ) : k0_off2 i (BitVec.ofNat 32 j) = ![start (i 1).val j, 0] := rfl

/-- Every group the loop may reach lies inside the keys. -/
theorem chk (i : grid0.Coords) (j : ℕ) (h : j < ((i 1).val - 1) / 2) : k0_chk1 i (BitVec.ofNat 32 j) := by
  have hn : (i 1).val < 32 := (i 1).isLt
  refine ⟨?_, ?_⟩
  · show 256 ∣ start (i 1).val j
    rw [start_eq _ hn _ h]; exact Dvd.intro_left _ rfl
  · rw [off2_eq, start_eq _ hn _ h]
    intro a
    match a with
    | 0 =>
      show ((i 1).val - 1 - 2 * (j + 1)) * 256 + 512 ≤ 8192
      omega
    | 1 => show 0 + 128 ≤ 128; omega

/-! ## What the loop returns -/

/-- 512 rows of the keys, or of the values. -/
abbrev rows (X : Vec F S8192x128 .bf16) (off : Fin 2 → Nat) (h : ∀ a, off a + S512x128.size a ≤ S8192x128.size a) :
    Vec F S512x128 .bf16 :=
  View.ld (S := S8192x128) X (Rect.unit (s := S8192x128) off S512x128.size h)

/-- Whether some row is still below the stopping value. -/
def live (run : FVec F S256x1 .f32) : BitVec 1 :=
  Scalar.cmpf .olt (k0_pay6 run) (Named.named κ "dead" 0x43200000#32 : F .f32)

/-- The loop from group `j` with at most `k` more groups: group by group while some row is live. -/
def loop (i : grid0.Coords) (q : FVec F S256x128 .bf16) (lat : FVec F S256x256 .bf16) (kb vb : Vec F S8192x128 .bf16) :
    ℕ → ℕ → FVec F S256x128 .f32 → FVec F S256x1 .f32 → BitVec 32 × FVec F S256x128 .f32 × FVec F S256x1 .f32
  | 0, j, acc, run => (BitVec.ofNat 32 j, acc, run)
  | k + 1, j, acc, run =>
    if live run = 1#1 then
      if h : k0_chk1 i (BitVec.ofNat 32 j) then
        loop i q lat kb vb k (j + 1)
          (k0_pay7 acc (k0_pay32 q lat run (rows kb (k0_off2 i (BitVec.ofNat 32 j)) (k0_off2_inb i _ h))
            (rows vb (k0_off2 i (BitVec.ofNat 32 j)) (k0_off2_inb i _ h))))
          (k0_pay31 q run (rows kb (k0_off2 i (BitVec.ofNat 32 j)) (k0_off2_inb i _ h)))
      else (BitVec.ofNat 32 j, acc, run)
    else (BitVec.ofNat 32 j, acc, run)

/-- The carry after the first group, the one the mask cuts. -/
def first (i : grid0.Coords) (q : FVec F S256x128 .bf16) (kb vb : Vec F S8192x128 .bf16) : FVec F S256x128 .f32 × FVec F S256x1 .f32 :=
  (k0_pay2 k0_pay14
      (k0_pay18 q (rows kb (k0_off1 i) (k0_off1_inb i)))
      (k0_pay19 (w1 (i 1).val) (w15 (i 1).val) 256#32)
      (k0_pay22 (w1 (i 1).val) q k0_pay13 (w15 (i 1).val) k0_pay15 256#32 (rows kb (k0_off1 i) (k0_off1_inb i)))
      (k0_pay25 (w1 (i 1).val) q k0_pay13 (w15 (i 1).val) k0_pay15 256#32 (rows kb (k0_off1 i) (k0_off1_inb i)))
      (rows vb (k0_off1 i) (k0_off1_inb i)),
    k0_pay1 (k0_pay23 (w1 (i 1).val) q (w15 (i 1).val) k0_pay15 256#32 (rows kb (k0_off1 i) (k0_off1_inb i)))
      (k0_pay24 (w1 (i 1).val) q (w15 (i 1).val) 256#32 (rows kb (k0_off1 i) (k0_off1_inb i))))

/-- Whether the block left over is taken: the loop ran to its end, a block is left, some row is live. -/
def tail (n : ℕ) (r : BitVec 32 × FVec F S256x128 .f32 × FVec F S256x1 .f32) : BitVec 1 :=
  Scalar.cmpi .ne (Scalar.extui (Scalar.andi (Scalar.andi (Scalar.cmpi .eq r.1 (w32 n)) (Scalar.cmpi .sgt (w34 n) 0#32))
    (Scalar.cmpf .olt (k0_pay3 r.2.2) (Named.named κ "dead" 0x43200000#32 : F .f32))) : BitVec 32) 0#32

/-- The weighted sum with the block left over, if it is taken. -/
def last (i : grid0.Coords) (q : FVec F S256x128 .bf16) (kb vb : Vec F S8192x128 .bf16)
    (r : BitVec 32 × FVec F S256x128 .f32 × FVec F S256x1 .f32) : FVec F S256x128 .f32 :=
  if tail (i 1).val r = 1#1 then
    k0_pay4 r.2.1 (k0_pay8 (w1 (i 1).val) (w34 (i 1).val))
      (k0_pay9 (w1 (i 1).val) q k0_pay13 (w34 (i 1).val) r.2.2 (rows kb ![0, 0] inb_S8192x128_S512x128_0_0))
      (Scalar.ofBits .f32 0x00000000#32) (rows vb ![0, 0] inb_S8192x128_S512x128_0_0)
  else r.2.1

/-- What the loop leaves from the first group on. -/
def looped (i : grid0.Coords) (q : FVec F S256x128 .bf16) (kb vb : Vec F S8192x128 .bf16) :
    BitVec 32 × FVec F S256x128 .f32 × FVec F S256x1 .f32 :=
  loop i q k0_pay13 kb vb (((i 1).val - 1) / 2) 0 (first i q kb vb).1 (first i q kb vb).2

/-- What the body stores, of the query block and of the keys and values. -/
def out (i : grid0.Coords) (X2 : Vec F S256x128 .f32) (X3 X4 : Vec F S8192x128 .f32) : Vec F S256x128 .bf16 :=
  k0_pay5 (last i (k0_pay12 X2) (k0_pay10 X3) (k0_pay11 X4) (looped i (k0_pay12 X2) (k0_pay10 X3) (k0_pay11 X4)))

/-! ## The proof data -/

local notation "𝕄" => MT nD τ sig Unit (Elt F) ℕ (UR sig nD τ) ℕ

variable (m : (ℓ : Loc nD τ sig) → Buf (Elt F) ℓ)

/-- The block of an input at a point. -/
def blkOf (c : Dev nD) (w : Fin 4) (t : Fin (cfg0 (F := F)).N) :=
  (((cfg0 (F := F)).win w).blk t).view.read (Elt F) (m (((cfg0 (F := F)).win w).arr.view.loc (c : Thread nD τ)))

/-- The query block, the keys and the values at a point. -/
def qOf (c : Dev nD) (t : Fin (cfg0 (F := F)).N) : Vec F S256x128 .f32 := blkOf m c 0 t
def kOf (c : Dev nD) (t : Fin (cfg0 (F := F)).N) : Vec F S8192x128 .f32 := blkOf m c 1 t
def vOf (c : Dev nD) (t : Fin (cfg0 (F := F)).N) : Vec F S8192x128 .f32 := blkOf m c 2 t

/-- The two scratch buffers before point `n`: anything at the start, and the keys and values of the
    point before, in the narrow format, afterwards. -/
def PhiS (c : Dev nD) : (n : ℕ) → n ≤ (cfg0 (F := F)).N → sProp 𝕄
  | 0, _ => iprop((∃ f, ((c : Thread nD τ).loc cc0_scratch0) ↦{fullShare} f) ∗ (∃ f, ((c : Thread nD τ).loc cc0_scratch1) ↦{fullShare} f)
      ∗ ∃ r, prngReg c r)
  | n + 1, h => iprop((((c : Thread nD τ).loc cc0_scratch0) ↦{fullShare} (k0_pay10 (kOf m c ⟨n, h⟩) : (cc0_scratch0 : Ref sig .tc).ty.Contents (Elt F)))
      ∗ (((c : Thread nD τ).loc cc0_scratch1) ↦{fullShare} (k0_pay11 (vOf m c ⟨n, h⟩) : (cc0_scratch1 : Ref sig .tc).ty.Contents (Elt F)))
      ∗ ∃ r, prngReg c r)

/-- The proof data: the arrays at their launch contents; after the body the inputs as fetched and the result's
    block at `out`. -/
def dats (_ : Fin 1) (c : Dev nD) : Dat τ (Elt F) Unit ℕ (UR sig nD τ) ℕ (cfg0 (F := F)) c where
  A w := m (((cfg0 (F := F)).win w).arr.view.loc (c : Thread nD τ))
  after w t := match w with
    | ⟨0, _⟩ => qOf m c t
    | ⟨1, _⟩ => kOf m c t
    | ⟨2, _⟩ => vOf m c t
    | ⟨3, _⟩ => out (grid0.coords t) (qOf m c t) (kOf m c t) (vOf m c t)
  Φ t := PhiS m c t.val (Nat.le_of_lt_succ t.isLt)
  q w := Pipeline.shareOf spec0 w
  owed _ := 0

/-- The loop's groups still to run, as a variant. -/
abbrev 𝒱₀ : Variants := Variants.nat

end Cert.Proof.KI

end
-- ==== Proof.KI.Body.lean ====
/-
  The kernel at one grid point, run. The loop's label is answered through a specification: holding the
  narrowed keys and values, with at most `k` groups left from group `j`, it returns what `loop` says and
  gives both buffers back (`spec_le`, by induction on `k`). The body then fills the two scratch buffers at
  the first query block of a head, walks the first group, calls the label, takes the block left over and
  stores `out` (`sound_body`). The obligation at a point reads the blocks the windows staged: the keys and
  values stay in place over a head's 32 points, so the scratch buffers still hold them.
-/
module

public import proofs.«01_k».proof.Proof.KI.Common
public import Idealize.ShloMosaic.Lib.Tactic
public import Idealize.ShloMosaic.Lib.Pipeline.TableIdle

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The programs, with the words named -/

theorem while1_eq (i : grid0.Coords) (a6 : Memref sig .tc .vmem S8192x128 .bf16) (h6 : a6.IsWhole) (q : FVec F S256x128 .bf16)
    (lat : FVec F S256x256 .bf16) (a7 : Memref sig .tc .vmem S8192x128 .bf16) (h7 : a7.IsWhole) (j : BitVec 32)
    (acc : FVec F S256x128 .f32) (run : FVec F S256x1 .f32) :
    cc0_while1 i a6 h6 q lat a7 h7 j acc run
      = if Scalar.andi (Scalar.cmpi .slt j (w32 (i 1).val)) (live run) = 1#1 then (do
          have hw := (← Prog.lift (TpuEff.assume (k0_chk1 i j) (k0_chk1.dec i j))).down
          let x ← Prog.lift (.load a6 (Rect.unit (s := S8192x128) (k0_off2 i j) S512x128.size (k0_off2_inb i j hw)).toLoadRect (View.loadsAt_vmem h_S512x128))
          let y ← Prog.lift (.load a7 (Rect.unit (s := S8192x128) (k0_off2 i j) S512x128.size (k0_off2_inb i j hw)).toLoadRect (View.loadsAt_vmem h_S512x128))
          Prog.lift (.call (1 : (Λ₀ F).Label) ⟨i, a6, h6, q, lat, a7, h7, Scalar.addi j 1#32, k0_pay7 acc (k0_pay32 q lat run x y), k0_pay31 q run x⟩))
        else pure (j, acc, run) := by
  rw [cc0_while1_eq_skeleton]
  unfold cc0_while1_skel
  rw [k0_part4_eq_skeleton]
  rfl

/-- The body after the scratch buffers are filled. -/
def restP (i : grid0.Coords) (a2 : Memref sig .tc .vmem S256x128 .f32)
    (a5 : Memref sig .tc .vmem S256x128 .bf16) (h5 : a5.IsWhole) (a6 : Memref sig .tc .vmem S8192x128 .bf16) (h6 : a6.IsWhole)
    (a7 : Memref sig .tc .vmem S8192x128 .bf16) (h7 : a7.IsWhole) : Prog (TpuEff nD τ sig (Elt F) (Λ₀ F) .tc) PUnit := do
  let v3 ← Prog.lift (.load a2 (Rect.unit (s := S256x128) ![0, 0] S256x128.size inb_S256x128_S256x128_0_0).toLoadRect (View.loadsAt_vmem h_S256x128))
  let x ← Prog.lift (.load a6 (Rect.unit (s := S8192x128) (k0_off1 i) S512x128.size (k0_off1_inb i)).toLoadRect (View.loadsAt_vmem h_S512x128))
  let y ← Prog.lift (.load a7 (Rect.unit (s := S8192x128) (k0_off1 i) S512x128.size (k0_off1_inb i)).toLoadRect (View.loadsAt_vmem h_S512x128))
  let r : BitVec 32 × FVec F S256x128 .f32 × FVec F S256x1 .f32 ← Prog.lift (.call (1 : (Λ₀ F).Label) ⟨i, a6, h6, k0_pay12 v3, k0_pay13, a7, h7, 0#32,
    k0_pay2 k0_pay14 (k0_pay18 (k0_pay12 v3) x) (k0_pay19 (w1 (i 1).val) (w15 (i 1).val) 256#32)
      (k0_pay22 (w1 (i 1).val) (k0_pay12 v3) k0_pay13 (w15 (i 1).val) k0_pay15 256#32 x)
      (k0_pay25 (w1 (i 1).val) (k0_pay12 v3) k0_pay13 (w15 (i 1).val) k0_pay15 256#32 x) y,
    k0_pay1 (k0_pay23 (w1 (i 1).val) (k0_pay12 v3) (w15 (i 1).val) k0_pay15 256#32 x)
      (k0_pay24 (w1 (i 1).val) (k0_pay12 v3) (w15 (i 1).val) 256#32 x)⟩)
  let o ← if tail (i 1).val r = 1#1 then (do
      let x ← Prog.lift (.load a6 (Rect.unit (s := S8192x128) ![0, 0] S512x128.size inb_S8192x128_S512x128_0_0).toLoadRect (View.loadsAt_vmem h_S512x128))
      let y ← Prog.lift (.load a7 (Rect.unit (s := S8192x128) ![0, 0] S512x128.size inb_S8192x128_S512x128_0_0).toLoadRect (View.loadsAt_vmem h_S512x128))
      pure (k0_pay4 r.2.1 (k0_pay8 (w1 (i 1).val) (w34 (i 1).val))
        (k0_pay9 (w1 (i 1).val) (k0_pay12 v3) k0_pay13 (w34 (i 1).val) r.2.2 x) (Scalar.ofBits .f32 0x00000000#32) y))
    else pure r.2.1
  let _ ← Prog.lift (.load a5 (Rect.unit (s := S256x128) ![0, 0] S256x128.size inb_S256x128_S256x128_0_0).toLoadRect (View.loadsAt_vmem h_S256x128))
  Prog.lift (.store a5 (Rect.unit (s := S256x128) ![0, 0] S256x128.size inb_S256x128_S256x128_0_0) (k0_pay5 o) Finset.univ (View.stores_vmem h_S256x128 (h5.storeExact_slice rfl _ packedbf16_S256x128_S256x128_0_0) (fun _ => rfl)) (.inl rfl))
  pure ⟨⟩

/-- Whether this is a head's first query block, as the body computes it. -/
def w2 (n : ℕ) : BitVec 1 := Scalar.cmpi .ne (Scalar.extui (Scalar.cmpi .eq (w1 n) 0#32) : BitVec 32) 0#32

theorem w2_eq : ∀ n < 32, w2 n = 1#1 ↔ n = 0 := by decide +kernel

theorem body_eq (i : grid0.Coords) (a2 : Memref sig .tc .vmem S256x128 .f32) (h2 : a2.IsWhole) (a3 : Memref sig .tc .vmem S8192x128 .f32) (h3 : a3.IsWhole)
    (a4 : Memref sig .tc .vmem S8192x128 .f32) (h4 : a4.IsWhole)
    (a5 : Memref sig .tc .vmem S256x128 .bf16) (h5 : a5.IsWhole) (a6 : Memref sig .tc .vmem S8192x128 .bf16) (h6 : a6.IsWhole)
    (a7 : Memref sig .tc .vmem S8192x128 .bf16) (h7 : a7.IsWhole) :
    cc0_stick_breaking (F := F) i a2 h2 a3 h3 a4 h4 a5 h5 a6 h6 a7 h7
      = if w2 (i 1).val = 1#1 then (do
          let x ← Prog.lift (.load a3 (Rect.unit (s := S8192x128) ![0, 0] S8192x128.size inb_S8192x128_S8192x128_0_0).toLoadRect (View.loadsAt_vmem h_S8192x128))
          let _ ← Prog.lift (.load a6 (Rect.unit (s := S8192x128) ![0, 0] S8192x128.size inb_S8192x128_S8192x128_0_0).toLoadRect (View.loadsAt_vmem h_S8192x128))
          Prog.lift (.store a6 (Rect.unit (s := S8192x128) ![0, 0] S8192x128.size inb_S8192x128_S8192x128_0_0) (k0_pay10 x) Finset.univ (View.stores_vmem h_S8192x128 (h6.storeExact_slice rfl _ packedbf16_S8192x128_S8192x128_0_0) (fun _ => rfl)) (.inl rfl))
          let y ← Prog.lift (.load a4 (Rect.unit (s := S8192x128) ![0, 0] S8192x128.size inb_S8192x128_S8192x128_0_0).toLoadRect (View.loadsAt_vmem h_S8192x128))
          let _ ← Prog.lift (.load a7 (Rect.unit (s := S8192x128) ![0, 0] S8192x128.size inb_S8192x128_S8192x128_0_0).toLoadRect (View.loadsAt_vmem h_S8192x128))
          Prog.lift (.store a7 (Rect.unit (s := S8192x128) ![0, 0] S8192x128.size inb_S8192x128_S8192x128_0_0) (k0_pay11 y) Finset.univ (View.stores_vmem h_S8192x128 (h7.storeExact_slice rfl _ packedbf16_S8192x128_S8192x128_0_0) (fun _ => rfl)) (.inl rfl))
          restP i a2 a5 h5 a6 h6 a7 h7)
        else restP i a2 a5 h5 a6 h6 a7 h7 := by
  rw [cc0_stick_breaking_eq_skeleton]
  unfold cc0_stick_breaking_skel
  rw [k0_part1_eq_skeleton, k0_part2_eq_skeleton, k0_part3_eq_skeleton]
  unfold k0_part2_skel
  by_cases h : w2 (i 1).val = 1#1
  · have h' : Scalar.cmpi .ne (Scalar.extui (Scalar.cmpi .eq (BitVec.ofNat 32 (i 1).val) 0#32) : BitVec 32) 0#32 = 1#1 := h
    rw [if_pos h]
    simp only [h', ↓reduceDIte]
    rfl
  · have h' : ¬ Scalar.cmpi .ne (Scalar.extui (Scalar.cmpi .eq (BitVec.ofNat 32 (i 1).val) 0#32) : BitVec 32) 0#32 = 1#1 := h
    rw [if_neg h]
    simp only [h', ↓reduceDIte]
    rfl

/-! ## The loop's label -/

/-- The two scratch buffers. -/
def held (c : Dev nD) (kb vb : Vec F S8192x128 .bf16) : sProp 𝕄 :=
  iprop((((c : Thread nD τ).loc cc0_scratch0) ↦{fullShare} (kb : (cc0_scratch0 : Ref sig .tc).ty.Contents (Elt F)))
    ∗ (((c : Thread nD τ).loc cc0_scratch1) ↦{fullShare} (vb : (cc0_scratch1 : Ref sig .tc).ty.Contents (Elt F))))

abbrev M6 : Memref sig .tc .vmem S8192x128 .bf16 := Memref.whole cc0_scratch0
abbrev M7 : Memref sig .tc .vmem S8192x128 .bf16 := Memref.whole cc0_scratch1

section Label

variable (c : Dev nD) (i : grid0.Coords) (q : FVec F S256x128 .bf16) (lat : FVec F S256x256 .bf16) (kb vb : Vec F S8192x128 .bf16)

/-- The label from group `j` with `k` groups left. -/
def spec (k j : ℕ) (acc : FVec F S256x128 .f32) (run : FVec F S256x1 .f32) :
    sWPT 𝕄 (BitVec 32 × FVec F S256x128 .f32 × FVec F S256x1 .f32) := do
  sWPT.consume (held c kb vb)
  sWPT.produce (held c kb vb)
  pure (loop i q lat kb vb k j acc run)

theorem spec_apply (k j : ℕ) (acc : FVec F S256x128 .f32) (run : FVec F S256x1 .f32)
    (K : BitVec 32 × FVec F S256x128 .f32 × FVec F S256x1 .f32 → sProp 𝕄) :
    spec c i q lat kb vb k j acc run K
      = iprop(held c kb vb ∗ (held c kb vb -∗ K (loop i q lat kb vb k j acc run))) := rfl

theorem spec_le (E : Set ℕ) :
    ∀ k j, j + k = ((i 1).val - 1) / 2 → ∀ acc run K, spec c i q lat kb vb k j acc run K
      ⊢ wp frame (wpE (defs₀ (F := F)) 𝒱₀ (c : Thread nD τ) (some k)) E
          (defs₀ (F := F) .tc 1 ⟨i, M6, Memref.isWhole_whole _, q, lat, M7, Memref.isWhole_whole _, BitVec.ofNat 32 j, acc, run⟩) K := by
  have hn : (i 1).val < 32 := (i 1).isLt
  have hw := w32_eq _ hn
  intro k
  induction k with
  | zero =>
    intro j hj acc run K
    rw [spec_apply]
    show _ ⊢ wp frame (wpE (defs₀ (F := F)) 𝒱₀ (c : Thread nD τ) (some 0)) E
      (cc0_while1 i M6 (Memref.isWhole_whole _) q lat M7 (Memref.isWhole_whole _) (BitVec.ofNat 32 j) acc run) K
    rw [while1_eq, hw]
    have h0 : Scalar.cmpi .slt (BitVec.ofNat 32 j) (BitVec.ofNat 32 (((i 1).val - 1) / 2)) = 0#1 := by
      rw [show j = ((i 1).val - 1) / 2 by omega]; exact slt_self _ (by omega)
    rw [h0, if_neg (by rw [show Scalar.andi 0#1 (live run) = 0#1 from BitVec.zero_and]; decide)]
    have hloop : loop i q lat kb vb 0 j acc run = (BitVec.ofNat 32 j, acc, run) := by rw [loop]
    rw [hloop]
    iintro ⟨H, Hk⟩
    simp only [Prog.pure_eq_ret]
    rw [wp_ret]; imodintro
    iapply Hk
    iexact H
  | succ k ih =>
    intro j hj acc run K
    rw [spec_apply]
    show _ ⊢ wp frame (wpE (defs₀ (F := F)) 𝒱₀ (c : Thread nD τ) (some (k + 1))) E
      (cc0_while1 i M6 (Memref.isWhole_whole _) q lat M7 (Memref.isWhole_whole _) (BitVec.ofNat 32 j) acc run) K
    rw [while1_eq, hw, slt_lt _ (by omega) j (by omega)]
    have hand : Scalar.andi 1#1 (live run) = live run := by
      generalize live run = b; revert b; decide
    rw [hand]
    by_cases hl : live run = 1#1
    · have hc : k0_chk1 i (BitVec.ofNat 32 j) := chk i j (by omega)
      have hloop : loop i q lat kb vb (k + 1) j acc run = loop i q lat kb vb k (j + 1)
          (k0_pay7 acc (k0_pay32 q lat run (rows kb (k0_off2 i (BitVec.ofNat 32 j)) (k0_off2_inb i _ hc))
            (rows vb (k0_off2 i (BitVec.ofNat 32 j)) (k0_off2_inb i _ hc))))
          (k0_pay31 q run (rows kb (k0_off2 i (BitVec.ofNat 32 j)) (k0_off2_inb i _ hc))) := by
        rw [loop, if_pos hl, dif_pos hc]
      rw [hloop, if_pos hl]
      simp only [Prog.lift, Prog.bind_op, Prog.bind_ret, Prog.pure_eq_ret]
      unfold held
      iintro ⟨⟨Hx, Hy⟩, Hk⟩
      iapply (wp_assume 𝒱₀ (c : Thread nD τ) (some (k + 1)) E hc)
      iapply (wp_load 𝒱₀ (c : Thread nD τ) (some (k + 1)) E (m := M6) (Finset.subset_univ _)) $$ Hx; iintro Hx
      iapply (wp_load 𝒱₀ (c : Thread nD τ) (some (k + 1)) E (m := M7) (Finset.subset_univ _)) $$ Hy; iintro Hy
      rw [addi_one j (by omega)]
      iapply (wp_call_spec 𝒱₀ (c : Thread nD τ) (some (k + 1)) E
        (spec c i q lat kb vb k (j + 1)
          (k0_pay7 acc (k0_pay32 q lat run (rows kb (k0_off2 i (BitVec.ofNat 32 j)) (k0_off2_inb i _ hc))
            (rows vb (k0_off2 i (BitVec.ofNat 32 j)) (k0_off2_inb i _ hc))))
          (k0_pay31 q run (rows kb (k0_off2 i (BitVec.ofNat 32 j)) (k0_off2_inb i _ hc)))) k
        (fun u hu => by cases hu; exact Nat.lt_succ_self k)
        (ih (j + 1) (by omega) _ _))
      rw [spec_apply]; unfold held
      isplitl [Hx Hy]
      · isplitl [Hx]; · iexact Hx
        iexact Hy
      iintro H
      rw [wp_ret]; imodintro
      iapply Hk
      iexact H
    · have hloop : loop i q lat kb vb (k + 1) j acc run = (BitVec.ofNat 32 j, acc, run) := by
        rw [loop, if_neg hl]
      rw [hloop, if_neg hl]
      iintro ⟨H, Hk⟩
      simp only [Prog.pure_eq_ret]
      rw [wp_ret]; imodintro
      iapply Hk
      iexact H

end Label

/-! ## The body -/

section Body

variable (c : Dev nD) (i : grid0.Coords)
  (a2 : Memref sig .tc .vmem S256x128 .f32) (h2 : a2.IsWhole) (a3 : Memref sig .tc .vmem S8192x128 .f32) (h3 : a3.IsWhole)
  (a4 : Memref sig .tc .vmem S8192x128 .f32) (h4 : a4.IsWhole) (a5 : Memref sig .tc .vmem S256x128 .bf16) (h5 : a5.IsWhole)
  (X2 : Vec F S256x128 .f32) (X3 X4 : Vec F S8192x128 .f32)

theorem zero2 : (![0, 0] : Fin 2 → Nat) = fun _ => 0 := funext fun a => by fin_cases a <;> rfl

/-- A store over a whole block leaves the block at the payload. -/
theorem read_store {S : Shape} {e : EltTy} (m : Memref sig .tc .vmem S e) {off : Fin S.rank → Nat} (h : off = fun _ => 0)
    (inb : ∀ a, off a + S.size a ≤ S.size a) (f : m.view.ty.Contents (Elt F)) (w : S.Idx → Elt F e) :
    m.view.read (Elt F) ((m.view.slice (Rect.unit off S.size inb)).write (Elt F) f w Finset.univ) = w := by
  subst h
  funext x
  have := m.view.read_slice_write_emb (Val := Elt F) (Rect.whole S) f w (x := x) (Finset.mem_univ _)
  rwa [Rect.emb_whole_apply] at this

/-- A load over a whole block reads it. -/
theorem read_load {S : Shape} {e : EltTy} (m : Memref sig .tc .vmem S e) {off : Fin S.rank → Nat} (h : off = fun _ => 0)
    (inb : ∀ a, off a + S.size a ≤ S.size a) (X : S.Idx → Elt F e) :
    m.view.readAt (Elt F) (Rect.unit off S.size inb).toLoadRect (m.view.rep X) = X := by
  exact (m.view.readAt_rep _ X).trans (View.ld_unit_zero h inb X)

/-- After the scratch buffers are filled the body stores `out` of them. -/
theorem sound_rest (kb vb : Vec F S8192x128 .bf16) (K : PUnit → sProp 𝕄) :
    iprop(((∃ X, owns (c : Thread nD τ) a5 fullShare X) ∗ owns (c : Thread nD τ) a2 fullShare X2 ∗ held c kb vb)
        ∗ ((owns (c : Thread nD τ) a5 fullShare (k0_pay5 (last i (k0_pay12 X2) kb vb (looped i (k0_pay12 X2) kb vb)) : Vec F S256x128 .bf16)
            ∗ owns (c : Thread nD τ) a2 fullShare X2 ∗ held c kb vb) -∗ K ⟨⟩))
      ⊢ wp frame (wpE (defs₀ (F := F)) 𝒱₀ c none) Set.univ
          (restP i a2 a5 h5 M6 (Memref.isWhole_whole _) M7 (Memref.isWhole_whole _)) K := by
  unfold restP
  simp only [Prog.lift, Prog.bind_op, Prog.bind_ret, Prog.pure_eq_ret]
  rw [owns_eq_rep]
  simp only [owns]
  unfold held
  iintro ⟨⟨⟨%X, %f5, -, H5⟩, H2, Hx, Hy⟩, Hk⟩
  iapply (wp_load 𝒱₀ (c : Thread nD τ) none Set.univ (m := a2) (View.setOn_subset_set _ _)) $$ H2; iintro H2
  rw [read_load a2 zero2]
  iapply (wp_load 𝒱₀ (c : Thread nD τ) none Set.univ (m := M6) (Finset.subset_univ _)) $$ Hx; iintro Hx
  iapply (wp_load 𝒱₀ (c : Thread nD τ) none Set.univ (m := M7) (Finset.subset_univ _)) $$ Hy; iintro Hy
  iapply (wp_call_spec 𝒱₀ (c : Thread nD τ) none Set.univ
    (spec c i (k0_pay12 X2) k0_pay13 kb vb (((i 1).val - 1) / 2) 0 (first i (k0_pay12 X2) kb vb).1 (first i (k0_pay12 X2) kb vb).2)
    (((i 1).val - 1) / 2) (fun u hu => nomatch hu)
    (spec_le c i (k0_pay12 X2) k0_pay13 kb vb Set.univ _ 0 (Nat.zero_add _) _ _))
  rw [spec_apply]; unfold held
  isplitl [Hx Hy]
  · isplitl [Hx]; · iexact Hx
    iexact Hy
  iintro ⟨Hx, Hy⟩
  rw [← looped]
  by_cases ht : tail (i 1).val (looped i (k0_pay12 X2) kb vb) = 1#1
  · rw [if_pos ht, last, if_pos ht]
    simp only [Prog.bind_op, Prog.bind_ret, Prog.pure_eq_ret]
    iapply (wp_load 𝒱₀ (c : Thread nD τ) none Set.univ (m := M6) (Finset.subset_univ _)) $$ Hx; iintro Hx
    iapply (wp_load 𝒱₀ (c : Thread nD τ) none Set.univ (m := M7) (Finset.subset_univ _)) $$ Hy; iintro Hy
    iapply (wp_load 𝒱₀ (c : Thread nD τ) none Set.univ (m := a5) (View.setOn_subset_set _ _)) $$ H5; iintro H5
    iapply (wp_store 𝒱₀ (c : Thread nD τ) none Set.univ (m := a5)
      (r := Rect.unit (s := S256x128) ![0, 0] S256x128.size inb_S256x128_S256x128_0_0) (Mk := Finset.univ) (S := a5.view.set)
      ((View.setOn_subset_set _ _).trans (a5.view.set_slice_subset _))) $$ H5; iintro H5
    rw [wp_ret]; imodintro
    iapply Hk
    isplitl [H5]
    · iexists _; isplitr; swap; · iexact H5
      ipureintro; exact read_store a5 zero2 _ _ _
    isplitl [H2]; · iexact H2
    isplitl [Hx]; · iexact Hx
    iexact Hy
  · rw [if_neg ht, last, if_neg ht]
    simp only [Prog.bind_op, Prog.bind_ret, Prog.pure_eq_ret]
    iapply (wp_load 𝒱₀ (c : Thread nD τ) none Set.univ (m := a5) (View.setOn_subset_set _ _)) $$ H5; iintro H5
    iapply (wp_store 𝒱₀ (c : Thread nD τ) none Set.univ (m := a5)
      (r := Rect.unit (s := S256x128) ![0, 0] S256x128.size inb_S256x128_S256x128_0_0) (Mk := Finset.univ) (S := a5.view.set)
      ((View.setOn_subset_set _ _).trans (a5.view.set_slice_subset _))) $$ H5; iintro H5
    rw [wp_ret]; imodintro
    iapply Hk
    isplitl [H5]
    · iexists _; isplitr; swap; · iexact H5
      ipureintro; exact read_store a5 zero2 _ _ _
    isplitl [H2]; · iexact H2
    isplitl [Hx]; · iexact Hx
    iexact Hy

/-- What is held before and after a point, besides what the pipeline keeps. -/
theorem sound_body (K : PUnit → sProp 𝕄) (f0 f1 : Vec F S8192x128 .bf16)
    (hf : (i 1).val ≠ 0 → f0 = k0_pay10 X3 ∧ f1 = k0_pay11 X4) :
    iprop((owns (c : Thread nD τ) a2 fullShare X2 ∗ owns (c : Thread nD τ) a3 fullShare X3 ∗ owns (c : Thread nD τ) a4 fullShare X4
          ∗ (∃ X, owns (c : Thread nD τ) a5 fullShare X) ∗ held c f0 f1)
        ∗ ((owns (c : Thread nD τ) a2 fullShare X2 ∗ owns (c : Thread nD τ) a3 fullShare X3 ∗ owns (c : Thread nD τ) a4 fullShare X4
          ∗ owns (c : Thread nD τ) a5 fullShare (out i X2 X3 X4) ∗ held c (k0_pay10 X3) (k0_pay11 X4)) -∗ K ⟨⟩))
      ⊢ wp frame (wpE (defs₀ (F := F)) 𝒱₀ c none) Set.univ
          (cc0_stick_breaking (F := F) i a2 h2 a3 h3 a4 h4 a5 h5 M6 (Memref.isWhole_whole _) M7 (Memref.isWhole_whole _)) K := by
  have hn : (i 1).val < 32 := (i 1).isLt
  rw [body_eq]
  by_cases h : w2 (i 1).val = 1#1
  · rw [if_pos h]
    simp only [Prog.lift, Prog.bind_op, Prog.bind_ret, Prog.pure_eq_ret]
    rw [owns_eq_rep (c : Thread nD τ) a3, owns_eq_rep (c : Thread nD τ) a4]
    unfold held
    iintro ⟨⟨H2, H3, H4, H5, Hx, Hy⟩, Hk⟩
    iapply (wp_load 𝒱₀ (c : Thread nD τ) none Set.univ (m := a3) (View.setOn_subset_set _ _)) $$ H3; iintro H3
    rw [read_load a3 zero2]
    iapply (wp_load 𝒱₀ (c : Thread nD τ) none Set.univ (m := M6) (Finset.subset_univ _)) $$ Hx; iintro Hx
    iapply (wp_store 𝒱₀ (c : Thread nD τ) none Set.univ (m := M6)
      (r := Rect.unit (s := S8192x128) ![0, 0] S8192x128.size inb_S8192x128_S8192x128_0_0) (Mk := Finset.univ) (S := Finset.univ) (Finset.subset_univ _)) $$ Hx; iintro Hx
    rw [show (M6.access (Rect.unit (s := S8192x128) ![0, 0] S8192x128.size inb_S8192x128_S8192x128_0_0)).write (Elt F) f0 (k0_pay10 X3) Finset.univ = k0_pay10 X3 from
      Memref.write_access_unit_zero_univ (Elt F) cc0_scratch0 zero2 _ f0 (k0_pay10 X3)]
    iapply (wp_load 𝒱₀ (c : Thread nD τ) none Set.univ (m := a4) (View.setOn_subset_set _ _)) $$ H4; iintro H4
    rw [read_load a4 zero2]
    iapply (wp_load 𝒱₀ (c : Thread nD τ) none Set.univ (m := M7) (Finset.subset_univ _)) $$ Hy; iintro Hy
    iapply (wp_store 𝒱₀ (c : Thread nD τ) none Set.univ (m := M7)
      (r := Rect.unit (s := S8192x128) ![0, 0] S8192x128.size inb_S8192x128_S8192x128_0_0) (Mk := Finset.univ) (S := Finset.univ) (Finset.subset_univ _)) $$ Hy; iintro Hy
    rw [show (M7.access (Rect.unit (s := S8192x128) ![0, 0] S8192x128.size inb_S8192x128_S8192x128_0_0)).write (Elt F) f1 (k0_pay11 X4) Finset.univ = k0_pay11 X4 from
      Memref.write_access_unit_zero_univ (Elt F) cc0_scratch1 zero2 _ f1 (k0_pay11 X4)]
    iapply (sound_rest c i a2 a5 h5 X2 (k0_pay10 X3) (k0_pay11 X4) K)
    unfold held
    isplitl [H2 H5 Hx Hy]
    · isplitl [H5]; · iexact H5
      isplitl [H2]; · iexact H2
      isplitl [Hx]; · iexact Hx
      iexact Hy
    iintro ⟨H5, H2, Hx, Hy⟩
    iapply Hk
    isplitl [H2]; · iexact H2
    isplitl [H3]; · iexact H3
    isplitl [H4]; · iexact H4
    isplitl [H5]; · (unfold out; iexact H5)
    isplitl [Hx]; · iexact Hx
    iexact Hy
  · rw [if_neg h]
    obtain ⟨rfl, rfl⟩ := hf fun h0 => h ((w2_eq _ hn).2 h0)
    iintro ⟨⟨H2, H3, H4, H5, H⟩, Hk⟩
    iapply (sound_rest c i a2 a5 h5 X2 (k0_pay10 X3) (k0_pay11 X4) K)
    isplitl [H2 H5 H]
    · isplitl [H5]; · iexact H5
      isplitl [H2]; · iexact H2
      iexact H
    iintro ⟨H5, H2, H⟩
    iapply Hk
    isplitl [H2]; · iexact H2
    isplitl [H3]; · iexact H3
    isplitl [H4]; · iexact H4
    isplitl [H5]; · (unfold out; iexact H5)
    iexact H

end Body

/-! ## The obligation at a point -/

variable (m : (ℓ : Loc nD τ sig) → Buf (Elt F) ℓ)

theorem coord1 (t : Fin (cfg0 (F := F)).N) : (grid0.coords t 1).val = t.val % 32 := by
  rw [Pipeline.Grid.coords_val (G := grid0) t 1 (S := 1) (B := 32) (by decide) rfl, Nat.div_one]

theorem before0 (c : Dev nD) (t : Fin (cfg0 (F := F)).N) (d) : (dats m 0 c).before 0 t d = qOf m c t :=
  (dats m 0 c).before_in_eq_fetched 0 rfl (fun _ => rfl) (fun _ _ _ => rfl) (fun _ => rfl) t d
theorem before1 (c : Dev nD) (t : Fin (cfg0 (F := F)).N) (d) : (dats m 0 c).before 1 t d = kOf m c t :=
  (dats m 0 c).before_in_eq_fetched 1 rfl (fun _ => rfl) (fun _ _ _ => rfl) (fun _ => rfl) t d
theorem before2 (c : Dev nD) (t : Fin (cfg0 (F := F)).N) (d) : (dats m 0 c).before 2 t d = vOf m c t :=
  (dats m 0 c).before_in_eq_fetched 2 rfl (fun _ => rfl) (fun _ _ _ => rfl) (fun _ => rfl) t d

/-- Inside a head the keys and the values are those of the point before. -/
theorem kOf_prev (c : Dev nD) (n : ℕ) (h : n + 1 < (cfg0 (F := F)).N) (h32 : (n + 1) % 32 ≠ 0) :
    kOf m c ⟨n, Nat.lt_of_succ_lt h⟩ = kOf m c ⟨n + 1, h⟩ := by
  have hf : ((cfg0 (F := F)).win 1).fetch ⟨n + 1, h⟩ = false := by
    rw [← Bool.not_eq_true, fetch0_1]; exact h32
  have hi := (Window.index_eq_of_fetch ((cfg0 (F := F)).win 1) rfl ⟨n + 1, h⟩ hf).2
  exact ((dats m 0 c).fetched_congr 1 (t := ⟨n + 1, h⟩) (t' := ⟨n, Nat.lt_of_succ_lt h⟩) hi rfl (kOf m c ⟨n + 1, h⟩)).symm

theorem vOf_prev (c : Dev nD) (n : ℕ) (h : n + 1 < (cfg0 (F := F)).N) (h32 : (n + 1) % 32 ≠ 0) :
    vOf m c ⟨n, Nat.lt_of_succ_lt h⟩ = vOf m c ⟨n + 1, h⟩ := by
  have hf : ((cfg0 (F := F)).win 2).fetch ⟨n + 1, h⟩ = false := by
    rw [← Bool.not_eq_true, fetch0_2]; exact h32
  have hi := (Window.index_eq_of_fetch ((cfg0 (F := F)).win 2) rfl ⟨n + 1, h⟩ hf).2
  exact ((dats m 0 c).fetched_congr 2 (t := ⟨n + 1, h⟩) (t' := ⟨n, Nat.lt_of_succ_lt h⟩) hi rfl (vOf m c ⟨n + 1, h⟩)).symm

/-- What the scratch buffers hold before a point. -/
theorem PhiS_open (c : Dev nD) (t : Fin (cfg0 (F := F)).N) :
    PhiS m c t.val (Nat.le_of_lt t.isLt)
      ⊢ iprop(∃ f0 f1, ⌜(grid0.coords t 1).val ≠ 0 → f0 = k0_pay10 (kOf m c t) ∧ f1 = k0_pay11 (vOf m c t)⌝ ∗ held c f0 f1 ∗ ∃ r, prngReg c r) := by
  obtain ⟨n, hn⟩ := t
  have hc := coord1 (F := F) ⟨n, hn⟩
  match n, hn, hc with
  | 0, hn, hc =>
    unfold PhiS held
    iintro ⟨⟨%f0, H0⟩, ⟨%f1, H1⟩, H⟩
    iexists f0; iexists f1
    isplitr
    · ipureintro; intro h; exact absurd hc h
    isplitl [H0 H1]
    · isplitl [H0]; · iexact H0
      iexact H1
    iexact H
  | n + 1, hn, hc =>
    unfold PhiS held
    iintro ⟨H0, H1, H⟩
    iexists _; iexists _
    isplitr; swap
    · isplitl [H0 H1]
      · isplitl [H0]; · iexact H0
        iexact H1
      iexact H
    ipureintro; intro h
    have h32 : (n + 1) % 32 ≠ 0 := fun h0 => h (hc.trans h0)
    exact ⟨congrArg k0_pay10 (kOf_prev m c n hn h32), congrArg k0_pay11 (vOf_prev m c n hn h32)⟩

theorem after0 (c : Dev nD) (t : Fin (cfg0 (F := F)).N) : (dats m 0 c).after 0 t = qOf m c t := rfl
theorem after1 (c : Dev nD) (t : Fin (cfg0 (F := F)).N) : (dats m 0 c).after 1 t = kOf m c t := rfl
theorem after2 (c : Dev nD) (t : Fin (cfg0 (F := F)).N) : (dats m 0 c).after 2 t = vOf m c t := rfl
theorem after3 (c : Dev nD) (t : Fin (cfg0 (F := F)).N) :
    (dats m 0 c).after 3 t = out (grid0.coords t) (qOf m c t) (kOf m c t) (vOf m c t) := rfl

theorem owesAt_succ (c : Dev nD) (t : Fin (cfg0 (F := F)).N) :
    (dats m 0 c).owesAt () t.succ = (dats m 0 c).owesAt () t.castSucc := by
  unfold Dat.owesAt Pipeline.owesWithin Dat.bound
  dsimp only [dats]

theorem Phi_castSucc (c : Dev nD) (t : Fin (cfg0 (F := F)).N) :
    (dats m 0 c).Φ t.castSucc = PhiS m c t.val (Nat.le_of_lt t.isLt) := by
  dsimp only [dats]; exact Pipeline.Dat.Φ_castSucc (PhiS m c) t

theorem Phi_succ (c : Dev nD) (t : Fin (cfg0 (F := F)).N) :
    (dats m 0 c).Φ t.succ = PhiS m c (t.val + 1) t.isLt := by
  dsimp only [dats]; rfl

theorem body_obligation (c : Dev nD) : BodyObligation (dats m 0 c) (defs₀ (F := F)) 𝒱₀ () Set.univ := fun t => by
  rw [bigSep_W0, bigSep_W0]
  sl_whnfR [defs₀, Defs.onTc]
  rw [after0, after1, after2, after3]
  rw [owesAt_succ, Phi_castSucc, Phi_succ]
  refine (sep_mono_left (PhiS_open m c t)).trans ?_
  iintro ⟨⟨%f0, %f1, %hf, Hs, Hr⟩, Howes, ⟨%d0, H2⟩, ⟨%d1, H3⟩, ⟨%d2, H4⟩, ⟨%d3, H5⟩⟩
  rw [before0 m c t d0, before1 m c t d1, before2 m c t d2]
  iapply (sound_body c (grid0.coords t) (st0_0 t) (hstage0_0 (((cfg0 (F := F)).slots t 0).cast nbuf0_0))
    (st0_1 t) (hstage0_1 (((cfg0 (F := F)).slots t 1).cast nbuf0_1))
    (st0_2 t) (hstage0_2 (((cfg0 (F := F)).slots t 2).cast nbuf0_2))
    (st0_3 t) (hstage0_3 (((cfg0 (F := F)).slots t 3).cast nbuf0_3)) (qOf m c t) (kOf m c t) (vOf m c t) _ f0 f1 hf)
  isplitl [H2 H3 H4 H5 Hs]
  · isplitl [H2]; · iexact H2
    isplitl [H3]; · iexact H3
    isplitl [H4]; · iexact H4
    isplitl [H5]; · (iexists _; iexact H5)
    iexact Hs
  unfold held PhiS
  iintro ⟨H2, H3, H4, H5, Hx, Hy⟩
  isplitl [Hx Hy Hr]
  · isplitl [Hx]; · iexact Hx
    isplitl [Hy]; · iexact Hy
    iexact Hr
  isplitl [Howes]; · iexact Howes
  isplitl [H2]; · iexact H2
  isplitl [H3]; · iexact H3
  isplitl [H4]; · iexact H4
  iexact H5

end Cert.Proof.KI

end
-- ==== Proof.KI.Run.lean ====
/-
  The whole launch: from any memory the program ends with the result's array at what the write-backs of `out`
  leave, the argument as it was, and every semaphore at zero.
-/
module

public import proofs.«01_k».proof.Proof.KI.Body
public import Idealize.ShloMosaic.Lib.Pipeline.Frame

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the result's array holds after every point. -/
def result (c : Dev nD) := (dats m 0 c).arrAt 3 (cfg0 (F := F)).N

theorem phi_in (c : Dev nD) : Pipeline.ΦA (cfg0 (F := F)).spec c ⊢ (dats m 0 c).Φ 0 := by
  show iprop(Pipeline.scopedRest spec0 c ∗ ∃ r, prngReg c r) ⊢ (dats m 0 c).Φ 0
  rw [scopedRest0_eq, show (dats m 0 c).Φ 0 = PhiS m c 0 (Nat.zero_le _) by dsimp only [dats]; rfl]
  unfold PhiS
  iintro ⟨⟨H0, H1⟩, H⟩
  isplitl [H0]; · iexact H0
  isplitl [H1]; · iexact H1
  iexact H

theorem PhiS_out (c : Dev nD) (n : ℕ) (h : n ≤ (cfg0 (F := F)).N) :
    PhiS m c n h ⊢ iprop((∃ f, ((c : Thread nD τ).loc cc0_scratch0) ↦{fullShare} f) ∗ (∃ f, ((c : Thread nD τ).loc cc0_scratch1) ↦{fullShare} f)
      ∗ ∃ r, prngReg c r) := by
  match n, h with
  | 0, h => unfold PhiS; iintro H; iexact H
  | n + 1, h =>
    unfold PhiS
    iintro ⟨H0, H1, H⟩
    isplitl [H0]; · (iexists _; iexact H0)
    isplitl [H1]; · (iexists _; iexact H1)
    iexact H

theorem phi_out (c : Dev nD) : (dats m 0 c).Φ (Fin.last (cfg0 (F := F)).N) ⊢ Pipeline.ΦA (cfg0 (F := F)).spec c := by
  show (dats m 0 c).Φ (Fin.last (cfg0 (F := F)).N) ⊢ iprop(Pipeline.scopedRest spec0 c ∗ ∃ r, prngReg c r)
  rw [scopedRest0_eq, show (dats m 0 c).Φ (Fin.last (cfg0 (F := F)).N) = PhiS m c (cfg0 (F := F)).N le_rfl by dsimp only [dats]; rfl]
  refine (PhiS_out m c _ _).trans ?_
  iintro ⟨H0, H1, H⟩
  isplitl [H0 H1]
  · isplitl [H0]; · iexact H0
    iexact H1
  iexact H

theorem run :
    θ_run defs (onTc main) ⟨m, fun _ => 0, ρ⟩ fun r =>
      (∀ c : Dev nD, r.2.mem ((c.tc : Thread nD τ).loc main_v0) = result m c
        ∧ r.2.mem ((c.tc : Thread nD τ).loc main_arg0) = m ((c.tc : Thread nD τ).loc main_arg0)) ∧ r.2.sem = fun _ => 0 :=
  Pipeline.θ_run_frame_track_shared cfgs (dats m) 0 launch₀0 (defs₀ (F := F)) 𝒱₀ m ρ main
    (fun c => (body_obligation m c).loose)
    (fun _ _ _ => rfl) (fun _ _ => rfl) (fun c b => m ((c.tc : Thread nD τ).loc b))
    (Pipeline.hmain_region cfgs 0 (defs₀ (F := F)) 𝒱₀ m main (fun _ => rfl))
    (fun _ _ => rfl) (phi_in m) (phi_out m)
    (fun r => (∀ c : Dev nD, r.2.mem ((c.tc : Thread nD τ).loc main_v0) = result m c
        ∧ r.2.mem ((c.tc : Thread nD τ).loc main_arg0) = m ((c.tc : Thread nD τ).loc main_arg0)) ∧ r.2.sem = fun _ => 0)
    (fun r h => ⟨fun c => ⟨(h.1 c).1 3, ((h.1 c).1 0).trans ((dats m 0 c).arrAt_in 0 rfl _)⟩, h.2⟩)

end Cert.Proof.KI

end
-- ==== Proof.Alg.Scalar.lean ====
/-
  The arithmetic of stick-breaking attention over the extended reals, one score at a time. `spr` is the
  softplus of the reference, of a score; `spk` is the kernel's, of a score already divided by `log 2`, in
  the same units. `spk_mul`: the second is the first divided by `log 2`. `weight_eq`: the kernel's weight
  of a key, a power of two, is the reference's, an exponential, whatever the score, infinite ones included.
-/
module

public import Idealize.ShloMosaic.Lib.Pointwise
public import Idealize.ShloMosaic.PureOps.Ideal.Laws

@[expose] public section

noncomputable section

namespace Cert.Proof.Alg

open Idealize.ShloMosaic

/-- One over `log 2`. -/
def L : ℝ := (Real.log 2)⁻¹

theorem L_pos : 0 < L := inv_pos.2 (Real.log_pos (by norm_num))
theorem L_pos' : (0 : EReal) < (L : EReal) := by exact_mod_cast L_pos
theorem L_nonneg' : (0 : EReal) ≤ (L : EReal) := L_pos'.le

/-- Softplus of a score, the reference's. -/
def spr (y : EReal) : EReal := max y 0 + Ideal.log (1 + Ideal.exp (-(max y (-y))))

/-- Softplus of a score divided by `log 2`, divided by `log 2`: the kernel's. -/
def spk (z : EReal) : EReal := max z 0 + Ideal.log (1 + Ideal.exp2 (0 - max z (-z))) * (L : EReal)

theorem exp_bot : Ideal.exp ⊥ = 0 := rfl
theorem exp2_bot : Ideal.exp2 ⊥ = 0 := rfl
theorem exp_coe (r : ℝ) : Ideal.exp (r : EReal) = (Real.exp r : EReal) := rfl
theorem exp2_coe (r : ℝ) : Ideal.exp2 (r : EReal) = ((2 : ℝ) ^ r : ℝ) := rfl
theorem log_coe {r : ℝ} (h : 0 < r) : Ideal.log (r : EReal) = (Real.log r : EReal) := by
  show (if r ≤ 0 then ⊥ else (Real.log r : EReal)) = _
  rw [if_neg (not_le.2 h)]

theorem log_one : Ideal.log (1 + 0) = 0 := by
  rw [add_zero, ← EReal.coe_one, log_coe one_pos, Real.log_one, EReal.coe_zero]

theorem exp2_mul_L (r : ℝ) : (2 : ℝ) ^ (r * L) = Real.exp r := by
  have h2 : Real.log 2 ≠ 0 := (Real.log_pos (by norm_num)).ne'
  rw [Real.rpow_def_of_pos two_pos, L]
  congr 1
  field_simp

theorem coe_max' (a b : ℝ) : max (a : EReal) (b : EReal) = ((max a b : ℝ) : EReal) :=
  (EReal.coe_strictMono.monotone.map_max).symm

/-- Softplus of a real score. -/
theorem spr_coe (r : ℝ) : spr (r : EReal) = ((max r 0 + Real.log (1 + Real.exp (-(max r (-r)))) : ℝ) : EReal) := by
  unfold spr
  rw [← EReal.coe_neg, ← EReal.coe_zero, coe_max', coe_max', ← EReal.coe_neg, exp_coe, ← EReal.coe_one, ← EReal.coe_add,
    log_coe (by positivity), ← EReal.coe_add]

theorem spr_top : spr ⊤ = ⊤ := by
  unfold spr
  rw [EReal.neg_top, max_eq_left bot_le, max_eq_left le_top, EReal.neg_top, exp_bot, log_one, add_zero]

theorem spr_bot : spr ⊥ = 0 := by
  unfold spr
  rw [EReal.neg_bot, max_eq_right bot_le, max_eq_right bot_le, EReal.neg_top, exp_bot, log_one, add_zero]

theorem spk_coe (r : ℝ) : spk (r : EReal) = ((max r 0 + Real.log (1 + (2 : ℝ) ^ (-(max r (-r)))) * L : ℝ) : EReal) := by
  unfold spk
  rw [← EReal.coe_neg, ← EReal.coe_zero, coe_max', coe_max', ← EReal.coe_sub, zero_sub, exp2_coe, ← EReal.coe_one, ← EReal.coe_add,
    log_coe (by positivity), ← EReal.coe_mul, ← EReal.coe_add]

theorem spk_top : spk ⊤ = ⊤ := by
  unfold spk
  rw [EReal.neg_top, max_eq_left bot_le, max_eq_left le_top, zero_sub, EReal.neg_top, exp2_bot, log_one, zero_mul, add_zero]

theorem spk_bot : spk ⊥ = 0 := by
  unfold spk
  rw [EReal.neg_bot, max_eq_right bot_le, max_eq_right bot_le, zero_sub, EReal.neg_top, exp2_bot, log_one, zero_mul, add_zero]

theorem spk_mul (y : EReal) : spk (y * (L : EReal)) = spr y * (L : EReal) := by
  induction y with
  | bot => rw [EReal.bot_mul_of_pos L_pos', spk_bot, spr_bot, zero_mul]
  | top => rw [EReal.top_mul_of_pos L_pos', spk_top, spr_top, EReal.top_mul_of_pos L_pos']
  | coe r =>
    rw [← EReal.coe_mul, spk_coe, spr_coe, ← EReal.coe_mul]
    congr 1
    have hm : max (r * L) (-(r * L)) = max r (-r) * L := by
      rw [← neg_mul, max_mul_of_nonneg _ _ L_pos.le]
    have h0 : max (r * L) 0 = max r 0 * L := by
      rw [max_mul_of_nonneg _ _ L_pos.le, zero_mul]
    rw [hm, h0, ← neg_mul, exp2_mul_L, add_mul]

theorem spr_nonneg (y : EReal) : 0 ≤ spr y := by
  induction y with
  | bot => rw [spr_bot]
  | top => rw [spr_top]; exact le_top
  | coe r =>
    rw [spr_coe]
    have : 0 ≤ Real.log (1 + Real.exp (-(max r (-r)))) := Real.log_nonneg (by linarith [Real.exp_pos (-(max r (-r)))])
    exact_mod_cast add_nonneg (le_max_right r 0) this

theorem spk_nonneg (z : EReal) : 0 ≤ spk z := by
  have h : z = (z * ((L⁻¹ : ℝ) : EReal)) * (L : EReal) := by
    rw [mul_assoc, ← EReal.coe_mul, inv_mul_cancel₀ L_pos.ne', EReal.coe_one, mul_one]
  rw [h, spk_mul]
  exact mul_nonneg (spr_nonneg _) L_nonneg'

/-- The kernel's weight of a key: its score, its softplus, and the sum of the softplus of the keys after it. -/
def wk (z s r : EReal) : EReal := Ideal.exp2 ((z - s) - r)

/-- The reference's weight of a key: its score and the sum of the log-terms of the keys after it. -/
def wr (y t : EReal) : EReal := Ideal.exp (-(spr (-y)) + ((-(spr y) + t) - (-(spr y))))

theorem wk_top (z s : EReal) : wk z s ⊤ = 0 := by
  unfold wk
  rw [sub_eq_add_neg, EReal.neg_top, EReal.add_bot, exp2_bot]

/-- The log of the sigmoid of a real score, both ways. -/
theorem log_sigmoid (r : ℝ) : -(max (-r) 0 + Real.log (1 + Real.exp (-(max (-r) (- -r)))))
    = r - (max r 0 + Real.log (1 + Real.exp (-(max r (-r))))) := by
  rw [neg_neg, max_comm (-r) r]
  rcases le_total 0 r with h | h
  · rw [max_eq_right (a := -r) (b := 0) (by linarith), max_eq_left h]; ring
  · rw [max_eq_left (a := -r) (b := 0) (by linarith), max_eq_right h]; ring

theorem weight_eq (y T : EReal) (hT : 0 ≤ T) : wk (y * (L : EReal)) (spr y * (L : EReal)) (T * (L : EReal)) = wr y (-T) := by
  unfold wk wr
  induction y with
  | bot =>
    rw [EReal.neg_bot, spr_top, EReal.neg_top, EReal.bot_add, exp_bot, EReal.bot_mul_of_pos L_pos', sub_eq_add_neg,
      sub_eq_add_neg, EReal.bot_add, EReal.bot_add, exp2_bot]
  | top =>
    have e : -spr ⊥ + ((⊥ + -T) - ⊥) = (⊥ : EReal) := by rw [EReal.bot_add, sub_eq_add_neg ⊥, EReal.bot_add, EReal.add_bot]
    rw [spr_top, EReal.neg_top, e, exp_bot, EReal.top_mul_of_pos L_pos',
      sub_eq_add_neg, sub_eq_add_neg, EReal.neg_top, EReal.add_bot, EReal.bot_add, exp2_bot]
  | coe r =>
    rw [← EReal.coe_neg, spr_coe, spr_coe, ← EReal.coe_neg, log_sigmoid]
    generalize max r 0 + Real.log (1 + Real.exp (-(max r (-r)))) = s
    induction T with
    | bot => exact absurd hT (by simp)
    | top =>
      have e : ∀ x y : EReal, x + (⊥ - y) = ⊥ := fun x y => by rw [sub_eq_add_neg, EReal.bot_add, EReal.add_bot]
      rw [EReal.top_mul_of_pos L_pos', sub_eq_add_neg (_ - _) (⊤ : EReal), EReal.neg_top, EReal.add_bot, exp2_bot, EReal.add_bot, e, exp_bot]
    | coe t =>
      have e : ∀ a b : ℝ, (a : EReal) - (b : EReal) = ((a - b : ℝ) : EReal) := fun a b => (EReal.coe_sub a b).symm
      rw [← EReal.coe_mul, ← EReal.coe_mul, ← EReal.coe_mul, ← EReal.coe_neg, ← EReal.coe_neg, e, e, ← EReal.coe_add, e, ← EReal.coe_add, exp2_coe,
        exp_coe, ← exp2_mul_L]
      congr 2
      ring

/-! ## Sums -/

theorem sum_neg {ι : Type*} [DecidableEq ι] (S : Finset ι) (f : ι → EReal) (h : ∀ i, 0 ≤ f i) : ∑ i ∈ S, -(f i) = -∑ i ∈ S, f i := by
  induction S using Finset.induction_on with
  | empty => simp
  | insert a S ha ih =>
    rw [Finset.sum_insert ha, Finset.sum_insert ha, ih,
      EReal.neg_add (.inl ?_) (.inr ?_)]
    · rw [sub_eq_add_neg]
    · exact ((EReal.bot_lt_zero).trans_le (h a)).ne'
    · exact ((EReal.bot_lt_zero).trans_le (Finset.sum_nonneg fun i _ => h i)).ne'

theorem sum_mul_L {ι : Type*} [DecidableEq ι] (S : Finset ι) (f : ι → EReal) : ∑ i ∈ S, f i * (L : EReal) = (∑ i ∈ S, f i) * (L : EReal) := by
  induction S using Finset.induction_on with
  | empty => simp
  | insert a S ha ih =>
    rw [Finset.sum_insert ha, Finset.sum_insert ha, ih, EReal.right_distrib_of_nonneg_of_ne_top L_nonneg' (EReal.coe_ne_top _)]

end Cert.Proof.Alg

end
-- ==== Proof.Alg.Row.lean ====
/-
  One query of stick-breaking attention, as sums over the keys below it: `R s`, the softplus of the keys
  from `s` on, and `O s`, the weighted values of the keys from `s` on. The kernel takes 512 keys at a time
  in two halves of 256, a mask cutting those from `e` on; the lemmas here say what its sums over a half,
  with and without its triangular matrix, add up to.
-/
module

public import proofs.«01_k».proof.Proof.Alg.Scalar

@[expose] public section

noncomputable section

namespace Cert.Proof.Alg

open Idealize.ShloMosaic

/-- The softplus of the keys from `s` on, below query `g`. -/
def R (sp : ℕ → EReal) (g s : ℕ) : EReal := ∑ j ∈ Finset.Ico s g, sp j

/-- The weight of key `j`. -/
def W (z sp : ℕ → EReal) (g j : ℕ) : EReal := wk (z j) (sp j) (R sp g (j + 1))

/-- The weighted values of the keys from `s` on. -/
def O (z sp v : ℕ → EReal) (g s : ℕ) : EReal := ∑ j ∈ Finset.Ico s g, W z sp g j * v j

/-- A sequence cut from `e` on. -/
def cut (h : ℕ → EReal) (e j : ℕ) : EReal := if j < e then h j else 0

theorem sum_cut (h : ℕ → EReal) {a e b : ℕ} (hae : a ≤ e) (heb : e ≤ b) :
    ∑ j ∈ Finset.Ico a b, cut h e j = ∑ j ∈ Finset.Ico a e, h j := by
  rw [← Finset.sum_Ico_consecutive _ hae heb]
  have h1 : ∑ j ∈ Finset.Ico a e, cut h e j = ∑ j ∈ Finset.Ico a e, h j :=
    Finset.sum_congr rfl fun j hj => if_pos (Finset.mem_Ico.1 hj).2
  have h2 : ∑ j ∈ Finset.Ico e b, cut h e j = 0 :=
    Finset.sum_eq_zero fun j hj => if_neg (not_lt.2 (Finset.mem_Ico.1 hj).1)
  rw [h1, h2, add_zero]

theorem sum_half (h : ℕ → EReal) (o n : ℕ) : ∑ x : Fin n, h (o + x.val) = ∑ j ∈ Finset.Ico o (o + n), h j := by
  rw [Fin.sum_univ_eq_sum_range (fun x => h (o + x)) n, Finset.sum_Ico_eq_sum_range, Nat.add_sub_cancel_left]

theorem sum_later (h : ℕ → EReal) (o n c : ℕ) :
    ∑ x : Fin n, h (o + x.val) * (if c < x.val then (1 : EReal) else 0) = ∑ j ∈ Finset.Ico (o + c + 1) (o + n), h j := by
  rw [Fin.sum_univ_eq_sum_range (fun x => h (o + x) * (if c < x then (1 : EReal) else 0)) n]
  simp only [mul_ite, mul_one, mul_zero]
  rw [← Finset.sum_filter]
  have : (Finset.range n).filter (fun x => c < x) = Finset.Ico (c + 1) n := by
    ext x; simp only [Finset.mem_filter, Finset.mem_range, Finset.mem_Ico]; omega
  rw [this, Finset.sum_Ico_add h (c + 1) n o]
  congr 2 <;> omega

variable (z sp v : ℕ → EReal) {g s e : ℕ}

theorem R_cut {a b : ℕ} (hae : a ≤ e) (heb : e ≤ b) (heg : e ≤ g) :
    ∑ j ∈ Finset.Ico a b, cut sp e j + R sp g e = R sp g a := by
  rw [sum_cut sp hae heb]
  exact Finset.sum_Ico_consecutive sp hae heg

/-- What the second half of a group adds to the sum at one of its columns. -/
theorem part_hi (c : ℕ) (h1 : s + 256 + c < e) (h2 : e ≤ s + 512) (heg : e ≤ g) :
    ∑ x : Fin 256, cut sp e (s + 256 + x.val) * (if c < x.val then (1 : EReal) else 0) + R sp g e = R sp g (s + 256 + c + 1) := by
  rw [sum_later (cut sp e) (s + 256) 256 c]
  exact R_cut sp h1 (by omega) heg

/-- What the first half adds, over the second half's whole sum. -/
theorem part_lo (c : ℕ) (hc : c < 256) (h1 : s + c < e) (h2 : e ≤ s + 512) (heg : e ≤ g) :
    ∑ x : Fin 256, cut sp e (s + x.val) * (if c < x.val then (1 : EReal) else 0)
      + (R sp g e + ∑ x : Fin 256, cut sp e (s + 256 + x.val)) = R sp g (s + c + 1) := by
  rw [sum_later (cut sp e) s 256 c, sum_half (cut sp e) (s + 256) 256, add_comm (R sp g e), ← add_assoc,
    Finset.sum_Ico_consecutive _ (by omega) (by omega)]
  exact R_cut sp h1 (by omega) heg

/-- The carried sum after a group. -/
theorem run_step (h1 : s ≤ e) (h2 : e ≤ s + 512) (heg : e ≤ g) :
    (R sp g e + ∑ x : Fin 256, cut sp e (s + 256 + x.val)) + ∑ x : Fin 256, cut sp e (s + x.val) = R sp g s := by
  rw [sum_half (cut sp e) s 256, sum_half (cut sp e) (s + 256) 256, add_comm, add_comm (R sp g e), ← add_assoc,
    Finset.sum_Ico_consecutive _ (by omega) (by omega)]
  exact R_cut sp h1 (by omega) heg

/-- The weighted values after a group. -/
theorem acc_step (h1 : s ≤ e) (h2 : e ≤ s + 512) (heg : e ≤ g) :
    O z sp v g e + ∑ x : Fin 512, (if s + x.val < e then W z sp g (s + x.val) else 0) * v (s + x.val) = O z sp v g s := by
  have : ∀ x : Fin 512, (if s + x.val < e then W z sp g (s + x.val) else 0) * v (s + x.val)
      = cut (fun j => W z sp g j * v j) e (s + x.val) := fun x => by
    unfold cut; split <;> simp
  simp only [this]
  rw [sum_half (cut _ e) s 512, sum_cut _ h1 (by omega), add_comm]
  exact Finset.sum_Ico_consecutive _ h1 heg

/-- The same with the two halves apart. -/
theorem acc_step_halves (h1 : s ≤ e) (h2 : e ≤ s + 512) (heg : e ≤ g) :
    O z sp v g e + (∑ x : Fin 256, (if s + x.val < e then W z sp g (s + x.val) * v (s + x.val) else 0)
      + ∑ x : Fin 256, (if s + 256 + x.val < e then W z sp g (s + 256 + x.val) * v (s + 256 + x.val) else 0)) = O z sp v g s := by
  have h : ∀ j, (if j < e then W z sp g j * v j else 0) = cut (fun j => W z sp g j * v j) e j := fun _ => rfl
  simp only [h]
  rw [sum_half (cut _ e) s 256, sum_half (cut _ e) (s + 256) 256, Finset.sum_Ico_consecutive _ (by omega) (by omega),
    sum_cut _ h1 (by omega), add_comm]
  exact Finset.sum_Ico_consecutive _ h1 heg

/-- Once the sum over the keys from `e` on is infinite, the keys below `e` weigh nothing. -/
theorem O_dead (hsp : ∀ j, 0 ≤ sp j) (h1 : s ≤ e) (heg : e ≤ g) (hd : R sp g e = ⊤) : O z sp v g s = O z sp v g e := by
  unfold O
  rw [← Finset.sum_Ico_consecutive _ h1 heg, Finset.sum_eq_zero, zero_add]
  intro j hj
  have hj := Finset.mem_Ico.1 hj
  have : R sp g (j + 1) = ⊤ := by
    have e1 : ∑ i ∈ Finset.Ico (j + 1) e, sp i + R sp g e = R sp g (j + 1) := Finset.sum_Ico_consecutive sp hj.2 heg
    rw [← e1, hd]
    exact EReal.add_top_of_ne_bot (EReal.bot_lt_zero.trans_le (Finset.sum_nonneg fun i _ => hsp i)).ne'
  rw [W, this, wk_top, zero_mul]

end Cert.Proof.Alg

end
-- ==== Proof.Alg.Group.lean ====
/-
  The kernel's operations on one group of 512 keys, read at a row of the query block: with `z j` the score
  of key `j` (in the kernel's units), `spk (z j)` its softplus, and `s` the first key of the group, what the
  group adds to the carried sum and to the weighted values, in the terms of `Proof.Alg.Row`.
-/
module

public import proofs.«01_k».proof.Proof.KI.Common
public import proofs.«01_k».proof.Proof.Alg.Row
public import Idealize.ShloMosaic.Lib.Pointwise

@[expose] public section

noncomputable section

namespace Cert.Proof.Alg

open Cert.KernelIdeal Cert.KernelIdeal.Gen Idealize.ShloMosaic

theorem named_log2e : (Named.named κ "log2e" 0x3FB8AA3B#32 : Ideal .f32) = (L : EReal) := rfl
theorem named_dead : (Named.named κ "dead" 0x43200000#32 : Ideal .f32) = (⊤ : EReal) := rfl

theorem exp2_eq (x : Ideal .f32) : FloatOps.exp2 (F := Ideal) x = Ideal.exp2 x := rfl
theorem absf_eq (x : Ideal .f32) : (FloatOps.absf (F := Ideal) x : EReal) = max x (-x) := rfl

/-- The triangular matrix: one above a column, zero elsewhere. -/
theorem later_apply (r c : Fin 256) : (k0_pay13 (F := Ideal) (ix2 r c) : EReal) = if c.val < r.val then (1 : EReal) else 0 := by
  pointwise [k0_pay13]
  have h : ∀ r c : Fin 256, IntOp.cmpi CmpIPredicate.sgt (BitVec.ofNat 32 r.val) (BitVec.ofNat 32 c.val)
      = if c.val < r.val then 1#1 else 0#1 := by
    intro r c
    have : (BitVec.ofNat 32 c.val).slt (BitVec.ofNat 32 r.val) = decide (c.val < r.val) := by
      rw [BitVec.slt_eq_decide]
      congr 1
      rw [BitVec.toInt_ofNat', BitVec.toInt_ofNat']
      simp only [Int.bmod_def]
      have := r.isLt; have := c.isLt
      apply propext
      omega
    show BitVec.ofBool ((BitVec.ofNat 32 c.val).slt (BitVec.ofNat 32 r.val)) = _
    rw [this]
    by_cases h : c.val < r.val <;> simp [h]
  rw [h]
  by_cases h : c.val < r.val <;> simp [h, Scalar.select]

section
variable (q : FVec Ideal S256x128 .bf16) (kk vv : Vec Ideal S512x128 .bf16) (r : Fin 256) (d : Fin 128)

theorem pay16_apply (c : Fin 512) : (k0_pay16 q kk (ix2 r c) : EReal) = ∑ x : Fin 128, (q (ix2 r x) : EReal) * kk (ix2 c x) := by
  pointwise [k0_pay16]

theorem pay26_apply (c : Fin 512) : (k0_pay26 q kk (ix2 r c) : EReal) = ∑ x : Fin 128, (q (ix2 r x) : EReal) * kk (ix2 c x) := by
  pointwise [k0_pay26]

theorem pay17_apply (c : Fin 512) : (k0_pay17 q kk (ix2 r c) : EReal) = spk (∑ x : Fin 128, (q (ix2 r x) : EReal) * kk (ix2 c x)) := by
  pointwise [k0_pay17, k0_pay16]
  rw [named_log2e, exp2_eq, absf_eq]
  rfl

theorem pay27_apply (c : Fin 512) : (k0_pay27 q kk (ix2 r c) : EReal) = spk (∑ x : Fin 128, (q (ix2 r x) : EReal) * kk (ix2 c x)) := by
  pointwise [k0_pay27, k0_pay26]
  rw [named_log2e, exp2_eq, absf_eq]
  rfl

variable {z v : ℕ → EReal} {s e g : ℕ}
  (hz : ∀ c : Fin 512, ∑ x : Fin 128, (q (ix2 r x) : EReal) * kk (ix2 c x) = z (s + c.val))
  (hv : ∀ c : Fin 512, (vv (ix2 c d) : EReal) = v (s + c.val))

/-- A mask cutting the keys of the group from `e` on. -/
def Cuts (m : IVec S256x512 1) (r : Fin 256) (s e : ℕ) : Prop :=
  ∀ c : Fin 512, m (ix2 r c) = if s + c.val < e then 1#1 else 0#1

theorem Cuts.lo {m : IVec S256x512 1} {r : Fin 256} {s e : ℕ} (hm : Cuts m r s e) (x : Fin 256) :
    m (ix2 r ⟨x.val, by omega⟩) = if s + x.val < e then 1#1 else 0#1 := hm ⟨x.val, by omega⟩

theorem Cuts.hi {m : IVec S256x512 1} {r : Fin 256} {s e : ℕ} (hm : Cuts m r s e) (x : Fin 256) :
    m (ix2 r ⟨256 + x.val, by omega⟩) = if s + 256 + x.val < e then 1#1 else 0#1 := by
  rw [hm ⟨256 + x.val, by omega⟩, Nat.add_assoc]

theorem select_cut {b : BitVec 1} {p : Prop} [Decidable p] (hb : b = if p then 1#1 else 0#1) (x y : EReal) :
    Scalar.select b x y = if p then x else y := by
  subst hb; by_cases h : p <;> simp [h, Scalar.select]

theorem select_cut_sp {b : BitVec 1} {sp : ℕ → EReal} {j e : ℕ} (hb : b = if j < e then 1#1 else 0#1) :
    Scalar.select b (sp j) (0 : EReal) = cut sp e j := select_cut hb _ _

theorem select_cut_mul {b : BitVec 1} {sp : ℕ → EReal} {j e : ℕ} (hb : b = if j < e then 1#1 else 0#1) (t : EReal) :
    Scalar.select b (sp j * t) (0 : EReal) = cut sp e j * t := by
  rw [select_cut hb]; unfold cut; split <;> simp

/-! ## The first group -/

section
variable (n m : BitVec 32) (hm : Cuts (k0_pay19 n m 256#32) r s e) (run : FVec Ideal S256x1 .f32)
  (hrun : (run (ix2 r 0) : EReal) = R (fun j => spk (z j)) g e) (h1 : s ≤ e) (h2 : e ≤ s + 512) (heg : e ≤ g)

include hz in
theorem pay17_at (j : ℕ) (c : Fin 512) (hj : j = s + c.val) : (k0_pay17 q kk (ix2 r c) : EReal) = (fun j => spk (z j)) j := by
  rw [pay17_apply, hz, hj]

include hz hm hrun h2 heg in
theorem pay22_apply (c : Fin 256) (hc : s + 256 + c.val < e) :
    (k0_pay22 n q k0_pay13 m run 256#32 kk (ix2 r c) : EReal) = R (fun j => spk (z j)) g (s + 256 + c.val + 1) := by
  pointwise [k0_pay22, k0_pay21, k0_pay20]
  rw [hrun, ← part_hi (fun j => spk (z j)) c.val hc h2 heg]
  congr 1
  refine Finset.sum_congr rfl fun x _ => ?_
  rw [pay17_at q kk r hz (s + 256 + x.val) _ (by simp only; omega), later_apply]
  exact select_cut_mul (sp := fun j => spk (z j)) (hm.hi x) _

include hz hm hrun in
theorem pay23_apply :
    (k0_pay23 n q m run 256#32 kk (ix2 r 0) : EReal) = R (fun j => spk (z j)) g e
      + ∑ x : Fin 256, cut (fun j => spk (z j)) e (s + 256 + x.val) := by
  pointwise [k0_pay23, k0_pay21, k0_pay20]
  rw [hrun]
  congr 1
  refine Finset.sum_congr rfl fun x _ => ?_
  rw [pay17_at q kk r hz (s + 256 + x.val) _ (by simp only; omega)]
  exact select_cut_sp (sp := fun j => spk (z j)) (hm.hi x)

include hz hm hrun h2 heg in
theorem pay25_apply (c : Fin 256) (hc : s + c.val < e) :
    (k0_pay25 n q k0_pay13 m run 256#32 kk (ix2 r c) : EReal) = R (fun j => spk (z j)) g (s + c.val + 1) := by
  pointwise [k0_pay25, k0_pay24, k0_pay20]
  rw [pay23_apply q kk r hz n m hm run hrun, ← part_lo (fun j => spk (z j)) c.val c.isLt hc h2 heg]
  congr 1
  refine Finset.sum_congr rfl fun x _ => ?_
  rw [pay17_at q kk r hz (s + x.val) _ rfl, later_apply]
  exact select_cut_mul (sp := fun j => spk (z j)) (hm.lo x) _

include hz hm hrun h1 h2 heg in
/-- The carried sum after the first group. -/
theorem first_run :
    (k0_pay1 (k0_pay23 n q m run 256#32 kk) (k0_pay24 n q m 256#32 kk) (ix2 r 0) : EReal) = R (fun j => spk (z j)) g s := by
  pointwise [k0_pay1, k0_pay24, k0_pay20]
  rw [pay23_apply q kk r hz n m hm run hrun, ← run_step (fun j => spk (z j)) h1 h2 heg]
  congr 1
  refine Finset.sum_congr rfl fun x _ => ?_
  rw [pay17_at q kk r hz (s + x.val) _ rfl]
  exact select_cut_sp (sp := fun j => spk (z j)) (hm.lo x)

include hz hv hm hrun h1 h2 heg in
/-- The weighted values after the first group. -/
theorem first_acc (acc : FVec Ideal S256x128 .f32) (hacc : (acc (ix2 r d) : EReal) = O z (fun j => spk (z j)) v g e) :
    (k0_pay2 acc (k0_pay18 q kk) (k0_pay19 n m 256#32) (k0_pay22 n q k0_pay13 m run 256#32 kk)
      (k0_pay25 n q k0_pay13 m run 256#32 kk) vv (ix2 r d) : EReal) = O z (fun j => spk (z j)) v g s := by
  pointwise [k0_pay2, k0_pay18]
  rw [hacc, ← acc_step_halves z (fun j => spk (z j)) v h1 h2 heg]
  congr 2
  · refine Finset.sum_congr rfl fun x _ => ?_
    rw [select_cut (hm.lo x)]
    by_cases hc : s + x.val < e
    · rw [if_pos hc, if_pos hc, hv, pay16_apply, hz, pay17_apply, hz, exp2_eq, pay25_apply q kk r hz n m hm run hrun h2 heg x hc]
      rfl
    · rw [if_neg hc, if_neg hc]
  · refine Finset.sum_congr rfl fun x _ => ?_
    rw [select_cut (hm.hi x)]
    by_cases hc : s + 256 + x.val < e
    · rw [if_pos hc, if_pos hc, hv, pay16_apply, hz, pay17_apply, hz, exp2_eq, pay22_apply q kk r hz n m hm run hrun h2 heg x hc,
        ← Nat.add_assoc]
      rfl
    · rw [if_neg hc, if_neg hc]

end

/-! ## A group of the loop -/

section
variable (run : FVec Ideal S256x1 .f32) (hrun : (run (ix2 r 0) : EReal) = R (fun j => spk (z j)) g (s + 512)) (heg : s + 512 ≤ g)

theorem cut_lo (sp : ℕ → EReal) (x : Fin 256) : sp (s + x.val) = cut sp (s + 512) (s + x.val) :=
  (if_pos (by omega)).symm

theorem cut_hi (sp : ℕ → EReal) (x : Fin 256) : sp (s + (256 + x.val)) = cut sp (s + 512) (s + 256 + x.val) := by
  rw [← Nat.add_assoc]; exact (if_pos (by omega)).symm

include hz hrun in
theorem pay29_apply : (k0_pay29 q run kk (ix2 r 0) : EReal) = R (fun j => spk (z j)) g (s + 512)
      + ∑ x : Fin 256, cut (fun j => spk (z j)) (s + 512) (s + 256 + x.val) := by
  pointwise [k0_pay29, k0_pay28]
  rw [hrun]
  congr 1
  refine Finset.sum_congr rfl fun x _ => ?_
  rw [pay27_apply, hz]
  exact cut_hi (fun j => spk (z j)) x

include hz hrun heg in
/-- The carried sum after a group of the loop. -/
theorem next_run : (k0_pay31 q run kk (ix2 r 0) : EReal) = R (fun j => spk (z j)) g s := by
  pointwise [k0_pay31, k0_pay30]
  rw [pay29_apply q kk r hz run hrun, ← run_step (fun j => spk (z j)) (Nat.le_add_right s 512) le_rfl heg]
  congr 1
  refine Finset.sum_congr rfl fun x _ => ?_
  rw [pay27_apply, hz]
  exact cut_lo (fun j => spk (z j)) x

include hz hv hrun heg in
/-- The weighted values after a group of the loop. -/
theorem next_acc (acc : FVec Ideal S256x128 .f32) (hacc : (acc (ix2 r d) : EReal) = O z (fun j => spk (z j)) v g (s + 512)) :
    (k0_pay7 acc (k0_pay32 q k0_pay13 run kk vv) (ix2 r d) : EReal) = O z (fun j => spk (z j)) v g s := by
  pointwise [k0_pay7, k0_pay32, k0_pay28, k0_pay30]
  rw [hacc, ← acc_step_halves z (fun j => spk (z j)) v (Nat.le_add_right s 512) le_rfl heg]
  congr 2
  · refine Finset.sum_congr rfl fun x _ => ?_
    have hc : s + x.val < s + 512 := by omega
    rw [if_pos hc, hv, pay26_apply, hz, pay27_apply, hz, exp2_eq, pay29_apply q kk r hz run hrun]
    have e1 : ∑ y : Fin 256, (k0_pay27 q kk (ix2 r ⟨y.val, by omega⟩) : EReal) * k0_pay13 (F := Ideal) (ix2 y x)
        = ∑ y : Fin 256, cut (fun j => spk (z j)) (s + 512) (s + y.val) * (if x.val < y.val then (1 : EReal) else 0) :=
      Finset.sum_congr rfl fun y _ => by
        rw [pay27_apply, hz, later_apply]; exact congrArg (· * _) (cut_lo (fun j => spk (z j)) y)
    rw [e1, part_lo (fun j => spk (z j)) x.val x.isLt hc le_rfl heg]
    rfl
  · refine Finset.sum_congr rfl fun x _ => ?_
    have hc : s + 256 + x.val < s + 512 := by omega
    rw [if_pos hc, hv, pay26_apply, hz, pay27_apply, hz, exp2_eq, hrun]
    have e1 : ∑ y : Fin 256, (k0_pay27 q kk (ix2 r ⟨256 + y.val, by omega⟩) : EReal) * k0_pay13 (F := Ideal) (ix2 y x)
        = ∑ y : Fin 256, cut (fun j => spk (z j)) (s + 512) (s + 256 + y.val) * (if x.val < y.val then (1 : EReal) else 0) :=
      Finset.sum_congr rfl fun y _ => by
        rw [pay27_apply, hz, later_apply]; exact congrArg (· * _) (cut_hi (fun j => spk (z j)) y)
    rw [e1, part_hi (fun j => spk (z j)) x.val hc le_rfl heg, ← Nat.add_assoc]
    rfl

end

/-! ## The block left over -/

section
variable (n m : BitVec 32) (hm : Cuts (k0_pay8 n m) r s e) (run : FVec Ideal S256x1 .f32)
  (hrun : (run (ix2 r 0) : EReal) = R (fun j => spk (z j)) g e) (h1 : s ≤ e) (h2 : e ≤ s + 512) (heg : e ≤ g)

include hz hv hm hrun h1 h2 heg in
/-- The weighted values with the block left over. -/
theorem last_acc (acc : FVec Ideal S256x128 .f32) (hacc : (acc (ix2 r d) : EReal) = O z (fun j => spk (z j)) v g e) :
    (k0_pay4 acc (k0_pay8 n m) (k0_pay9 n q k0_pay13 m run kk) (Scalar.ofBits .f32 0x00000000#32) vv (ix2 r d) : EReal)
      = O z (fun j => spk (z j)) v g s := by
  have hw : ∀ c : Fin 512, s + c.val < e →
      (k0_pay9 n q k0_pay13 m run kk (ix2 r c) : EReal) = W z (fun j => spk (z j)) g (s + c.val) := by
    intro c hc
    have hs : ∀ t : EReal, max t 0 + Ideal.log (1 + Ideal.exp2 (0 - max t (-t))) * (L : EReal) = spk t := fun _ => rfl
    pointwise [k0_pay9]
    simp only [hz, named_log2e, exp2_eq, absf_eq, hs, later_apply, hrun]
    have elo : ∀ (x : Fin 256) (t : EReal), Scalar.select (k0_pay8 n m (ix2 r ⟨x.val, by omega⟩)) (spk (z (s + x.val)) * t) (0 : EReal)
        = cut (fun j => spk (z j)) e (s + x.val) * t := fun x t => select_cut_mul (sp := fun j => spk (z j)) (hm.lo x) t
    have ehi : ∀ (x : Fin 256) (t : EReal), Scalar.select (k0_pay8 n m (ix2 r ⟨256 + x.val, by omega⟩)) (spk (z (s + (256 + x.val))) * t) (0 : EReal)
        = cut (fun j => spk (z j)) e (s + 256 + x.val) * t := fun x t => by
      rw [← Nat.add_assoc]; exact select_cut_mul (sp := fun j => spk (z j)) (hm.hi x) t
    have ehi' : ∀ (x : Fin 256), Scalar.select (k0_pay8 n m (ix2 r ⟨256 + x.val, by omega⟩)) (spk (z (s + (256 + x.val)))) (0 : EReal)
        = cut (fun j => spk (z j)) e (s + 256 + x.val) := fun x => by
      rw [← Nat.add_assoc]; exact select_cut_sp (sp := fun j => spk (z j)) (hm.hi x)
    simp only [elo, ehi, ehi']
    unfold W wk
    congr 2
    split
    · next h => exact part_lo (fun j => spk (z j)) c.val h hc h2 heg
    · next h =>
      have h' : s + 256 + (c.val - 256) = s + c.val := by omega
      rw [part_hi (fun j => spk (z j)) (c.val - 256) (by omega) h2 heg, h']
  pointwise [k0_pay4]
  rw [hacc, ← acc_step z (fun j => spk (z j)) v h1 h2 heg]
  congr 1
  refine Finset.sum_congr rfl fun x _ => ?_
  rw [hv, select_cut (hm x)]
  by_cases hc : s + x.val < e
  · rw [if_pos hc, if_pos hc, hw x hc]
  · rw [if_neg hc, if_neg hc]; rw [zero_mul]

end

end

end Cert.Proof.Alg

end
-- ==== Proof.Alg.Block.lean ====
/-
  What the kernel stores at one grid point, read at a row `r` and a column `d` of the block: the weighted
  values of all the keys below the row's query, `O … 0`. The loop keeps, from group to group, the two sums
  over the keys already passed (`St`); it may end early, and then every row's sum is infinite, so that the
  keys left weigh nothing.
-/
module

public import proofs.«01_k».proof.Proof.Alg.Group

@[expose] public section

noncomputable section

namespace Cert.Proof.Alg

open Cert.KernelIdeal Cert.KernelIdeal.Gen Idealize.ShloMosaic Cert.Proof.KI

/-! ## Words -/

theorem slt_ofNat (a b : ℕ) (ha : a < 2 ^ 31) (hb : b < 2 ^ 31) :
    IntOp.cmpi CmpIPredicate.slt (BitVec.ofNat 32 a) (BitVec.ofNat 32 b) = if a < b then 1#1 else 0#1 := by
  have : (BitVec.ofNat 32 a).slt (BitVec.ofNat 32 b) = decide (a < b) := by
    rw [BitVec.slt_eq_decide]
    congr 1
    rw [BitVec.toInt_ofNat', BitVec.toInt_ofNat']
    simp only [Int.bmod_def]
    apply propext
    omega
  show BitVec.ofBool ((BitVec.ofNat 32 a).slt (BitVec.ofNat 32 b)) = _
  rw [this]
  by_cases h : a < b <;> simp [h]

theorem addi_ofNat (a b : ℕ) : IntOp.addi (BitVec.ofNat 32 a) (BitVec.ofNat 32 b) = BitVec.ofNat 32 (a + b) :=
  (BitVec.ofNat_add a b).symm

theorem w15_mul : ∀ n < 32, Scalar.muli (w15 n) 256#32 = BitVec.ofNat 32 ((n - 1) * 256) := by decide +kernel
theorem w1_mul : ∀ n < 32, Scalar.muli (w1 n) 256#32 = BitVec.ofNat 32 (n * 256) := by decide +kernel
theorem w1_succ_mul : ∀ n < 32, Scalar.muli (Scalar.addi (w1 n) 1#32) 256#32 = BitVec.ofNat 32 ((n + 1) * 256) := by decide +kernel
theorem w34_pos : ∀ n < 32, Scalar.cmpi .sgt (w34 n) 0#32 = if (n - 1) % 2 = 1 then 1#1 else 0#1 := by decide +kernel
theorem w34_mul : ∀ n < 32, (n - 1) % 2 = 1 → Scalar.muli (w34 n) 256#32 = BitVec.ofNat 32 256 := by decide +kernel
theorem w32_inj : ∀ n < 32, ∀ j < 17, Scalar.cmpi .eq (BitVec.ofNat 32 j) (w32 n) = if j = (n - 1) / 2 then 1#1 else 0#1 := by decide +kernel
theorem off1_val : ∀ n < 32, (Scalar.indexCast (Scalar.muli (w15 n) 256#32) : Index).toNat = (n - 1) * 256 := by decide +kernel

/-- The mask of the first group. -/
theorem cuts_first (n : ℕ) (hn : n < 32) (r : Fin 256) : Cuts (k0_pay19 (w1 n) (w15 n) 256#32) r ((n - 1) * 256) (n * 256 + r.val) := by
  intro c
  pointwise [k0_pay19]
  rw [w15_mul n hn, w1_mul n hn, w1_succ_mul n hn, addi_ofNat, addi_ofNat, slt_ofNat _ _ (by omega) (by omega),
    slt_ofNat _ _ (by omega) (by omega)]
  by_cases h : (n - 1) * 256 + c.val < n * 256 + r.val
  · rw [if_pos h, if_pos (by omega)]; rfl
  · rw [if_neg h]; split <;> rfl

/-- The mask of the block left over. -/
theorem cuts_last (n : ℕ) (hn : n < 32) (hl : (n - 1) % 2 = 1) (r : Fin 256) : Cuts (k0_pay8 (w1 n) (w34 n)) r 0 256 := by
  intro c
  pointwise [k0_pay8]
  rw [show (0#32 : BitVec 32) = BitVec.ofNat 32 0 from rfl, w34_mul n hn hl, w1_mul n hn, addi_ofNat, addi_ofNat,
    slt_ofNat _ _ (by omega) (by omega), slt_ofNat _ _ (by omega) (by omega)]
  simp only [Nat.zero_add]
  by_cases h : c.val < 256
  · rw [if_pos h, if_pos (by omega)]; rfl
  · rw [if_neg h]; split <;> rfl

/-! ## The rows of the keys and values -/

/-- The score of key `j` for row `r`. -/
def score (q : FVec Ideal S256x128 .bf16) (kb : Vec Ideal S8192x128 .bf16) (r : Fin 256) (j : ℕ) : EReal :=
  if h : j < 8192 then ∑ x : Fin 128, (q (ix2 r x) : EReal) * kb (ix2 ⟨j, h⟩ x) else 0

/-- Column `d` of the values. -/
def val (vb : Vec Ideal S8192x128 .bf16) (d : Fin 128) (j : ℕ) : EReal :=
  if h : j < 8192 then vb (ix2 ⟨j, h⟩ d) else 0

theorem rows_apply (X : Vec Ideal S8192x128 .bf16) (s : ℕ) (off : Fin 2 → ℕ) (ho : off = ![s, 0]) (h) (c : Fin 512) (x : Fin 128)
    (hs : s + c.val < 8192) : (rows X off h (ix2 c x) : EReal) = X (ix2 ⟨s + c.val, hs⟩ x) := by
  subst ho
  show X _ = X _
  congr 1
  funext a
  apply Fin.ext
  match a with
  | ⟨0, _⟩ => show s + 1 * c.val = s + c.val; omega
  | ⟨1, _⟩ => show 0 + 1 * x.val = x.val; omega

theorem score_rows (q : FVec Ideal S256x128 .bf16) (kb : Vec Ideal S8192x128 .bf16) (r : Fin 256) (s : ℕ) (off : Fin 2 → ℕ) (ho : off = ![s, 0]) (h)
    (hs : s + 512 ≤ 8192) (c : Fin 512) :
    ∑ x : Fin 128, (q (ix2 r x) : EReal) * rows kb off h (ix2 c x) = score q kb r (s + c.val) := by
  rw [score, dif_pos (show s + c.val < 8192 by omega)]
  exact Finset.sum_congr rfl fun x _ => by rw [rows_apply kb s off ho h c x (by omega)]

theorem val_rows (vb : Vec Ideal S8192x128 .bf16) (d : Fin 128) (s : ℕ) (off : Fin 2 → ℕ) (ho : off = ![s, 0]) (h)
    (hs : s + 512 ≤ 8192) (c : Fin 512) : (rows vb off h (ix2 c d) : EReal) = val vb d (s + c.val) := by
  rw [val, dif_pos (show s + c.val < 8192 by omega), rows_apply vb s off ho h c d (by omega)]

/-! ## The loop -/

/-- The two carried arrays once the keys from `s` on are passed. -/
def St (n : ℕ) (q : FVec Ideal S256x128 .bf16) (kb vb : Vec Ideal S8192x128 .bf16) (acc : FVec Ideal S256x128 .f32) (run : FVec Ideal S256x1 .f32)
    (s : ℕ) : Prop :=
  (∀ r : Fin 256, (run (ix2 r 0) : EReal) = R (fun j => spk (score q kb r j)) (n * 256 + r.val) s) ∧
  ∀ (r : Fin 256) (d : Fin 128), (acc (ix2 r d) : EReal)
    = O (score q kb r) (fun j => spk (score q kb r j)) (val vb d) (n * 256 + r.val) s

theorem live_iff (run : FVec Ideal S256x1 .f32) (h : live run ≠ 1#1) (r : Fin 256) : (run (ix2 r 0) : EReal) = ⊤ := by
  by_contra hr
  apply h
  have : (k0_pay6 run : EReal) < ⊤ := by
    pointwise [k0_pay6]
    refine (Finset.fold_min_lt (c := ⊤)).2 (.inr ⟨(r, 0), Finset.mem_univ _, lt_top_iff_ne_top.2 hr⟩)
  unfold live
  rw [named_dead]
  show BitVec.ofBool (decide ((k0_pay6 run : EReal) < ⊤)) = 1#1
  rw [decide_eq_true this]; rfl

variable (i : grid0.Coords) (q : FVec Ideal S256x128 .bf16) (kb vb : Vec Ideal S8192x128 .bf16)

theorem first_St : St (i 1).val q kb vb (first i q kb vb).1 (first i q kb vb).2 (((i 1).val - 1) * 256) := by
  have hn : (i 1).val < 32 := (i 1).isLt
  have ho : k0_off1 i = ![((i 1).val - 1) * 256, 0] := by rw [off1_eq, off1_val _ hn]
  have hR : ∀ r : Fin 256, (k0_pay15 (F := Ideal) (ix2 r 0) : EReal)
      = R (fun j => spk (score q kb r j)) ((i 1).val * 256 + r.val) ((i 1).val * 256 + r.val) := fun r => by
    rw [R, Finset.Ico_self, Finset.sum_empty]; pointwise [k0_pay15]
  refine ⟨fun r => ?_, fun r d => ?_⟩
  · have := r.isLt
    exact first_run q _ r (fun c => score_rows q kb r _ _ ho _ (by omega) c) _ _ (cuts_first _ hn r) k0_pay15 (hR r) (by omega) (by omega) le_rfl
  · have := r.isLt
    refine first_acc q _ _ r d (fun c => score_rows q kb r _ _ ho _ (by omega) c) (fun c => val_rows vb d _ _ ho _ (by omega) c) _ _
      (cuts_first _ hn r) k0_pay15 (hR r) (by omega) (by omega) le_rfl k0_pay14 ?_
    rw [O, Finset.Ico_self, Finset.sum_empty]; pointwise [k0_pay14]

theorem loop_St (k j : ℕ) (acc : FVec Ideal S256x128 .f32) (run : FVec Ideal S256x1 .f32) (hk : j + k = ((i 1).val - 1) / 2)
    (h : St (i 1).val q kb vb acc run (((i 1).val - 1 - 2 * j) * 256)) :
    ∃ j', j' ≤ ((i 1).val - 1) / 2 ∧ (loop i q k0_pay13 kb vb k j acc run).1 = BitVec.ofNat 32 j' ∧
      St (i 1).val q kb vb (loop i q k0_pay13 kb vb k j acc run).2.1 (loop i q k0_pay13 kb vb k j acc run).2.2 (((i 1).val - 1 - 2 * j') * 256) ∧
      (j' = ((i 1).val - 1) / 2 ∨ live (loop i q k0_pay13 kb vb k j acc run).2.2 ≠ 1#1) := by
  have hn : (i 1).val < 32 := (i 1).isLt
  induction k generalizing j acc run with
  | zero => exact ⟨j, by omega, rfl, h, .inl (by omega)⟩
  | succ k ih =>
    unfold loop
    by_cases hl : live run = 1#1
    · have hj : j < ((i 1).val - 1) / 2 := by omega
      rw [if_pos hl, dif_pos (chk i j hj)]
      have ho : k0_off2 i (BitVec.ofNat 32 j) = ![((i 1).val - 1 - 2 * (j + 1)) * 256, 0] := by rw [off2_eq, start_eq _ hn _ hj]
      have es : ((i 1).val - 1 - 2 * j) * 256 = ((i 1).val - 1 - 2 * (j + 1)) * 256 + 512 := by omega
      rw [es] at h
      refine ih (j + 1) _ _ (by omega) ⟨fun r => ?_, fun r d => ?_⟩
      · exact next_run q _ r (fun c => score_rows q kb r _ _ ho _ (by omega) c) run (h.1 r) (by omega)
      · exact next_acc q _ _ r d (fun c => score_rows q kb r _ _ ho _ (by omega) c) (fun c => val_rows vb d _ _ ho _ (by omega) c) run (h.1 r)
          (by omega) acc (h.2 r d)
    · rw [if_neg hl]
      exact ⟨j, by omega, rfl, h, .inr hl⟩

/-- The weighted sum that a point leaves: all the keys below the query. -/
theorem last_apply (r : Fin 256) (d : Fin 128) :
    (last i q kb vb (looped i q kb vb) (ix2 r d) : EReal)
      = O (score q kb r) (fun j => spk (score q kb r j)) (val vb d) ((i 1).val * 256 + r.val) 0 := by
  have hn : (i 1).val < 32 := (i 1).isLt
  obtain ⟨j, hj, e1, hSt, hend⟩ := loop_St i q kb vb (((i 1).val - 1) / 2) 0 _ _ (by omega) (first_St i q kb vb)
  change (looped i q kb vb).1 = _ at e1
  change St (i 1).val q kb vb (looped i q kb vb).2.1 (looped i q kb vb).2.2 _ at hSt
  change _ ∨ live (looped i q kb vb).2.2 ≠ 1#1 at hend
  generalize looped i q kb vb = res at *
  have ht : tail (i 1).val res = 1#1 ↔ j = ((i 1).val - 1) / 2 ∧ ((i 1).val - 1) % 2 = 1 ∧ live res.2.2 = 1#1 := by
    have e3 : Scalar.cmpf .olt (k0_pay3 res.2.2) (Named.named κ "dead" 0x43200000#32 : Ideal .f32) = live res.2.2 := rfl
    unfold tail
    rw [e1, w32_inj _ hn _ (by omega), w34_pos _ hn, e3]
    have hb : ∀ b : BitVec 1, b = 0#1 ∨ b = 1#1 := by decide
    rcases hb (live res.2.2) with hb | hb <;> rw [hb] <;> by_cases h1 : j = ((i 1).val - 1) / 2 <;>
      by_cases h2 : ((i 1).val - 1) % 2 = 1 <;> simp only [h1, h2] <;> decide
  unfold last
  by_cases htl : tail (i 1).val res = 1#1
  · rw [if_pos htl]
    obtain ⟨h1, h2, -⟩ := ht.1 htl
    have es : ((i 1).val - 1 - 2 * j) * 256 = 256 := by omega
    rw [es] at hSt
    exact last_acc q _ _ r d (fun c => score_rows q kb r 0 _ rfl _ (by omega) c) (fun c => val_rows vb d 0 _ rfl _ (by omega) c) _ _
      (cuts_last _ hn h2 r) res.2.2 (hSt.1 r) (by omega) (by omega) (by omega) res.2.1 (hSt.2 r d)
  · rw [if_neg htl, hSt.2 r d]
    by_cases hl : live res.2.2 = 1#1
    · have h1 : j = ((i 1).val - 1) / 2 := hend.resolve_right (not_not.2 hl)
      have h2 : ¬ ((i 1).val - 1) % 2 = 1 := fun h2 => htl (ht.2 ⟨h1, h2, hl⟩)
      have es : ((i 1).val - 1 - 2 * j) * 256 = 0 := by omega
      rw [es]
    · refine (O_dead _ _ _ (fun j => ?_) (Nat.zero_le _) (by omega) ((hSt.1 r).symm.trans (live_iff _ hl r))).symm
      exact spk_nonneg _

end Cert.Proof.Alg

end
-- ==== Proof.Alg.Kernel.lean ====
/-
  The kernel's result, at an element: in column `h·128 + d` of row `g`, the weighted values, column `d` of
  head `h`, of all the keys below query `g` (`kv`). The columns of the argument hold the queries of the 16
  heads, then their keys from column 2048 on, then their values from column 4096 on.
-/
module

public import proofs.«01_k».proof.Proof.KI.Run
public import proofs.«01_k».proof.Proof.Alg.Block
public import Idealize.ShloMosaic.Lib.Pipeline.ValueKit

@[expose] public section

noncomputable section

namespace Cert.Proof.Alg

open Cert.KernelIdeal Cert.KernelIdeal.Gen Idealize.ShloMosaic Idealize.ShloMosaic.TcCoe Cert.Proof.KI

/-- The scale of the scores: the reciprocal of the square root of the head size, as the program rounds it. -/
def SC : ℝ := 11863283 / 134217728

theorem named_scale : (Named.named κ "scale_log2e" 0x3E0293EE#32 : Ideal .f32) = ((SC * L : ℝ) : EReal) := rfl

/-- The argument at a row and a column. -/
def arg (x : S8192x12288.Idx → EReal) (a b : ℕ) : EReal := if h : a < 8192 ∧ b < 12288 then x (ix2 ⟨a, h.1⟩ ⟨b, h.2⟩) else 0

/-- The score of key `j` for query `g` in head `h`. -/
def sc (x : S8192x12288.Idx → EReal) (h g j : ℕ) : EReal :=
  (∑ d : Fin 128, arg x g (h * 128 + d.val) * arg x j (2048 + h * 128 + d.val)) * (SC : EReal)

/-- The weighted values of the keys below query `g`. -/
def kv (x : S8192x12288.Idx → EReal) (h g d : ℕ) : EReal :=
  O (fun j => sc x h g j * (L : EReal)) (fun j => spk (sc x h g j * (L : EReal))) (fun j => arg x j (4096 + h * 128 + d)) g 0

theorem sum_mul_pos {ι : Type*} (S : Finset ι) (f : ι → EReal) {a : ℝ} (ha : 0 ≤ a) :
    ∑ i ∈ S, f i * (a : EReal) = (∑ i ∈ S, f i) * (a : EReal) := by
  classical
  induction S using Finset.induction_on with
  | empty => simp
  | insert b S hb ih =>
    rw [Finset.sum_insert hb, Finset.sum_insert hb, ih,
      EReal.right_distrib_of_nonneg_of_ne_top (by exact_mod_cast ha) (EReal.coe_ne_top _)]

/-- `O` depends on the keys below `g` alone. -/
theorem O_congr {z z' v v' : ℕ → EReal} {g : ℕ} (hz : ∀ j < g, z j = z' j) (hv : ∀ j < g, v j = v' j) (s : ℕ) :
    O z (fun j => spk (z j)) v g s = O z' (fun j => spk (z' j)) v' g s := by
  unfold O
  refine Finset.sum_congr rfl fun j hj => ?_
  have hj := (Finset.mem_Ico.1 hj).2
  rw [hv j hj, W, W, hz j hj]
  have : R (fun j => spk (z j)) g (j + 1) = R (fun j => spk (z' j)) g (j + 1) :=
    Finset.sum_congr rfl fun k hk => congrArg spk (hz k (Finset.mem_Ico.1 hk).2)
  rw [this]

variable (m : (ℓ : Loc nD τ sig) → Buf (Elt Ideal) ℓ) (c : Dev nD)

/-- The argument on a device. -/
abbrev x0 : S8192x12288.Idx → EReal := m (c.tc.loc main_arg0)

theorem idx0 : ∀ t : Fin grid0.N, win0_0.index t = ![(grid0.coords t 1).val, (grid0.coords t 0).val] := by decide +kernel
theorem idx1 : ∀ t : Fin grid0.N, win0_1.index t = ![0, 16 + (grid0.coords t 0).val] := by decide +kernel
theorem idx2 : ∀ t : Fin grid0.N, win0_2.index t = ![0, 32 + (grid0.coords t 0).val] := by decide +kernel
theorem idx3 : ∀ t : Fin grid0.N, win0_3.index t = ![(grid0.coords t 1).val, (grid0.coords t 0).val] := by decide +kernel

theorem q_apply (t : Fin (cfg0 (F := Ideal)).N) (r : Fin 256) (d : Fin 128) :
    (qOf m c t (ix2 r d) : EReal) = arg (x0 m c) ((grid0.coords t 1).val * 256 + r.val) ((grid0.coords t 0).val * 128 + d.val) := by
  have h1 : (grid0.coords t 1).val < 32 := (grid0.coords t 1).isLt
  have h0 : (grid0.coords t 0).val < 16 := (grid0.coords t 0).isLt
  rw [arg, dif_pos ⟨by omega, by omega⟩]
  unfold qOf blkOf
  show x0 m c _ = _
  congr 1
  funext a
  apply Fin.ext
  match a with
  | ⟨0, _⟩ => blk_simp [idx0]
  | ⟨1, _⟩ => blk_simp [idx0]

theorem k_apply (t : Fin (cfg0 (F := Ideal)).N) (j : Fin 8192) (d : Fin 128) :
    (kOf m c t (ix2 j d) : EReal) = arg (x0 m c) j.val (2048 + (grid0.coords t 0).val * 128 + d.val) := by
  have h0 : (grid0.coords t 0).val < 16 := (grid0.coords t 0).isLt
  rw [arg, dif_pos ⟨by omega, by omega⟩]
  unfold kOf blkOf
  show x0 m c _ = _
  congr 1
  funext a
  apply Fin.ext
  match a with
  | ⟨0, _⟩ => blk_simp [idx1]
  | ⟨1, _⟩ => blk_simp [idx1]; show _ = 2048 + (grid0.coords t 0).val * 128 + d.val; omega

theorem v_apply (t : Fin (cfg0 (F := Ideal)).N) (j : Fin 8192) (d : Fin 128) :
    (vOf m c t (ix2 j d) : EReal) = arg (x0 m c) j.val (4096 + (grid0.coords t 0).val * 128 + d.val) := by
  have h0 : (grid0.coords t 0).val < 16 := (grid0.coords t 0).isLt
  rw [arg, dif_pos ⟨by omega, by omega⟩]
  unfold vOf blkOf
  show x0 m c _ = _
  congr 1
  funext a
  apply Fin.ext
  match a with
  | ⟨0, _⟩ => blk_simp [idx2]
  | ⟨1, _⟩ => blk_simp [idx2]; show _ = 4096 + (grid0.coords t 0).val * 128 + d.val; omega

/-- What a point stores. -/
theorem out_apply (t : Fin (cfg0 (F := Ideal)).N) (r : Fin 256) (d : Fin 128) :
    (out (grid0.coords t) (qOf m c t) (kOf m c t) (vOf m c t) (ix2 r d) : EReal)
      = kv (x0 m c) (grid0.coords t 0).val ((grid0.coords t 1).val * 256 + r.val) d.val := by
  have h1 : (grid0.coords t 1).val < 32 := (grid0.coords t 1).isLt
  have ek : (k0_pay10 (kOf m c t) : S8192x128.Idx → EReal) = kOf m c t := by funext i; pointwise [k0_pay10]
  have ev : (k0_pay11 (vOf m c t) : S8192x128.Idx → EReal) = vOf m c t := by funext i; pointwise [k0_pay11]
  have eq : ∀ d : Fin 128, (k0_pay12 (qOf m c t) (ix2 r d) : EReal) = qOf m c t (ix2 r d) * ((SC * L : ℝ) : EReal) := by
    intro d; pointwise [k0_pay12]; rw [named_scale]
  unfold out
  pointwise [k0_pay5]
  refine (last_apply _ _ _ _ r d).trans (O_congr (fun j hj => ?_) (fun j hj => ?_) 0)
  · have hj' : j < 8192 := by omega
    rw [score, dif_pos hj', sc, mul_assoc, ← EReal.coe_mul, ← sum_mul_pos _ _ (mul_nonneg (by norm_num [SC]) L_pos.le)]
    refine Finset.sum_congr rfl fun x _ => ?_
    rw [eq, q_apply, mul_right_comm]
    congr 2
    exact (congrFun ek _).trans (k_apply m c t ⟨j, hj'⟩ x)
  · have hj' : j < 8192 := by omega
    rw [val, dif_pos hj']
    exact (congrFun ev _).trans (v_apply m c t ⟨j, hj'⟩ d)

/-- The kernel's result. -/
theorem result_eq : result m c = fun i : S8192x2048.Idx => kv (x0 m c) ((i 1).val / 128) (i 0).val ((i 1).val % 128) := by
  unfold result
  refine (dats m 0 c).arrAt_eq_of_covers 3 _ (by decide +kernel) fun t hf y => ?_
  blk_simp [idx3]
  have hy : (y 1).val < 128 := (y 1).isLt
  have e1 : ((grid0.coords t 0).val * 128 + (y 1).val) / 128 = (grid0.coords t 0).val := by omega
  have e2 : ((grid0.coords t 0).val * 128 + (y 1).val) % 128 = (y 1).val := by omega
  rw [e1, e2]
  have ey : y = ix2 (⟨(y 0).val, (y 0).isLt⟩ : Fin 256) (⟨(y 1).val, hy⟩ : Fin 128) := by
    funext a
    match a with
    | ⟨0, _⟩ => rfl
    | ⟨1, _⟩ => rfl
  exact (congrArg (out (grid0.coords t) (qOf m c t) (kOf m c t) (vOf m c t)) ey).trans (out_apply m c t _ _)

end Cert.Proof.Alg

end
-- ==== Proof.Alg.Reference.lean ====
/-
  The reference's result, at an element: in column `h·128 + d` of row `g`, the values of head `h` weighted
  by the exponential of each key's log-weight, over all the keys below query `g`. Its running sum over the
  keys, taken from the far end, is read here as a sum over the keys from `j` on (`window_apply`); the
  log-terms of the keys after `j` are that sum less the term of `j` itself.
-/
module

public import proofs.«01_k».proof.Proof.Alg.Kernel
public import proofs.«01_k».proof.Proof.Gen.ReferenceIdeal.Read

@[expose] public section

noncomputable section

namespace Cert.Proof.Alg

open Cert.ReferenceIdeal Cert.ReferenceIdeal.Read Idealize.ShloMosaic Idealize.ShloMosaic.TcCoe

/-! ## The running sum -/

theorem foldl_add {ι : Type*} (f : ι → EReal) (l : List ι) (a : EReal) : l.foldl (fun r n => r + f n) a = a + (l.map f).sum := by
  induction l generalizing a with
  | nil => simp
  | cons b l ih => rw [List.foldl_cons, ih, List.map_cons, List.sum_cons, add_assoc]

/-- An index of the window, from its one coordinate. -/
def winEquiv : Fin 8192 ≃ (⟨3, ![1, 1, 8192]⟩ : Shape).Idx where
  toFun k := ix3 (0 : Fin 1) (0 : Fin 1) k
  invFun w := ⟨(w 2).val, (w 2).isLt⟩
  left_inv _ := rfl
  right_inv w := by
    funext a
    apply Fin.ext
    match a with
    | ⟨0, _⟩ => have h : (w 0).val < 1 := (w 0).isLt; show 0 = (w 0).val; omega
    | ⟨1, _⟩ => have h : (w 1).val < 1 := (w 1).isLt; show 0 = (w 1).val; omega
    | ⟨2, _⟩ => rfl

/-- A row of a three-axis array, continued by zero. -/
def line (X : S16x8192x8192.Idx → EReal) (h : Fin 16) (g : Fin 8192) (j : ℕ) : EReal := if hj : j < 8192 then X (ix3 h g ⟨j, hj⟩) else 0

theorem window_apply (X : S16x8192x8192.Idx → EReal) (init : S_.Idx → EReal) (hi : ∀ i, init i = 0) (hw hu) (h : Fin 16) (g j : Fin 8192) :
    (Host.reduceWindowAdd (F := Ideal) (φ := .f32) (s := S16x8192x8192) (t := S16x8192x8192) (u := S_) ![1, 1, 8192] ![1, 1, 1] ![0, 0, 0] ![0, 0, 8191] X init hw hu
      (ix3 h g j) : EReal) = ∑ k ∈ Finset.Ico j.val 8192, line X h g k := by
  simp only [Host.reduceWindowAdd, FloatOps.hostReduceWindowAdd, Ideal.hostReduceWindowAdd, Host.reduceWindow, hi]
  rw [foldl_add, ← Fin.sum_univ_def, zero_add,
    ← Equiv.sum_comp (Shape.rowMajor (⟨3, ![1, 1, 8192]⟩ : Shape)), ← Equiv.sum_comp winEquiv]
  have hk : ∑ k ∈ Finset.Ico j.val 8192, line X h g k = ∑ k : Fin 8192, cut (line X h g) 8192 (j.val + k.val) := by
    rw [sum_half, sum_cut _ (by omega) (by omega)]
  rw [hk]
  refine Finset.sum_congr rfl fun k _ => ?_
  simp only [Equiv.symm_apply_apply]
  unfold cut line
  by_cases hc : j.val + k.val < 8192
  · rw [if_pos hc, dif_pos hc, dif_pos]
    · congr 1
      funext a
      apply Fin.ext
      match a with
      | ⟨0, _⟩ => show h.val * 1 + 0 - 0 = h.val; omega
      | ⟨1, _⟩ => show g.val * 1 + 0 - 0 = g.val; omega
      | ⟨2, _⟩ => show j.val * 1 + k.val - 0 = j.val + k.val; omega
    · intro a
      match a with
      | ⟨0, _⟩ => show 0 ≤ h.val * 1 + 0 ∧ h.val * 1 + 0 - 0 < 16; omega
      | ⟨1, _⟩ => show 0 ≤ g.val * 1 + 0 ∧ g.val * 1 + 0 - 0 < 8192; omega
      | ⟨2, _⟩ => show 0 ≤ j.val * 1 + k.val ∧ j.val * 1 + k.val - 0 < 8192; omega
  · rw [if_neg hc, dif_neg]
    intro ha
    have h2 : 0 ≤ j.val * 1 + k.val ∧ j.val * 1 + k.val - 0 < 8192 := ha 2
    omega

/-! ## The operations before and after it -/

theorem ofBits_scale : (FloatOps.ofBits (F := Ideal) .f32 0x3DB504F3#32 : EReal) = (SC : EReal) := by
  show Ideal.ofBits .f32 0x3DB504F3#32 = _
  rw [SC]; simp [Ideal.ofBits, Ideal.ieee, -EReal.coe_mul]; norm_num

theorem softplus_eq (y : EReal) :
    (Scalar.select (FloatOps.cmpf (F := Ideal) (φ := .f32) .une (FloatOps.subf (F := Ideal) (φ := .f32) y 0) (FloatOps.subf (F := Ideal) (φ := .f32) y 0))
      (FloatOps.addf (F := Ideal) (φ := .f32) y 0)
      (FloatOps.addf (F := Ideal) (φ := .f32) (FloatOps.maximumf (F := Ideal) (φ := .f32) y 0)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) y 0)))))) : EReal)
      = spr y := by
  have h : FloatOps.cmpf (F := Ideal) (φ := .f32) .une (FloatOps.subf (F := Ideal) (φ := .f32) y 0) (FloatOps.subf (F := Ideal) (φ := .f32) y 0) = 0#1 := by
    show BitVec.ofBool (decide (y - 0 ≠ y - 0)) = 0#1
    simp
  rw [h]
  show (max y 0 + Ideal.log (1 + Ideal.exp (-(max (y - 0) (-(y - 0)))))) = spr y
  rw [sub_zero]; rfl

variable (x : S8192x12288.Idx → EReal)

theorem zero_eq : (FloatOps.ofBits (F := Ideal) .f32 0x00000000#32 : EReal) = 0 := Ideal.ofBits_zero_f32

theorem v10_eq (h : Fin 16) (g j : Fin 8192) : (val_main_v10 (F := Ideal) x (ix3 h g j) : EReal) = sc x h.val g.val j.val := by
  rw [val_main_v10_apply, val_main_v9_apply, val_main_cst_apply, val_main_v8_apply, ofBits_scale]
  refine congrArg (· * (SC : EReal)) (Finset.sum_congr rfl fun d _ => ?_)
  rw [val_main_v4_apply, val_main_v0_apply, val_main_v5_apply, val_main_v1_apply, arg, arg, dif_pos ⟨by omega, by omega⟩,
    dif_pos ⟨by omega, by omega⟩]
  congr 2
  · funext a
    apply Fin.ext
    match a with
    | ⟨0, _⟩ => show ((g.val * 16 + h.val) * 128 + d.val) / 2048 = g.val; omega
    | ⟨1, _⟩ => show ((g.val * 16 + h.val) * 128 + d.val) % 2048 = h.val * 128 + d.val; omega
  · funext a
    apply Fin.ext
    match a with
    | ⟨0, _⟩ => show ((j.val * 16 + h.val) * 128 + d.val) / 2048 = j.val; omega
    | ⟨1, _⟩ => show 2048 + ((j.val * 16 + h.val) * 128 + d.val) % 2048 = 2048 + h.val * 128 + d.val; omega

theorem v16_eq (i : S16x8192x8192.Idx) : (val_main_v16 (F := Ideal) x i : EReal) = spr (val_main_v10 (F := Ideal) x i) := by
  simp only [val_main_v16_apply, val_main_call0_v4_apply, val_main_call0_v6_apply, val_main_call0_v11_apply, val_main_call0_v3_apply,
    val_main_call0_v2_apply, val_main_call0_cst_apply, val_main_call0_v5_apply, val_main_call0_v1_apply, val_main_call0_v0_apply,
    val_main_call0_v10_apply, val_main_call0_v9_apply, val_main_call0_v8_apply, val_main_call0_v7_apply, zero_eq]
  exact softplus_eq _

theorem v21_eq (i : S16x8192x8192.Idx) : (val_main_v21 (F := Ideal) x i : EReal) = -(spr (-(val_main_v10 (F := Ideal) x i : EReal))) := by
  simp only [val_main_v21_apply, val_main_call3_v1_apply, val_main_call3_call0_v4_apply, val_main_call3_call0_v6_apply, val_main_call3_call0_v11_apply, val_main_call3_call0_v3_apply,
    val_main_call3_call0_v2_apply, val_main_call3_call0_cst_apply, val_main_call3_call0_v5_apply, val_main_call3_call0_v1_apply, val_main_call3_call0_v0_apply,
    val_main_call3_call0_v10_apply, val_main_call3_call0_v9_apply, val_main_call3_call0_v8_apply, val_main_call3_call0_v7_apply, val_main_call3_v0_apply, zero_eq]
  exact congrArg (fun t : EReal => -t) (softplus_eq _)

theorem mask_eq (g j : Fin 8192) : val_main_v15 (F := Ideal) (ix2 g j) = if j.val < g.val then 1#1 else 0#1 := by
  rw [val_main_v15_apply, val_main_v13_apply, val_main_v14_apply, val_main_v11_apply, val_main_v12_apply, val_main_v7_apply, val_main_v7_apply]
  exact slt_ofNat j.val g.val (by omega) (by omega)

theorem v18_eq (h : Fin 16) (g j : Fin 8192) :
    (val_main_v18 (F := Ideal) x (ix3 h g j) : EReal) = cut (fun j => -(spr (sc x h.val g.val j))) g.val j.val := by
  have e : idx_main_call1_v1 (ix3 h g j) = ix2 g j := by
    funext a; match a with | ⟨0, _⟩ => rfl | ⟨1, _⟩ => rfl
  rw [val_main_v18_apply, val_main_call1_v1_apply, e, val_main_v17_apply, v16_eq, v10_eq, val_main_call1_v2_apply, val_main_call1_v0_apply,
    val_main_cst_0_apply, zero_eq]
  exact select_cut (mask_eq g j) _ _

theorem v19_eq (h : Fin 16) (g j : Fin 8192) (hj : j.val < g.val) :
    (val_main_v19 (F := Ideal) x (ix3 h g j) : EReal) = -(spr (sc x h.val g.val j.val)) + -(R (fun j => spr (sc x h.val g.val j)) g.val (j.val + 1)) := by
  unfold val_main_v19
  rw [window_apply _ _ (fun i => by rw [val_main_call2_v0_apply, val_main_call2_cst_apply, zero_eq])]
  have e : ∀ k ∈ Finset.Ico j.val 8192, line (val_main_v18 (F := Ideal) x) h g k = cut (fun j => -(spr (sc x h.val g.val j))) g.val k := fun k hk => by
    have hk := (Finset.mem_Ico.1 hk).2
    rw [line, dif_pos hk, v18_eq]
  rw [Finset.sum_congr rfl e, sum_cut _ hj.le (by omega), Finset.sum_eq_sum_Ico_succ_bot hj, sum_neg _ _ fun j => spr_nonneg _]
  rfl

theorem v24_eq (h : Fin 16) (g j : Fin 8192) :
    (val_main_v24 (F := Ideal) x (ix3 h g j) : EReal)
      = if j.val < g.val then wr (sc x h.val g.val j.val) (-(R (fun j => spr (sc x h.val g.val j)) g.val (j.val + 1))) else 0 := by
  have e : idx_main_call4_v1 (ix3 h g j) = ix2 g j := by
    funext a; match a with | ⟨0, _⟩ => rfl | ⟨1, _⟩ => rfl
  rw [val_main_v24_apply, val_main_call4_v1_apply, e, val_main_call4_v2_apply, val_main_call4_v0_apply, val_main_cst_1_apply, zero_eq]
  refine (select_cut (mask_eq g j) _ _).trans ?_
  by_cases hj : j.val < g.val
  · rw [if_pos hj, if_pos hj, val_main_v23_apply, val_main_v22_apply, val_main_v20_apply, v21_eq, v19_eq x h g j hj, v18_eq, v10_eq, cut, if_pos hj]
    rfl
  · rw [if_neg hj, if_neg hj]

/-- The kernel's weights are the reference's. -/
theorem kv_eq (h g d : ℕ) :
    kv x h g d = ∑ j ∈ Finset.Ico 0 g, arg x j (4096 + h * 128 + d) * wr (sc x h g j) (-(R (fun j => spr (sc x h g j)) g (j + 1))) := by
  unfold kv O W
  refine Finset.sum_congr rfl fun j _ => ?_
  rw [mul_comm]
  congr 1
  simp only [spk_mul]
  have e : R (fun j => spr (sc x h g j) * (L : EReal)) g (j + 1) = R (fun j => spr (sc x h g j)) g (j + 1) * (L : EReal) := sum_mul_L _ _
  rw [e]
  exact weight_eq _ _ (Finset.sum_nonneg fun _ _ => spr_nonneg _)

/-- The reference's result. -/
theorem reference_eq (i : S8192x2048.Idx) : (val_main_v28 (F := Ideal) x i : EReal) = kv x ((i 1).val / 128) (i 0).val ((i 1).val % 128) := by
  have h0 : (i 0).val < 8192 := (i 0).isLt
  have h1 : (i 1).val < 2048 := (i 1).isLt
  have e : idx_main_v26 (idx_main_v27 i) = ix3 (⟨(i 1).val / 128, by omega⟩ : Fin 16) (⟨(i 1).val % 128, by omega⟩ : Fin 128) (⟨(i 0).val, h0⟩ : Fin 8192) := by
    funext a
    apply Fin.ext
    match a with
    | ⟨0, _⟩ => show ((i 0).val * 2048 + (i 1).val) / 128 % 16 = (i 1).val / 128; omega
    | ⟨1, _⟩ => show ((i 0).val * 2048 + (i 1).val) % 128 = (i 1).val % 128; omega
    | ⟨2, _⟩ => show ((i 0).val * 2048 + (i 1).val) / 2048 = (i 0).val; omega
  rw [val_main_v28_apply]
  show (val_main_v27 (F := Ideal) x i : EReal) = _
  rw [val_main_v27_apply, val_main_v26_apply, e, val_main_v25_apply, kv_eq]
  generalize hh : (⟨(i 1).val / 128, by omega⟩ : Fin 16) = h
  generalize hd : (⟨(i 1).val % 128, by omega⟩ : Fin 128) = d
  generalize hg : (⟨(i 0).val, h0⟩ : Fin 8192) = g
  have eh : (i 1).val / 128 = h.val := by rw [← hh]
  have ed : (i 1).val % 128 = d.val := by rw [← hd]
  have eg : (i 0).val = g.val := by rw [← hg]
  rw [eh, ed, eg]
  have es := sum_half (cut (fun j => arg x j (4096 + h.val * 128 + d.val) * wr (sc x h.val g.val j) (-(R (fun j => spr (sc x h.val g.val j)) g.val (j + 1)))) g.val) 0 8192
  rw [sum_cut _ (by omega) (by omega)] at es
  rw [← es]
  refine Finset.sum_congr rfl fun j _ => ?_
  have e24 : ridx_main_v25 (ix3 h d g) j = ix3 h g j := by
    funext a; match a with | ⟨0, _⟩ => rfl | ⟨1, _⟩ => rfl | ⟨2, _⟩ => rfl
  have e6 : (val_main_v6 (F := Ideal) x (lidx_main_v25 (ix3 h d g) j) : EReal) = arg x j.val (4096 + h.val * 128 + d.val) := by
    rw [val_main_v6_apply, val_main_v2_apply, arg, dif_pos ⟨by omega, by omega⟩]
    refine congrArg x (funext fun a => Fin.ext ?_)
    match a with
    | ⟨0, _⟩ => show ((j.val * 16 + h.val) * 128 + d.val) / 2048 = j.val; omega
    | ⟨1, _⟩ => show 4096 + ((j.val * 16 + h.val) * 128 + d.val) % 2048 = 4096 + h.val * 128 + d.val; omega
  rw [e24, v24_eq, e6, Nat.zero_add, cut, mul_ite, mul_zero]

end Cert.Proof.Alg

end
-- ==== Proof.Mat.Common.lean ====
module

public import Idealize.ShloMosaic.Lib.Pipeline.ValueKit
public import Idealize.ShloMosaic.Lib.Pointwise

@[expose] public section

/-! The matrix product with the first of the stacked weight matrices, as a function of the two arrays, and the facts
    about it that every product kernel of this problem uses. -/

noncomputable section

namespace Cert.Proof.Mat

open Idealize.ShloMosaic Idealize.ShloMosaic.TcCoe

/-- The product of an `M × K` array with matrix 0 of a stack of two `K × N` matrices: entry `(r, d)` is the sum over
    `k` of `x[r, k] * w[0, k, d]`. -/
def prod {M K N : Nat} (x : (⟨2, ![M, K]⟩ : Shape).Idx → EReal) (w : (⟨3, ![2, K, N]⟩ : Shape).Idx → EReal)
    (i : (⟨2, ![M, N]⟩ : Shape).Idx) : EReal :=
  ∑ k : Fin K, x (ix2 (⟨(i 0).val, (i 0).isLt⟩ : Fin M) k) * w (ix3 (0 : Fin 2) k (⟨(i 1).val, (i 1).isLt⟩ : Fin N))

/-- A two-axis index is the pair of its coordinates. -/
theorem ix2_eta {M N : Nat} (i : (⟨2, ![M, N]⟩ : Shape).Idx) :
    i = ix2 (⟨(i 0).val, (i 0).isLt⟩ : Fin M) (⟨(i 1).val, (i 1).isLt⟩ : Fin N) := by
  funext a
  match a with
  | ⟨0, _⟩ => rfl
  | ⟨1, _⟩ => rfl

/-- A sum of products is the entry `i` of the product when its first factors are row `i 0` of the activations and
    its second factors column `i 1` of the weights. -/
theorem sum_eq_prod {M K N : Nat} {x : (⟨2, ![M, K]⟩ : Shape).Idx → EReal} {w : (⟨3, ![2, K, N]⟩ : Shape).Idx → EReal}
    {i : (⟨2, ![M, N]⟩ : Shape).Idx} {p q : Fin K → EReal}
    (hp : ∀ k, p k = x (ix2 (⟨(i 0).val, (i 0).isLt⟩ : Fin M) k))
    (hq : ∀ k, q k = w (ix3 (0 : Fin 2) k (⟨(i 1).val, (i 1).isLt⟩ : Fin N))) :
    (∑ k : Fin K, p k * q k) = prod x w i :=
  Finset.sum_congr rfl fun k _ => congrArg₂ (fun u v : EReal => u * v) (hp k) (hq k)

end Cert.Proof.Mat

end
-- ==== Proof.Mat.EvenIn.lean ====
module

public import proofs.«01_k».proof.Proof.Gen.KernelEvenInIdeal.Value
public import proofs.«01_k».proof.Proof.Gen.ReferenceEvenInIdeal.Read
public import proofs.«01_k».proof.Proof.Mat.Common
public import proofs.«01_k».proof.Defs

@[expose] public section

/-! The even layer's input projection. Each grid point multiplies 2048 rows by 512 columns; the blocks
    tile the result, so the result is the whole product, and the reference's sliced product is the same. -/

noncomputable section

namespace Cert.Proof.EvenIn

open Cert.KernelEvenInIdeal Cert.KernelEvenInIdeal.Gen Idealize.ShloMosaic Idealize.ShloMosaic.TcCoe

variable (m : (ℓ : Loc nD τ sig) → Buf (Elt Ideal) ℓ) (c : Dev nD)

/-- The activations. -/
abbrev x0 : S8192x4096.Idx → EReal := m (c.tc.loc main_arg0)
/-- The stacked weights. -/
abbrev x1 : S2x4096x12288.Idx → EReal := m (c.tc.loc main_arg1)

/-- At the kernel's start the cast activations are the activations. -/
theorem V_v0 : (V m c main_v0 : S8192x4096.Idx → EReal) = x0 m c := by
  show StableHlo.after hostOps0 _ (Proc.devRef .tc main_v0) = _
  after_results
  rfl

/-- The activations' block at a grid point is chosen by its first coordinate. -/
theorem idx0 : ∀ t : Fin grid0.N, win0_0.index t = ![(grid0.coords t 0).val, 0] := by decide +kernel
/-- The weights' block at a grid point is chosen by its second coordinate. -/
theorem idx1 : ∀ t : Fin grid0.N, win0_1.index t = ![0, 0, (grid0.coords t 1).val] := by decide +kernel
/-- The result's block at a grid point is chosen by both coordinates. -/
theorem idx2 : ∀ t : Fin grid0.N, win0_2.index t = ![(grid0.coords t 0).val, (grid0.coords t 1).val] := by decide +kernel

/-- An entry of the block the body computes is a row times a column. -/
theorem pay_apply (a : S2048x4096.Idx → EReal) (w : S1x4096x512.Idx → EReal) (r : Fin 2048) (d : Fin 512) :
    (k0_pay1 (F := Ideal) a w (ix2 r d) : EReal) = ∑ k : Fin 4096, a (ix2 r k) * w (ix3 (0 : Fin 1) k d) := by
  pointwise [k0_pay1]

/-- The body's store fills the result's block with what it computes. -/
theorem out_eq (a : S2048x4096.Idx → EReal) (w : S1x4096x512.Idx → EReal) :
    (out0_2 (F := Ideal) a w : S2048x512.Idx → EReal) = k0_pay1 (F := Ideal) a w := by
  unfold out0_2 r0_2 r0_1 r0_0
  rw [View.canon_cons_unit_lit _ _ _ (by decide), View.ld_unit_lit _ _ (by decide), View.ld_unit_lit _ _ (by decide)]

/-- The activations' block holds the rows of its grid point. -/
theorem a_apply (t : Fin cfg0.N) (r : Fin 2048) (k : Fin 4096) (i : Fin 8192) (hi : i.val = (grid0.coords t 0).val * 2048 + r.val) :
    (iblk m c 0 t (ix2 r k) : EReal) = x0 m c (ix2 i k) := by
  unfold iblk
  show (V m c main_v0 : S8192x4096.Idx → EReal) _ = _
  rw [V_v0]
  refine congrArg (x0 m c) (funext fun a => Fin.ext ?_)
  match a with
  | ⟨0, _⟩ => blk_simp [idx0, hi]
  | ⟨1, _⟩ => blk_simp [idx0]

/-- The weights' block holds the columns of its grid point of matrix 0. -/
theorem w_apply (t : Fin cfg0.N) (k : Fin 4096) (d : Fin 512) (j : Fin 12288) (hj : j.val = (grid0.coords t 1).val * 512 + d.val) :
    (iblk m c 1 t (ix3 (0 : Fin 1) k d) : EReal) = x1 m c (ix3 (0 : Fin 2) k j) := by
  unfold iblk
  show (V m c main_arg1 : S2x4096x12288.Idx → EReal) _ = _
  rw [V_main_arg1]
  refine congrArg (x1 m c) (funext fun a => Fin.ext ?_)
  match a with
  | ⟨0, _⟩ => blk_simp [idx1]; rfl
  | ⟨1, _⟩ => blk_simp [idx1]
  | ⟨2, _⟩ => blk_simp [idx1, hj]

/-- The kernel's result is the product. -/
theorem result_eq : (dats m 0 c).arrAt 2 cfg0.N = Mat.prod (x0 m c) (x1 m c) := by
  refine (dats m 0 c).arrAt_eq_of_covers 2 _ (by decide +kernel) fun t hf y => ?_
  blk_simp [Mat.prod, idx2]
  rw [after0_2]
  refine (congrFun (out_eq _ _) y).trans ?_
  refine (congrArg (k0_pay1 (F := Ideal) (iblk m c 0 t) (iblk m c 1 t)) (Mat.ix2_eta y)).trans ((pay_apply _ _ _ _).trans (Finset.sum_congr rfl fun k _ => ?_))
  exact congrArg₂ (fun u v : EReal => u * v) (a_apply m c t _ k _ rfl) (w_apply m c t k _ _ rfl)

/-- The reference's result is the product. -/
theorem reference_eq (x : S8192x4096.Idx → EReal) (w : S2x4096x12288.Idx → EReal) :
    (Cert.ReferenceEvenInIdeal.Read.val_main_v2 (F := Ideal) x w : S8192x12288.Idx → EReal) = Mat.prod x w := by
  funext i
  have h1 : (i 1).val < 12288 := (i 1).isLt
  rw [Cert.ReferenceEvenInIdeal.Read.val_main_v2_apply]
  refine Mat.sum_eq_prod (fun k => congrArg x (Mat.ix2_eta _)) fun k => ?_
  rw [Cert.ReferenceEvenInIdeal.Read.val_main_v1_apply, Cert.ReferenceEvenInIdeal.Read.val_main_v0_apply]
  refine congrArg w (funext fun a => Fin.ext ?_)
  match a with
  | ⟨0, _⟩ => rfl
  | ⟨1, _⟩ => show (k.val * 12288 + (i 1).val) / 12288 % 4096 = k.val; omega
  | ⟨2, _⟩ => show (k.val * 12288 + (i 1).val) % 12288 = (i 1).val; omega

/-- From the same arguments, over the extended reals, the kernel's program and the reference's have one result. -/
theorem algebraic : Cert.algebraic_KernelEvenInIdeal_ReferenceEvenInIdeal := fun m g m' g' _ hm =>
  ⟨fun c => (dats m 0 c).arrAt 2 cfg0.N, Cert.KernelEvenInIdeal.Value.run_blocks m g,
    (θ_run _ _ _).mono (fun _ h c => ⟨(h c).1.trans (by
      obtain ⟨h0, h1⟩ := hm c
      refine (Cert.ReferenceEvenInIdeal.Read.val_main_v2_eq (F := Ideal) _ _).trans ?_
      rw [h0, h1]
      exact (reference_eq _ _).trans (result_eq m c).symm), (h c).2⟩) (Cert.ReferenceEvenInIdeal.Value.run (F := Ideal) m' g')⟩

end Cert.Proof.EvenIn

end
-- ==== Proof.Mat.EvenOut.lean ====
module

public import proofs.«01_k».proof.Proof.Gen.KernelEvenOutIdeal.Value
public import proofs.«01_k».proof.Proof.Gen.ReferenceEvenOutIdeal.Read
public import proofs.«01_k».proof.Proof.Mat.Common
public import proofs.«01_k».proof.Defs

@[expose] public section

/-! The even layer's output projection. Each grid point multiplies 2048 rows of each of two arrays by its half of 512
    columns and adds; the blocks tile the result. The reference multiplies the two arrays side by side, and its sum
    over 4096 columns is split at 2048. -/

noncomputable section

namespace Cert.Proof.EvenOut

open Cert.KernelEvenOutIdeal Cert.KernelEvenOutIdeal.Gen Idealize.ShloMosaic Idealize.ShloMosaic.TcCoe

variable (m : (ℓ : Loc nD τ sig) → Buf (Elt Ideal) ℓ) (c : Dev nD)

/-- The attention's activations. -/
abbrev x0 : S8192x2048.Idx → EReal := m (c.tc.loc main_arg0)
/-- The retention's activations. -/
abbrev x1 : S8192x2048.Idx → EReal := m (c.tc.loc main_arg1)
/-- The stacked weights. -/
abbrev x2 : S2x4096x4096.Idx → EReal := m (c.tc.loc main_arg2)

/-- Row `k` of the lower half of 4096 rows. -/
abbrev low (k : Fin 2048) : Fin 4096 := ⟨2048 + k.val, by omega⟩
/-- Row `k` of the upper half of 4096 rows. -/
abbrev top (k : Fin 2048) : Fin 4096 := ⟨k.val, by omega⟩

/-- The two products added: entry `(r, d)` sums `x[r, k] * w[0, k, d]` and `y[r, k] * w[0, 2048 + k, d]`. -/
def prod2 (x y : S8192x2048.Idx → EReal) (w : S2x4096x4096.Idx → EReal) (i : S8192x4096.Idx) : EReal :=
  (∑ k : Fin 2048, x (ix2 (⟨(i 0).val, (i 0).isLt⟩ : Fin 8192) k) * w (ix3 (0 : Fin 2) (top k) (⟨(i 1).val, (i 1).isLt⟩ : Fin 4096)))
    + ∑ k : Fin 2048, y (ix2 (⟨(i 0).val, (i 0).isLt⟩ : Fin 8192) k) * w (ix3 (0 : Fin 2) (low k) (⟨(i 1).val, (i 1).isLt⟩ : Fin 4096))

/-- At the kernel's start the cast activations are the activations. -/
theorem V_v0 : (V m c main_v0 : S8192x2048.Idx → EReal) = x0 m c := by
  show StableHlo.after hostOps0 _ (Proc.devRef .tc main_v0) = _
  after_results
  rfl

/-- The same of the second array. -/
theorem V_v1 : (V m c main_v1 : S8192x2048.Idx → EReal) = x1 m c := by
  show StableHlo.after hostOps0 _ (Proc.devRef .tc main_v1) = _
  after_results
  rfl

/-- The weights' block at a grid point is chosen by its second coordinate. -/
theorem idx0 : ∀ t : Fin grid0.N, win0_0.index t = ![0, 0, (grid0.coords t 1).val] := by decide +kernel
/-- The first activations' block at a grid point is chosen by its first coordinate. -/
theorem idx1 : ∀ t : Fin grid0.N, win0_1.index t = ![(grid0.coords t 0).val, 0] := by decide +kernel
/-- The second activations' block at a grid point is chosen by its first coordinate. -/
theorem idx2 : ∀ t : Fin grid0.N, win0_2.index t = ![(grid0.coords t 0).val, 0] := by decide +kernel
/-- The result's block at a grid point is chosen by both coordinates. -/
theorem idx3 : ∀ t : Fin grid0.N, win0_3.index t = ![(grid0.coords t 0).val, (grid0.coords t 1).val] := by decide +kernel

/-- An entry of the block the body computes is a row times a column, plus the like of the second pair. -/
theorem pay_apply (a : S2048x2048.Idx → EReal) (w : S1x2048x512.Idx → EReal) (b : S2048x2048.Idx → EReal) (v : S1x2048x512.Idx → EReal)
    (r : Fin 2048) (d : Fin 512) :
    (k0_pay1 (F := Ideal) a w b v (ix2 r d) : EReal)
      = (∑ k : Fin 2048, a (ix2 r k) * w (ix3 (0 : Fin 1) k d)) + ∑ k : Fin 2048, b (ix2 r k) * v (ix3 (0 : Fin 1) k d) := by
  pointwise [k0_pay1]

/-- The body's store fills the result's block with what it computes. -/
theorem out_eq (w : S1x4096x512.Idx → EReal) (a b : S2048x2048.Idx → EReal) :
    (out0_3 (F := Ideal) w a b : S2048x512.Idx → EReal) = k0_pay1 (F := Ideal) a (View.ld w r0_1) b (View.ld w r0_2) := by
  unfold out0_3 r0_3 r0_0
  rw [View.canon_cons_unit_lit _ _ _ (by decide), View.ld_unit_lit _ _ (by decide), View.ld_unit_lit _ _ (by decide)]

/-- The first load of the weights' block reads its upper half of rows. -/
theorem ld_top (w : S1x4096x512.Idx → EReal) (k : Fin 2048) (d : Fin 512) :
    (View.ld (Val := Elt Ideal) (e' := .f32) w r0_1 (ix3 (0 : Fin 1) k d) : EReal) = w (ix3 (0 : Fin 1) (top k) d) := by
  refine congrArg w (funext fun a => Fin.ext ?_)
  match a with
  | ⟨0, _⟩ => rfl
  | ⟨1, _⟩ => show 0 + 1 * k.val = k.val; omega
  | ⟨2, _⟩ => show 0 + 1 * d.val = d.val; omega

/-- The second load reads the lower half. -/
theorem ld_low (w : S1x4096x512.Idx → EReal) (k : Fin 2048) (d : Fin 512) :
    (View.ld (Val := Elt Ideal) (e' := .f32) w r0_2 (ix3 (0 : Fin 1) k d) : EReal) = w (ix3 (0 : Fin 1) (low k) d) := by
  refine congrArg w (funext fun a => Fin.ext ?_)
  match a with
  | ⟨0, _⟩ => rfl
  | ⟨1, _⟩ => show 2048 + 1 * k.val = 2048 + k.val; omega
  | ⟨2, _⟩ => show 0 + 1 * d.val = d.val; omega

/-- The first activations' block holds the rows of its grid point. -/
theorem a_apply (t : Fin cfg0.N) (r : Fin 2048) (k : Fin 2048) (i : Fin 8192) (hi : i.val = (grid0.coords t 0).val * 2048 + r.val) :
    (iblk m c 1 t (ix2 r k) : EReal) = x0 m c (ix2 i k) := by
  unfold iblk
  show (V m c main_v0 : S8192x2048.Idx → EReal) _ = _
  rw [V_v0]
  refine congrArg (x0 m c) (funext fun a => Fin.ext ?_)
  match a with
  | ⟨0, _⟩ => blk_simp [idx1, hi]
  | ⟨1, _⟩ => blk_simp [idx1]

/-- The second activations' block holds the rows of its grid point. -/
theorem b_apply (t : Fin cfg0.N) (r : Fin 2048) (k : Fin 2048) (i : Fin 8192) (hi : i.val = (grid0.coords t 0).val * 2048 + r.val) :
    (iblk m c 2 t (ix2 r k) : EReal) = x1 m c (ix2 i k) := by
  unfold iblk
  show (V m c main_v1 : S8192x2048.Idx → EReal) _ = _
  rw [V_v1]
  refine congrArg (x1 m c) (funext fun a => Fin.ext ?_)
  match a with
  | ⟨0, _⟩ => blk_simp [idx2, hi]
  | ⟨1, _⟩ => blk_simp [idx2]

/-- The weights' block holds the columns of its grid point of matrix 0. -/
theorem w_apply (t : Fin cfg0.N) (k : Fin 4096) (d : Fin 512) (j : Fin 4096) (hj : j.val = (grid0.coords t 1).val * 512 + d.val) :
    (iblk m c 0 t (ix3 (0 : Fin 1) k d) : EReal) = x2 m c (ix3 (0 : Fin 2) k j) := by
  unfold iblk
  show (V m c main_arg2 : S2x4096x4096.Idx → EReal) _ = _
  rw [V_main_arg2]
  refine congrArg (x2 m c) (funext fun a => Fin.ext ?_)
  match a with
  | ⟨0, _⟩ => blk_simp [idx0]; rfl
  | ⟨1, _⟩ => blk_simp [idx0]
  | ⟨2, _⟩ => blk_simp [idx0, hj]

/-- The kernel's result is the two products added. -/
theorem result_eq : (dats m 0 c).arrAt 3 cfg0.N = prod2 (x0 m c) (x1 m c) (x2 m c) := by
  refine (dats m 0 c).arrAt_eq_of_covers 3 _ (by decide +kernel) fun t hf y => ?_
  blk_simp [prod2, idx3]
  rw [after0_3]
  refine (congrFun (out_eq _ _ _) y).trans ?_
  refine (congrArg (k0_pay1 (F := Ideal) (iblk m c 1 t) (View.ld (iblk m c 0 t) r0_1) (iblk m c 2 t) (View.ld (iblk m c 0 t) r0_2)) (Mat.ix2_eta y)).trans ((pay_apply _ _ _ _ _ _).trans ?_)
  refine congrArg₂ (fun u v : EReal => u + v) (Finset.sum_congr rfl fun k _ => ?_) (Finset.sum_congr rfl fun k _ => ?_)
  · exact congrArg₂ (fun u v : EReal => u * v) (a_apply m c t _ k _ rfl) ((ld_top _ k _).trans (w_apply m c t _ _ _ rfl))
  · exact congrArg₂ (fun u v : EReal => u * v) (b_apply m c t _ k _ rfl) ((ld_low _ k _).trans (w_apply m c t _ _ _ rfl))

open Cert.ReferenceEvenOutIdeal.Read

/-- The two arrays side by side hold the first in the first 2048 columns. -/
theorem cat_top (x y : S8192x2048.Idx → EReal) (r : Fin 8192) (k : Fin 2048) :
    (val_main_v0 (F := Ideal) x y (ix2 r (top k)) : EReal) = x (ix2 r k) := by
  unfold val_main_v0
  exact concatenate_pair_apply_left (t := S8192x4096) (s₁ := S8192x2048) (s₂ := S8192x2048) (1 : Fin 2) x y _ (ix2 r (top k)) rfl (ix2 r k) fun b => match b with
    | ⟨0, _⟩ => rfl
    | ⟨1, _⟩ => rfl

/-- And the second in the last 2048. -/
theorem cat_low (x y : S8192x2048.Idx → EReal) (r : Fin 8192) (k : Fin 2048) :
    (val_main_v0 (F := Ideal) x y (ix2 r (low k)) : EReal) = y (ix2 r k) := by
  unfold val_main_v0
  exact concatenate_pair_apply_right (t := S8192x4096) (s₁ := S8192x2048) (s₂ := S8192x2048) (1 : Fin 2) x y _ (ix2 r (low k)) rfl rfl (ix2 r k) (fun b hb => match b, hb with
    | ⟨0, _⟩, _ => rfl
    | ⟨1, _⟩, h => absurd rfl h) (Nat.add_comm k.val 2048)

/-- The reference's slice of the stack, reshaped, holds matrix 0. -/
theorem layer_apply (w : S2x4096x4096.Idx → EReal) (k j : Fin 4096) :
    (val_main_v2 (F := Ideal) w (ix2 k j) : EReal) = w (ix3 (0 : Fin 2) k j) := by
  rw [val_main_v2_apply, val_main_v1_apply]
  refine congrArg w (funext fun a => Fin.ext ?_)
  match a with
  | ⟨0, _⟩ => rfl
  | ⟨1, _⟩ => show (k.val * 4096 + j.val) / 4096 % 4096 = k.val; omega
  | ⟨2, _⟩ => show (k.val * 4096 + j.val) % 4096 = j.val; omega

/-- The reference's result is the two products added. -/
theorem reference_eq (x y : S8192x2048.Idx → EReal) (w : S2x4096x4096.Idx → EReal) :
    (val_main_v3 (F := Ideal) x y w : S8192x4096.Idx → EReal) = prod2 x y w := by
  funext i
  rw [val_main_v3_apply]
  refine (Fin.sum_univ_add (a := 2048) (b := 2048) _).trans (congrArg₂ (fun u v : EReal => u + v) (Finset.sum_congr rfl fun k _ => ?_) (Finset.sum_congr rfl fun k _ => ?_))
  · exact congrArg₂ (fun u v : EReal => u * v) ((congrArg (val_main_v0 (F := Ideal) x y) (Mat.ix2_eta _)).trans (cat_top x y _ k))
      ((congrArg (val_main_v2 (F := Ideal) w) (Mat.ix2_eta _)).trans (layer_apply w _ _))
  · exact congrArg₂ (fun u v : EReal => u * v) ((congrArg (val_main_v0 (F := Ideal) x y) (Mat.ix2_eta _)).trans (cat_low x y _ k))
      ((congrArg (val_main_v2 (F := Ideal) w) (Mat.ix2_eta _)).trans (layer_apply w _ _))

/-- From the same arguments, over the extended reals, the kernel's program and the reference's have one result. -/
theorem algebraic : Cert.algebraic_KernelEvenOutIdeal_ReferenceEvenOutIdeal := fun m g m' g' _ hm =>
  ⟨fun c => (dats m 0 c).arrAt 3 cfg0.N, Cert.KernelEvenOutIdeal.Value.run_blocks m g,
    (θ_run _ _ _).mono (fun _ h c => ⟨(h c).1.trans (by
      obtain ⟨h0, h1, h2⟩ := hm c
      refine (val_main_v3_eq (F := Ideal) _ _ _).trans ?_
      rw [h0, h1, h2]
      exact (reference_eq _ _ _).trans (result_eq m c).symm), (h c).2⟩) (Cert.ReferenceEvenOutIdeal.Value.run (F := Ideal) m' g')⟩

end Cert.Proof.EvenOut

end
-- ==== Proof.Mat.FfnUp.lean ====
module

public import proofs.«01_k».proof.Proof.Gen.KernelFfnUpIdeal.Value
public import proofs.«01_k».proof.Proof.Gen.ReferenceFfnUpIdeal.Read
public import proofs.«01_k».proof.Proof.Mat.Common
public import proofs.«01_k».proof.Defs

@[expose] public section

/-! The dense feed-forward's first two products and their gate. Each grid point gates 2048
    rows of 256 columns; the blocks tile the result, so the result is the whole gated product, and so is the
    reference's. -/

noncomputable section

namespace Cert.Proof.FfnUp

open Cert.KernelFfnUpIdeal Cert.KernelFfnUpIdeal.Gen Idealize.ShloMosaic Idealize.ShloMosaic.TcCoe

variable (m : (ℓ : Loc nD τ sig) → Buf (Elt Ideal) ℓ) (c : Dev nD)

/-- The activations. -/
abbrev x0 : S8192x4096.Idx → EReal := m (c.tc.loc main_arg0)
/-- The stacked weights of the gate. -/
abbrev x1 : S2x4096x11008.Idx → EReal := m (c.tc.loc main_arg1)
/-- The stacked weights of the gated values. -/
abbrev x2 : S2x4096x11008.Idx → EReal := m (c.tc.loc main_arg2)

/-- The gated value: `g` times the logistic of `g` times `u`. -/
def gated (g u : EReal) : EReal := g * Ideal.div 1 (1 + Ideal.exp (0 - g)) * u

/-- At the kernel's start the cast activations are the activations. -/
theorem V_v0 : (V m c main_v0 : S8192x4096.Idx → EReal) = x0 m c := by
  show StableHlo.after hostOps0 _ (Proc.devRef .tc main_v0) = _
  after_results
  rfl

/-- The activations' block at a grid point is chosen by its first coordinate. -/
theorem idx0 : ∀ t : Fin grid0.N, win0_0.index t = ![(grid0.coords t 0).val, 0] := by decide +kernel
/-- The weights' block at a grid point is chosen by its second coordinate. -/
theorem idx1 : ∀ t : Fin grid0.N, win0_1.index t = ![0, 0, (grid0.coords t 1).val] := by decide +kernel
/-- The gated values' weights' block at a grid point is chosen by its second coordinate. -/
theorem idx2 : ∀ t : Fin grid0.N, win0_2.index t = ![0, 0, (grid0.coords t 1).val] := by decide +kernel
/-- The result's block at a grid point is chosen by both coordinates. -/
theorem idx3 : ∀ t : Fin grid0.N, win0_3.index t = ![(grid0.coords t 0).val, (grid0.coords t 1).val] := by decide +kernel

/-- An entry of the block the body computes gates a row times a column by the row times the gate's column. -/
theorem pay_apply (a : S2048x4096.Idx → EReal) (w u : S1x4096x256.Idx → EReal) (r : Fin 2048) (d : Fin 256) :
    (k0_pay1 (F := Ideal) a w u (ix2 r d) : EReal)
      = gated (∑ k : Fin 4096, a (ix2 r k) * w (ix3 (0 : Fin 1) k d)) (∑ k : Fin 4096, a (ix2 r k) * u (ix3 (0 : Fin 1) k d)) := by
  pointwise [k0_pay1, gated]

/-- The body's store fills the result's block with what it computes. -/
theorem out_eq (a : S2048x4096.Idx → EReal) (w u : S1x4096x256.Idx → EReal) :
    (out0_3 (F := Ideal) a w u : S2048x256.Idx → EReal) = k0_pay1 (F := Ideal) a w u := by
  unfold out0_3 r0_2 r0_1 r0_0
  rw [View.canon_cons_unit_lit _ _ _ (by decide), View.ld_unit_lit _ _ (by decide), View.ld_unit_lit _ _ (by decide),
    View.ld_unit_lit _ _ (by decide)]

/-- The activations' block holds the rows of its grid point. -/
theorem a_apply (t : Fin cfg0.N) (r : Fin 2048) (k : Fin 4096) (i : Fin 8192) (hi : i.val = (grid0.coords t 0).val * 2048 + r.val) :
    (iblk m c 0 t (ix2 r k) : EReal) = x0 m c (ix2 i k) := by
  unfold iblk
  show (V m c main_v0 : S8192x4096.Idx → EReal) _ = _
  rw [V_v0]
  refine congrArg (x0 m c) (funext fun a => Fin.ext ?_)
  match a with
  | ⟨0, _⟩ => blk_simp [idx0, hi]
  | ⟨1, _⟩ => blk_simp [idx0]

/-- The weights' block holds the columns of its grid point of matrix 0. -/
theorem w_apply (t : Fin cfg0.N) (k : Fin 4096) (d : Fin 256) (j : Fin 11008) (hj : j.val = (grid0.coords t 1).val * 256 + d.val) :
    (iblk m c 1 t (ix3 (0 : Fin 1) k d) : EReal) = x1 m c (ix3 (0 : Fin 2) k j) := by
  unfold iblk
  show (V m c main_arg1 : S2x4096x11008.Idx → EReal) _ = _
  rw [V_main_arg1]
  refine congrArg (x1 m c) (funext fun a => Fin.ext ?_)
  match a with
  | ⟨0, _⟩ => blk_simp [idx1]; rfl
  | ⟨1, _⟩ => blk_simp [idx1]
  | ⟨2, _⟩ => blk_simp [idx1, hj]

/-- The gated values' weights' block holds the columns of its grid point of matrix 0. -/
theorem u_apply (t : Fin cfg0.N) (k : Fin 4096) (d : Fin 256) (j : Fin 11008) (hj : j.val = (grid0.coords t 1).val * 256 + d.val) :
    (iblk m c 2 t (ix3 (0 : Fin 1) k d) : EReal) = x2 m c (ix3 (0 : Fin 2) k j) := by
  unfold iblk
  show (V m c main_arg2 : S2x4096x11008.Idx → EReal) _ = _
  rw [V_main_arg2]
  refine congrArg (x2 m c) (funext fun a => Fin.ext ?_)
  match a with
  | ⟨0, _⟩ => blk_simp [idx2]; rfl
  | ⟨1, _⟩ => blk_simp [idx2]
  | ⟨2, _⟩ => blk_simp [idx2, hj]

/-- The kernel's result gates the one product by the other. -/
theorem result_eq : (dats m 0 c).arrAt 3 cfg0.N
    = fun i => gated (Mat.prod (x0 m c) (x1 m c) i) (Mat.prod (x0 m c) (x2 m c) i) := by
  refine (dats m 0 c).arrAt_eq_of_covers 3 _ (by decide +kernel) fun t hf y => ?_
  blk_simp [Mat.prod, idx3]
  rw [after0_3]
  refine (congrFun (out_eq _ _ _) y).trans ?_
  refine (congrArg (k0_pay1 (F := Ideal) (iblk m c 0 t) (iblk m c 1 t) (iblk m c 2 t)) (Mat.ix2_eta y)).trans ((pay_apply _ _ _ _ _).trans ?_)
  refine congrArg₂ gated (Finset.sum_congr rfl fun k _ => ?_) (Finset.sum_congr rfl fun k _ => ?_)
  · exact congrArg₂ (fun u v : EReal => u * v) (a_apply m c t _ k _ rfl) (w_apply m c t k _ _ rfl)
  · exact congrArg₂ (fun u v : EReal => u * v) (a_apply m c t _ k _ rfl) (u_apply m c t k _ _ rfl)

/-- The reference's slice of a stack, reshaped, holds matrix 0. -/
theorem layer_apply (w : S2x4096x11008.Idx → EReal) (j : Cert.ReferenceFfnUpIdeal.S4096x11008.Idx) :
    (Cert.ReferenceFfnUpIdeal.Read.val_main_v1 (F := Ideal) w j : EReal)
      = w (ix3 (0 : Fin 2) (⟨(j 0).val, (j 0).isLt⟩ : Fin 4096) (⟨(j 1).val, (j 1).isLt⟩ : Fin 11008)) := by
  have h0 : (j 0).val < 4096 := (j 0).isLt
  have h1 : (j 1).val < 11008 := (j 1).isLt
  rw [Cert.ReferenceFfnUpIdeal.Read.val_main_v1_apply, Cert.ReferenceFfnUpIdeal.Read.val_main_v0_apply]
  refine congrArg w (funext fun a => Fin.ext ?_)
  match a with
  | ⟨0, _⟩ => rfl
  | ⟨1, _⟩ => show ((j 0).val * 11008 + (j 1).val) / 11008 % 4096 = (j 0).val; omega
  | ⟨2, _⟩ => show ((j 0).val * 11008 + (j 1).val) % 11008 = (j 1).val; omega

/-- The reference's first product. -/
theorem gate_eq (x : S8192x4096.Idx → EReal) (w : S2x4096x11008.Idx → EReal) (i : S8192x11008.Idx) :
    (Cert.ReferenceFfnUpIdeal.Read.val_main_v2 (F := Ideal) x w i : EReal) = Mat.prod x w i := by
  rw [Cert.ReferenceFfnUpIdeal.Read.val_main_v2_apply]
  exact Mat.sum_eq_prod (fun k => congrArg x (Mat.ix2_eta _)) fun k => layer_apply w _

/-- The reference's second product: the same operations on the other stack. -/
theorem up_eq (x : S8192x4096.Idx → EReal) (w : S2x4096x11008.Idx → EReal) (i : S8192x11008.Idx) :
    (Cert.ReferenceFfnUpIdeal.Read.val_main_v6 (F := Ideal) x w i : EReal) = Mat.prod x w i :=
  gate_eq x w i

open Cert.ReferenceFfnUpIdeal.Read in
/-- The reference's result gates the one product by the other. -/
theorem reference_eq (x : S8192x4096.Idx → EReal) (w u : S2x4096x11008.Idx → EReal) (i : S8192x11008.Idx) :
    (val_main_v8 (F := Ideal) x w u i : EReal) = gated (Mat.prod x w i) (Mat.prod x u i) := by
  rw [val_main_v8_apply, val_main_v7_apply, val_main_v3_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  show Mat.prod x w i * Ideal.div (Ideal.ofBits .f32 0x3F800000#32) (Ideal.ofBits .f32 0x3F800000#32 + Ideal.exp (-Mat.prod x w i)) * Mat.prod x u i = _
  rw [Ideal.ofBits_one_f32, ← zero_sub, gated]

/-- From the same arguments, over the extended reals, the kernel's program and the reference's have one result. -/
theorem algebraic : Cert.algebraic_KernelFfnUpIdeal_ReferenceFfnUpIdeal := fun m g m' g' _ hm =>
  ⟨fun c => (dats m 0 c).arrAt 3 cfg0.N, Cert.KernelFfnUpIdeal.Value.run_blocks m g,
    (θ_run _ _ _).mono (fun _ h c => ⟨(h c).1.trans (by
      obtain ⟨h0, h1, h2⟩ := hm c
      refine (Cert.ReferenceFfnUpIdeal.Read.val_main_v8_eq (F := Ideal) _ _ _).trans ?_
      rw [h0, h1, h2]
      exact (funext fun i => reference_eq _ _ _ i).trans (result_eq m c).symm), (h c).2⟩) (Cert.ReferenceFfnUpIdeal.Value.run (F := Ideal) m' g')⟩

end Cert.Proof.FfnUp

end
-- ==== Proof.Mat.FfnDown.lean ====
module

public import proofs.«01_k».proof.Proof.Gen.KernelFfnDownIdeal.Value
public import proofs.«01_k».proof.Proof.Gen.ReferenceFfnDownIdeal.Read
public import proofs.«01_k».proof.Proof.Mat.Common
public import proofs.«01_k».proof.Defs

@[expose] public section

/-! The dense feed-forward's second product. Each grid point multiplies 1024 rows by 256 columns; the blocks
    tile the result, so the result is the whole product, and the reference's sliced product is the same. -/

noncomputable section

namespace Cert.Proof.FfnDown

open Cert.KernelFfnDownIdeal Cert.KernelFfnDownIdeal.Gen Idealize.ShloMosaic Idealize.ShloMosaic.TcCoe

variable (m : (ℓ : Loc nD τ sig) → Buf (Elt Ideal) ℓ) (c : Dev nD)

/-- The activations. -/
abbrev x0 : S8192x11008.Idx → EReal := m (c.tc.loc main_arg0)
/-- The stacked weights. -/
abbrev x1 : S2x11008x4096.Idx → EReal := m (c.tc.loc main_arg1)

/-- At the kernel's start the cast activations are the activations. -/
theorem V_v0 : (V m c main_v0 : S8192x11008.Idx → EReal) = x0 m c := by
  show StableHlo.after hostOps0 _ (Proc.devRef .tc main_v0) = _
  after_results
  rfl

/-- The activations' block at a grid point is chosen by its first coordinate. -/
theorem idx0 : ∀ t : Fin grid0.N, win0_0.index t = ![(grid0.coords t 0).val, 0] := by decide +kernel
/-- The weights' block at a grid point is chosen by its second coordinate. -/
theorem idx1 : ∀ t : Fin grid0.N, win0_1.index t = ![0, 0, (grid0.coords t 1).val] := by decide +kernel
/-- The result's block at a grid point is chosen by both coordinates. -/
theorem idx2 : ∀ t : Fin grid0.N, win0_2.index t = ![(grid0.coords t 0).val, (grid0.coords t 1).val] := by decide +kernel

/-- An entry of the block the body computes is a row times a column. -/
theorem pay_apply (a : S1024x11008.Idx → EReal) (w : S1x11008x256.Idx → EReal) (r : Fin 1024) (d : Fin 256) :
    (k0_pay1 (F := Ideal) a w (ix2 r d) : EReal) = ∑ k : Fin 11008, a (ix2 r k) * w (ix3 (0 : Fin 1) k d) := by
  pointwise [k0_pay1]

/-- The body's store fills the result's block with what it computes. -/
theorem out_eq (a : S1024x11008.Idx → EReal) (w : S1x11008x256.Idx → EReal) :
    (out0_2 (F := Ideal) a w : S1024x256.Idx → EReal) = k0_pay1 (F := Ideal) a w := by
  unfold out0_2 r0_2 r0_1 r0_0
  rw [View.canon_cons_unit_lit _ _ _ (by decide), View.ld_unit_lit _ _ (by decide), View.ld_unit_lit _ _ (by decide)]

/-- The activations' block holds the rows of its grid point. -/
theorem a_apply (t : Fin cfg0.N) (r : Fin 1024) (k : Fin 11008) (i : Fin 8192) (hi : i.val = (grid0.coords t 0).val * 1024 + r.val) :
    (iblk m c 0 t (ix2 r k) : EReal) = x0 m c (ix2 i k) := by
  unfold iblk
  show (V m c main_v0 : S8192x11008.Idx → EReal) _ = _
  rw [V_v0]
  refine congrArg (x0 m c) (funext fun a => Fin.ext ?_)
  match a with
  | ⟨0, _⟩ => blk_simp [idx0, hi]
  | ⟨1, _⟩ => blk_simp [idx0]

/-- The weights' block holds the columns of its grid point of matrix 0. -/
theorem w_apply (t : Fin cfg0.N) (k : Fin 11008) (d : Fin 256) (j : Fin 4096) (hj : j.val = (grid0.coords t 1).val * 256 + d.val) :
    (iblk m c 1 t (ix3 (0 : Fin 1) k d) : EReal) = x1 m c (ix3 (0 : Fin 2) k j) := by
  unfold iblk
  show (V m c main_arg1 : S2x11008x4096.Idx → EReal) _ = _
  rw [V_main_arg1]
  refine congrArg (x1 m c) (funext fun a => Fin.ext ?_)
  match a with
  | ⟨0, _⟩ => blk_simp [idx1]; rfl
  | ⟨1, _⟩ => blk_simp [idx1]
  | ⟨2, _⟩ => blk_simp [idx1, hj]

/-- The kernel's result is the product. -/
theorem result_eq : (dats m 0 c).arrAt 2 cfg0.N = Mat.prod (x0 m c) (x1 m c) := by
  refine (dats m 0 c).arrAt_eq_of_covers 2 _ (by decide +kernel) fun t hf y => ?_
  blk_simp [Mat.prod, idx2]
  rw [after0_2]
  refine (congrFun (out_eq _ _) y).trans ?_
  refine (congrArg (k0_pay1 (F := Ideal) (iblk m c 0 t) (iblk m c 1 t)) (Mat.ix2_eta y)).trans ((pay_apply _ _ _ _).trans (Finset.sum_congr rfl fun k _ => ?_))
  exact congrArg₂ (fun u v : EReal => u * v) (a_apply m c t _ k _ rfl) (w_apply m c t k _ _ rfl)

/-- The reference's result is the product. -/
theorem reference_eq (x : S8192x11008.Idx → EReal) (w : S2x11008x4096.Idx → EReal) :
    (Cert.ReferenceFfnDownIdeal.Read.val_main_v2 (F := Ideal) x w : S8192x4096.Idx → EReal) = Mat.prod x w := by
  funext i
  have h1 : (i 1).val < 4096 := (i 1).isLt
  rw [Cert.ReferenceFfnDownIdeal.Read.val_main_v2_apply]
  refine Mat.sum_eq_prod (fun k => congrArg x (Mat.ix2_eta _)) fun k => ?_
  rw [Cert.ReferenceFfnDownIdeal.Read.val_main_v1_apply, Cert.ReferenceFfnDownIdeal.Read.val_main_v0_apply]
  refine congrArg w (funext fun a => Fin.ext ?_)
  match a with
  | ⟨0, _⟩ => rfl
  | ⟨1, _⟩ => show (k.val * 4096 + (i 1).val) / 4096 % 11008 = k.val; omega
  | ⟨2, _⟩ => show (k.val * 4096 + (i 1).val) % 4096 = (i 1).val; omega

/-- From the same arguments, over the extended reals, the kernel's program and the reference's have one result. -/
theorem algebraic : Cert.algebraic_KernelFfnDownIdeal_ReferenceFfnDownIdeal := fun m g m' g' _ hm =>
  ⟨fun c => (dats m 0 c).arrAt 2 cfg0.N, Cert.KernelFfnDownIdeal.Value.run_blocks m g,
    (θ_run _ _ _).mono (fun _ h c => ⟨(h c).1.trans (by
      obtain ⟨h0, h1⟩ := hm c
      refine (Cert.ReferenceFfnDownIdeal.Read.val_main_v2_eq (F := Ideal) _ _).trans ?_
      rw [h0, h1]
      exact (reference_eq _ _).trans (result_eq m c).symm), (h c).2⟩) (Cert.ReferenceFfnDownIdeal.Value.run (F := Ideal) m' g')⟩

end Cert.Proof.FfnDown

end
-- ==== Proof.Mat.OddIn.lean ====
module

public import proofs.«01_k».proof.Proof.Gen.KernelOddInIdeal.Value
public import proofs.«01_k».proof.Proof.Gen.ReferenceOddInIdeal.Read
public import proofs.«01_k».proof.Proof.Mat.Common
public import proofs.«01_k».proof.Defs

@[expose] public section

/-! The odd layer's input projection, its first 7168 columns. Each grid point multiplies
    2048 rows by 512 columns, the weights transposed; the blocks tile the result, so the result is those columns of
    the product, and so is the reference's sliced product. -/

noncomputable section

namespace Cert.Proof.OddIn

open Cert.KernelOddInIdeal Cert.KernelOddInIdeal.Gen Idealize.ShloMosaic Idealize.ShloMosaic.TcCoe

variable (m : (ℓ : Loc nD τ sig) → Buf (Elt Ideal) ℓ) (c : Dev nD)

/-- The activations. -/
abbrev x0 : S8192x4096.Idx → EReal := m (c.tc.loc main_arg0)
/-- The stacked weights. -/
abbrev x1 : S2x4096x7248.Idx → EReal := m (c.tc.loc main_arg1)

/-- The first 7168 columns of the product. -/
def cols (i : S8192x7168.Idx) : EReal :=
  ∑ k : Fin 4096, x0 m c (ix2 (⟨(i 0).val, (i 0).isLt⟩ : Fin 8192) k)
    * x1 m c (ix3 (0 : Fin 2) k (⟨(i 1).val, Nat.lt_of_lt_of_le (i 1).isLt (by decide)⟩ : Fin 7248))

/-- At the kernel's start the transposed weights are the weights, transposed. -/
theorem V_v0 (l : Fin 2) (d : Fin 7248) (k : Fin 4096) : (V m c main_v0 (ix3 l d k) : EReal) = x1 m c (ix3 l k d) := by
  have e : (V m c main_v0 : S2x7248x4096.Idx → EReal) = transpose S2x7248x4096 [0, 2, 1] (x1 m c) (by decide) := by
    show StableHlo.after hostOps0 _ (Proc.devRef .tc main_v0) = _
    after_results
  rw [e]
  exact transpose_apply [0, 2, 1] (x1 m c) (by decide) _ _ fun b => match b with
    | ⟨0, _⟩ => rfl
    | ⟨1, _⟩ => rfl
    | ⟨2, _⟩ => rfl

/-- At the kernel's start the cast activations are the activations. -/
theorem V_v1 : (V m c main_v1 : S8192x4096.Idx → EReal) = x0 m c := by
  show StableHlo.after hostOps0 _ (Proc.devRef .tc main_v1) = _
  after_results
  rfl

/-- The activations' block at a grid point is chosen by its first coordinate. -/
theorem idx0 : ∀ t : Fin grid0.N, win0_0.index t = ![(grid0.coords t 0).val, 0] := by decide +kernel
/-- The weights' block at a grid point is chosen by its second coordinate. -/
theorem idx1 : ∀ t : Fin grid0.N, win0_1.index t = ![0, (grid0.coords t 1).val, 0] := by decide +kernel
/-- The result's block at a grid point is chosen by both coordinates. -/
theorem idx2 : ∀ t : Fin grid0.N, win0_2.index t = ![(grid0.coords t 0).val, (grid0.coords t 1).val] := by decide +kernel

/-- An entry of the block the body computes is a row times a row of the transposed weights. -/
theorem pay_apply (a : S2048x4096.Idx → EReal) (w : S1x512x4096.Idx → EReal) (r : Fin 2048) (d : Fin 512) :
    (k0_pay1 (F := Ideal) a w (ix2 r d) : EReal) = ∑ k : Fin 4096, a (ix2 r k) * w (ix3 (0 : Fin 1) d k) := by
  pointwise [k0_pay1]

/-- The body's store fills the result's block with what it computes. -/
theorem out_eq (t : Fin cfg0.N) : (outsAt0 m c t : S2048x512.Idx → EReal) = k0_pay1 (F := Ideal) (iblk m c 0 t) (X0_1 m c t) := by
  unfold outsAt0
  frame_out

/-- The activations' block holds the rows of its grid point. -/
theorem a_apply (t : Fin cfg0.N) (r : Fin 2048) (k : Fin 4096) (i : Fin 8192) (hi : i.val = (grid0.coords t 0).val * 2048 + r.val) :
    (iblk m c 0 t (ix2 r k) : EReal) = x0 m c (ix2 i k) := by
  unfold iblk
  show (V m c main_v1 : S8192x4096.Idx → EReal) _ = _
  rw [V_v1]
  refine congrArg (x0 m c) (funext fun a => Fin.ext ?_)
  match a with
  | ⟨0, _⟩ => blk_simp [idx0, hi]
  | ⟨1, _⟩ => blk_simp [idx0]

/-- The weights' block holds the columns of its grid point of matrix 0. -/
theorem w_apply (t : Fin cfg0.N) (k : Fin 4096) (d : Fin 512) (j : Fin 7248) (hj : j.val = (grid0.coords t 1).val * 512 + d.val) :
    (X0_1 m c t (ix3 (0 : Fin 1) d k) : EReal) = x1 m c (ix3 (0 : Fin 2) k j) := by
  unfold X0_1 Pipeline.Window.fill
  rw [dif_pos (moved0_1 t _)]
  unfold iblk
  refine Eq.trans (congrArg (V m c main_v0 : S2x7248x4096.Idx → EReal) (funext fun a => Fin.ext ?_)) (V_v0 m c 0 j k)
  match a with
  | ⟨0, _⟩ => blk_simp [idx1]; rfl
  | ⟨1, _⟩ => blk_simp [idx1, hj]
  | ⟨2, _⟩ => blk_simp [idx1]

/-- The kernel's result is those columns of the product. -/
theorem result_eq : (dats m 0 c).arrAt 2 cfg0.N = cols m c := by
  refine (dats m 0 c).arrAt_eq_of_covers 2 _ (by decide +kernel) fun t hf y => ?_
  blk_simp [cols, idx2]
  rw [after0_2]
  refine (congrFun (out_eq m c t) y).trans ?_
  refine (congrArg (k0_pay1 (F := Ideal) (iblk m c 0 t) (X0_1 m c t)) (Mat.ix2_eta y)).trans ((pay_apply _ _ _ _).trans (Finset.sum_congr rfl fun k _ => ?_))
  exact congrArg₂ (fun u v : EReal => u * v) (a_apply m c t _ k _ rfl) (w_apply m c t k _ _ rfl)

open Cert.ReferenceOddInIdeal.Read in
/-- The reference's result is those columns of the product. -/
theorem reference_eq : (val_main_v3 (F := Ideal) (x0 m c) (x1 m c) : S8192x7168.Idx → EReal) = cols m c := by
  funext i
  have h1 : (i 1).val < 7168 := (i 1).isLt
  rw [val_main_v3_apply, val_main_v2_apply]
  refine Finset.sum_congr rfl fun k _ => congrArg₂ (fun u v : EReal => u * v) (congrArg (x0 m c) (Mat.ix2_eta _)) ?_
  rw [val_main_v1_apply, val_main_v0_apply]
  refine congrArg (x1 m c) (funext fun a => Fin.ext ?_)
  match a with
  | ⟨0, _⟩ => rfl
  | ⟨1, _⟩ => show (k.val * 7248 + (i 1).val) / 7248 % 4096 = k.val; omega
  | ⟨2, _⟩ => show (k.val * 7248 + (i 1).val) % 7248 = (i 1).val; omega

/-- From the same arguments, over the extended reals, the kernel's program and the reference's have one result. -/
theorem algebraic : Cert.algebraic_KernelOddInIdeal_ReferenceOddInIdeal := fun m g m' g' _ hm =>
  ⟨fun c => (dats m 0 c).arrAt 2 cfg0.N, Cert.KernelOddInIdeal.Value.run_blocks m g,
    (θ_run _ _ _).mono (fun _ h c => ⟨(h c).1.trans (by
      obtain ⟨h0, h1⟩ := hm c
      refine (Cert.ReferenceOddInIdeal.Read.val_main_v3_eq (F := Ideal) _ _).trans ?_
      rw [h0, h1]
      exact (reference_eq m c).trans (result_eq m c).symm), (h c).2⟩) (Cert.ReferenceOddInIdeal.Value.run (F := Ideal) m' g')⟩

end Cert.Proof.OddIn

end
-- ==== Proof.Mat.OddOut.lean ====
module

public import proofs.«01_k».proof.Proof.Gen.KernelOddOutIdeal.Value
public import proofs.«01_k».proof.Proof.Gen.ReferenceOddOutIdeal.Read
public import proofs.«01_k».proof.Proof.Mat.Common
public import proofs.«01_k».proof.Defs

@[expose] public section

/-! The odd layer's output projection. Each grid point multiplies 2048 rows by 512 columns; the blocks
    tile the result, so the result is the whole product, and the reference's sliced product is the same. -/

noncomputable section

namespace Cert.Proof.OddOut

open Cert.KernelOddOutIdeal Cert.KernelOddOutIdeal.Gen Idealize.ShloMosaic Idealize.ShloMosaic.TcCoe

variable (m : (ℓ : Loc nD τ sig) → Buf (Elt Ideal) ℓ) (c : Dev nD)

/-- The activations. -/
abbrev x0 : S8192x4096.Idx → EReal := m (c.tc.loc main_arg0)
/-- The stacked weights. -/
abbrev x1 : S2x4096x4096.Idx → EReal := m (c.tc.loc main_arg1)

/-- At the kernel's start the cast activations are the activations. -/
theorem V_v0 : (V m c main_v0 : S8192x4096.Idx → EReal) = x0 m c := by
  show StableHlo.after hostOps0 _ (Proc.devRef .tc main_v0) = _
  after_results
  rfl

/-- The activations' block at a grid point is chosen by its first coordinate. -/
theorem idx0 : ∀ t : Fin grid0.N, win0_0.index t = ![(grid0.coords t 0).val, 0] := by decide +kernel
/-- The weights' block at a grid point is chosen by its second coordinate. -/
theorem idx1 : ∀ t : Fin grid0.N, win0_1.index t = ![0, 0, (grid0.coords t 1).val] := by decide +kernel
/-- The result's block at a grid point is chosen by both coordinates. -/
theorem idx2 : ∀ t : Fin grid0.N, win0_2.index t = ![(grid0.coords t 0).val, (grid0.coords t 1).val] := by decide +kernel

/-- An entry of the block the body computes is a row times a column. -/
theorem pay_apply (a : S2048x4096.Idx → EReal) (w : S1x4096x512.Idx → EReal) (r : Fin 2048) (d : Fin 512) :
    (k0_pay1 (F := Ideal) a w (ix2 r d) : EReal) = ∑ k : Fin 4096, a (ix2 r k) * w (ix3 (0 : Fin 1) k d) := by
  pointwise [k0_pay1]

/-- The body's store fills the result's block with what it computes. -/
theorem out_eq (a : S2048x4096.Idx → EReal) (w : S1x4096x512.Idx → EReal) :
    (out0_2 (F := Ideal) a w : S2048x512.Idx → EReal) = k0_pay1 (F := Ideal) a w := by
  unfold out0_2 r0_2 r0_1 r0_0
  rw [View.canon_cons_unit_lit _ _ _ (by decide), View.ld_unit_lit _ _ (by decide), View.ld_unit_lit _ _ (by decide)]

/-- The activations' block holds the rows of its grid point. -/
theorem a_apply (t : Fin cfg0.N) (r : Fin 2048) (k : Fin 4096) (i : Fin 8192) (hi : i.val = (grid0.coords t 0).val * 2048 + r.val) :
    (iblk m c 0 t (ix2 r k) : EReal) = x0 m c (ix2 i k) := by
  unfold iblk
  show (V m c main_v0 : S8192x4096.Idx → EReal) _ = _
  rw [V_v0]
  refine congrArg (x0 m c) (funext fun a => Fin.ext ?_)
  match a with
  | ⟨0, _⟩ => blk_simp [idx0, hi]
  | ⟨1, _⟩ => blk_simp [idx0]

/-- The weights' block holds the columns of its grid point of matrix 0. -/
theorem w_apply (t : Fin cfg0.N) (k : Fin 4096) (d : Fin 512) (j : Fin 4096) (hj : j.val = (grid0.coords t 1).val * 512 + d.val) :
    (iblk m c 1 t (ix3 (0 : Fin 1) k d) : EReal) = x1 m c (ix3 (0 : Fin 2) k j) := by
  unfold iblk
  show (V m c main_arg1 : S2x4096x4096.Idx → EReal) _ = _
  rw [V_main_arg1]
  refine congrArg (x1 m c) (funext fun a => Fin.ext ?_)
  match a with
  | ⟨0, _⟩ => blk_simp [idx1]; rfl
  | ⟨1, _⟩ => blk_simp [idx1]
  | ⟨2, _⟩ => blk_simp [idx1, hj]

/-- The kernel's result is the product. -/
theorem result_eq : (dats m 0 c).arrAt 2 cfg0.N = Mat.prod (x0 m c) (x1 m c) := by
  refine (dats m 0 c).arrAt_eq_of_covers 2 _ (by decide +kernel) fun t hf y => ?_
  blk_simp [Mat.prod, idx2]
  rw [after0_2]
  refine (congrFun (out_eq _ _) y).trans ?_
  refine (congrArg (k0_pay1 (F := Ideal) (iblk m c 0 t) (iblk m c 1 t)) (Mat.ix2_eta y)).trans ((pay_apply _ _ _ _).trans (Finset.sum_congr rfl fun k _ => ?_))
  exact congrArg₂ (fun u v : EReal => u * v) (a_apply m c t _ k _ rfl) (w_apply m c t k _ _ rfl)

/-- The reference's result is the product. -/
theorem reference_eq (x : S8192x4096.Idx → EReal) (w : S2x4096x4096.Idx → EReal) :
    (Cert.ReferenceOddOutIdeal.Read.val_main_v2 (F := Ideal) x w : S8192x4096.Idx → EReal) = Mat.prod x w := by
  funext i
  have h1 : (i 1).val < 4096 := (i 1).isLt
  rw [Cert.ReferenceOddOutIdeal.Read.val_main_v2_apply]
  refine Mat.sum_eq_prod (fun k => congrArg x (Mat.ix2_eta _)) fun k => ?_
  rw [Cert.ReferenceOddOutIdeal.Read.val_main_v1_apply, Cert.ReferenceOddOutIdeal.Read.val_main_v0_apply]
  refine congrArg w (funext fun a => Fin.ext ?_)
  match a with
  | ⟨0, _⟩ => rfl
  | ⟨1, _⟩ => show (k.val * 4096 + (i 1).val) / 4096 % 4096 = k.val; omega
  | ⟨2, _⟩ => show (k.val * 4096 + (i 1).val) % 4096 = (i 1).val; omega

/-- From the same arguments, over the extended reals, the kernel's program and the reference's have one result. -/
theorem algebraic : Cert.algebraic_KernelOddOutIdeal_ReferenceOddOutIdeal := fun m g m' g' _ hm =>
  ⟨fun c => (dats m 0 c).arrAt 2 cfg0.N, Cert.KernelOddOutIdeal.Value.run_blocks m g,
    (θ_run _ _ _).mono (fun _ h c => ⟨(h c).1.trans (by
      obtain ⟨h0, h1⟩ := hm c
      refine (Cert.ReferenceOddOutIdeal.Read.val_main_v2_eq (F := Ideal) _ _).trans ?_
      rw [h0, h1]
      exact (reference_eq _ _).trans (result_eq m c).symm), (h c).2⟩) (Cert.ReferenceOddOutIdeal.Value.run (F := Ideal) m' g')⟩

end Cert.Proof.OddOut

end
-- ==== Proof.Mat.OddTail.lean ====
module

public import proofs.«01_k».proof.Proof.Gen.KernelOddTailIdeal.Value
public import proofs.«01_k».proof.Proof.Gen.ReferenceOddTailIdeal.Read
public import proofs.«01_k».proof.Proof.Mat.Common
public import Idealize.ShloMosaic.Lib.KernelVsHost
public import proofs.«01_k».proof.Defs

@[expose] public section

/-! The odd layer's input projection, its last 80 columns, padded to 128. Each grid point multiplies 2048 rows by the
    last 80 columns of the weights, transposed and padded with zeros; the blocks tile the result, so the result is those
    columns of the product and then zeros, and so is the reference's sliced and padded product. -/

noncomputable section

namespace Cert.Proof.OddTail

open Cert.KernelOddTailIdeal Cert.KernelOddTailIdeal.Gen Idealize.ShloMosaic Idealize.ShloMosaic.TcCoe

variable (m : (ℓ : Loc nD τ sig) → Buf (Elt Ideal) ℓ) (c : Dev nD)

/-- The activations. -/
abbrev x0 : S8192x4096.Idx → EReal := m (c.tc.loc main_arg0)
/-- The stacked weights. -/
abbrev x1 : S2x4096x7248.Idx → EReal := m (c.tc.loc main_arg1)

/-- Row `d` of the weights the kernel reads: column `7168 + d` of matrix 0, and zero from row 80 on. -/
def col (w : S2x4096x7248.Idx → EReal) (d : Fin 128) (k : Fin 4096) : EReal :=
  if h : d.val < 80 then w (ix3 (0 : Fin 2) k (⟨7168 + d.val, by omega⟩ : Fin 7248)) else 0

/-- The last 80 columns of the product, padded with zeros to 128. -/
def cols (x : S8192x4096.Idx → EReal) (w : S2x4096x7248.Idx → EReal) (i : S8192x128.Idx) : EReal :=
  ∑ k : Fin 4096, x (ix2 (⟨(i 0).val, (i 0).isLt⟩ : Fin 8192) k) * col w ⟨(i 1).val, (i 1).isLt⟩ k

/-- The padding value, zero. -/
theorem pad_zero : (sitofp (F := Ideal) .f32 (constantI S_ 32 0#32) (Shape.Idx.first h_S_) : EReal) = 0 := by
  show (((0#32 : BitVec 32).toInt : ℝ) : EReal) = 0
  simp

/-- At the kernel's start the padded weights are the last 80 columns of matrix 0, transposed, and then zeros. -/
theorem V_v3 (d : Fin 128) (k : Fin 4096) : (V m c main_v3 (ix2 d k) : EReal) = col (x1 m c) d k := by
  have e : (V m c main_v3 : S128x4096.Idx → EReal)
      = pad S128x4096 ![0, 0] ![48, 0] ![0, 0]
          (shapeCast S80x4096 (extractStridedSlice S1x80x4096 ![0, 7168, 0] (transpose S2x7248x4096 [0, 2, 1] (x1 m c) (by decide)) (by decide)) (by decide))
          (sitofp (F := Ideal) .f32 (constantI S_ 32 0#32)) (by decide) h_S_ := by
    show StableHlo.after (List.flatten [hostOps0, hostOps0_1, hostOps0_2]) _ (Proc.devRef .tc main_v3) = _
    simp only [List.flatten_cons, List.flatten_nil, List.append_nil, List.cons_append, List.nil_append]
    after_results
    rfl
  rw [e]
  unfold col
  by_cases h : d.val < 80
  · rw [dif_pos h]
    refine (pad_apply_of_inside _ _ _ _ _ _ _ _ (ix2 (⟨d.val, h⟩ : Fin 80) k) fun a => ?_).trans ?_
    · match a with
      | ⟨0, _⟩ => show d.val = 0 + d.val * (0 + 1); omega
      | ⟨1, _⟩ => show k.val = 0 + k.val * (0 + 1); omega
    · pointwise []
  · rw [dif_neg h]
    refine (pad_apply_of_not_inside _ _ _ _ _ _ _ _ (0 : Fin 2) fun hin => ?_).trans pad_zero
    have h2 : (d.val - 0) / (0 + 1) < 80 := hin.2.2
    omega

/-- At the kernel's start the cast activations are the activations. -/
theorem V_v4 : (V m c main_v4 : S8192x4096.Idx → EReal) = x0 m c := by
  show StableHlo.after (List.flatten [hostOps0, hostOps0_1, hostOps0_2]) _ (Proc.devRef .tc main_v4) = _
  simp only [List.flatten_cons, List.flatten_nil, List.append_nil, List.cons_append, List.nil_append]
  after_results
  rfl

/-- The activations' block at a grid point is chosen by its coordinate. -/
theorem idx0 : ∀ t : Fin grid0.N, win0_0.index t = ![(grid0.coords t 0).val, 0] := by decide +kernel
/-- Every grid point reads all of the padded weights. -/
theorem idx1 : ∀ t : Fin grid0.N, win0_1.index t = ![0, 0] := by decide +kernel
/-- The result's block at a grid point is chosen by its coordinate. -/
theorem idx2 : ∀ t : Fin grid0.N, win0_2.index t = ![(grid0.coords t 0).val, 0] := by decide +kernel

/-- An entry of the block the body computes is a row times a row of the padded weights. -/
theorem pay_apply (a : S2048x4096.Idx → EReal) (w : S128x4096.Idx → EReal) (r : Fin 2048) (d : Fin 128) :
    (k0_pay1 (F := Ideal) a w (ix2 r d) : EReal) = ∑ k : Fin 4096, a (ix2 r k) * w (ix2 d k) := by
  pointwise [k0_pay1]

/-- The body's store fills the result's block with what it computes. -/
theorem out_eq (a : S2048x4096.Idx → EReal) (w : S128x4096.Idx → EReal) :
    (out0_2 (F := Ideal) a w : S2048x128.Idx → EReal) = k0_pay1 (F := Ideal) a w := by
  unfold out0_2 r0_2 r0_1 r0_0
  rw [View.canon_cons_unit_lit _ _ _ (by decide), View.ld_unit_lit _ _ (by decide), View.ld_unit_lit _ _ (by decide)]

/-- The activations' block holds the rows of its grid point. -/
theorem a_apply (t : Fin cfg0.N) (r : Fin 2048) (k : Fin 4096) (i : Fin 8192) (hi : i.val = (grid0.coords t 0).val * 2048 + r.val) :
    (iblk m c 0 t (ix2 r k) : EReal) = x0 m c (ix2 i k) := by
  unfold iblk
  show (V m c main_v4 : S8192x4096.Idx → EReal) _ = _
  rw [V_v4]
  refine congrArg (x0 m c) (funext fun a => Fin.ext ?_)
  match a with
  | ⟨0, _⟩ => blk_simp [idx0, hi]
  | ⟨1, _⟩ => blk_simp [idx0]

/-- The weights' block holds the padded weights. -/
theorem w_apply (t : Fin cfg0.N) (k : Fin 4096) (d : Fin 128) : (iblk m c 1 t (ix2 d k) : EReal) = col (x1 m c) d k := by
  unfold iblk
  refine Eq.trans (congrArg (V m c main_v3 : S128x4096.Idx → EReal) (funext fun a => Fin.ext ?_)) (V_v3 m c d k)
  match a with
  | ⟨0, _⟩ => blk_simp [idx1]
  | ⟨1, _⟩ => blk_simp [idx1]

/-- The kernel's result is those columns of the product, padded. -/
theorem result_eq : (dats m 0 c).arrAt 2 cfg0.N = cols (x0 m c) (x1 m c) := by
  refine (dats m 0 c).arrAt_eq_of_covers 2 _ (by decide +kernel) fun t hf y => ?_
  blk_simp [cols, idx2]
  rw [after0_2]
  refine (congrFun (out_eq _ _) y).trans ?_
  refine (congrArg (k0_pay1 (F := Ideal) (iblk m c 0 t) (iblk m c 1 t)) (Mat.ix2_eta y)).trans ((pay_apply _ _ _ _).trans (Finset.sum_congr rfl fun k _ => ?_))
  exact congrArg₂ (fun u v : EReal => u * v) (a_apply m c t _ k _ rfl) (w_apply m c t k _)

open Cert.ReferenceOddTailIdeal.Read in
/-- The reference's result is those columns of the product, padded. -/
theorem reference_eq (x : S8192x4096.Idx → EReal) (w : S2x4096x7248.Idx → EReal) :
    (val_main_v4 (F := Ideal) x w : S8192x128.Idx → EReal) = cols x w := by
  funext i
  unfold val_main_v4 cols col
  by_cases h : (i 1).val < 80
  · simp only [dif_pos h]
    refine (pad_apply_of_inside _ _ _ _ _ _ _ _ (ix2 (⟨(i 0).val, (i 0).isLt⟩ : Fin 8192) (⟨(i 1).val, h⟩ : Fin 80)) fun a => ?_).trans ?_
    · match a with
      | ⟨0, _⟩ => show (i 0).val = 0 + (i 0).val * (0 + 1); omega
      | ⟨1, _⟩ => show (i 1).val = 0 + (i 1).val * (0 + 1); omega
    · rw [val_main_v3_apply, val_main_v2_apply]
      refine Finset.sum_congr rfl fun k _ => congrArg₂ (fun u v : EReal => u * v) (congrArg x (Mat.ix2_eta _)) ?_
      rw [val_main_v1_apply, val_main_v0_apply]
      refine congrArg w (funext fun a => Fin.ext ?_)
      match a with
      | ⟨0, _⟩ => rfl
      | ⟨1, _⟩ => show (k.val * 7248 + (7168 + (i 1).val)) / 7248 % 4096 = k.val; omega
      | ⟨2, _⟩ => show (k.val * 7248 + (7168 + (i 1).val)) % 7248 = 7168 + (i 1).val; omega
  · simp only [dif_neg h, mul_zero, Finset.sum_const_zero]
    refine (pad_apply_of_not_inside _ _ _ _ _ _ _ _ (1 : Fin 2) fun hin => ?_).trans pad_zero
    have h2 : ((i 1).val - 0) / (0 + 1) < 80 := hin.2.2
    omega

/-- From the same arguments, over the extended reals, the kernel's program and the reference's have one result. -/
theorem algebraic : Cert.algebraic_KernelOddTailIdeal_ReferenceOddTailIdeal := fun m g m' g' _ hm =>
  ⟨fun c => (dats m 0 c).arrAt 2 cfg0.N, Cert.KernelOddTailIdeal.Value.run_blocks m g,
    (θ_run _ _ _).mono (fun _ h c => ⟨(h c).1.trans (by
      obtain ⟨h0, h1⟩ := hm c
      refine (Cert.ReferenceOddTailIdeal.Read.val_main_v4_eq (F := Ideal) _ _).trans ?_
      rw [h0, h1]
      exact (reference_eq _ _).trans (result_eq m c).symm), (h c).2⟩) (Cert.ReferenceOddTailIdeal.Value.run (F := Ideal) m' g')⟩

end Cert.Proof.OddTail

end
-- ==== Proof.Mat.Norm.lean ====
module

public import proofs.«01_k».proof.Proof.Gen.KernelNormIdeal.Value
public import proofs.«01_k».proof.Proof.Gen.ReferenceNormIdeal.Read
public import proofs.«01_k».proof.Proof.Mat.Common
public import proofs.«01_k».proof.Defs

@[expose] public section

/-! The residual sum and its layer norm. Each grid point normalizes 256 rows; the blocks tile both results, so each
    result is the normalized array, and so is the reference's. -/

noncomputable section

namespace Cert.Proof.Norm

open Cert.KernelNormIdeal Cert.KernelNormIdeal.Gen Idealize.ShloMosaic Idealize.ShloMosaic.TcCoe

variable (m : (ℓ : Loc nD τ sig) → Buf (Elt Ideal) ℓ) (c : Dev nD)

/-- The stream. -/
abbrev x0 : S8192x4096.Idx → EReal := m (c.tc.loc main_arg0)
/-- The sublayer's output. -/
abbrev x1 : S8192x4096.Idx → EReal := m (c.tc.loc main_arg1)
/-- The stacked gains. -/
abbrev x2 : S4x2x4096.Idx → EReal := m (c.tc.loc main_arg2)
/-- The stacked offsets. -/
abbrev x3 : S4x2x4096.Idx → EReal := m (c.tc.loc main_arg3)

/-- The scaled residual plus the sublayer's output. -/
def mixed (x h : EReal) : EReal := Ideal.ofBits .f32 0x3FD744FD#32 * x + h

/-- The mean of a row. -/
def mean (y : Fin 4096 → EReal) : EReal := Ideal.div (∑ k, y k) (Ideal.ofBits .f32 0x45800000#32)

/-- Entry `d` of a row, normalized, with gain `g` and offset `b`. -/
def normed (y : Fin 4096 → EReal) (g b : EReal) (d : Fin 4096) : EReal :=
  (y d - mean y) * Ideal.rsqrt (mean (fun k => (y k - mean y) * (y k - mean y)) + Ideal.ofBits .f32 0x3727C5AC#32) * g + b

/-- The normalized array: row `i 0` of the residual sum, normalized with the first gain and offset of layer 0. -/
def full (x h : S8192x4096.Idx → EReal) (g b : S4x2x4096.Idx → EReal) (i : S8192x4096.Idx) : EReal :=
  normed (fun k => mixed (x (ix2 (⟨(i 0).val, (i 0).isLt⟩ : Fin 8192) k)) (h (ix2 (⟨(i 0).val, (i 0).isLt⟩ : Fin 8192) k)))
    (g (ix3 (0 : Fin 4) (0 : Fin 2) (⟨(i 1).val, (i 1).isLt⟩ : Fin 4096))) (b (ix3 (0 : Fin 4) (0 : Fin 2) (⟨(i 1).val, (i 1).isLt⟩ : Fin 4096)))
    (⟨(i 1).val, (i 1).isLt⟩ : Fin 4096)

/-- An entry of the block the body computes is its row's residual sum, normalized. -/
theorem pay_apply (x h : S256x4096.Idx → EReal) (g b : S1x1x4096.Idx → EReal) (r : Fin 256) (d : Fin 4096) :
    (k0_pay1 (F := Ideal) x h g b (ix2 r d) : EReal)
      = normed (fun k => mixed (x (ix2 r k)) (h (ix2 r k))) (g (ix3 (0 : Fin 1) (0 : Fin 1) d)) (b (ix3 (0 : Fin 1) (0 : Fin 1) d)) d := by
  pointwise [k0_pay1, normed, mean, mixed]

/-- The body's first store fills its result's block with what it computes. -/
theorem out4_eq (x h : S256x4096.Idx → EReal) (g b : S1x1x4096.Idx → EReal) :
    (out0_4 (F := Ideal) x h g b : S256x4096.Idx → EReal) = k0_pay1 (F := Ideal) x h g b := by
  unfold out0_4 r0_1 r0_0
  rw [View.canon_cons_unit_lit _ _ _ (by decide), View.ld_unit_lit _ _ (by decide), View.ld_unit_lit _ _ (by decide), View.ld_unit_lit _ _ (by decide), View.ld_unit_lit _ _ (by decide)]

/-- The body's second store fills its result's block with the same values. -/
theorem out5_eq (x h : S256x4096.Idx → EReal) (g b : S1x1x4096.Idx → EReal) :
    (out0_5 (F := Ideal) x h g b : S256x4096.Idx → EReal) = k0_pay1 (F := Ideal) x h g b := by
  unfold out0_5 r0_1 r0_0
  rw [View.canon_cons_unit_lit _ _ _ (by decide), View.ld_unit_lit _ _ (by decide), View.ld_unit_lit _ _ (by decide), View.ld_unit_lit _ _ (by decide), View.ld_unit_lit _ _ (by decide)]
  rfl

/-- The stream's block at a grid point is chosen by its coordinate. -/
theorem idx0 : ∀ t : Fin grid0.N, win0_0.index t = ![(grid0.coords t 0).val, 0] := by decide +kernel
/-- The sublayer output's block at a grid point is chosen by its coordinate. -/
theorem idx1 : ∀ t : Fin grid0.N, win0_1.index t = ![(grid0.coords t 0).val, 0] := by decide +kernel
/-- Every grid point reads the first gains. -/
theorem idx2 : ∀ t : Fin grid0.N, win0_2.index t = ![0, 0, 0] := by decide +kernel
/-- Every grid point reads the first offsets. -/
theorem idx3 : ∀ t : Fin grid0.N, win0_3.index t = ![0, 0, 0] := by decide +kernel
/-- The first result's block at a grid point is chosen by its coordinate. -/
theorem idx4 : ∀ t : Fin grid0.N, win0_4.index t = ![(grid0.coords t 0).val, 0] := by decide +kernel
/-- The second result's block at a grid point is chosen by its coordinate. -/
theorem idx5 : ∀ t : Fin grid0.N, win0_5.index t = ![(grid0.coords t 0).val, 0] := by decide +kernel

/-- At the kernel's start the first row of gains is the first of layer 0. -/
theorem V_v0 (d : Fin 4096) : (V m c main_v0 (ix3 (0 : Fin 8) (0 : Fin 1) d) : EReal) = x2 m c (ix3 (0 : Fin 4) (0 : Fin 2) d) := by
  have e : (V m c main_v0 : S8x1x4096.Idx → EReal) = shapeCast S8x1x4096 (x2 m c) (by decide) := by
    show StableHlo.after hostOps0 _ (Proc.devRef .tc main_v0) = _
    after_results
    rfl
  rw [e]
  pointwise []

/-- At the kernel's start the first row of offsets is the first of layer 0. -/
theorem V_v1 (d : Fin 4096) : (V m c main_v1 (ix3 (0 : Fin 8) (0 : Fin 1) d) : EReal) = x3 m c (ix3 (0 : Fin 4) (0 : Fin 2) d) := by
  have e : (V m c main_v1 : S8x1x4096.Idx → EReal) = shapeCast S8x1x4096 (x3 m c) (by decide) := by
    show StableHlo.after hostOps0 _ (Proc.devRef .tc main_v1) = _
    after_results
    rfl
  rw [e]
  pointwise []

/-- The stream's block holds the rows of its grid point. -/
theorem a_apply (t : Fin cfg0.N) (r : Fin 256) (k : Fin 4096) (i : Fin 8192) (hi : i.val = (grid0.coords t 0).val * 256 + r.val) :
    (iblk m c 0 t (ix2 r k) : EReal) = x0 m c (ix2 i k) := by
  unfold iblk
  show (V m c main_arg0 : S8192x4096.Idx → EReal) _ = _
  rw [V_main_arg0]
  refine congrArg (x0 m c) (funext fun a => Fin.ext ?_)
  match a with
  | ⟨0, _⟩ => blk_simp [idx0, hi]
  | ⟨1, _⟩ => blk_simp [idx0]

/-- The sublayer output's block holds the rows of its grid point. -/
theorem h_apply (t : Fin cfg0.N) (r : Fin 256) (k : Fin 4096) (i : Fin 8192) (hi : i.val = (grid0.coords t 0).val * 256 + r.val) :
    (iblk m c 1 t (ix2 r k) : EReal) = x1 m c (ix2 i k) := by
  unfold iblk
  show (V m c main_arg1 : S8192x4096.Idx → EReal) _ = _
  rw [V_main_arg1]
  refine congrArg (x1 m c) (funext fun a => Fin.ext ?_)
  match a with
  | ⟨0, _⟩ => blk_simp [idx1, hi]
  | ⟨1, _⟩ => blk_simp [idx1]

/-- The gains' block holds the first gains of layer 0. -/
theorem g_apply (t : Fin cfg0.N) (d : Fin 4096) :
    (iblk m c 2 t (ix3 (0 : Fin 1) (0 : Fin 1) d) : EReal) = x2 m c (ix3 (0 : Fin 4) (0 : Fin 2) d) := by
  unfold iblk
  refine Eq.trans (congrArg (V m c main_v0 : S8x1x4096.Idx → EReal) (funext fun a => Fin.ext ?_)) (V_v0 m c d)
  match a with
  | ⟨0, _⟩ => blk_simp [idx2]; rfl
  | ⟨1, _⟩ => blk_simp [idx2]
  | ⟨2, _⟩ => blk_simp [idx2]

/-- The offsets' block holds the first offsets of layer 0. -/
theorem b_apply (t : Fin cfg0.N) (d : Fin 4096) :
    (iblk m c 3 t (ix3 (0 : Fin 1) (0 : Fin 1) d) : EReal) = x3 m c (ix3 (0 : Fin 4) (0 : Fin 2) d) := by
  unfold iblk
  refine Eq.trans (congrArg (V m c main_v1 : S8x1x4096.Idx → EReal) (funext fun a => Fin.ext ?_)) (V_v1 m c d)
  match a with
  | ⟨0, _⟩ => blk_simp [idx3]; rfl
  | ⟨1, _⟩ => blk_simp [idx3]
  | ⟨2, _⟩ => blk_simp [idx3]

/-- Normalizing equal rows with equal gains and offsets gives equal entries. -/
theorem normed_congr {y y' : Fin 4096 → EReal} {g g' b b' : EReal} {d d' : Fin 4096} (hy : ∀ k, y k = y' k) (hg : g = g') (hb : b = b')
    (hd : d = d') : normed y g b d = normed y' g' b' d' := by
  rw [funext hy, hg, hb, hd]

/-- The block a grid point computes holds the normalized array's rows. -/
theorem blk_eq (t : Fin cfg0.N) (y : S256x4096.Idx) (i : S8192x4096.Idx) (h0 : (i 0).val = (grid0.coords t 0).val * 256 + (y 0).val)
    (h1 : (i 1).val = (y 1).val) :
    (k0_pay1 (F := Ideal) (iblk m c 0 t) (iblk m c 1 t) (iblk m c 2 t) (iblk m c 3 t) y : EReal)
      = full (x0 m c) (x1 m c) (x2 m c) (x3 m c) i := by
  have hd : (⟨(y 1).val, (y 1).isLt⟩ : Fin 4096) = ⟨(i 1).val, (i 1).isLt⟩ := Fin.ext h1.symm
  refine (congrArg (k0_pay1 (F := Ideal) (iblk m c 0 t) (iblk m c 1 t) (iblk m c 2 t) (iblk m c 3 t)) (Mat.ix2_eta y)).trans
    ((pay_apply _ _ _ _ _ _).trans (normed_congr (fun k => congrArg₂ mixed (a_apply m c t _ k _ h0) (h_apply m c t _ k _ h0)) ?_ ?_ hd))
  · rw [← hd]; exact g_apply m c t _
  · rw [← hd]; exact b_apply m c t _

/-- The kernel's first result is the normalized array. -/
theorem result4_eq : (dats m 0 c).arrAt 4 cfg0.N = full (x0 m c) (x1 m c) (x2 m c) (x3 m c) := by
  refine (dats m 0 c).arrAt_eq_of_covers 4 _ (by decide +kernel) fun t hf y => ?_
  blk_simp []
  rw [after0_4]
  have h0 : (((win0_4.blk t).view.emb y) 0).val = (grid0.coords t 0).val * 256 + (y 0).val := by blk_simp [idx4]
  have h1 : (((win0_4.blk t).view.emb y) 1).val = (y 1).val := by blk_simp [idx4]
  generalize (win0_4.blk t).view.emb y = i at h0 h1 ⊢
  exact (congrFun (out4_eq _ _ _ _) y).trans (blk_eq m c t y i h0 h1)

/-- The kernel's second result is the normalized array. -/
theorem result5_eq : (dats m 0 c).arrAt 5 cfg0.N = full (x0 m c) (x1 m c) (x2 m c) (x3 m c) := by
  refine (dats m 0 c).arrAt_eq_of_covers 5 _ (by decide +kernel) fun t hf y => ?_
  blk_simp []
  rw [after0_5]
  have h0 : (((win0_5.blk t).view.emb y) 0).val = (grid0.coords t 0).val * 256 + (y 0).val := by blk_simp [idx5]
  have h1 : (((win0_5.blk t).view.emb y) 1).val = (y 1).val := by blk_simp [idx5]
  generalize (win0_5.blk t).view.emb y = i at h0 h1 ⊢
  exact (congrFun (out5_eq _ _ _ _) y).trans (blk_eq m c t y i h0 h1)

section Reference
open Cert.ReferenceNormIdeal.Read

variable (x h : S8192x4096.Idx → EReal) (g b : S4x2x4096.Idx → EReal)

/-- Row `r` of the residual sum. -/
def row (r : Fin 8192) (k : Fin 4096) : EReal := mixed (x (ix2 r k)) (h (ix2 r k))

/-- The reference's residual sum. -/
theorem ref_mixed (i : S8192x4096.Idx) :
    (val_main_v2 (F := Ideal) x h i : EReal) = row x h ⟨(i 0).val, (i 0).isLt⟩ ⟨(i 1).val, (i 1).isLt⟩ := by
  rw [val_main_v2_apply, val_main_v1_apply, val_main_v0_apply]
  exact (congrArg₂ mixed (congrArg x (Mat.ix2_eta i)) (congrArg h (Mat.ix2_eta i)))

/-- The reference's means. -/
theorem ref_mean (i : Cert.ReferenceNormIdeal.S8192x1.Idx) : (val_main_v10 (F := Ideal) x h i : EReal) = mean (row x h ⟨(i 0).val, (i 0).isLt⟩) := by
  rw [val_main_v10_apply, val_main_v8_apply, val_main_v7_apply, val_main_v9_apply]
  show Ideal.div (Ideal.ofBits .f32 0x00000000#32 + ∑ k, _) (Ideal.ofBits .f32 0x45800000#32) = _
  rw [Ideal.ofBits_zero_f32, zero_add]
  exact congrArg (fun u => Ideal.div u _) (Finset.sum_congr rfl fun k _ => ref_mixed x h _)

/-- The reference's deviations. -/
theorem ref_dev (i : S8192x4096.Idx) :
    (val_main_v12 (F := Ideal) x h i : EReal) = row x h ⟨(i 0).val, (i 0).isLt⟩ ⟨(i 1).val, (i 1).isLt⟩ - mean (row x h ⟨(i 0).val, (i 0).isLt⟩) := by
  rw [val_main_v12_apply, val_main_v11_apply, ref_mixed, ref_mean]
  rfl

/-- The reference's variances. -/
theorem ref_var (i : Cert.ReferenceNormIdeal.S8192x1.Idx) : (val_main_v17 (F := Ideal) x h i : EReal)
    = mean (fun k => (row x h ⟨(i 0).val, (i 0).isLt⟩ k - mean (row x h ⟨(i 0).val, (i 0).isLt⟩)) * (row x h ⟨(i 0).val, (i 0).isLt⟩ k - mean (row x h ⟨(i 0).val, (i 0).isLt⟩))) := by
  rw [val_main_v17_apply, val_main_v15_apply, val_main_v14_apply, val_main_v16_apply]
  show Ideal.div (Ideal.ofBits .f32 0x00000000#32 + ∑ k, _) (Ideal.ofBits .f32 0x45800000#32) = _
  rw [Ideal.ofBits_zero_f32, zero_add]
  refine congrArg (fun u => Ideal.div u _) (Finset.sum_congr rfl fun k _ => ?_)
  rw [val_main_v13_apply, ref_dev]
  rfl

/-- The reference's first result is the normalized array. -/
theorem reference_eq : (val_main_v30 (F := Ideal) x h g b : S8192x4096.Idx → EReal) = full x h g b := by
  funext i
  rw [val_main_v30_apply, val_main_v27_apply, val_main_v24_apply, val_main_v19_apply, val_main_v18_apply, val_main_v23_apply,
    val_main_v22_apply, val_main_v21_apply, val_main_v20_apply, val_main_v26_apply, val_main_v25_apply, val_main_v4_apply,
    val_main_v3_apply, val_main_v29_apply, val_main_v28_apply, val_main_v6_apply, val_main_v5_apply, ref_mixed, ref_mean, ref_var]
  have eg : idx_main_v3 (idx_main_v4 (idx_main_v25 (idx_main_v26 i))) = ix3 (0 : Fin 4) (0 : Fin 2) (⟨(i 1).val, (i 1).isLt⟩ : Fin 4096) :=
    funext fun a => Fin.ext (match a with
      | ⟨0, _⟩ => rfl
      | ⟨1, _⟩ => rfl
      | ⟨2, _⟩ => Nat.mod_eq_of_lt (i 1).isLt)
  have eb : idx_main_v5 (idx_main_v6 (idx_main_v28 (idx_main_v29 i))) = ix3 (0 : Fin 4) (0 : Fin 2) (⟨(i 1).val, (i 1).isLt⟩ : Fin 4096) :=
    funext fun a => Fin.ext (match a with
      | ⟨0, _⟩ => rfl
      | ⟨1, _⟩ => rfl
      | ⟨2, _⟩ => Nat.mod_eq_of_lt (i 1).isLt)
  rw [eg, eb]
  rfl

end Reference

/-- From the same arguments, over the extended reals, the kernel's program and the reference's have the same results. -/
theorem algebraic : Cert.algebraic_KernelNormIdeal_ReferenceNormIdeal := fun m g m' g' _ hm =>
  ⟨fun c => (dats m 0 c).arrAt 4 cfg0.N, fun c => (dats m 0 c).arrAt 5 cfg0.N, Cert.KernelNormIdeal.Value.run_blocks m g,
    (θ_run _ _ _).mono (fun _ h c => ⟨(h c).1.trans (by
      obtain ⟨h0, h1, h2, h3⟩ := hm c
      refine (Cert.ReferenceNormIdeal.Read.val_main_v30_eq (F := Ideal) _ _ _ _).trans ?_
      rw [h0, h1, h2, h3]
      exact (reference_eq _ _ _ _).trans (result4_eq m c).symm), (h c).2.1.trans (by
      obtain ⟨h0, h1, h2, h3⟩ := hm c
      refine (Cert.ReferenceNormIdeal.Read.val_main_v31_eq (F := Ideal) _ _ _ _).trans ?_
      rw [h0, h1, h2, h3]
      exact (reference_eq _ _ _ _).trans (result5_eq m c).symm), (h c).2.2⟩) (Cert.ReferenceNormIdeal.Value.run (F := Ideal) m' g')⟩

end Cert.Proof.Norm

end
-- ==== Proof.Mat.Rotary.lean ====
module

public import Idealize.ShloMosaic.Lib.Pipeline.ValueKit
public import Idealize.ShloMosaic.Lib.Pointwise

@[expose] public section

/-! The rotary embedding of a head's first `2 * h` channels: channel `d` and channel `d + h` are turned by one angle.
    The kernels read it off two tables and a channel's partner, which is the sum this module compares with. -/

noncomputable section

namespace Cert.Proof.Rotary

open Idealize.ShloMosaic

/-- Channel `d` of a head `f`, turned: the first `h` channels and the next `h` are the two coordinates of `h` points in
    the plane, turned by angles whose cosines and sines are `cs` and `sn`; the other channels stay. -/
def turned (h : Nat) (f cs sn : Nat → EReal) (d : Nat) : EReal :=
  if d < h then f d * cs d - f (d + h) * sn d
  else if d < 2 * h then f (d - h) * sn (d - h) + f d * cs (d - h)
  else f d

/-- The table of cosines: one for each of the first `2 * h` channels, and 1 for the others. -/
def cosTable (h : Nat) (cs : Nat → EReal) (d : Nat) : EReal := if d < h then cs d else if d < 2 * h then cs (d - h) else 1

/-- The table of sines: negated for the first `h` channels, and 0 past the first `2 * h`. -/
def sinTable (h : Nat) (sn : Nat → EReal) (d : Nat) : EReal := if d < h then -sn d else if d < 2 * h then sn (d - h) else 0

/-- A channel times its cosine plus its partner times its sine is the channel turned. -/
theorem turned_eq {h : Nat} {f cs sn : Nat → EReal} {d : Nat} {p : EReal} (h1 : d < h → p = f (d + h))
    (h2 : h ≤ d → d < 2 * h → p = f (d - h)) : f d * cosTable h cs d + p * sinTable h sn d = turned h f cs sn d := by
  unfold turned cosTable sinTable
  by_cases a : d < h
  · rw [if_pos a, if_pos a, if_pos a, h1 a, mul_neg, sub_eq_add_neg]
  · rw [if_neg a, if_neg a, if_neg a]
    by_cases b : d < 2 * h
    · rw [if_pos b, if_pos b, if_pos b, h2 (Nat.le_of_not_lt a) b, add_comm]
    · rw [if_neg b, if_neg b, if_neg b, mul_one, mul_zero, add_zero]

/-- Equal heads, turned by equal angles, are equal. -/
theorem turned_congr {h : Nat} {f f' cs sn : Nat → EReal} {d d' : Nat} (hf : ∀ n, f n = f' n) (hd : d = d') :
    turned h f cs sn d = turned h f' cs sn d' := by
  rw [funext hf, hd]

end Cert.Proof.Rotary

end
-- ==== Proof.Mat.Rope.lean ====
module

public import proofs.«01_k».proof.Proof.Gen.KernelRopeIdeal.Value
public import proofs.«01_k».proof.Proof.Gen.ReferenceRopeIdeal.Read
public import proofs.«01_k».proof.Proof.Mat.Common
public import proofs.«01_k».proof.Proof.Mat.Rotary
public import Idealize.ShloMosaic.Lib.KernelVsHost
public import proofs.«01_k».proof.Defs

@[expose] public section

/-! The attention's keys: columns 4096 to 5119 of the odd projection, eight heads of 128 channels with the first 32
    turned by the position's angles. Each grid point turns 512 rows, a head at a time; the blocks tile the result, so it
    is the turned slice of the projection, and so is the reference's. -/

noncomputable section

namespace Cert.Proof.Rope

open Cert.KernelRopeIdeal Cert.KernelRopeIdeal.Gen Idealize.ShloMosaic Idealize.ShloMosaic.TcCoe Cert.Proof.Rotary

variable (m : (ℓ : Loc nD τ sig) → Buf (Elt Ideal) ℓ) (c : Dev nD)

/-- The odd projection. -/
abbrev x0 : S8192x7168.Idx → EReal := m (c.tc.loc main_arg0)

/-- The angles: position times frequency. -/
abbrev angle : S8192x16.Idx → EReal := Cert.ReferenceRopeIdeal.Read.val_main_v13 (F := Ideal)

/-- The cosines of row `r`'s angles. -/
def cs (r : Fin 8192) (n : Nat) : EReal := Ideal.cos (angle (ix2 r (⟨n % 16, Nat.mod_lt _ (by decide)⟩ : Fin 16)))
/-- The sines of row `r`'s angles. -/
def sn (r : Fin 8192) (n : Nat) : EReal := Ideal.sin (angle (ix2 r (⟨n % 16, Nat.mod_lt _ (by decide)⟩ : Fin 16)))

/-- Channel `n` of row `r`'s key head that starts at column `o` of the keys. -/
def head (x : S8192x7168.Idx → EReal) (r : Fin 8192) (o n : Nat) : EReal :=
  x (ix2 r (⟨(4096 + o + n) % 7168, Nat.mod_lt _ (by decide)⟩ : Fin 7168))

/-- The turned keys. -/
def full (x : S8192x7168.Idx → EReal) (i : S8192x1024.Idx) : EReal :=
  turned 16 (head x ⟨(i 0).val, (i 0).isLt⟩ ((i 1).val / 128 * 128)) (cs ⟨(i 0).val, (i 0).isLt⟩) (sn ⟨(i 0).val, (i 0).isLt⟩) ((i 1).val % 128)

/-- Whether a lane is one of the first 16, as the body computes it. -/
theorem lane16 : ∀ d : Fin 128, IntOp.cmpi .slt (IntOp.andi (BitVec.ofNat 32 d.val) 127#32) 16#32 = if d.val < 16 then 1#1 else 0#1 := by
  decide

/-- An entry of a head the body computes: the channel times its cosine plus its partner times its sine. -/
theorem pay_apply (p q x : S512x128.Idx → EReal) (r : Fin 512) (d : Fin 128) :
    (k0_pay2 (F := Ideal) p q x (ix2 r d) : EReal)
      = x (ix2 r d) * p (ix2 r d) + (if d.val < 16 then x (ix2 r (⟨(d.val + 128 - 112) % 128, Nat.mod_lt _ (by decide)⟩ : Fin 128))
          else x (ix2 r (⟨(d.val + 128 - 16) % 128, Nat.mod_lt _ (by decide)⟩ : Fin 128))) * q (ix2 r d) := by
  pointwise [k0_pay2]
  rw [lane16]
  by_cases h : d.val < 16
  · rw [if_pos h, if_pos h]; rfl
  · rw [if_neg h, if_neg h]; rfl

/-- The block the body leaves, from the projection's block and the two tables' blocks. -/
def block (x : S512x1024.Idx → EReal) (p q : S512x128.Idx → EReal) (y : S512x1024.Idx) : EReal :=
  x y * p (ix2 (⟨(y 0).val, (y 0).isLt⟩ : Fin 512) (⟨(y 1).val % 128, Nat.mod_lt _ (by decide)⟩ : Fin 128))
    + (if (y 1).val % 128 < 16 then x (ix2 (⟨(y 0).val, (y 0).isLt⟩ : Fin 512) (⟨((y 1).val + 16) % 1024, Nat.mod_lt _ (by decide)⟩ : Fin 1024))
        else x (ix2 (⟨(y 0).val, (y 0).isLt⟩ : Fin 512) (⟨((y 1).val / 128 * 128 + ((y 1).val % 128 + 128 - 16) % 128) % 1024, Nat.mod_lt _ (by decide)⟩ : Fin 1024)))
      * q (ix2 (⟨(y 0).val, (y 0).isLt⟩ : Fin 512) (⟨(y 1).val % 128, Nat.mod_lt _ (by decide)⟩ : Fin 128))

/-- A head the body stores is the block's columns from `o`. -/
theorem piece (x : S512x1024.Idx → EReal) (p q : S512x128.Idx → EReal) (o : Nat) (ho : o % 128 = 0) (ho' : o + 128 ≤ 1024)
    (inb : ∀ a, (![0, o] : Fin 2 → Nat) a + S512x128.size a ≤ S512x1024.size a) (y : S512x128.Idx) :
    (k0_pay2 (F := Ideal) p q (View.ld x (Rect.unit (s := S512x1024) ![0, o] S512x128.size inb)) y : EReal)
      = block x p q ((Rect.unit (s := S512x1024) ![0, o] S512x128.size inb).emb y) := by
  have hy : (y 1).val < 128 := (y 1).isLt
  have hlt : o + (y 1).val < 1024 := by omega
  have ld : ∀ (d : Fin 128), (View.ld (Val := Elt Ideal) (e' := .f32) x (Rect.unit (s := S512x1024) ![0, o] S512x128.size inb) (ix2 (⟨(y 0).val, (y 0).isLt⟩ : Fin 512) d) : EReal)
      = x (ix2 (⟨(y 0).val, (y 0).isLt⟩ : Fin 512) (⟨o + d.val, by omega⟩ : Fin 1024)) := fun d => by
    show x _ = x _
    refine congrArg x (funext fun a => Fin.ext ?_)
    match a with
    | ⟨0, _⟩ => show 0 + 1 * (y 0).val = (y 0).val; omega
    | ⟨1, _⟩ => show o + 1 * d.val = o + d.val; omega
  have e0 : (((Rect.unit (s := S512x1024) ![0, o] S512x128.size inb).emb y) 0).val = (y 0).val := by
    show 0 + 1 * (y 0).val = _; omega
  have e1 : (((Rect.unit (s := S512x1024) ![0, o] S512x128.size inb).emb y) 1).val = o + (y 1).val := by
    show o + 1 * (y 1).val = _; omega
  have ex : x ((Rect.unit (s := S512x1024) ![0, o] S512x128.size inb).emb y)
      = x (ix2 (⟨(y 0).val, (y 0).isLt⟩ : Fin 512) (⟨o + (y 1).val, hlt⟩ : Fin 1024)) :=
    congrArg x (funext fun a => Fin.ext (match a with
      | ⟨0, _⟩ => e0
      | ⟨1, _⟩ => e1))
  refine (congrArg (k0_pay2 (F := Ideal) p q (View.ld x (Rect.unit (s := S512x1024) ![0, o] S512x128.size inb))) (Mat.ix2_eta y)).trans
    ((pay_apply _ _ _ _ _).trans ?_)
  rw [ld, ld, ld]
  unfold block
  rw [ex]
  generalize (Rect.unit (s := S512x1024) ![0, o] S512x128.size inb).emb y = z at e0 e1 ⊢
  have d0 : (⟨(y 0).val, (y 0).isLt⟩ : Fin 512) = ⟨(z 0).val, (z 0).isLt⟩ := Fin.ext e0.symm
  have d1 : (⟨(y 1).val, (y 1).isLt⟩ : Fin 128) = ⟨(z 1).val % 128, Nat.mod_lt _ (by decide)⟩ := Fin.ext (by show (y 1).val = (z 1).val % 128; omega)
  have em : (z 1).val % 128 = (y 1).val := by omega
  rw [← d1, ← d0]
  refine congrArg₂ (· + ·) rfl (congrArg₂ (· * ·) ?_ rfl)
  by_cases h : (y 1).val < 16
  · refine (if_pos h).trans (Eq.trans ?_ (if_pos (by omega)).symm)
    refine congrArg x (congrArg (ix2 _) (Fin.ext ?_))
    show o + ((y 1).val + 128 - 112) % 128 = ((z 1).val + 16) % 1024
    omega
  · refine (if_neg h).trans (Eq.trans ?_ (if_neg (by omega)).symm)
    refine congrArg x (congrArg (ix2 _) (Fin.ext ?_))
    show o + ((y 1).val + 128 - 16) % 128 = ((z 1).val / 128 * 128 + ((z 1).val % 128 + 128 - 16) % 128) % 1024
    rw [em]
    omega

/-- The body's eight stores leave the block. -/
theorem out3_eq (x : S512x1024.Idx → EReal) (p q : S512x128.Idx → EReal) :
    (out0_3 (F := Ideal) x p q : S512x1024.Idx → EReal) = block x p q := by
  have hp : k0_pay15 (F := Ideal) x p q = p := by
    funext i
    unfold k0_pay15 r0_0
    rw [View.ld_unit_lit _ _ (by decide), Mat.ix2_eta i]
    pointwise [k0_pay3]
  have hq : k0_pay16 (F := Ideal) x p q = q := by
    funext i
    unfold k0_pay16 r0_0
    rw [View.ld_unit_lit _ _ (by decide), Mat.ix2_eta i]
    pointwise [k0_pay4]
  have hb : block x p q = block x (k0_pay15 (F := Ideal) x p q) (k0_pay16 (F := Ideal) x p q) := by rw [hp, hq]
  rw [hb]
  funext y
  unfold out0_3
  refine View.canon_apply_of_pieces (Val := Elt Ideal) (block x (k0_pay15 (F := Ideal) x p q) (k0_pay16 (F := Ideal) x p q)) _ ?_ y (cover0_3 _ _ _ _ _ _ _ _ y)
  intro s hs
  simp only [List.mem_cons, List.not_mem_nil, or_false] at hs
  rcases hs with rfl | rfl | rfl | rfl | rfl | rfl | rfl | rfl
  · exact fun z => piece x _ _ 896 (by decide) (by decide) _ z
  · exact fun z => piece x _ _ 768 (by decide) (by decide) _ z
  · exact fun z => piece x _ _ 640 (by decide) (by decide) _ z
  · exact fun z => piece x _ _ 512 (by decide) (by decide) _ z
  · exact fun z => piece x _ _ 384 (by decide) (by decide) _ z
  · exact fun z => piece x _ _ 256 (by decide) (by decide) _ z
  · exact fun z => piece x _ _ 128 (by decide) (by decide) _ z
  · exact fun z => piece x _ _ 0 (by decide) (by decide) _ z

/-- The projection's block at a grid point is chosen by its coordinate. -/
theorem idx0 : ∀ t : Fin grid0.N, win0_0.index t = ![(grid0.coords t 0).val, 4] := by decide +kernel
/-- The cosines' block at a grid point is chosen by its coordinate. -/
theorem idx1 : ∀ t : Fin grid0.N, win0_1.index t = ![(grid0.coords t 0).val, 0] := by decide +kernel
/-- The sines' block at a grid point is chosen by its coordinate. -/
theorem idx2 : ∀ t : Fin grid0.N, win0_2.index t = ![(grid0.coords t 0).val, 0] := by decide +kernel
/-- The result's block at a grid point is chosen by its coordinate. -/
theorem idx3 : ∀ t : Fin grid0.N, win0_3.index t = ![(grid0.coords t 0).val, 0] := by decide +kernel

/-- A cosine at a channel below 16. -/
theorem cs_eq (r : Fin 8192) (n : Nat) (h : n < 16) : Ideal.cos (angle (ix2 r (⟨n, h⟩ : Fin 16))) = cs r n :=
  congrArg (fun k : Fin 16 => Ideal.cos (angle (ix2 r k))) (Fin.ext (Nat.mod_eq_of_lt h).symm)
/-- A sine at a channel below 16. -/
theorem sn_eq (r : Fin 8192) (n : Nat) (h : n < 16) : Ideal.sin (angle (ix2 r (⟨n, h⟩ : Fin 16))) = sn r n :=
  congrArg (fun k : Fin 16 => Ideal.sin (angle (ix2 r k))) (Fin.ext (Nat.mod_eq_of_lt h).symm)

/-- At the kernel's start the first table holds the cosines. -/
theorem V_v21 (r : Fin 8192) (d : Fin 128) : (V m c main_v21 (ix2 r d) : EReal) = cosTable 16 (cs r) d.val := by
  have e : (V m c main_v21 : S8192x128.Idx → EReal) = shapeCast S8192x128 (broadcastInDim S1x8192x1x128 ![0, 1, 2, 3] bcast_S1x8192x1x128_S1x8192x1x128_0_1_2_3
      (shapeCast S1x8192x1x128 (concatenate S8192x128 1 [⟨S8192x16, Host.cos angle⟩, ⟨S8192x16, Host.cos angle⟩,
        ⟨S8192x96, broadcastInDim S8192x96 ![] bcast_S_S8192x96 (constant (F := Ideal) S_ .f32 0x3F800000#32)⟩] (by decide)) (by decide))) (by decide) := by
    show StableHlo.after hostOps0 _ (Proc.devRef .tc main_v21) = _
    after_results
    rfl
  rw [e]
  pointwise []
  unfold cosTable
  by_cases a : d.val < 16
  · rw [dif_pos a, if_pos a]; exact cs_eq r _ a
  · rw [dif_neg a, if_neg a]
    by_cases b : d.val - 16 < 16
    · rw [dif_pos b]; exact (cs_eq r _ b).trans (if_pos (by omega)).symm
    · rw [dif_neg b]; exact (if_neg (by omega)).symm

/-- At the kernel's start the second table holds the sines. -/
theorem V_v24 (r : Fin 8192) (d : Fin 128) : (V m c main_v24 (ix2 r d) : EReal) = sinTable 16 (sn r) d.val := by
  have e : (V m c main_v24 : S8192x128.Idx → EReal) = shapeCast S8192x128 (broadcastInDim S1x8192x1x128 ![0, 1, 2, 3] bcast_S1x8192x1x128_S1x8192x1x128_0_1_2_3
      (shapeCast S1x8192x1x128 (concatenate S8192x128 1 [⟨S8192x16, Host.negf (Host.sin angle)⟩, ⟨S8192x16, Host.sin angle⟩,
        ⟨S8192x96, broadcastInDim S8192x96 ![] bcast_S_S8192x96 (constant (F := Ideal) S_ .f32 0x00000000#32)⟩] (by decide)) (by decide))) (by decide) := by
    show StableHlo.after hostOps0 _ (Proc.devRef .tc main_v24) = _
    after_results
    rfl
  rw [e]
  pointwise []
  unfold sinTable
  by_cases a : d.val < 16
  · rw [dif_pos a, if_pos a]; exact congrArg (fun u : EReal => -u) (sn_eq r _ a)
  · rw [dif_neg a, if_neg a]
    by_cases b : d.val - 16 < 16
    · rw [dif_pos b]; exact (sn_eq r _ b).trans (if_pos (by omega)).symm
    · rw [dif_neg b]; exact (if_neg (by omega)).symm

/-- The projection's block holds the rows of its grid point and the keys' columns. -/
theorem x_apply (t : Fin cfg0.N) (r : Fin 512) (k : Fin 1024) (i : Fin 8192) (hi : i.val = (grid0.coords t 0).val * 512 + r.val)
    (o n : Nat) (hk : k.val = o + n) : (iblk m c 0 t (ix2 r k) : EReal) = head (x0 m c) i o n := by
  have hk' : k.val < 1024 := k.isLt
  unfold iblk head
  show (V m c main_arg0 : S8192x7168.Idx → EReal) _ = _
  rw [V_main_arg0]
  refine congrArg (x0 m c) (funext fun a => Fin.ext ?_)
  match a with
  | ⟨0, _⟩ => blk_simp [idx0, hi]
  | ⟨1, _⟩ =>
    have e : (4096 + o + n) % 7168 = 4 * 1024 + k.val := by omega
    blk_simp [idx0, e]

/-- The cosines' block holds the rows of its grid point. -/
theorem p_apply (t : Fin cfg0.N) (r : Fin 512) (d : Fin 128) (i : Fin 8192) (hi : i.val = (grid0.coords t 0).val * 512 + r.val) :
    (iblk m c 1 t (ix2 r d) : EReal) = cosTable 16 (cs i) d.val := by
  unfold iblk
  refine Eq.trans (congrArg (V m c main_v21 : S8192x128.Idx → EReal) (funext fun a => Fin.ext ?_)) (V_v21 m c i d)
  match a with
  | ⟨0, _⟩ => blk_simp [idx1, hi]
  | ⟨1, _⟩ => blk_simp [idx1]

/-- The sines' block holds the rows of its grid point. -/
theorem q_apply (t : Fin cfg0.N) (r : Fin 512) (d : Fin 128) (i : Fin 8192) (hi : i.val = (grid0.coords t 0).val * 512 + r.val) :
    (iblk m c 2 t (ix2 r d) : EReal) = sinTable 16 (sn i) d.val := by
  unfold iblk
  refine Eq.trans (congrArg (V m c main_v24 : S8192x128.Idx → EReal) (funext fun a => Fin.ext ?_)) (V_v24 m c i d)
  match a with
  | ⟨0, _⟩ => blk_simp [idx2, hi]
  | ⟨1, _⟩ => blk_simp [idx2]

/-- The block a grid point leaves holds the turned keys' rows. -/
theorem blk_eq (t : Fin cfg0.N) (y : S512x1024.Idx) (i : S8192x1024.Idx) (h0 : (i 0).val = (grid0.coords t 0).val * 512 + (y 0).val)
    (h1 : (i 1).val = (y 1).val) :
    block (iblk m c 0 t) (iblk m c 1 t) (iblk m c 2 t) y = full (x0 m c) i := by
  have hy : (y 1).val < 1024 := (y 1).isLt
  unfold block full
  have ex : (iblk m c 0 t y : EReal) = head (x0 m c) ⟨(i 0).val, (i 0).isLt⟩ ((i 1).val / 128 * 128) ((i 1).val % 128) :=
    (congrArg (iblk m c 0 t) (Mat.ix2_eta y)).trans (x_apply m c t _ _ _ h0 _ _ (by show (y 1).val = _; omega))
  rw [ex, p_apply m c t ⟨(y 0).val, (y 0).isLt⟩ _ ⟨(i 0).val, (i 0).isLt⟩ h0, q_apply m c t ⟨(y 0).val, (y 0).isLt⟩ _ ⟨(i 0).val, (i 0).isLt⟩ h0]
  have em : (y 1).val % 128 = (i 1).val % 128 := by rw [h1]
  show _ * cosTable 16 _ ((y 1).val % 128) + _ * sinTable 16 _ ((y 1).val % 128) = _
  rw [← em]
  refine turned_eq (fun a => ?_) (fun a b => ?_)
  · rw [if_pos a]
    exact x_apply m c t _ _ _ h0 _ _ (by show ((y 1).val + 16) % 1024 = _; omega)
  · rw [if_neg (by omega)]
    exact x_apply m c t _ _ _ h0 _ _ (by show ((y 1).val / 128 * 128 + ((y 1).val % 128 + 128 - 16) % 128) % 1024 = _; omega)

/-- The kernel's result is the turned keys. -/
theorem result_eq : (dats m 0 c).arrAt 3 cfg0.N = full (x0 m c) := by
  refine (dats m 0 c).arrAt_eq_of_covers 3 _ (by decide +kernel) fun t hf y => ?_
  blk_simp []
  rw [after0_3]
  have h0 : (((win0_3.blk t).view.emb y) 0).val = (grid0.coords t 0).val * 512 + (y 0).val := by blk_simp [idx3]
  have h1 : (((win0_3.blk t).view.emb y) 1).val = (y 1).val := by blk_simp [idx3]
  generalize (win0_3.blk t).view.emb y = i at h0 h1 ⊢
  exact (congrFun (out3_eq _ _ _) y).trans (blk_eq m c t y i h0 h1)

section Reference
open Cert.ReferenceRopeIdeal.Read

variable (x : S8192x7168.Idx → EReal)

/-- The reference's keys by head. -/
theorem ref_head (r : Fin 8192) (h : Fin 8) (d : Fin 128) (n : Nat) (hn : d.val = n) :
    (val_main_v1 (F := Ideal) x (ix3 r h d) : EReal) = head x r (h.val * 128) n := by
  have h1 := h.isLt
  have h2 := d.isLt
  have h3 := r.isLt
  rw [val_main_v1_apply, val_main_v0_apply]
  unfold head
  refine congrArg x (funext fun a => Fin.ext ?_)
  match a with
  | ⟨0, _⟩ => show ((r.val * 8 + h.val) * 128 + d.val) / 1024 = r.val; omega
  | ⟨1, _⟩ => show 4096 + ((r.val * 8 + h.val) * 128 + d.val) % 1024 = (4096 + h.val * 128 + n) % 7168; omega

/-- The reference's turned heads. -/
theorem ref_turned (r : Fin 8192) (h : Fin 8) (d : Fin 128) :
    (val_main_v30 (F := Ideal) x (ix3 r h d) : EReal) = turned 16 (head x r (h.val * 128)) (cs r) (sn r) d.val := by
  unfold val_main_v30
  pointwise [val_main_v24, val_main_v29, val_main_v21, val_main_v23, val_main_v26, val_main_v28, val_main_v17, val_main_v18, val_main_v19,
    val_main_v20, val_main_v22, val_main_v25, val_main_v27, val_main_v15, val_main_v16, val_main_v14]
  unfold turned
  by_cases a : d.val < 16
  · rw [dif_pos a, if_pos a]
    exact congrArg₂ (· - ·) (congrArg₂ (· * ·) (ref_head x r h d _ rfl) (cs_eq r _ a))
      (congrArg₂ (· * ·) (ref_head x r h _ _ (Nat.add_comm _ _)) (sn_eq r _ a))
  · rw [dif_neg a, if_neg a]
    by_cases b : d.val - 16 < 16
    · rw [dif_pos b, if_pos (show d.val < 2 * 16 by omega)]
      exact congrArg₂ (· + ·) (congrArg₂ (· * ·) (ref_head x r h _ _ rfl) (sn_eq r _ b))
        (congrArg₂ (· * ·) (ref_head x r h _ _ (by show 16 + (d.val - 16) = d.val; omega)) (cs_eq r _ b))
    · rw [dif_neg b, if_neg (show ¬ d.val < 2 * 16 by omega)]
      exact ref_head x r h _ _ (by show 32 + (d.val - 16 - 16) = d.val; omega)

/-- The reference's result is the turned keys. -/
theorem reference_eq : (val_main_v32 (F := Ideal) x : S8192x1024.Idx → EReal) = full x := by
  funext i
  have h0 : (i 0).val < 8192 := (i 0).isLt
  have h1 : (i 1).val < 1024 := (i 1).isLt
  rw [val_main_v32_apply, val_main_v31_apply]
  have e : idx_main_v31 i = ix3 (⟨(i 0).val, h0⟩ : Fin 8192) (⟨(i 1).val / 128, by omega⟩ : Fin 8) (⟨(i 1).val % 128, by omega⟩ : Fin 128) :=
    funext fun a => Fin.ext (match a with
      | ⟨0, _⟩ => by show ((i 0).val * 1024 + (i 1).val) / 1024 = (i 0).val; omega
      | ⟨1, _⟩ => by show ((i 0).val * 1024 + (i 1).val) / 128 % 8 = (i 1).val / 128; omega
      | ⟨2, _⟩ => by show ((i 0).val * 1024 + (i 1).val) % 128 = (i 1).val % 128; omega)
  rw [e]
  exact ref_turned x _ _ _

end Reference

/-- From the same argument, over the extended reals, the kernel's program and the reference's have the same result. -/
theorem algebraic : Cert.algebraic_KernelRopeIdeal_ReferenceRopeIdeal := fun m g m' g' _ hm =>
  ⟨fun c => (dats m 0 c).arrAt 3 cfg0.N, Cert.KernelRopeIdeal.Value.run_blocks m g,
    (θ_run _ _ _).mono (fun _ h c => ⟨(h c).1.trans (by
      have h0 := hm c
      refine (Cert.ReferenceRopeIdeal.Read.val_main_v32_eq (F := Ideal) _ _).trans ?_
      rw [h0]
      exact (reference_eq _).trans (result_eq m c).symm), (h c).2⟩) (Cert.ReferenceRopeIdeal.Value.run (F := Ideal) m' g')⟩

end Cert.Proof.Rope

end
-- ==== Proof.Mat.Cast.lean ====
module

public import proofs.«01_k».proof.Proof.Gen.KernelCastIdeal.Value
public import proofs.«01_k».proof.Proof.Gen.ReferenceCastIdeal.Read
public import proofs.«01_k».proof.Defs

@[expose] public section

/-! The attention's values: columns 5120 to 6143 of the odd projection, in the narrower format. The kernel's blocks
    tile the result, so it is that slice of the projection, and so is the reference's. -/

noncomputable section

namespace Cert.Proof.Cast

open Cert.KernelCastIdeal Cert.KernelCastIdeal.Gen Idealize.ShloMosaic Idealize.ShloMosaic.TcCoe

/-- The reference's result is the array the kernel's blocks hold. -/
theorem reference_eq (x : S8192x7168.Idx → EReal) :
    (Cert.ReferenceCastIdeal.Read.val_main_v1 (F := Ideal) x : S8192x1024.Idx → EReal) = Cert.KernelCastIdeal.Value.G1 (F := Ideal) x := by
  funext i
  rw [Cert.ReferenceCastIdeal.Read.val_main_v1_apply, Cert.ReferenceCastIdeal.Read.val_main_v0_apply]
  refine congrArg x (funext fun a => Fin.ext ?_)
  match a with
  | ⟨0, _⟩ => rfl
  | ⟨1, _⟩ => exact Nat.add_comm _ _

/-- From the same argument, over the extended reals, the kernel's program and the reference's have the same result. -/
theorem algebraic : Cert.algebraic_KernelCastIdeal_ReferenceCastIdeal := fun m g m' g' _ hm =>
  ⟨fun c => Cert.KernelCastIdeal.Value.G1 (F := Ideal) (m (c.tc.loc main_arg0)), Cert.KernelCastIdeal.Value.run m g,
    (θ_run _ _ _).mono (fun _ h c => ⟨(h c).1.trans (by
      have h0 := hm c
      refine (Cert.ReferenceCastIdeal.Read.val_main_v1_eq (F := Ideal) _).trans ?_
      rw [h0]
      exact reference_eq _), (h c).2⟩) (Cert.ReferenceCastIdeal.Value.run (F := Ideal) m' g')⟩

end Cert.Proof.Cast

end
-- ==== Proof.Mat.IdxQ.lean ====
module

public import proofs.«01_k».proof.Proof.Gen.KernelIdxQIdeal.Value
public import proofs.«01_k».proof.Proof.Gen.ReferenceIdxQIdeal.Read
public import proofs.«01_k».proof.Proof.Mat.Common
public import proofs.«01_k».proof.Proof.Mat.Rotary
public import Idealize.ShloMosaic.Lib.KernelVsHost
public import proofs.«01_k».proof.Defs

@[expose] public section

/-! The indexer's queries: columns 6144 to 7167 of the odd projection, sixteen heads of 64 channels with the first 16
    turned by the position's angles, each head padded with zeros to 128. Each grid point takes 512 rows, two heads at a
    time; the blocks tile the result, so it is the turned and padded slice of the projection, and so is the reference's. -/

noncomputable section

namespace Cert.Proof.IdxQ

open Cert.KernelIdxQIdeal Cert.KernelIdxQIdeal.Gen Idealize.ShloMosaic Idealize.ShloMosaic.TcCoe Cert.Proof.Rotary

variable (m : (ℓ : Loc nD τ sig) → Buf (Elt Ideal) ℓ) (c : Dev nD)

/-- The odd projection. -/
abbrev x0 : S8192x7168.Idx → EReal := m (c.tc.loc main_arg0)

/-- The angles: position times frequency. -/
abbrev angle : S8192x8.Idx → EReal := Cert.ReferenceIdxQIdeal.Read.val_main_v13 (F := Ideal)

/-- The cosines of row `r`'s angles. -/
def cs (r : Fin 8192) (n : Nat) : EReal := Ideal.cos (angle (ix2 r (⟨n % 8, Nat.mod_lt _ (by decide)⟩ : Fin 8)))
/-- The sines of row `r`'s angles. -/
def sn (r : Fin 8192) (n : Nat) : EReal := Ideal.sin (angle (ix2 r (⟨n % 8, Nat.mod_lt _ (by decide)⟩ : Fin 8)))

/-- Channel `n` of row `r`'s query head that starts at column `o` of the queries. -/
def head (x : S8192x7168.Idx → EReal) (r : Fin 8192) (o n : Nat) : EReal :=
  x (ix2 r (⟨(6144 + o + n) % 7168, Nat.mod_lt _ (by decide)⟩ : Fin 7168))

/-- The turned queries, each head padded with zeros. -/
def full (x : S8192x7168.Idx → EReal) (i : S8192x2048.Idx) : EReal :=
  if (i 1).val % 128 < 64 then
    turned 8 (head x ⟨(i 0).val, (i 0).isLt⟩ ((i 1).val / 128 * 64)) (cs ⟨(i 0).val, (i 0).isLt⟩) (sn ⟨(i 0).val, (i 0).isLt⟩) ((i 1).val % 128)
  else 0

/-- Whether a lane is one of the first 8 of its half, as the body computes it. -/
theorem lane8 : ∀ d : Fin 128, IntOp.cmpi .slt (IntOp.andi (BitVec.ofNat 32 d.val) 63#32) 8#32 = if d.val % 64 < 8 then 1#1 else 0#1 := by
  decide
/-- Whether a lane is one of the first 64, as the body computes it. -/
theorem lane64 : ∀ d : Fin 128, IntOp.cmpi .slt (BitVec.ofNat 32 d.val) 64#32 = if d.val < 64 then 1#1 else 0#1 := by
  decide

/-- An entry of two turned heads: the channel times its cosine plus its partner times its sine. -/
theorem pay27_apply (p q x : S512x128.Idx → EReal) (r : Fin 512) (d : Fin 128) :
    (k0_pay27 (F := Ideal) p q x (ix2 r d) : EReal)
      = x (ix2 r d) * p (ix2 r d) + (if d.val % 64 < 8 then x (ix2 r (⟨(d.val + 128 - 120) % 128, Nat.mod_lt _ (by decide)⟩ : Fin 128))
          else x (ix2 r (⟨(d.val + 128 - 8) % 128, Nat.mod_lt _ (by decide)⟩ : Fin 128))) * q (ix2 r d) := by
  pointwise [k0_pay27]
  rw [lane8]
  by_cases h : d.val % 64 < 8
  · rw [if_pos h, if_pos h]; rfl
  · rw [if_neg h, if_neg h]; rfl

/-- The first of two heads, padded. -/
theorem pay28_apply (p q x : S512x128.Idx → EReal) (r : Fin 512) (d : Fin 128) :
    (k0_pay28 (F := Ideal) p q k0_pay3 x (ix2 r d) : EReal) = if d.val < 64 then (k0_pay27 (F := Ideal) p q x (ix2 r d) : EReal) else 0 := by
  unfold k0_pay28
  generalize k0_pay27 (F := Ideal) p q x = v
  pointwise [k0_pay3]
  rw [lane64]
  by_cases h : d.val < 64
  · rw [if_pos h, if_pos h]; rfl
  · rw [if_neg h, if_neg h]; rfl

/-- The second of two heads, padded. -/
theorem pay29_apply (p q x : S512x128.Idx → EReal) (r : Fin 512) (d : Fin 128) :
    (k0_pay29 (F := Ideal) p q k0_pay3 x (ix2 r d) : EReal)
      = if d.val < 64 then (k0_pay27 (F := Ideal) p q x (ix2 r (⟨(d.val + 128 - 64) % 128, Nat.mod_lt _ (by decide)⟩ : Fin 128)) : EReal) else 0 := by
  unfold k0_pay29
  generalize k0_pay27 (F := Ideal) p q x = v
  pointwise [k0_pay3]
  rw [lane64]
  by_cases h : d.val < 64
  · rw [if_pos h, if_pos h]; rfl
  · rw [if_neg h, if_neg h]; rfl

/-- Entry `(r, k)` of the queries' block, times its cosine, plus the partner, 8 channels on or back, times its sine. -/
def turn (x : S512x1024.Idx → EReal) (p q : S512x128.Idx → EReal) (r : Fin 512) (k : Nat) : EReal :=
  x (ix2 r (⟨k % 1024, Nat.mod_lt _ (by decide)⟩ : Fin 1024)) * p (ix2 r (⟨k % 128, Nat.mod_lt _ (by decide)⟩ : Fin 128))
    + (if k % 64 < 8 then x (ix2 r (⟨(k + 8) % 1024, Nat.mod_lt _ (by decide)⟩ : Fin 1024))
        else x (ix2 r (⟨(k + 1016) % 1024, Nat.mod_lt _ (by decide)⟩ : Fin 1024))) * q (ix2 r (⟨k % 128, Nat.mod_lt _ (by decide)⟩ : Fin 128))

/-- The block the body leaves, from the projection's block and the two tables' blocks. -/
def block (x : S512x1024.Idx → EReal) (p q : S512x128.Idx → EReal) (y : S512x2048.Idx) : EReal :=
  if (y 1).val % 128 < 64 then turn x p q ⟨(y 0).val, (y 0).isLt⟩ ((y 1).val / 128 * 64 + (y 1).val % 128) else 0

/-- Two turned heads are the block's columns from `o`. -/
theorem pair_eq (x : S512x1024.Idx → EReal) (p q : S512x128.Idx → EReal) (o : Nat) (ho : o % 128 = 0) (ho' : o + 128 ≤ 1024)
    (inb : ∀ a, (![0, o] : Fin 2 → Nat) a + S512x128.size a ≤ S512x1024.size a) (r : Fin 512) (d : Fin 128) (k : Nat) (hk : k = o + d.val) :
    (k0_pay27 (F := Ideal) p q (View.ld x (Rect.unit (s := S512x1024) ![0, o] S512x128.size inb)) (ix2 r d) : EReal) = turn x p q r k := by
  have hd := d.isLt
  have ld : ∀ (d : Fin 128) (n : Nat) (hn : (o + d.val) = n % 1024), (View.ld (Val := Elt Ideal) (e' := .f32) x (Rect.unit (s := S512x1024) ![0, o] S512x128.size inb) (ix2 r d) : EReal)
      = x (ix2 r (⟨n % 1024, Nat.mod_lt _ (by decide)⟩ : Fin 1024)) := fun d n hn => by
    show x _ = x _
    refine congrArg x (funext fun a => Fin.ext ?_)
    match a with
    | ⟨0, _⟩ => show 0 + 1 * r.val = r.val; omega
    | ⟨1, _⟩ => show o + 1 * d.val = n % 1024; omega
  have hd' : d = (⟨k % 128, Nat.mod_lt _ (by decide)⟩ : Fin 128) := Fin.ext (by show d.val = k % 128; omega)
  refine (pay27_apply _ _ _ _ _).trans ?_
  unfold turn
  rw [← hd']
  refine congrArg₂ (· + ·) (congrArg (fun u : EReal => u * p (ix2 r d)) (ld d k (by omega))) (congrArg (fun u : EReal => u * q (ix2 r d)) ?_)
  by_cases h : d.val % 64 < 8
  · refine (if_pos h).trans (Eq.trans ?_ (if_pos (by omega)).symm)
    exact ld _ _ (by show o + (d.val + 128 - 120) % 128 = (k + 8) % 1024; omega)
  · refine (if_neg h).trans (Eq.trans ?_ (if_neg (by omega)).symm)
    exact ld _ _ (by show o + (d.val + 128 - 8) % 128 = (k + 1016) % 1024; omega)

/-- The first of two heads the body stores is the block's columns from `2 * o`. -/
theorem piece0 (x : S512x1024.Idx → EReal) (p q : S512x128.Idx → EReal) (o o' : Nat) (ho : o % 128 = 0) (ho' : o + 128 ≤ 1024) (hoo : o' = 2 * o)
    (inb : ∀ a, (![0, o] : Fin 2 → Nat) a + S512x128.size a ≤ S512x1024.size a)
    (inb' : ∀ a, (![0, o'] : Fin 2 → Nat) a + S512x128.size a ≤ S512x2048.size a) (y : S512x128.Idx) :
    (k0_pay28 (F := Ideal) p q k0_pay3 (View.ld x (Rect.unit (s := S512x1024) ![0, o] S512x128.size inb)) y : EReal)
      = block x p q ((Rect.unit (s := S512x2048) ![0, o'] S512x128.size inb').emb y) := by
  have hy : (y 1).val < 128 := (y 1).isLt
  have e0 : (((Rect.unit (s := S512x2048) ![0, o'] S512x128.size inb').emb y) 0).val = (y 0).val := by
    show 0 + 1 * (y 0).val = _; omega
  have e1 : (((Rect.unit (s := S512x2048) ![0, o'] S512x128.size inb').emb y) 1).val = o' + (y 1).val := by
    show o' + 1 * (y 1).val = _; omega
  refine (congrArg (k0_pay28 (F := Ideal) p q k0_pay3 (View.ld x (Rect.unit (s := S512x1024) ![0, o] S512x128.size inb))) (Mat.ix2_eta y)).trans
    ((pay28_apply _ _ _ _ _).trans ?_)
  unfold block
  generalize (Rect.unit (s := S512x2048) ![0, o'] S512x128.size inb').emb y = z at e0 e1 ⊢
  have d0 : (⟨(y 0).val, (y 0).isLt⟩ : Fin 512) = ⟨(z 0).val, (z 0).isLt⟩ := Fin.ext e0.symm
  rw [← d0]
  by_cases h : (y 1).val < 64
  · refine (if_pos h).trans (Eq.trans ?_ (if_pos (by omega)).symm)
    exact pair_eq x p q o ho ho' inb _ _ _ (by show (z 1).val / 128 * 64 + (z 1).val % 128 = o + (y 1).val; omega)
  · exact (if_neg h).trans (if_neg (by omega)).symm

/-- The second of two heads the body stores is the block's columns from `2 * o + 128`. -/
theorem piece1 (x : S512x1024.Idx → EReal) (p q : S512x128.Idx → EReal) (o o' : Nat) (ho : o % 128 = 0) (ho' : o + 128 ≤ 1024) (hoo : o' = 2 * o + 128)
    (inb : ∀ a, (![0, o] : Fin 2 → Nat) a + S512x128.size a ≤ S512x1024.size a)
    (inb' : ∀ a, (![0, o'] : Fin 2 → Nat) a + S512x128.size a ≤ S512x2048.size a) (y : S512x128.Idx) :
    (k0_pay29 (F := Ideal) p q k0_pay3 (View.ld x (Rect.unit (s := S512x1024) ![0, o] S512x128.size inb)) y : EReal)
      = block x p q ((Rect.unit (s := S512x2048) ![0, o'] S512x128.size inb').emb y) := by
  have hy : (y 1).val < 128 := (y 1).isLt
  have e0 : (((Rect.unit (s := S512x2048) ![0, o'] S512x128.size inb').emb y) 0).val = (y 0).val := by
    show 0 + 1 * (y 0).val = _; omega
  have e1 : (((Rect.unit (s := S512x2048) ![0, o'] S512x128.size inb').emb y) 1).val = o' + (y 1).val := by
    show o' + 1 * (y 1).val = _; omega
  refine (congrArg (k0_pay29 (F := Ideal) p q k0_pay3 (View.ld x (Rect.unit (s := S512x1024) ![0, o] S512x128.size inb))) (Mat.ix2_eta y)).trans
    ((pay29_apply _ _ _ _ _).trans ?_)
  unfold block
  generalize (Rect.unit (s := S512x2048) ![0, o'] S512x128.size inb').emb y = z at e0 e1 ⊢
  have d0 : (⟨(y 0).val, (y 0).isLt⟩ : Fin 512) = ⟨(z 0).val, (z 0).isLt⟩ := Fin.ext e0.symm
  rw [← d0]
  by_cases h : (y 1).val < 64
  · refine (if_pos h).trans (Eq.trans ?_ (if_pos (by omega)).symm)
    exact pair_eq x p q o ho ho' inb _ _ _ (by show (z 1).val / 128 * 64 + (z 1).val % 128 = o + ((y 1).val + 128 - 64) % 128; omega)
  · exact (if_neg h).trans (if_neg (by omega)).symm

/-- The body's sixteen stores leave the block. -/
theorem out3_eq (x : S512x1024.Idx → EReal) (p q : S512x128.Idx → EReal) :
    (out0_3 (F := Ideal) x p q : S512x2048.Idx → EReal) = block x p q := by
  have hp : k0_pay30 (F := Ideal) x p q = p := by
    funext i
    unfold k0_pay30 r0_0
    rw [View.ld_unit_lit _ _ (by decide), Mat.ix2_eta i]
    pointwise [k0_pay1]
  have hq : k0_pay31 (F := Ideal) x p q = q := by
    funext i
    unfold k0_pay31 r0_0
    rw [View.ld_unit_lit _ _ (by decide), Mat.ix2_eta i]
    pointwise [k0_pay2]
  have hb : block x p q = block x (k0_pay30 (F := Ideal) x p q) (k0_pay31 (F := Ideal) x p q) := by rw [hp, hq]
  rw [hb]
  funext y
  unfold out0_3
  refine View.canon_apply_of_pieces (Val := Elt Ideal) (block x (k0_pay30 (F := Ideal) x p q) (k0_pay31 (F := Ideal) x p q)) _ ?_ y
    (cover0_3 _ _ _ _ _ _ _ _ _ _ _ _ _ _ _ _ y)
  intro s hs
  simp only [List.mem_cons, List.not_mem_nil, or_false] at hs
  rcases hs with rfl | rfl | rfl | rfl | rfl | rfl | rfl | rfl | rfl | rfl | rfl | rfl | rfl | rfl | rfl | rfl
  · exact fun z => piece1 x _ _ 896 1920 (by decide) (by decide) (by decide) _ (by decide) z
  · exact fun z => piece0 x _ _ 896 1792 (by decide) (by decide) (by decide) _ (by decide) z
  · exact fun z => piece1 x _ _ 768 1664 (by decide) (by decide) (by decide) _ (by decide) z
  · exact fun z => piece0 x _ _ 768 1536 (by decide) (by decide) (by decide) _ (by decide) z
  · exact fun z => piece1 x _ _ 640 1408 (by decide) (by decide) (by decide) _ (by decide) z
  · exact fun z => piece0 x _ _ 640 1280 (by decide) (by decide) (by decide) _ (by decide) z
  · exact fun z => piece1 x _ _ 512 1152 (by decide) (by decide) (by decide) _ (by decide) z
  · exact fun z => piece0 x _ _ 512 1024 (by decide) (by decide) (by decide) _ (by decide) z
  · exact fun z => piece1 x _ _ 384 896 (by decide) (by decide) (by decide) _ (by decide) z
  · exact fun z => piece0 x _ _ 384 768 (by decide) (by decide) (by decide) _ (by decide) z
  · exact fun z => piece1 x _ _ 256 640 (by decide) (by decide) (by decide) _ (by decide) z
  · exact fun z => piece0 x _ _ 256 512 (by decide) (by decide) (by decide) _ (by decide) z
  · exact fun z => piece1 x _ _ 128 384 (by decide) (by decide) (by decide) _ (by decide) z
  · exact fun z => piece0 x _ _ 128 256 (by decide) (by decide) (by decide) _ (by decide) z
  · exact fun z => piece1 x _ _ 0 128 (by decide) (by decide) (by decide) _ (by decide) z
  · exact fun z => piece0 x _ _ 0 0 (by decide) (by decide) (by decide) _ (by decide) z

/-- The projection's block at a grid point is chosen by its coordinate. -/
theorem idx0 : ∀ t : Fin grid0.N, win0_0.index t = ![(grid0.coords t 0).val, 6] := by decide +kernel
/-- The cosines' block at a grid point is chosen by its coordinate. -/
theorem idx1 : ∀ t : Fin grid0.N, win0_1.index t = ![(grid0.coords t 0).val, 0] := by decide +kernel
/-- The sines' block at a grid point is chosen by its coordinate. -/
theorem idx2 : ∀ t : Fin grid0.N, win0_2.index t = ![(grid0.coords t 0).val, 0] := by decide +kernel
/-- The result's block at a grid point is chosen by its coordinate. -/
theorem idx3 : ∀ t : Fin grid0.N, win0_3.index t = ![(grid0.coords t 0).val, 0] := by decide +kernel

/-- A cosine at a channel below 8. -/
theorem cs_eq (r : Fin 8192) (n : Nat) (h : n < 8) : Ideal.cos (angle (ix2 r (⟨n, h⟩ : Fin 8))) = cs r n :=
  congrArg (fun k : Fin 8 => Ideal.cos (angle (ix2 r k))) (Fin.ext (Nat.mod_eq_of_lt h).symm)
/-- A sine at a channel below 8. -/
theorem sn_eq (r : Fin 8192) (n : Nat) (h : n < 8) : Ideal.sin (angle (ix2 r (⟨n, h⟩ : Fin 8))) = sn r n :=
  congrArg (fun k : Fin 8 => Ideal.sin (angle (ix2 r k))) (Fin.ext (Nat.mod_eq_of_lt h).symm)

/-- At the kernel's start the first table holds the cosines, in each half of its lanes. -/
theorem V_v21 (r : Fin 8192) (d : Fin 128) : (V m c main_v21 (ix2 r d) : EReal) = cosTable 8 (cs r) (d.val % 64) := by
  have e : (V m c main_v21 : S8192x128.Idx → EReal) = shapeCast S8192x128 (broadcastInDim S1x8192x2x64 ![0, 1, 2, 3] bcast_S1x8192x1x64_S1x8192x2x64_0_1_2_3
      (shapeCast S1x8192x1x64 (concatenate S8192x64 1 [⟨S8192x8, Host.cos angle⟩, ⟨S8192x8, Host.cos angle⟩,
        ⟨S8192x48, broadcastInDim S8192x48 ![] bcast_S_S8192x48 (constant (F := Ideal) S_ .f32 0x3F800000#32)⟩] (by decide)) (by decide))) (by decide) := by
    show StableHlo.after hostOps0 _ (Proc.devRef .tc main_v21) = _
    after_results
    rfl
  rw [e]
  pointwise []
  unfold cosTable
  by_cases a : d.val % 64 < 8
  · rw [dif_pos a]
    exact (cs_eq r _ a).trans (if_pos a).symm
  · rw [dif_neg a, if_neg a]
    by_cases b : d.val % 64 - 8 < 8
    · rw [dif_pos b]
      exact (cs_eq r _ b).trans (if_pos (by omega)).symm
    · rw [dif_neg b]
      exact (if_neg (by omega)).symm

/-- At the kernel's start the second table holds the sines, in each half of its lanes. -/
theorem V_v24 (r : Fin 8192) (d : Fin 128) : (V m c main_v24 (ix2 r d) : EReal) = sinTable 8 (sn r) (d.val % 64) := by
  have e : (V m c main_v24 : S8192x128.Idx → EReal) = shapeCast S8192x128 (broadcastInDim S1x8192x2x64 ![0, 1, 2, 3] bcast_S1x8192x1x64_S1x8192x2x64_0_1_2_3
      (shapeCast S1x8192x1x64 (concatenate S8192x64 1 [⟨S8192x8, Host.negf (Host.sin angle)⟩, ⟨S8192x8, Host.sin angle⟩,
        ⟨S8192x48, broadcastInDim S8192x48 ![] bcast_S_S8192x48 (constant (F := Ideal) S_ .f32 0x00000000#32)⟩] (by decide)) (by decide))) (by decide) := by
    show StableHlo.after hostOps0 _ (Proc.devRef .tc main_v24) = _
    after_results
    rfl
  rw [e]
  pointwise []
  unfold sinTable
  by_cases a : d.val % 64 < 8
  · rw [dif_pos a]
    exact (congrArg (fun u : EReal => -u) (sn_eq r _ a)).trans (if_pos a).symm
  · rw [dif_neg a, if_neg a]
    by_cases b : d.val % 64 - 8 < 8
    · rw [dif_pos b]
      exact (sn_eq r _ b).trans (if_pos (by omega)).symm
    · rw [dif_neg b]
      exact (if_neg (by omega)).symm

/-- The projection's block holds the rows of its grid point and the queries' columns. -/
theorem x_apply (t : Fin cfg0.N) (r : Fin 512) (k : Fin 1024) (i : Fin 8192) (hi : i.val = (grid0.coords t 0).val * 512 + r.val)
    (o n : Nat) (hk : k.val = o + n) : (iblk m c 0 t (ix2 r k) : EReal) = head (x0 m c) i o n := by
  have hk' : k.val < 1024 := k.isLt
  unfold iblk head
  show (V m c main_arg0 : S8192x7168.Idx → EReal) _ = _
  rw [V_main_arg0]
  refine congrArg (x0 m c) (funext fun a => Fin.ext ?_)
  match a with
  | ⟨0, _⟩ => blk_simp [idx0, hi]
  | ⟨1, _⟩ =>
    have e : (6144 + o + n) % 7168 = 6 * 1024 + k.val := by omega
    blk_simp [idx0, e]

/-- The cosines' block holds the rows of its grid point. -/
theorem p_apply (t : Fin cfg0.N) (r : Fin 512) (d : Fin 128) (i : Fin 8192) (hi : i.val = (grid0.coords t 0).val * 512 + r.val) :
    (iblk m c 1 t (ix2 r d) : EReal) = cosTable 8 (cs i) (d.val % 64) := by
  unfold iblk
  refine Eq.trans (congrArg (V m c main_v21 : S8192x128.Idx → EReal) (funext fun a => Fin.ext ?_)) (V_v21 m c i d)
  match a with
  | ⟨0, _⟩ => blk_simp [idx1, hi]
  | ⟨1, _⟩ => blk_simp [idx1]

/-- The sines' block holds the rows of its grid point. -/
theorem q_apply (t : Fin cfg0.N) (r : Fin 512) (d : Fin 128) (i : Fin 8192) (hi : i.val = (grid0.coords t 0).val * 512 + r.val) :
    (iblk m c 2 t (ix2 r d) : EReal) = sinTable 8 (sn i) (d.val % 64) := by
  unfold iblk
  refine Eq.trans (congrArg (V m c main_v24 : S8192x128.Idx → EReal) (funext fun a => Fin.ext ?_)) (V_v24 m c i d)
  match a with
  | ⟨0, _⟩ => blk_simp [idx2, hi]
  | ⟨1, _⟩ => blk_simp [idx2]

/-- The block a grid point leaves holds the turned queries' rows. -/
theorem blk_eq (t : Fin cfg0.N) (y : S512x2048.Idx) (i : S8192x2048.Idx) (h0 : (i 0).val = (grid0.coords t 0).val * 512 + (y 0).val)
    (h1 : (i 1).val = (y 1).val) :
    block (iblk m c 0 t) (iblk m c 1 t) (iblk m c 2 t) y = full (x0 m c) i := by
  have hy : (y 1).val < 2048 := (y 1).isLt
  unfold block full
  by_cases h : (y 1).val % 128 < 64
  · refine (if_pos h).trans (Eq.trans ?_ (if_pos (by omega)).symm)
    unfold turn
    rw [x_apply m c t ⟨(y 0).val, (y 0).isLt⟩ _ ⟨(i 0).val, (i 0).isLt⟩ h0 ((i 1).val / 128 * 64) ((i 1).val % 128)
        (by show ((y 1).val / 128 * 64 + (y 1).val % 128) % 1024 = _; omega),
      p_apply m c t ⟨(y 0).val, (y 0).isLt⟩ _ ⟨(i 0).val, (i 0).isLt⟩ h0, q_apply m c t ⟨(y 0).val, (y 0).isLt⟩ _ ⟨(i 0).val, (i 0).isLt⟩ h0]
    have em : ((y 1).val / 128 * 64 + (y 1).val % 128) % 128 % 64 = (i 1).val % 128 := by omega
    show _ * cosTable 8 _ (((y 1).val / 128 * 64 + (y 1).val % 128) % 128 % 64) + _ * sinTable 8 _ (((y 1).val / 128 * 64 + (y 1).val % 128) % 128 % 64) = _
    rw [em]
    refine turned_eq (fun a => ?_) (fun a b => ?_)
    · rw [if_pos (by omega)]
      exact x_apply m c t _ _ _ h0 _ _ (by show ((y 1).val / 128 * 64 + (y 1).val % 128 + 8) % 1024 = _; omega)
    · rw [if_neg (by omega)]
      exact x_apply m c t _ _ _ h0 _ _ (by show ((y 1).val / 128 * 64 + (y 1).val % 128 + 1016) % 1024 = _; omega)
  · exact (if_neg h).trans (if_neg (by omega)).symm

/-- The kernel's result is the turned queries. -/
theorem result_eq : (dats m 0 c).arrAt 3 cfg0.N = full (x0 m c) := by
  refine (dats m 0 c).arrAt_eq_of_covers 3 _ (by decide +kernel) fun t hf y => ?_
  blk_simp []
  rw [after0_3]
  have h0 : (((win0_3.blk t).view.emb y) 0).val = (grid0.coords t 0).val * 512 + (y 0).val := by blk_simp [idx3]
  have h1 : (((win0_3.blk t).view.emb y) 1).val = (y 1).val := by blk_simp [idx3]
  generalize (win0_3.blk t).view.emb y = i at h0 h1 ⊢
  exact (congrFun (out3_eq _ _ _) y).trans (blk_eq m c t y i h0 h1)

section Reference
open Cert.ReferenceIdxQIdeal.Read

variable (x : S8192x7168.Idx → EReal)

/-- The reference's queries by head. -/
theorem ref_head (r : Fin 8192) (h : Fin 16) (d : Fin 64) (n : Nat) (hn : d.val = n) :
    (val_main_v1 (F := Ideal) x (ix3 r h d) : EReal) = head x r (h.val * 64) n := by
  have h1 := h.isLt
  have h2 := d.isLt
  have h3 := r.isLt
  rw [val_main_v1_apply, val_main_v0_apply]
  unfold head
  refine congrArg x (funext fun a => Fin.ext ?_)
  match a with
  | ⟨0, _⟩ => show ((r.val * 16 + h.val) * 64 + d.val) / 1024 = r.val; omega
  | ⟨1, _⟩ => show 6144 + ((r.val * 16 + h.val) * 64 + d.val) % 1024 = (6144 + h.val * 64 + n) % 7168; omega

/-- The reference's turned heads. -/
theorem ref_turned (r : Fin 8192) (h : Fin 16) (d : Fin 64) :
    (val_main_v30 (F := Ideal) x (ix3 r h d) : EReal) = turned 8 (head x r (h.val * 64)) (cs r) (sn r) d.val := by
  unfold val_main_v30
  pointwise [val_main_v24, val_main_v29, val_main_v21, val_main_v23, val_main_v26, val_main_v28, val_main_v17, val_main_v18, val_main_v19,
    val_main_v20, val_main_v22, val_main_v25, val_main_v27, val_main_v15, val_main_v16, val_main_v14]
  unfold turned
  by_cases a : d.val < 8
  · rw [dif_pos a, if_pos a]
    exact congrArg₂ (· - ·) (congrArg₂ (· * ·) (ref_head x r h _ _ rfl) (cs_eq r _ a))
      (congrArg₂ (· * ·) (ref_head x r h _ _ (Nat.add_comm _ _)) (sn_eq r _ a))
  · rw [dif_neg a, if_neg a]
    by_cases b : d.val - 8 < 8
    · rw [dif_pos b, if_pos (show d.val < 2 * 8 by omega)]
      exact congrArg₂ (· + ·) (congrArg₂ (· * ·) (ref_head x r h _ _ rfl) (sn_eq r _ b))
        (congrArg₂ (· * ·) (ref_head x r h _ _ (by show 8 + (d.val - 8) = d.val; omega)) (cs_eq r _ b))
    · rw [dif_neg b, if_neg (show ¬ d.val < 2 * 8 by omega)]
      exact ref_head x r h _ _ (by show 16 + (d.val - 8 - 8) = d.val; omega)

/-- The padding value, zero. -/
theorem pad_zero (h : 0 < S_.numel) : (sitofp (F := Ideal) .f32 (constantI S_ 32 0#32) (Shape.Idx.first h) : EReal) = 0 := by
  show (((0#32 : BitVec 32).toInt : ℝ) : EReal) = 0
  simp

/-- The reference's padded heads. -/
theorem ref_padded (r : Fin 8192) (h : Fin 16) (d : Fin 128) : (val_main_v31 (F := Ideal) x (ix3 r h d) : EReal)
    = if d.val < 64 then turned 8 (head x r (h.val * 64)) (cs r) (sn r) d.val else 0 := by
  unfold val_main_v31
  by_cases a : d.val < 64
  · rw [if_pos a]
    refine (pad_apply_of_inside _ _ _ _ _ _ _ _ (ix3 r h (⟨d.val, a⟩ : Fin 64)) fun a => ?_).trans (ref_turned x r h ⟨d.val, a⟩)
    match a with
    | ⟨0, _⟩ => show r.val = 0 + r.val * (0 + 1); omega
    | ⟨1, _⟩ => show h.val = 0 + h.val * (0 + 1); omega
    | ⟨2, _⟩ => show d.val = 0 + d.val * (0 + 1); omega
  · rw [if_neg a]
    refine (pad_apply_of_not_inside _ _ _ _ _ _ _ _ (2 : Fin 3) fun hin => ?_).trans (pad_zero _)
    have h2 : (d.val - 0) / (0 + 1) < 64 := hin.2.2
    omega

/-- The reference's result is the turned and padded queries. -/
theorem reference_eq : (val_main_v33 (F := Ideal) x : S8192x2048.Idx → EReal) = full x := by
  funext i
  have h0 : (i 0).val < 8192 := (i 0).isLt
  have h1 : (i 1).val < 2048 := (i 1).isLt
  show (val_main_v32 (F := Ideal) x i : EReal) = _
  rw [val_main_v32_apply]
  have e : idx_main_v32 i = ix3 (⟨(i 0).val, h0⟩ : Fin 8192) (⟨(i 1).val / 128, by omega⟩ : Fin 16) (⟨(i 1).val % 128, by omega⟩ : Fin 128) :=
    funext fun a => Fin.ext (match a with
      | ⟨0, _⟩ => by show ((i 0).val * 2048 + (i 1).val) / 2048 = (i 0).val; omega
      | ⟨1, _⟩ => by show ((i 0).val * 2048 + (i 1).val) / 128 % 16 = (i 1).val / 128; omega
      | ⟨2, _⟩ => by show ((i 0).val * 2048 + (i 1).val) % 128 = (i 1).val % 128; omega)
  rw [e]
  exact ref_padded x _ _ _

end Reference

/-- From the same argument, over the extended reals, the kernel's program and the reference's have the same result. -/
theorem algebraic : Cert.algebraic_KernelIdxQIdeal_ReferenceIdxQIdeal := fun m g m' g' _ hm =>
  ⟨fun c => (dats m 0 c).arrAt 3 cfg0.N, Cert.KernelIdxQIdeal.Value.run_blocks m g,
    (θ_run _ _ _).mono (fun _ h c => ⟨(h c).1.trans (by
      have h0 := hm c
      refine (Cert.ReferenceIdxQIdeal.Read.val_main_v33_eq (F := Ideal) _ _).trans ?_
      rw [h0]
      exact (reference_eq _).trans (result_eq m c).symm), (h c).2⟩) (Cert.ReferenceIdxQIdeal.Value.run (F := Ideal) m' g')⟩

end Cert.Proof.IdxQ

end
-- ==== Proof.Mat.IdxTail.lean ====
module

public import proofs.«01_k».proof.Proof.Gen.KernelIdxTailIdeal.Value
public import proofs.«01_k».proof.Proof.Gen.ReferenceIdxTailIdeal.Read
public import proofs.«01_k».proof.Proof.Mat.Common
public import proofs.«01_k».proof.Proof.Mat.Rotary
public import Idealize.ShloMosaic.Lib.KernelVsHost
public import proofs.«01_k».proof.Defs

@[expose] public section

/-! The indexer's key and weights, from the last columns of the odd projection. Each grid point takes 512 rows: its first
    result is the 64 channels of the key with the first 16 turned by the position's angles, scaled, then zeros; its second
    the columns scaled. The blocks tile both results, so each is that array, and so are the reference's. -/

noncomputable section

namespace Cert.Proof.IdxTail

open Cert.KernelIdxTailIdeal Cert.KernelIdxTailIdeal.Gen Idealize.ShloMosaic Idealize.ShloMosaic.TcCoe Cert.Proof.Rotary

variable (m : (ℓ : Loc nD τ sig) → Buf (Elt Ideal) ℓ) (c : Dev nD)

/-- The last columns of the odd projection. -/
abbrev x0 : S8192x128.Idx → EReal := m (c.tc.loc main_arg0)

/-- The angles: position times frequency. -/
abbrev angle : S8192x8.Idx → EReal := Cert.ReferenceIdxTailIdeal.Read.val_main_v12 (F := Ideal)

/-- The cosines of row `r`'s angles. -/
def cs (r : Fin 8192) (n : Nat) : EReal := Ideal.cos (angle (ix2 r (⟨n % 8, Nat.mod_lt _ (by decide)⟩ : Fin 8)))
/-- The sines of row `r`'s angles. -/
def sn (r : Fin 8192) (n : Nat) : EReal := Ideal.sin (angle (ix2 r (⟨n % 8, Nat.mod_lt _ (by decide)⟩ : Fin 8)))

/-- Channel `n` of row `r`. -/
def head (x : S8192x128.Idx → EReal) (r : Fin 8192) (n : Nat) : EReal :=
  x (ix2 r (⟨n % 128, Nat.mod_lt _ (by decide)⟩ : Fin 128))

/-- The key's factor, 1/8. -/
abbrev scale : EReal := Ideal.ofBits .f32 0x3E000000#32

/-- The turned and scaled key, padded with zeros. -/
def full (x : S8192x128.Idx → EReal) (i : S8192x128.Idx) : EReal :=
  if (i 1).val < 64 then turned 8 (head x ⟨(i 0).val, (i 0).isLt⟩) (cs ⟨(i 0).val, (i 0).isLt⟩) (sn ⟨(i 0).val, (i 0).isLt⟩) (i 1).val * scale
  else 0

/-- The scaled columns. -/
def scaled (x : S8192x128.Idx → EReal) (i : S8192x128.Idx) : EReal := x i * Ideal.ofBits .f32 0x3E800000#32

/-- Whether a lane is one of the first 8 of its half, as the body computes it. -/
theorem lane8 : ∀ d : Fin 128, IntOp.cmpi .slt (IntOp.andi (BitVec.ofNat 32 d.val) 63#32) 8#32 = if d.val % 64 < 8 then 1#1 else 0#1 := by
  decide
/-- Whether a lane is one of the first 64, as the body and the host compute it. -/
theorem lane64 : ∀ d : Fin 128, IntOp.cmpi .slt (BitVec.ofNat 32 d.val) 64#32 = if d.val < 64 then 1#1 else 0#1 := by
  decide

/-- An entry of the first block the body computes: in the first 64 lanes the channel times its cosine plus its partner
    times its sine, scaled, and zero in the others. -/
theorem pay1_apply (x p q : S512x128.Idx → EReal) (r : Fin 512) (d : Fin 128) :
    (k0_pay1 (F := Ideal) x p q (ix2 r d) : EReal)
      = if d.val < 64 then (x (ix2 r d) * p (ix2 r d) + (if d.val < 8 then x (ix2 r (⟨(d.val + 128 - 120) % 128, Nat.mod_lt _ (by decide)⟩ : Fin 128))
          else x (ix2 r (⟨(d.val + 128 - 8) % 128, Nat.mod_lt _ (by decide)⟩ : Fin 128))) * q (ix2 r d)) * scale else 0 := by
  pointwise [k0_pay1]
  rw [lane8, lane64]
  by_cases a : d.val < 64
  · rw [if_pos a, if_pos a, Nat.mod_eq_of_lt a]
    by_cases h : d.val < 8
    · rw [if_pos h, if_pos h]; rfl
    · rw [if_neg h, if_neg h]; rfl
  · rw [if_neg a, if_neg a]
    rfl

/-- The body's first store fills its result's block with what it computes. -/
theorem out3_eq (x p q : S512x128.Idx → EReal) : (out0_3 (F := Ideal) x p q : S512x128.Idx → EReal) = k0_pay1 (F := Ideal) x p q := by
  unfold out0_3 r0_0
  rw [View.canon_cons_unit_lit _ _ _ (by decide), View.ld_unit_lit _ _ (by decide), View.ld_unit_lit _ _ (by decide), View.ld_unit_lit _ _ (by decide)]

/-- The body's second store fills its result's block with what it computes. -/
theorem out4_eq (x p q : S512x128.Idx → EReal) : (out0_4 (F := Ideal) x p q : S512x128.Idx → EReal) = k0_pay2 (F := Ideal) x := by
  unfold out0_4 r0_0
  rw [View.canon_cons_unit_lit _ _ _ (by decide), View.ld_unit_lit _ _ (by decide)]

/-- The columns' block at a grid point is chosen by its coordinate. -/
theorem idx0 : ∀ t : Fin grid0.N, win0_0.index t = ![(grid0.coords t 0).val, 0] := by decide +kernel
/-- The cosines' block at a grid point is chosen by its coordinate. -/
theorem idx1 : ∀ t : Fin grid0.N, win0_1.index t = ![(grid0.coords t 0).val, 0] := by decide +kernel
/-- The sines' block at a grid point is chosen by its coordinate. -/
theorem idx2 : ∀ t : Fin grid0.N, win0_2.index t = ![(grid0.coords t 0).val, 0] := by decide +kernel
/-- The first result's block at a grid point is chosen by its coordinate. -/
theorem idx3 : ∀ t : Fin grid0.N, win0_3.index t = ![(grid0.coords t 0).val, 0] := by decide +kernel
/-- The second result's block at a grid point is chosen by its coordinate. -/
theorem idx4 : ∀ t : Fin grid0.N, win0_4.index t = ![(grid0.coords t 0).val, 0] := by decide +kernel

/-- A cosine at a channel below 8. -/
theorem cs_eq (r : Fin 8192) (n : Nat) (h : n < 8) : Ideal.cos (angle (ix2 r (⟨n, h⟩ : Fin 8))) = cs r n :=
  congrArg (fun k : Fin 8 => Ideal.cos (angle (ix2 r k))) (Fin.ext (Nat.mod_eq_of_lt h).symm)
/-- A sine at a channel below 8. -/
theorem sn_eq (r : Fin 8192) (n : Nat) (h : n < 8) : Ideal.sin (angle (ix2 r (⟨n, h⟩ : Fin 8))) = sn r n :=
  congrArg (fun k : Fin 8 => Ideal.sin (angle (ix2 r k))) (Fin.ext (Nat.mod_eq_of_lt h).symm)

/-- Lanes below 64, as an array of truth values over the rows. -/
abbrev lanes : S8192x128.Idx → BitVec 1 := broadcastInDim S8192x128 ![0, 1] bcast_S1x128_S8192x128_0_1
  (cmpi .slt (broadcastInDim S1x128 ![1] bcast_S128_S1x128_1 (iotaInDim S128 32 0)) (broadcastInDim S1x128 ![] bcast_S_S1x128 (constantI S_ 32 64#32)))

/-- At the kernel's start the first table holds the cosines in its first 64 lanes. -/
theorem V_v29 (r : Fin 8192) (d : Fin 128) (hd : d.val < 64) : (V m c main_v29 (ix2 r d) : EReal) = cosTable 8 (cs r) d.val := by
  have e : (V m c main_v29 : S8192x128.Idx → EReal) = select lanes (shapeCast S8192x128 (broadcastInDim S1x8192x2x64 ![0, 1, 2, 3] bcast_S1x8192x1x64_S1x8192x2x64_0_1_2_3
      (shapeCast S1x8192x1x64 (concatenate S8192x64 1 [⟨S8192x8, Host.cos angle⟩, ⟨S8192x8, Host.cos angle⟩,
        ⟨S8192x48, broadcastInDim S8192x48 ![] bcast_S_S8192x48 (constant (F := Ideal) S_ .f32 0x3F800000#32)⟩] (by decide)) (by decide))) (by decide))
      (broadcastInDim S8192x128 ![] bcast_S_S8192x128 (constant (F := Ideal) S_ .f32 0x3F800000#32)) := by
    show StableHlo.after (List.flatten [hostOps0, hostOps0_1, hostOps0_2, hostOps0_3]) _ (Proc.devRef .tc main_v29) = _
    simp only [List.flatten_cons, List.flatten_nil, List.append_nil, List.cons_append, List.nil_append]
    after_results
    rfl
  rw [e]
  pointwise []
  rw [lane64, if_pos hd]
  have em : d.val % 64 = d.val := Nat.mod_eq_of_lt hd
  show (if h : d.val % 64 < 8 then _ else _) = _
  unfold cosTable
  by_cases a : d.val % 64 < 8
  · rw [dif_pos a]
    exact ((cs_eq r _ a).trans (by rw [em])).trans (if_pos (by omega)).symm
  · rw [dif_neg a, if_neg (show ¬ d.val < 8 by omega)]
    by_cases b : d.val % 64 - 8 < 8
    · rw [dif_pos b]
      exact ((cs_eq r _ b).trans (by rw [em])).trans (if_pos (by omega)).symm
    · rw [dif_neg b]
      exact (if_neg (by omega)).symm

/-- At the kernel's start the second table holds the sines in its first 64 lanes. -/
theorem V_v32 (r : Fin 8192) (d : Fin 128) (hd : d.val < 64) : (V m c main_v32 (ix2 r d) : EReal) = sinTable 8 (sn r) d.val := by
  have e : (V m c main_v32 : S8192x128.Idx → EReal) = select lanes (shapeCast S8192x128 (broadcastInDim S1x8192x2x64 ![0, 1, 2, 3] bcast_S1x8192x1x64_S1x8192x2x64_0_1_2_3
      (shapeCast S1x8192x1x64 (concatenate S8192x64 1 [⟨S8192x8, Host.negf (Host.sin angle)⟩, ⟨S8192x8, Host.sin angle⟩,
        ⟨S8192x48, broadcastInDim S8192x48 ![] bcast_S_S8192x48 (constant (F := Ideal) S_ .f32 0x00000000#32)⟩] (by decide)) (by decide))) (by decide))
      (broadcastInDim S8192x128 ![] bcast_S_S8192x128 (constant (F := Ideal) S_ .f32 0x00000000#32)) := by
    show StableHlo.after (List.flatten [hostOps0, hostOps0_1, hostOps0_2, hostOps0_3]) _ (Proc.devRef .tc main_v32) = _
    simp only [List.flatten_cons, List.flatten_nil, List.append_nil, List.cons_append, List.nil_append]
    after_results
    rfl
  rw [e]
  pointwise []
  rw [lane64, if_pos hd]
  have em : d.val % 64 = d.val := Nat.mod_eq_of_lt hd
  show (if h : d.val % 64 < 8 then _ else _) = _
  unfold sinTable
  by_cases a : d.val % 64 < 8
  · rw [dif_pos a]
    exact (congrArg (fun u : EReal => -u) ((sn_eq r _ a).trans (by rw [em]))).trans (if_pos (by omega)).symm
  · rw [dif_neg a, if_neg (show ¬ d.val < 8 by omega)]
    by_cases b : d.val % 64 - 8 < 8
    · rw [dif_pos b]
      exact ((sn_eq r _ b).trans (by rw [em])).trans (if_pos (by omega)).symm
    · rw [dif_neg b]
      exact (if_neg (by omega)).symm

/-- The columns' block holds the rows of its grid point. -/
theorem x_apply (t : Fin cfg0.N) (r : Fin 512) (d : Fin 128) (i : Fin 8192) (hi : i.val = (grid0.coords t 0).val * 512 + r.val) :
    (iblk m c 0 t (ix2 r d) : EReal) = x0 m c (ix2 i d) := by
  unfold iblk
  show (V m c main_arg0 : S8192x128.Idx → EReal) _ = _
  rw [V_main_arg0]
  refine congrArg (x0 m c) (funext fun a => Fin.ext ?_)
  match a with
  | ⟨0, _⟩ => blk_simp [idx0, hi]
  | ⟨1, _⟩ => blk_simp [idx0]

/-- The cosines' block holds the rows of its grid point. -/
theorem p_apply (t : Fin cfg0.N) (r : Fin 512) (d : Fin 128) (i : Fin 8192) (hi : i.val = (grid0.coords t 0).val * 512 + r.val) (hd : d.val < 64) :
    (iblk m c 1 t (ix2 r d) : EReal) = cosTable 8 (cs i) d.val := by
  unfold iblk
  refine Eq.trans (congrArg (V m c main_v29 : S8192x128.Idx → EReal) (funext fun a => Fin.ext ?_)) (V_v29 m c i d hd)
  match a with
  | ⟨0, _⟩ => blk_simp [idx1, hi]
  | ⟨1, _⟩ => blk_simp [idx1]

/-- The sines' block holds the rows of its grid point. -/
theorem q_apply (t : Fin cfg0.N) (r : Fin 512) (d : Fin 128) (i : Fin 8192) (hi : i.val = (grid0.coords t 0).val * 512 + r.val) (hd : d.val < 64) :
    (iblk m c 2 t (ix2 r d) : EReal) = sinTable 8 (sn i) d.val := by
  unfold iblk
  refine Eq.trans (congrArg (V m c main_v32 : S8192x128.Idx → EReal) (funext fun a => Fin.ext ?_)) (V_v32 m c i d hd)
  match a with
  | ⟨0, _⟩ => blk_simp [idx2, hi]
  | ⟨1, _⟩ => blk_simp [idx2]

/-- A channel below 128 is the row's entry. -/
theorem head_eq (x : S8192x128.Idx → EReal) (r : Fin 8192) (d : Fin 128) (n : Nat) (h : d.val = n) : x (ix2 r d) = head x r n := by
  subst h
  exact congrArg (fun k : Fin 128 => x (ix2 r k)) (Fin.ext (Nat.mod_eq_of_lt d.isLt).symm)

/-- The first block a grid point leaves holds the turned keys' rows. -/
theorem blk_eq (t : Fin cfg0.N) (r : Fin 512) (d : Fin 128) (i : S8192x128.Idx) (h0 : (i 0).val = (grid0.coords t 0).val * 512 + r.val)
    (h1 : (i 1).val = d.val) : (k0_pay1 (F := Ideal) (iblk m c 0 t) (iblk m c 1 t) (iblk m c 2 t) (ix2 r d) : EReal) = full (x0 m c) i := by
  refine (pay1_apply _ _ _ r d).trans ?_
  unfold full
  by_cases a : d.val < 64
  · refine (if_pos a).trans (Eq.trans ?_ (if_pos (by omega)).symm)
    rw [x_apply m c t r d ⟨(i 0).val, (i 0).isLt⟩ h0, p_apply m c t r d ⟨(i 0).val, (i 0).isLt⟩ h0 a, q_apply m c t r d ⟨(i 0).val, (i 0).isLt⟩ h0 a,
      head_eq (x0 m c) _ d _ rfl, h1]
    refine congrArg (fun u : EReal => u * scale) (turned_eq (fun b => ?_) (fun b e => ?_))
    · rw [if_pos b]
      exact (x_apply m c t r _ ⟨(i 0).val, (i 0).isLt⟩ h0).trans (head_eq _ _ _ _ (by show (d.val + 128 - 120) % 128 = d.val + 8; omega))
    · rw [if_neg (by omega)]
      exact (x_apply m c t r _ ⟨(i 0).val, (i 0).isLt⟩ h0).trans (head_eq _ _ _ _ (by show (d.val + 128 - 8) % 128 = d.val - 8; omega))
  · exact (if_neg a).trans (if_neg (by omega)).symm

/-- The kernel's first result is the turned and scaled keys. -/
theorem result3_eq : (dats m 0 c).arrAt 3 cfg0.N = full (x0 m c) := by
  refine (dats m 0 c).arrAt_eq_of_covers 3 _ (by decide +kernel) fun t hf y => ?_
  blk_simp []
  rw [after0_3]
  have h0 : (((win0_3.blk t).view.emb y) 0).val = (grid0.coords t 0).val * 512 + (y 0).val := by blk_simp [idx3]
  have h1 : (((win0_3.blk t).view.emb y) 1).val = (y 1).val := by blk_simp [idx3]
  generalize (win0_3.blk t).view.emb y = i at h0 h1 ⊢
  refine (congrFun (out3_eq _ _ _) y).trans ?_
  exact (congrArg (k0_pay1 (F := Ideal) (iblk m c 0 t) (iblk m c 1 t) (iblk m c 2 t)) (Mat.ix2_eta y)).trans (blk_eq m c t _ _ i h0 h1)

/-- The second block a grid point leaves holds the scaled columns' rows. -/
theorem blk4_eq (t : Fin cfg0.N) (r : Fin 512) (d : Fin 128) (i : S8192x128.Idx) (h0 : (i 0).val = (grid0.coords t 0).val * 512 + r.val)
    (h1 : (i 1).val = d.val) : (k0_pay2 (F := Ideal) (iblk m c 0 t) (ix2 r d) : EReal) = scaled (x0 m c) i := by
  refine congrArg (fun u : EReal => u * Ideal.ofBits .f32 0x3E800000#32) ((x_apply m c t r d ⟨(i 0).val, (i 0).isLt⟩ h0).trans ?_)
  refine congrArg (x0 m c) (funext fun a => Fin.ext ?_)
  match a with
  | ⟨0, _⟩ => rfl
  | ⟨1, _⟩ => exact h1.symm

/-- The kernel's second result is the scaled columns. -/
theorem result4_eq : (dats m 0 c).arrAt 4 cfg0.N = scaled (x0 m c) := by
  refine (dats m 0 c).arrAt_eq_of_covers 4 _ (by decide +kernel) fun t hf y => ?_
  blk_simp []
  rw [after0_4]
  have h0 : (((win0_4.blk t).view.emb y) 0).val = (grid0.coords t 0).val * 512 + (y 0).val := by blk_simp [idx4]
  have h1 : (((win0_4.blk t).view.emb y) 1).val = (y 1).val := by blk_simp [idx4]
  generalize (win0_4.blk t).view.emb y = i at h0 h1 ⊢
  refine (congrFun (out4_eq _ _ _) y).trans ?_
  exact (congrArg (k0_pay2 (F := Ideal) (iblk m c 0 t)) (Mat.ix2_eta y)).trans (blk4_eq m c t _ _ i h0 h1)

section Reference
open Cert.ReferenceIdxTailIdeal.Read

variable (x : S8192x128.Idx → EReal)

/-- The padding value, zero. -/
theorem pad_zero (h : 0 < S_.numel) : (sitofp (F := Ideal) .f32 (constantI S_ 32 0#32) (Shape.Idx.first h) : EReal) = 0 := by
  show (((0#32 : BitVec 32).toInt : ℝ) : EReal) = 0
  simp

/-- The reference's key. -/
theorem ref_head (r : Fin 8192) (d : Fin 64) (n : Nat) (h : d.val = n) : (val_main_v0 (F := Ideal) x (ix2 r d) : EReal) = head x r n := by
  rw [val_main_v0_apply]
  have hd := d.isLt
  unfold head
  refine congrArg x (funext fun a => Fin.ext ?_)
  match a with
  | ⟨0, _⟩ => rfl
  | ⟨1, _⟩ => show d.val = n % 128; omega

/-- The reference's turned key. -/
theorem ref_turned (r : Fin 8192) (d : Fin 64) :
    (val_main_v24 (F := Ideal) x (ix2 r d) : EReal) = turned 8 (head x r) (cs r) (sn r) d.val := by
  unfold val_main_v24
  pointwise [val_main_v20, val_main_v23, val_main_v17, val_main_v18, val_main_v19, val_main_v21, val_main_v22, val_main_v15, val_main_v16,
    val_main_v13, val_main_v14]
  unfold turned
  by_cases a : d.val < 8
  · rw [dif_pos a, if_pos a]
    exact congrArg₂ (· - ·) (congrArg₂ (· * ·) (ref_head x r _ _ rfl) (cs_eq r _ a))
      (congrArg₂ (· * ·) (ref_head x r _ _ (Nat.add_comm _ _)) (sn_eq r _ a))
  · rw [dif_neg a, if_neg a]
    by_cases b : d.val - 8 < 8
    · rw [dif_pos b, if_pos (show d.val < 2 * 8 by omega)]
      exact congrArg₂ (· + ·) (congrArg₂ (· * ·) (ref_head x r _ _ rfl) (sn_eq r _ b))
        (congrArg₂ (· * ·) (ref_head x r _ _ (by show 8 + (d.val - 8) = d.val; omega)) (cs_eq r _ b))
    · rw [dif_neg b, if_neg (show ¬ d.val < 2 * 8 by omega)]
      exact ref_head x r _ _ (by show 16 + (d.val - 8 - 8) = d.val; omega)

/-- The reference's first result is the turned and scaled key, padded. -/
theorem reference3_eq : (val_main_v28 (F := Ideal) x : S8192x128.Idx → EReal) = full x := by
  funext i
  show (val_main_v27 (F := Ideal) x i : EReal) = _
  unfold val_main_v27 full
  by_cases h : (i 1).val < 64
  · rw [if_pos h]
    refine (pad_apply_of_inside _ _ _ _ _ _ _ _ (ix2 (⟨(i 0).val, (i 0).isLt⟩ : Fin 8192) (⟨(i 1).val, h⟩ : Fin 64)) fun a => ?_).trans ?_
    · match a with
      | ⟨0, _⟩ => show (i 0).val = 0 + (i 0).val * (0 + 1); omega
      | ⟨1, _⟩ => show (i 1).val = 0 + (i 1).val * (0 + 1); omega
    · rw [val_main_v26_apply, val_main_v25_apply]
      exact congrArg (fun u : EReal => u * scale) (ref_turned x _ _)
  · rw [if_neg h]
    refine (pad_apply_of_not_inside _ _ _ _ _ _ _ _ (1 : Fin 2) fun hin => ?_).trans (pad_zero _)
    have h2 : ((i 1).val - 0) / (0 + 1) < 64 := hin.2.2
    omega

/-- The reference's second result is the scaled columns. -/
theorem reference4_eq : (val_main_v30 (F := Ideal) x : S8192x128.Idx → EReal) = scaled x := by
  funext i
  rw [val_main_v30_apply, val_main_v29_apply]
  rfl

end Reference

/-- From the same argument, over the extended reals, the kernel's program and the reference's have the same results. -/
theorem algebraic : Cert.algebraic_KernelIdxTailIdeal_ReferenceIdxTailIdeal := fun m g m' g' _ hm =>
  ⟨fun c => (dats m 0 c).arrAt 3 cfg0.N, fun c => (dats m 0 c).arrAt 4 cfg0.N, Cert.KernelIdxTailIdeal.Value.run_blocks m g,
    (θ_run _ _ _).mono (fun _ h c => ⟨(h c).1.trans (by
      have h0 := hm c
      refine (Cert.ReferenceIdxTailIdeal.Read.val_main_v28_eq (F := Ideal) _).trans ?_
      rw [h0]
      exact (reference3_eq _).trans (result3_eq m c).symm), (h c).2.1.trans (by
      have h0 := hm c
      refine (Cert.ReferenceIdxTailIdeal.Read.val_main_v30_eq (F := Ideal) _).trans ?_
      rw [h0]
      exact (reference4_eq _).trans (result4_eq m c).symm), (h c).2.2⟩) (Cert.ReferenceIdxTailIdeal.Value.run (F := Ideal) m' g')⟩

end Cert.Proof.IdxTail

end
-- ==== Proof.Moe.Plan.lean ====
/-
  Which expert each block of 512 sorted rows belongs to, as words and as naturals. The rows of an expert are
  padded to a multiple of 512, so a segment starts and ends on a block; the expert of a block is the number of
  segments that end at or before it, cut at the last expert, and the blocks in use are those below the last end.
-/
module

public import Idealize.ShloMosaic.Lib.Routing.Words
public import Idealize.ShloMosaic.Lib.Routing.Ops
public import Idealize.ShloMosaic.Lib.Pointwise.Elementwise

@[expose] public section

noncomputable section

namespace Cert.Proof.Moe

open Idealize.ShloMosaic Idealize.ShloMosaic.ValueIdx Idealize.ShloMosaic.Routing Idealize.ShloMosaic.WordCmp

theorem bc8 : shape0.BroadcastsInDim (shape1 8) (![] : Fin 0 → Fin (shape1 8).rank) := by decide
theorem bc40 : shape0.BroadcastsInDim (shape1 40) (![] : Fin 0 → Fin (shape1 40).rank) := by decide
theorem bc1 : shape0.BroadcastsInDim (shape1 1) (![] : Fin 0 → Fin (shape1 1).rank) := by decide
theorem bc00 : shape0.BroadcastsInDim shape0 (![] : Fin 0 → Fin shape0.rank) := by decide
theorem row8 : (shape1 8).BroadcastsInDim (shape2 1 8) (![1] : Fin 1 → Fin (shape2 1 8).rank) := by decide
theorem rows8 : (shape2 1 8).BroadcastsInDim (shape2 40 8) (![0, 1] : Fin 2 → Fin (shape2 40 8).rank) := by decide
theorem col40 : (shape1 40).BroadcastsInDim (shape2 40 1) (![0] : Fin 1 → Fin (shape2 40 1).rank) := by decide
theorem cols40 : (shape2 40 1).BroadcastsInDim (shape2 40 8) (![0, 1] : Fin 2 → Fin (shape2 40 8).rank) := by decide
theorem win8 : (shape1 8).ReduceWindows (![8] : Fin 1 → Nat) ![1] ![7] ![0] (shape1 8) := by decide
theorem red8 : (shape2 40 8).ReducesTo [1] (shape1 40) := by decide
theorem cut7 : (shape1 8).Slices ![7] (shape1 1) := by decide
theorem pos0 : 0 < shape0.numel := by decide

/-! ## As words -/

section Words

variable (cnt : IVec (shape1 8) 32)

/-- The rows of each expert, padded to a multiple of 512. -/
def padded : IVec (shape1 8) 32 :=
  muli (pyDiv bc8 (subi (addi cnt (broadcastInDim (shape1 8) ![] bc8 (constantI shape0 32 512#32)))
    (broadcastInDim (shape1 8) ![] bc8 (constantI shape0 32 1#32))) (constantI shape0 32 512#32))
    (broadcastInDim (shape1 8) ![] bc8 (constantI shape0 32 512#32))

/-- Where each expert's segment ends. -/
def ends : IVec (shape1 8) 32 :=
  Host.reduceWindow IntOp.addi ![8] ![1] ![7] ![0] (padded cnt) (broadcastInDim shape0 ![] bc00 (constantI shape0 32 0#32)) win8 pos0

/-- Which segments end at or before each block. -/
def ended : IVec (shape2 40 8) 1 :=
  cmpi .sle (broadcastInDim (shape2 40 8) ![0, 1] rows8 (broadcastInDim (shape2 1 8) ![1] row8 (ends cnt)))
    (broadcastInDim (shape2 40 8) ![0, 1] cols40 (broadcastInDim (shape2 40 1) ![0] col40
      (muli (iotaInDim (shape1 40) 32 0) (broadcastInDim (shape1 40) ![] bc40 (constantI shape0 32 512#32)))))

/-- The expert of each block. -/
def experts : IVec (shape1 40) 32 :=
  minsi (Host.reduce IntOp.addi (extui 32 (ended cnt) (by decide)) (constantI shape0 32 0#32) red8 pos0)
    (broadcastInDim (shape1 40) ![] bc40 (constantI shape0 32 7#32))

/-- How many blocks are in use. -/
def used : IVec (shape1 1) 32 :=
  pyDiv bc1 (extractStridedSlice (shape1 1) ![7] (ends cnt) cut7) (constantI shape0 32 512#32)

end Words

/-- A word cut at 7 is at most 7, if it is not negative. -/
theorem min7 {a : ℕ} (h : a ≤ 8) : IntOp.minsi (BitVec.ofNat 32 a) 7#32 = BitVec.ofNat 32 (min a 7) := by
  interval_cases a <;> decide

/-- Whatever the counts, the expert of a block is one of the eight. -/
theorem experts_le (cnt : IVec (shape1 8) 32) (j : Fin 40) : (experts cnt (ix1 j)).toNat ≤ 7 := by
  have h : experts cnt (ix1 j) = IntOp.minsi (Host.reduce IntOp.addi (extui 32 (ended cnt) (by decide)) (constantI shape0 32 0#32) red8 pos0 (ix1 j)) 7#32 := rfl
  classical
  rw [h, reduce_count (by decide) (ended cnt) (by decide) red8 pos0 j (fun q => ∃ h : q < 8, ended cnt (ix2 j ⟨q, h⟩) = 1#1)
    (fun q => ⟨fun e => ⟨q.isLt, e⟩, fun ⟨_, e⟩ => e⟩), min7 (Nat.count_le _), BitVec.toNat_ofNat]
  omega

/-! ## As naturals -/

/-- The padded length of a segment. -/
def pad (a : ℕ → ℕ) (k : ℕ) : ℕ := (a k + 511) / 512 * 512

/-- How many blocks the segments up to `k` take. -/
def blocks (a : ℕ → ℕ) : ℕ → ℕ
  | 0 => (a 0 + 511) / 512
  | k + 1 => blocks a k + (a (k + 1) + 511) / 512

theorem sum_pad (a : ℕ → ℕ) (k : ℕ) : ((List.range (k + 1)).map (pad a)).sum = 512 * blocks a k := by
  induction k with
  | zero => simp [pad, blocks]; omega
  | succ k ih => rw [List.range_succ, List.map_append, List.sum_append, ih]; simp [pad, blocks]; omega

theorem blocks_mono (a : ℕ → ℕ) : Monotone (blocks a) :=
  monotone_nat_of_le_succ fun k => Nat.le_add_right _ _

theorem blocks_le {a : ℕ → ℕ} (h : ∀ k, a k ≤ 16384) (k : ℕ) : blocks a k ≤ 32 * (k + 1) := by
  induction k with
  | zero => have := h 0; simp only [blocks]; omega
  | succ k ih => have := h (k + 1); simp only [blocks]; omega

/-- The expert of block `j`. -/
def expert (a : ℕ → ℕ) (j : ℕ) : ℕ := min (Nat.count (fun q => blocks a q ≤ j) 8) 7

theorem expert_lt (a : ℕ → ℕ) (j : ℕ) : expert a j < 8 := by unfold expert; omega

/-- The segments that end at or before a block are the first ones. -/
theorem count_iff {f : ℕ → ℕ} (hf : Monotone f) (j n : ℕ) : ∀ q < n, f q ≤ j ↔ q < Nat.count (fun q => f q ≤ j) n := by
  induction n with
  | zero => intro q h; omega
  | succ n ih =>
    intro q hq
    rw [Nat.count_succ]
    by_cases hn : f n ≤ j
    · have hall : ∀ i, i < n → f i ≤ j := fun i hi => (hf hi.le).trans hn
      have hc : Nat.count (fun q => f q ≤ j) n = n := Nat.count_iff_forall.2 fun {i} hi => hall i hi
      rw [hc, if_pos hn]
      exact ⟨fun _ => hq, fun _ => (hf (Nat.lt_succ_iff.1 hq)).trans hn⟩
    · rw [if_neg hn, Nat.add_zero]
      rcases Nat.lt_succ_iff_lt_or_eq.1 hq with h | h
      · exact ih q h
      · subst h
        exact ⟨fun h => absurd h hn, fun h => absurd (Nat.count_le (n := q) (p := fun q => f q ≤ j)) (by omega)⟩

/-- A row lies in the segment of expert `e` exactly if its block is in use and is of expert `e`. -/
theorem mine_iff (a : ℕ → ℕ) (r e : ℕ) (he : e < 8) :
    (512 * blocks a e - pad a e ≤ r ∧ r < 512 * blocks a e) ↔ (r / 512 < blocks a 7 ∧ e = expert a (r / 512)) := by
  have hm := blocks_mono a
  have hc := count_iff hm (r / 512) 8
  have h7 := hc 7 (by omega)
  have hle : Nat.count (fun q => blocks a q ≤ r / 512) 8 ≤ 8 := Nat.count_le _
  have hce := hc e he
  unfold expert
  rcases e with _ | e
  · have : 512 * blocks a 0 - pad a 0 = 0 := by simp only [pad, blocks]; omega
    rw [this]
    have h07 := hm (show 0 ≤ 7 by omega)
    omega
  · have : 512 * blocks a (e + 1) - pad a (e + 1) = 512 * blocks a e := by simp only [pad, blocks]; omega
    rw [this]
    have hce' := hc e (by omega)
    have h07 := hm (show e + 1 ≤ 7 by omega)
    omega

/-! ## The words hold the naturals -/

section Both

variable {cnt : IVec (shape1 8) 32} {a : ℕ → ℕ} (hw : ∀ k : Fin 8, cnt (ix1 k) = BitVec.ofNat 32 (a k.val)) (ha : ∀ k, a k ≤ 16384)
include hw ha

theorem padded_at (k : Fin 8) : padded cnt (ix1 k) = BitVec.ofNat 32 (pad a k.val) := by
  have h := ha k.val
  have hs : (subi (addi cnt (broadcastInDim (shape1 8) ![] bc8 (constantI shape0 32 512#32)))
      (broadcastInDim (shape1 8) ![] bc8 (constantI shape0 32 1#32))) (ix1 k) = BitVec.ofNat 32 (a k.val + 511) := by
    rw [subi_ap, addi_ap, hw k, bc0, bc0]
    show BitVec.ofNat 32 (a k.val) + BitVec.ofNat 32 512 - BitVec.ofNat 32 1 = _
    rw [← BitVec.ofNat_add, ofNat32_sub (by omega)]
    rfl
  unfold padded
  rw [muli_ap, pyDiv_ap bc8 _ _ (ix1 k) hs (b := 512) rfl (by omega) (by decide) (by decide), bc0]
  show BitVec.ofNat 32 _ * BitVec.ofNat 32 512 = _
  rw [← BitVec.ofNat_mul]
  rfl

theorem ends_at (k : Fin 8) : ends cnt (ix1 k) = BitVec.ofNat 32 (512 * blocks a k.val) := by
  unfold ends
  rw [cumsum1 (by decide) (padded cnt) (pad a) (padded_at hw ha) _ (bc0 _ _ _) win8 pos0 k, sum_pad]

theorem experts_at (j : Fin 40) : experts cnt (ix1 j) = BitVec.ofNat 32 (expert a j.val) := by
  have h : experts cnt (ix1 j) = IntOp.minsi (Host.reduce IntOp.addi (extui 32 (ended cnt) (by decide)) (constantI shape0 32 0#32) red8 pos0 (ix1 j)) 7#32 := rfl
  rw [h, reduce_count (by decide) (ended cnt) (by decide) red8 pos0 j (fun q => blocks a q ≤ j.val) (fun q => ?_), min7 (Nat.count_le _)]
  · rfl
  · have hq : (ended cnt) (ix2 j q) = IntOp.cmpi .sle (BitVec.ofNat 32 (512 * blocks a q.val)) (BitVec.ofNat 32 (j.val * 512)) := by
      unfold ended
      rw [cmpi_at, bcCols, bcRows, ends_at hw ha q, muli_ap, iota1_ap, bc0, constantI_at, show (512#32) = BitVec.ofNat 32 512 from rfl,
        ← BitVec.ofNat_mul]
    have hb := blocks_le ha q.val
    rw [hq, cmpi_sle_ofNat_eq_one_iff (w := 32) (by norm_num; omega) (by norm_num; omega)]
    omega

theorem used_at : used cnt (ix1 0) = BitVec.ofNat 32 (blocks a 7) := by
  have hb := blocks_le ha 7
  have hs : extractStridedSlice (shape1 1) ![7] (ends cnt) cut7 (ix1 0) = BitVec.ofNat 32 (512 * blocks a 7) := by
    rw [slice1 7 _ cut7 0 (by decide)]
    exact ends_at hw ha 7
  unfold used
  rw [pyDiv_ap bc1 _ _ (ix1 0) hs (b := 512) rfl (by omega) (by decide) (by decide), Nat.mul_div_cancel_left _ (by decide)]

/-- The segment of expert `e` reaches row `r`, as the words say: it starts at or before `r` and ends after `r`. -/
theorem mine_at (e : Fin 8) (r : ℕ) (hr : r < 20480) :
    IntOp.andi (IntOp.cmpi .sle (IntOp.subi (ends cnt (ix1 e)) (padded cnt (ix1 e))) (BitVec.ofNat 32 r))
        (IntOp.cmpi .slt (BitVec.ofNat 32 r) (ends cnt (ix1 e))) = 1#1
      ↔ (r / 512 < blocks a 7 ∧ e.val = expert a (r / 512)) := by
  have hb := blocks_le ha e.val
  have hp : pad a e.val ≤ 512 * blocks a e.val := by
    rcases e with ⟨_ | e, he⟩ <;> simp only [pad, blocks] <;> omega
  rw [← mine_iff a r e.val e.isLt, ends_at hw ha e, padded_at hw ha e]
  show IntOp.andi (IntOp.cmpi .sle (BitVec.ofNat 32 _ - BitVec.ofNat 32 _) _) _ = 1#1 ↔ _
  rw [ofNat32_sub hp, cmpi_sle_ofNat (w := 32) (by norm_num; omega) (by norm_num; omega), cmpi_slt_ofNat (w := 32) (by norm_num; omega) (by norm_num; omega)]
  by_cases h1 : 512 * blocks a e.val - pad a e.val ≤ r <;> by_cases h2 : r < 512 * blocks a e.val <;> simp [h1, h2] <;> decide

end Both

end Cert.Proof.Moe

end
-- ==== Proof.Moe.Prod.lean ====
/-
  The counts as naturals, the choice a sum over the experts makes, and the product of a row with one expert's
  matrix: what the two kernels of the expert products share.
-/
module

public import proofs.«01_k».proof.Proof.Moe.Plan
public import proofs.«01_k».proof.Proof.Mat.Common

@[expose] public section

noncomputable section

namespace Cert.Proof.Moe

open Idealize.ShloMosaic Idealize.ShloMosaic.Routing Idealize.ShloMosaic.WordCmp

/-- The counts as naturals, zero past the last expert. -/
def num (cnt : IVec (shape1 8) 32) (k : ℕ) : ℕ := if h : k < 8 then (cnt (ValueIdx.ix1 ⟨k, h⟩)).toNat else 0

/-- A count's word is its natural's. -/
theorem num_eq (cnt : IVec (shape1 8) 32) (k : Fin 8) : cnt (ValueIdx.ix1 k) = BitVec.ofNat 32 (num cnt k.val) := by
  unfold num
  rw [dif_pos k.isLt, BitVec.ofNat_toNat, BitVec.setWidth_eq]

/-- A word between 0 and 16384 as integers is at most 16384 as a natural. -/
theorem toNat_le {x : BitVec 32} (h : IntOp.andi (IntOp.cmpi .sge x 0#32) (IntOp.cmpi .sle x 16384#32) = 1#1) : x.toNat ≤ 16384 := by
  have key : ∀ p q : Bool, IntOp.andi (BitVec.ofBool p) (BitVec.ofBool q) = 1#1 → p = true ∧ q = true := by decide
  obtain ⟨h0, h1⟩ := key ((0#32).sle x) (x.sle 16384#32) h
  rw [BitVec.sle_eq_decide, decide_eq_true_iff] at h0 h1
  have e0 : (0#32).toInt = 0 := by decide
  have e1 : (16384#32).toInt = 16384 := by decide
  rw [e0] at h0
  rw [e1] at h1
  have hx := BitVec.toInt_eq_toNat_cond x
  have hl := x.isLt
  split at hx <;> omega

/-- Counts in range are at most 16384 as naturals. -/
theorem num_le {cnt : IVec (shape1 8) 32}
    (h : ∀ k, IntOp.andi (IntOp.cmpi .sge (cnt (ValueIdx.ix1 k)) 0#32) (IntOp.cmpi .sle (cnt (ValueIdx.ix1 k)) 16384#32) = 1#1) (k : ℕ) : num cnt k ≤ 16384 := by
  unfold num
  split
  · exact toNat_le (h _)
  · exact Nat.zero_le _

/-- Summing over the experts what only the expert of row `r` keeps leaves that expert's term, or nothing past the
    blocks in use. -/
theorem sum_mine {M : Type} [AddCommMonoid M] {cnt : IVec (shape1 8) 32} {a : ℕ → ℕ}
    (hw : ∀ k : Fin 8, cnt (ValueIdx.ix1 k) = BitVec.ofNat 32 (a k.val)) (ha : ∀ k, a k ≤ 16384) (r : ℕ) (hr : r < 20480) (f : Fin 8 → M) :
    (∑ e : Fin 8, if IntOp.andi (IntOp.cmpi .sle (IntOp.subi (ends cnt (ValueIdx.ix1 e)) (padded cnt (ValueIdx.ix1 e))) (BitVec.ofNat 32 r))
        (IntOp.cmpi .slt (BitVec.ofNat 32 r) (ends cnt (ValueIdx.ix1 e))) = 1#1 then f e else 0)
      = if r / 512 < blocks a 7 then f ⟨expert a (r / 512), expert_lt a _⟩ else 0 := by
  have hm := fun e => mine_at hw ha e r hr
  by_cases hb : r / 512 < blocks a 7
  · rw [if_pos hb, Finset.sum_eq_single (⟨expert a (r / 512), expert_lt a _⟩ : Fin 8)]
    · exact if_pos ((hm _).2 ⟨hb, rfl⟩)
    · exact fun e _ he => if_neg fun h => he (Fin.ext ((hm e).1 h).2)
    · exact fun h => absurd (Finset.mem_univ _) h
  · rw [if_neg hb]
    exact Finset.sum_eq_zero fun e _ => if_neg fun h => hb ((hm e).1 h).1

/-- The product of an `M × K` array with matrix `(0, e)` of a stack of two times eight `K × N` matrices. -/
def prod {M K N : Nat} (x : (⟨2, ![M, K]⟩ : Shape).Idx → EReal) (w : (⟨4, ![2, 8, K, N]⟩ : Shape).Idx → EReal) (e : Fin 8)
    (r : Fin M) (d : Fin N) : EReal :=
  ∑ k : Fin K, x (ix2 r k) * w (ix4 (0 : Fin 2) e k d)

end Cert.Proof.Moe

end
-- ==== Proof.Moe.UpI.lean ====
/-
  The expert products' first kernel, run. The host line before the launch prepares the narrowed rows and the two
  tables; the expert table is in range whatever the counts. At a grid point the body stores the gated products of
  its blocks if the block of rows is in use, and zeros otherwise.
-/
module

public import proofs.«01_k».proof.Proof.Gen.KernelMoeUpIdeal.Launch
public import proofs.«01_k».proof.Proof.Gen.KernelMoeUpIdeal.Skeleton
public import proofs.«01_k».proof.Proof.Moe.Plan
public import Idealize.ShloMosaic.Lib.Pipeline.Sound
public import Idealize.ShloMosaic.Lib.Pipeline.Value
public import Idealize.ShloMosaic.Lib.Pipeline.FrameBody
public import Idealize.ShloMosaic.Lib.Pipeline.Frame
public import Idealize.ShloMosaic.Lib.Pipeline.TableIdle
public import Idealize.ShloMosaic.Lib.StableHlo.RunRead
public import Idealize.ShloMosaic.Lib.Tactic

@[expose] public section

noncomputable section

namespace Cert.Proof.MoeUpI

open Cert.KernelMoeUpIdeal Cert.KernelMoeUpIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

abbrev 𝒱₀ : Variants := Variants.nat

variable (m : (ℓ : Loc nD τ sig) → Buf (Elt F) ℓ) (ρ : Dev nD → PrngReg)

/-! ## The host line -/

/-- What a buffer holds when the launch begins. -/
def V (c : Dev nD) (b : Ref sig .tc) : Buf (Elt F) ((c.tc : Thread nD τ).loc b) :=
  StableHlo.after [hostOps0 (F := F), hostOps0_1, hostOps0_2, hostOps0_3, hostOps0_4, hostOps0_5].flatten (fun b => m (c, b)) b

/-- The counts. -/
abbrev cnt (c : Dev nD) : IVec S8 32 := m (c.tc.loc main_arg0)

theorem V_arg0 (c : Dev nD) : V m c main_arg0 = m (c.tc.loc main_arg0) := by
  show StableHlo.after (hostOps0 ++ (hostOps0_1 ++ (hostOps0_2 ++ (hostOps0_3 ++ (hostOps0_4 ++ (hostOps0_5 ++ [])))))) _ (Proc.devRef .tc main_arg0) = _
  after_reads_simp

theorem V_arg1 (c : Dev nD) : V m c main_arg1 = m (c.tc.loc main_arg1) := by
  show StableHlo.after (hostOps0 ++ (hostOps0_1 ++ (hostOps0_2 ++ (hostOps0_3 ++ (hostOps0_4 ++ (hostOps0_5 ++ [])))))) _ (Proc.devRef .tc main_arg1) = _
  after_reads_simp

theorem V_arg2 (c : Dev nD) : V m c main_arg2 = m (c.tc.loc main_arg2) := by
  show StableHlo.after (hostOps0 ++ (hostOps0_1 ++ (hostOps0_2 ++ (hostOps0_3 ++ (hostOps0_4 ++ (hostOps0_5 ++ [])))))) _ (Proc.devRef .tc main_arg2) = _
  after_reads_simp

theorem V_arg3 (c : Dev nD) : V m c main_arg3 = m (c.tc.loc main_arg3) := by
  show StableHlo.after (hostOps0 ++ (hostOps0_1 ++ (hostOps0_2 ++ (hostOps0_3 ++ (hostOps0_4 ++ (hostOps0_5 ++ [])))))) _ (Proc.devRef .tc main_arg3) = _
  after_reads_simp

theorem V_v0 (c : Dev nD) : V m c main_v0 = truncf (s := S20480x4096) (φ := .f32) .bf16 (m (c.tc.loc main_arg1)) bitsLt_bf16_f32 := by
  show StableHlo.after (hostOps0 ++ (hostOps0_1 ++ (hostOps0_2 ++ (hostOps0_3 ++ (hostOps0_4 ++ (hostOps0_5 ++ [])))))) _ (Proc.devRef .tc main_v0) = _
  after_reads_simp

theorem V_v20 (c : Dev nD) : V m c main_v20 = Moe.experts (cnt m c) := by
  show StableHlo.after (hostOps0 ++ (hostOps0_1 ++ (hostOps0_2 ++ (hostOps0_3 ++ (hostOps0_4 ++ (hostOps0_5 ++ [])))))) _ (Proc.devRef .tc main_v20) = _
  after_reads_simp
  simp -implicitDefEqProofs only [StableHlo.TRef.toBuf, StableHlo.TRef.ofBuf, cast_eq, id_eq]
  unfold Moe.experts Moe.ended Moe.ends Moe.padded Routing.pyDiv
  with_reducible rfl

theorem V_v22 (c : Dev nD) : V m c main_v22 = Moe.used (cnt m c) := by
  show StableHlo.after (hostOps0 ++ (hostOps0_1 ++ (hostOps0_2 ++ (hostOps0_3 ++ (hostOps0_4 ++ (hostOps0_5 ++ [])))))) _ (Proc.devRef .tc main_v22) = _
  after_reads_simp
  simp -implicitDefEqProofs only [StableHlo.TRef.toBuf, StableHlo.TRef.ofBuf, cast_eq, id_eq]
  unfold Moe.used Moe.ends Moe.padded Routing.pyDiv
  with_reducible rfl

/-! ## The tables -/

/-- The two tables as the launch finds them. -/
def tbl : (pre0.Contents (Elt F)) := fun j => V m (0 : Dev nD) (pre0.ref j)

theorem V_pre (c : Dev nD) (j : Fin 2) : V m c (pre0.ref j) = tbl m j := by
  obtain rfl : c = 0 := Subsingleton.elim _ _
  rfl

/-- How many blocks of rows are in use. -/
def nu : BitVec 32 := Moe.used (cnt m 0) (ix1 0)

/-- The expert of the block of rows of a point. -/
def te (i : grid0.Coords) : BitVec 32 := Moe.experts (cnt m 0) (ix1 (i 1))

theorem tbl_zero : tbl m 0 = Moe.experts (cnt m 0) := V_v20 m 0
theorem tbl_one : tbl m 1 = Moe.used (cnt m 0) := V_v22 m 0

theorem V_def : V m = fun (c : Dev nD) (b : Ref sig .tc) => StableHlo.after [hostOps0 (F := F), hostOps0_1, hostOps0_2, hostOps0_3, hostOps0_4, hostOps0_5].flatten
    (fun b => m (c, b)) b := rfl
theorem nu_eq : nu m = Moe.used (cnt m 0) (ix1 0) := rfl
theorem te_eq (i : grid0.Coords) : te m i = Moe.experts (cnt m 0) (ix1 (i 1)) := rfl

attribute [irreducible] V tbl nu te

/-- The one element under a point's rectangle is the point's block of rows. -/
theorem emb_eq (i : grid0.Coords) (x : S1.Idx) :
    (Rect.unit (s := S40) ![(Scalar.indexCast (BitVec.ofNat 32 (i 1).val) : Index).toNat] S1.size (k0_off1_inb i)).emb x = ix1 (i 1) := by
  refine funext fun a => Fin.ext ?_
  match a with
  | 0 =>
    have h : k0_off1 i 0 = (i 1).val := congrFun (k0_off1_eq i) 0
    have hx : (x 0).val = 0 := Nat.lt_one_iff.1 (x 0).isLt
    show (k0_off1 i 0) + 1 * (x 0).val = (i 1).val
    rw [h, hx, Nat.mul_zero, Nat.add_zero]

/-- The element of the expert table an index map reads. -/
theorem at_zero (i : grid0.Coords) :
    (tbl m).at 0 (Rect.unit (s := S40) ![(Scalar.indexCast (BitVec.ofNat 32 (i 1).val) : Index).toNat] S1.size (k0_off1_inb i)) numel1_S1
      = te m i :=
  ((congrFun (tbl_zero m) _).trans (congrArg (Moe.experts (cnt m 0)) (emb_eq i _))).trans (te_eq m i).symm

theorem transform_1_eq (i : grid0.Coords) :
    cc0_transform_1 k0_off1_inb numel1_S1 (tbl m) i = ![0, (te m i).toNat, 0, (BitVec.ofNat 32 (i 0).val).toNat] :=
  congrArg (fun v : BitVec 32 => (![0, v.toNat, 0, (BitVec.ofNat 32 (i 0).val).toNat] : Fin 4 → Nat)) (at_zero m i)

theorem transform_2_eq (i : grid0.Coords) :
    cc0_transform_2 k0_off1_inb numel1_S1 (tbl m) i = ![0, (te m i).toNat, 0, (BitVec.ofNat 32 (i 0).val).toNat] :=
  congrArg (fun v : BitVec 32 => (![0, v.toNat, 0, (BitVec.ofNat 32 (i 0).val).toNat] : Fin 4 → Nat)) (at_zero m i)

theorem te_le (i : grid0.Coords) : (te m i).toNat ≤ 7 := by rw [te_eq]; exact Moe.experts_le _ _

theorem in_range (i : grid0.Coords) (a : Fin 4) :
    ((![0, (te m i).toNat, 0, (BitVec.ofNat 32 (i 0).val).toNat] : Fin 4 → Nat) a + 1) * S1x1x4096x256.size a ≤ S2x8x4096x1792.size a := by
  have h := te_le m i
  have h0 : (BitVec.ofNat 32 (i 0).val).toNat = (i 0).val := by
    have : (i 0).val < 7 := (i 0).isLt
    rw [BitVec.toNat_ofNat]; omega
  have h7 : (i 0).val < 7 := (i 0).isLt
  match a with
  | 0 => show (0 + 1) * 1 ≤ 2; omega
  | 1 => show ((te m i).toNat + 1) * 1 ≤ 8; omega
  | 2 => show (0 + 1) * 4096 ≤ 4096; omega
  | 3 => show ((BitVec.ofNat 32 (i 0).val).toNat + 1) * 256 ≤ 1792; omega

/-- Whatever the counts, every block the tables name lies inside the weights. -/
theorem ok : ok0 (tbl m) := by
  unfold ok0
  exact ⟨fun i => ⟨by rw [transform_1_eq]; exact in_range m i, .inl rfl⟩, fun i => ⟨by rw [transform_2_eq]; exact in_range m i, .inl rfl⟩⟩

def adm : (pcfg0 (F := F)).Adm := ⟨tbl m, ok m⟩

abbrev cfgM := cfg0 (adm m)

/-! ## The word of the body's conditions -/

/-- The two conditions are each the other's negation. -/
theorem conds (i : grid0.Coords) (v : BitVec 32) : k0_cond2 i v = 1#1 ↔ ¬ k0_cond1 i v = 1#1 := by
  unfold k0_cond1 k0_cond2
  simp only [Scalar.cmpi, IntOp.cmpi, BitVec.sle_eq_not_slt]
  generalize (BitVec.ofNat 32 (i 1).val).slt v = b
  revert b; decide

theorem idle_false (i : grid0.Coords) : (idle0 (tbl m) 3 i) = false := by
  have key : ∀ b1 b2 : BitVec 1, (b2 = 1#1 ↔ ¬ b1 = 1#1) → (!(b1 == 1#1) && !(b2 == 1#1)) = false := by decide
  exact key _ _ (conds i _)

/-- What the body stores at a point. -/
def out (i : grid0.Coords) (v : BitVec 32) (X4 : Vec F S512x4096 .bf16) (X5 X6 : Vec F S1x1x4096x256 .f32) : Vec F S512x256 .bf16 :=
  if k0_cond1 i v = 1#1 then k0_pay1 X4 X5 X6 else k0_pay2

/-! ## The proof data -/

/-- The block of an input at a point. -/
def blkOf (c : Dev nD) (w : Fin 4) (t : Fin (cfgM m).N) :=
  (((cfgM m).win w).blk t).view.read (Elt F) (V m c (Pipeline.arrRef spec0 w))

def xOf (c : Dev nD) (t : Fin (cfgM m).N) : Vec F S512x4096 .bf16 := blkOf m c 0 t
def gOf (c : Dev nD) (t : Fin (cfgM m).N) : Vec F S1x1x4096x256 .f32 := blkOf m c 1 t
def uOf (c : Dev nD) (t : Fin (cfgM m).N) : Vec F S1x1x4096x256 .f32 := blkOf m c 2 t

/-- The two tables, as the body holds them. -/
def PhiM (c : Dev nD) : sProp 𝕄 := iprop(Pipeline.ΦA spec0 c ∗ Pipeline.ΦT pre0 (tbl m) c)

/-- The proof data: the arrays at what the host line left; after the body the inputs as fetched and the result's
    block at `out`. -/
def dats (_ : Fin 1) (c : Dev nD) : Dat τ (Elt F) Unit ℕ (UR sig nD τ) ℕ (cfgM m) c where
  A w := V m c (Pipeline.arrRef spec0 w)
  after w t := match w with
    | ⟨0, _⟩ => xOf m c t
    | ⟨1, _⟩ => gOf m c t
    | ⟨2, _⟩ => uOf m c t
    | ⟨3, _⟩ => out (grid0.coords t) (nu m) (xOf m c t) (gOf m c t) (uOf m c t)
  Φ _ := PhiM m c
  q w := Pipeline.shareOf spec0 w
  owed _ := 0

theorem PhiT_eq (c : Dev nD) : (Pipeline.ΦT pre0 (tbl m) c : sProp 𝕄)
    = iprop(((Memref.whole main_v20).view.loc (c : Thread nD τ) ↦{fullShare.right} tbl m 0)
      ∗ ((Memref.whole main_v22).view.loc (c : Thread nD τ) ↦{fullShare.right} tbl m 1)) := by
  unfold Pipeline.ΦT Pipeline.prefHeld
  rw [show (Finset.univ : Finset (Fin 2)) = insert (0 : Fin 2) {1} from by decide, bigSep_insert (by decide), bigSep_singleton]
  rfl

/-! ## The body -/

theorem zero2 : (![0, 0] : Fin 2 → Nat) = fun _ => 0 := funext fun a => by fin_cases a <;> rfl
theorem zero4 : (![0, 0, 0, 0] : Fin 4 → Nat) = fun _ => 0 := funext fun a => by fin_cases a <;> rfl

/-- A store over a whole block leaves the block at the payload. -/
theorem read_store {S : Shape} {e : EltTy} (m : Memref sig .tc .vmem S e) {off : Fin S.rank → Nat} (h : off = fun _ => 0)
    (inb : ∀ a, off a + S.size a ≤ S.size a) (f : m.view.ty.Contents (Elt F)) (w : S.Idx → Elt F e) :
    m.view.read (Elt F) ((m.view.slice (Rect.unit off S.size inb)).write (Elt F) f w Finset.univ) = w := by
  subst h
  funext x
  have := m.view.read_slice_write_emb (Val := Elt F) (Rect.whole S) f w (x := x) (Finset.mem_univ _)
  rwa [Rect.emb_whole_apply] at this

/-- A load over a whole block reads it. -/
theorem read_load {S : Shape} {e : EltTy} (m : Memref sig .tc .vmem S e) {off : Fin S.rank → Nat} (h : off = fun _ => 0)
    (inb : ∀ a, off a + S.size a ≤ S.size a) (X : S.Idx → Elt F e) :
    m.view.readAt (Elt F) (Rect.unit off S.size inb).toLoadRect (m.view.rep X) = X :=
  (m.view.readAt_rep _ X).trans (View.ld_unit_zero h inb X)

/-- The word the body reads is the table's one element. -/
theorem word (T : Vec F S1 .i32) (x : S1.Idx) : T x = T (ix1 0) :=
  congrArg T (funext fun a => by match a with | 0 => exact Subsingleton.elim (α := Fin 1) _ _)

section Body

variable (c : Dev nD) (i : grid0.Coords)
  (a4 : Memref sig .tc .vmem S512x4096 .bf16) (h4 : a4.IsWhole) (a5 : Memref sig .tc .vmem S1x1x4096x256 .f32) (h5 : a5.IsWhole)
  (a6 : Memref sig .tc .vmem S1x1x4096x256 .f32) (h6 : a6.IsWhole) (a7 : Memref sig .tc .vmem S512x256 .bf16) (h7 : a7.IsWhole)
  (T : Vec F S1 .i32) (X4 : Vec F S512x4096 .bf16) (X5 X6 : Vec F S1x1x4096x256 .f32)

set_option maxHeartbeats 1000000 in
/-- The body at a point: the inputs and the table as they were, the result's block at `out`. -/
theorem sound_body (K : PUnit → sProp 𝕄) :
    iprop((owns (c : Thread nD τ) a4 fullShare X4 ∗ owns (c : Thread nD τ) a5 fullShare X5 ∗ owns (c : Thread nD τ) a6 fullShare X6
          ∗ (∃ X, owns (c : Thread nD τ) a7 fullShare X)
          ∗ ((Memref.whole main_v22).view.loc (c : Thread nD τ) ↦{fullShare.right} T))
        ∗ ((owns (c : Thread nD τ) a4 fullShare X4 ∗ owns (c : Thread nD τ) a5 fullShare X5 ∗ owns (c : Thread nD τ) a6 fullShare X6
          ∗ owns (c : Thread nD τ) a7 fullShare (out i (T (ix1 0)) X4 X5 X6)
          ∗ ((Memref.whole main_v22).view.loc (c : Thread nD τ) ↦{fullShare.right} T)) -∗ K ⟨⟩))
      ⊢ wp frame (wpE (defs₀ (F := F)) 𝒱₀ c none) Set.univ
          (cc0_moe_up i (Memref.whole main_v20) (Memref.isWhole_whole _) (Memref.whole main_v22) (Memref.isWhole_whole _) a4 h4 a5 h5 a6 h6 a7 h7) K := by
  rw [cc0_moe_up_eq_skeleton]
  unfold cc0_moe_up_skel
  simp only [smemLoad, smemLoadElt, Prog.lift, Prog.bind_op, Prog.bind_ret, Prog.pure_eq_ret]
  rw [owns_eq_rep, owns_eq_rep, owns_eq_rep]
  simp only [owns]
  iintro ⟨⟨H4, H5, H6, ⟨%X, %f7, -, H7⟩, HT⟩, Hk⟩
  iapply (wp_load_rect 𝒱₀ (c : Thread nD τ) none Set.univ (m := Memref.whole main_v22)
      (r := Rect.unit (s := S1) ![0] S1.size inb_S1_S1_0) (Finset.subset_univ _)) $$ HT; iintro HT
  rw [show ((Memref.whole main_v22).access (Rect.unit (s := S1) ![0] S1.size inb_S1_S1_0)).read (Elt F) T (Shape.Idx.first (numel1_S1.symm ▸ Nat.one_pos)) = T (ix1 0) from word T _]
  have hc := conds i (T (ix1 0))
  by_cases h1 : k0_cond1 i (T (ix1 0)) = 1#1
  · have h2 : ¬ k0_cond2 i (T (ix1 0)) = 1#1 := fun h => hc.1 h h1
    rw [dif_pos h1, out, if_pos h1]
    simp only [Prog.lift, Prog.bind_op, Prog.bind_ret, Prog.pure_eq_ret]
    iapply (wp_load 𝒱₀ (c : Thread nD τ) none Set.univ (m := a4) (View.setOn_subset_set _ _)) $$ H4; iintro H4
    iapply (wp_load 𝒱₀ (c : Thread nD τ) none Set.univ (m := a5) (View.setOn_subset_set _ _)) $$ H5; iintro H5
    iapply (wp_load 𝒱₀ (c : Thread nD τ) none Set.univ (m := a6) (View.setOn_subset_set _ _)) $$ H6; iintro H6
    iapply (wp_load 𝒱₀ (c : Thread nD τ) none Set.univ (m := a7) (View.setOn_subset_set _ _)) $$ H7; iintro H7
    rw [read_load a4 zero2, read_load a5 zero4, read_load a6 zero4]
    iapply (wp_store 𝒱₀ (c : Thread nD τ) none Set.univ (m := a7)
      (r := Rect.unit (s := S512x256) ![0, 0] S512x256.size inb_S512x256_S512x256_0_0) (Mk := Finset.univ) (S := a7.view.set)
      ((View.setOn_subset_set _ _).trans (a7.view.set_slice_subset _))) $$ H7; iintro H7
    iapply (wp_load_rect 𝒱₀ (c : Thread nD τ) none Set.univ (m := Memref.whole main_v22)
      (r := Rect.unit (s := S1) ![0] S1.size inb_S1_S1_0) (Finset.subset_univ _)) $$ HT; iintro HT
    rw [show ((Memref.whole main_v22).access (Rect.unit (s := S1) ![0] S1.size inb_S1_S1_0)).read (Elt F) T (Shape.Idx.first (numel1_S1.symm ▸ Nat.one_pos)) = T (ix1 0) from word T _]
    rw [dif_neg h2, wp_ret]; imodintro
    iapply Hk
    isplitl [H4]; · iexact H4
    isplitl [H5]; · iexact H5
    isplitl [H6]; · iexact H6
    isplitl [H7]
    · iexists _; isplitr; swap; · iexact H7
      ipureintro; exact read_store a7 zero2 _ _ _
    iexact HT
  · have h2 : k0_cond2 i (T (ix1 0)) = 1#1 := hc.2 h1
    rw [dif_neg h1, out, if_neg h1]
    simp only [Prog.lift, Prog.bind_op, Prog.bind_ret, Prog.pure_eq_ret]
    iapply (wp_load_rect 𝒱₀ (c : Thread nD τ) none Set.univ (m := Memref.whole main_v22)
      (r := Rect.unit (s := S1) ![0] S1.size inb_S1_S1_0) (Finset.subset_univ _)) $$ HT; iintro HT
    rw [show ((Memref.whole main_v22).access (Rect.unit (s := S1) ![0] S1.size inb_S1_S1_0)).read (Elt F) T (Shape.Idx.first (numel1_S1.symm ▸ Nat.one_pos)) = T (ix1 0) from word T _]
    rw [dif_pos h2]
    simp only [Prog.lift, Prog.bind_op, Prog.bind_ret, Prog.pure_eq_ret]
    iapply (wp_load 𝒱₀ (c : Thread nD τ) none Set.univ (m := a7) (View.setOn_subset_set _ _)) $$ H7; iintro H7
    iapply (wp_store 𝒱₀ (c : Thread nD τ) none Set.univ (m := a7)
      (r := Rect.unit (s := S512x256) ![0, 0] S512x256.size inb_S512x256_S512x256_0_0) (Mk := Finset.univ) (S := a7.view.set)
      ((View.setOn_subset_set _ _).trans (a7.view.set_slice_subset _))) $$ H7; iintro H7
    rw [wp_ret]; imodintro
    iapply Hk
    isplitl [H4]; · iexact H4
    isplitl [H5]; · iexact H5
    isplitl [H6]; · iexact H6
    isplitl [H7]
    · iexists _; isplitr; swap; · iexact H7
      ipureintro; exact read_store a7 zero2 _ _ _
    iexact HT

end Body

/-! ## The obligation and the launch -/

theorem before0 (c : Dev nD) (t : Fin (cfgM m).N) (d) : (dats m 0 c).before 0 t d = xOf m c t :=
  (dats m 0 c).before_in_eq_fetched 0 rfl (fun _ => rfl) (fun _ _ _ => rfl) (fun _ => rfl) t d
theorem before1 (c : Dev nD) (t : Fin (cfgM m).N) (d) : (dats m 0 c).before 1 t d = gOf m c t :=
  (dats m 0 c).before_in_eq_fetched 1 rfl (fun _ => rfl) (fun _ _ _ => rfl) (fun _ => rfl) t d
theorem before2 (c : Dev nD) (t : Fin (cfgM m).N) (d) : (dats m 0 c).before 2 t d = uOf m c t :=
  (dats m 0 c).before_in_eq_fetched 2 rfl (fun _ => rfl) (fun _ _ _ => rfl) (fun _ => rfl) t d

theorem after0 (c : Dev nD) (t : Fin (cfgM m).N) : (dats m 0 c).after 0 t = xOf m c t := rfl
theorem after1 (c : Dev nD) (t : Fin (cfgM m).N) : (dats m 0 c).after 1 t = gOf m c t := rfl
theorem after2 (c : Dev nD) (t : Fin (cfgM m).N) : (dats m 0 c).after 2 t = uOf m c t := rfl
theorem after3 (c : Dev nD) (t : Fin (cfgM m).N) :
    (dats m 0 c).after 3 t = out (grid0.coords t) (nu m) (xOf m c t) (gOf m c t) (uOf m c t) := rfl

theorem owesAt_succ (c : Dev nD) (t : Fin (cfgM m).N) :
    (dats m 0 c).owesAt () t.succ = (dats m 0 c).owesAt () t.castSucc := by
  unfold Dat.owesAt Pipeline.owesWithin Dat.bound
  dsimp only [dats]

theorem Phi_at (c : Dev nD) (t : Fin ((cfgM m).N + 1)) : (dats m 0 c).Φ t
    = iprop(Pipeline.ΦA spec0 c ∗ ((Memref.whole main_v20).view.loc (c : Thread nD τ) ↦{fullShare.right} tbl m 0)
      ∗ ((Memref.whole main_v22).view.loc (c : Thread nD τ) ↦{fullShare.right} tbl m 1)) := by
  rw [← PhiT_eq]; rfl

theorem idle3 (t : Fin (cfgM m).N) : (cfgM m).idle (3 : Fin 4) ((cfgM m).grid.coords t) = false := idle_false m _

theorem body_obligation (c : Dev nD) : BodyObligation (dats m 0 c) (defs₀ (F := F)) 𝒱₀ () Set.univ := fun t => by
  rw [bigSep_W0, bigSep_W0]
  sl_whnfR [defs₀, Defs.onTc]
  rw [after0, after1, after2, after3]
  rw [owesAt_succ, Phi_at, Phi_at]
  iintro ⟨⟨HA, HE, HT⟩, Howes, ⟨%d0, H2⟩, ⟨%d1, H3⟩, ⟨%d2, H4⟩, ⟨%d3, H5⟩⟩
  rw [before0 m c t d0, before1 m c t d1, before2 m c t d2]
  rw [show nu m = (tbl m 1 : Vec F S1 .i32) (ix1 0) by rw [tbl_one, nu_eq]]
  iapply (sound_body c (grid0.coords t) (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3)) (tbl m 1) (xOf m c t) (gOf m c t) (uOf m c t) _)
  isplitl [H2 H3 H4 H5 HT]
  · isplitl [H2]; · iexact H2
    isplitl [H3]; · iexact H3
    isplitl [H4]; · iexact H4
    isplitl [H5]; · (iexists _; iexact H5)
    iexact HT
  iintro ⟨H2, H3, H4, H5, HT⟩
  isplitl [HA HE HT]
  · isplitl [HA]; · iexact HA
    isplitl [HE]; · iexact HE
    iexact HT
  isplitl [Howes]; · iexact Howes
  isplitl [H2]; · iexact H2
  isplitl [H3]; · iexact H3
  isplitl [H4]; · iexact H4
  dsimp only
  split
  · rename_i h; exact absurd ((idle3 m t).symm.trans h) (by decide)
  · iexact H5

/-- What the result's array holds after every point. -/
def result (c : Dev nD) := (dats m 0 c).arrAt 3 (cfgM m).N

theorem fresh : [hostOps0 (F := F), hostOps0_1, hostOps0_2, hostOps0_3, hostOps0_4, hostOps0_5].Forall fun ops => ops.Forall fun op => op.fresh = ∅ := by
  simp only [List.Forall]
  repeat' apply And.intro
  all_goals rfl

theorem hmain : Pipeline.HMainP (Ix := Unit) (Name := ℕ) (U := UR sig nD τ) (Lvl := ℕ) pcfgs 0 (defs₀ (F := F)) 𝒱₀ m main (V m) := by
  rw [V_def]
  exact Pipeline.hmainP_prefixes pcfgs 0 (defs₀ (F := F)) 𝒱₀ m main
    [hostOps0 (F := F), hostOps0_1, hostOps0_2, hostOps0_3, hostOps0_4, hostOps0_5]
    ⟨hostOps0_sub, hostOps0_1_sub, hostOps0_2_sub, hostOps0_3_sub, hostOps0_4_sub, hostOps0_5_sub⟩ fresh main_chain

/-- The whole launch: from any memory the program ends with the result's array at what the write-backs of `out` leave,
    the arguments as they were, and every semaphore at zero. -/
theorem run :
    θ_run defs (onTc main) ⟨m, fun _ => 0, ρ⟩ fun r =>
      (∀ c : Dev nD, r.2.mem ((c.tc : Thread nD τ).loc main_v23) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  Pipeline.θ_run_frameP pcfgs (fun _ => adm m) (dats m) 0 launch0 (defs₀ (F := F)) 𝒱₀ m ρ main
    (fun c => (body_obligation m c).loose)
    (fun c w => by fin_cases w <;> rfl) (fun _ _ => rfl) (V m) (hmain m)
    (fun _ _ => rfl) (fun c k => V_pre m c k) (fun _ _ => rfl) _
    (fun r h => ⟨fun c => ⟨(h.1 c).1 3,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      (((h.1 c).1 1).trans ((dats m 0 c).arrAt_in 1 rfl _)).trans (V_arg2 m c),
      (((h.1 c).1 2).trans ((dats m 0 c).arrAt_in 2 rfl _)).trans (V_arg3 m c)⟩, h.2⟩)

end Cert.Proof.MoeUpI

end
-- ==== Proof.Mat.MoeUp.lean ====
module

public import proofs.«01_k».proof.Proof.Gen.KernelMoeUp.Skeleton
public import proofs.«01_k».proof.Proof.Gen.KernelMoeUp.Launch
public import proofs.«01_k».proof.Proof.Gen.KernelMoeUpIdeal.Launch
public import proofs.«01_k».proof.Proof.Gen.KernelMoeUpIdeal.Skeleton
public import proofs.«01_k».proof.Proof.Gen.ReferenceMoeUpIdeal.Read
public import proofs.«01_k».proof.Proof.Gen.Pre_moe_up_counts
public import proofs.«01_k».proof.Proof.Mat.FfnUp
public import proofs.«01_k».proof.Proof.Moe.Prod
public import proofs.«01_k».proof.Proof.Moe.Up
public import proofs.«01_k».proof.Proof.Moe.UpI
public import proofs.«01_k».proof.Defs

@[expose] public section

/-! The expert products' first kernel. Each grid point in use gates 512 sorted rows of 256 columns by the weights of
    the expert its rows belong to; the blocks tile the result. The reference forms every expert's gated product and
    keeps of each row its own expert's. -/

noncomputable section

namespace Cert.Proof.MoeUpValue

open Cert.KernelMoeUpIdeal Cert.KernelMoeUpIdeal.Gen Cert.Proof.MoeUpI Idealize.ShloMosaic Idealize.ShloMosaic.TcCoe
open Cert.Proof.FfnUp (gated)
open Cert.Proof.Moe (blocks expert expert_lt num)

variable (m : (ℓ : Loc nD τ sig) → Buf (Elt Ideal) ℓ) (c : Dev nD)

/-- The sorted rows. -/
abbrev xs : S20480x4096.Idx → EReal := m (c.tc.loc main_arg1)
/-- The experts' weights of the gate. -/
abbrev wg : S2x8x4096x1792.Idx → EReal := m (c.tc.loc main_arg2)
/-- The experts' weights of the gated values. -/
abbrev wu : S2x8x4096x1792.Idx → EReal := m (c.tc.loc main_arg3)

/-- The gated product of row `r` with expert `e`'s matrices, at column `d`. -/
def term (x : S20480x4096.Idx → EReal) (w u : S2x8x4096x1792.Idx → EReal) (r : Fin 20480) (d : Fin 1792) (e : Fin 8) : EReal :=
  gated (Moe.prod x w e r d) (Moe.prod x u e r d)

/-- What both compute: the gated product with the expert of the row's block, or zero if the block is not in use. -/
def spec (a : ℕ → ℕ) (x : S20480x4096.Idx → EReal) (w u : S2x8x4096x1792.Idx → EReal) (r : Fin 20480) (d : Fin 1792) : EReal :=
  if r.val / 512 < blocks a 7 then term x w u r d ⟨expert a (r.val / 512), expert_lt a _⟩ else 0

/-! ## The kernel -/

/-- The rows' block at a grid point is chosen by its second coordinate. -/
theorem map0 : ∀ t : Fin grid0.N, cc0_transform_0 (grid0.coords t) = ![(grid0.coords t 1).val, 0] := by decide +kernel
/-- The result's block at a grid point is chosen by both coordinates. -/
theorem map3 : ∀ t : Fin grid0.N, cc0_transform_3 (grid0.coords t) = ![(grid0.coords t 1).val, (grid0.coords t 0).val] := by decide +kernel

/-- The index map of the rows' window. -/
theorem idx0 (t : Fin grid0.N) : ((cfgM m).win 0).index t = ![(grid0.coords t 1).val, 0] := map0 t
/-- The index map of the result's window. -/
theorem idx3 (t : Fin grid0.N) : ((cfgM m).win 3).index t = ![(grid0.coords t 1).val, (grid0.coords t 0).val] := map3 t
/-- A column's word is its number. -/
theorem col (t : Fin grid0.N) : (BitVec.ofNat 32 (grid0.coords t 0).val).toNat = (grid0.coords t 0).val := by
  have : (grid0.coords t 0).val < 7 := (grid0.coords t 0).isLt
  rw [BitVec.toNat_ofNat]; omega
/-- The weights' window follows the table of experts and the column. -/
theorem idx1 (t : Fin grid0.N) : ((cfgM m).win 1).index t = ![0, (te m (grid0.coords t)).toNat, 0, (grid0.coords t 0).val] :=
  (transform_1_eq m (grid0.coords t)).trans (by rw [col])
/-- The second weights' window likewise. -/
theorem idx2 (t : Fin grid0.N) : ((cfgM m).win 2).index t = ![0, (te m (grid0.coords t)).toNat, 0, (grid0.coords t 0).val] :=
  (transform_2_eq m (grid0.coords t)).trans (by rw [col])

/-- The grid point of block row `p` and block column `q`. -/
def pt (p : Fin 40) (q : Fin 7) : Fin grid0.N := ⟨q.val * 40 + p.val, by
  have hN : grid0.N = 280 := by decide
  rw [hN]; omega⟩

/-- Every block is written back, at its grid point. -/
theorem pt_facts : ∀ (p : Fin 40) (q : Fin 7), Pipeline.Window.flushOf grid0 true cc0_transform_3 (pt p q) = true
    ∧ cc0_transform_3 (grid0.coords (pt p q)) = ![p.val, q.val] := by decide +kernel

/-- The blocks written back cover the result. -/
theorem covers : ((cfgM m).win 3).Covers := by
  refine ⟨fun a => ?_, fun β => ?_⟩
  · match a with
    | ⟨0, _⟩ => show 0 < 512; omega
    | ⟨1, _⟩ => show 0 < 256; omega
  · have h0 : (β (0 : Fin 2)).val < 40 := (β (0 : Fin 2)).isLt.trans_eq (by show (20480 + 512 - 1) / 512 = 40; rfl)
    have h1 : (β (1 : Fin 2)).val < 7 := (β (1 : Fin 2)).isLt.trans_eq (by show (1792 + 256 - 1) / 256 = 7; rfl)
    obtain ⟨hf, hi⟩ := pt_facts ⟨_, h0⟩ ⟨_, h1⟩
    refine ⟨pt _ _, hf, fun a => ⟨(congrFun hi a).trans ?_, .inl rfl⟩⟩
    match a with
    | ⟨0, _⟩ => rfl
    | ⟨1, _⟩ => rfl

/-- An entry of the block the body computes gates a row times a column by the row times the gate's column. -/
theorem pay_apply (a : S512x4096.Idx → EReal) (w u : S1x1x4096x256.Idx → EReal) (r : Fin 512) (d : Fin 256) :
    (k0_pay1 (F := Ideal) a w u (ix2 r d) : EReal)
      = gated (∑ k : Fin 4096, a (ix2 r k) * w (ix4 (0 : Fin 1) (0 : Fin 1) k d)) (∑ k : Fin 4096, a (ix2 r k) * u (ix4 (0 : Fin 1) (0 : Fin 1) k d)) := by
  pointwise [k0_pay1, gated]

/-- Past the blocks in use the body stores zeros. -/
theorem pay_zero (y : S512x256.Idx) : (k0_pay2 (F := Ideal) y : EReal) = 0 := by
  show Ideal.ofBits .bf16 0x0000#16 = 0
  simp

/-- The body computes at the points whose block of rows is in use. -/
theorem cond_iff (i : grid0.Coords) {n : ℕ} (hn : n ≤ 256) : k0_cond1 i (BitVec.ofNat 32 n) = 1#1 ↔ (i 1).val < n := by
  have key : ∀ b : BitVec 1, Scalar.cmpi .ne (Scalar.extui b : BitVec 32) 0#32 = b := by decide
  have h1 : (i 1).val < 40 := (i 1).isLt
  unfold k0_cond1
  dsimp only
  rw [key]
  exact WordCmp.cmpi_slt_ofNat_eq_one_iff (w := 32) (by norm_num; omega) (by norm_num; omega)

/-- Block 0 of an axis starts at 0. -/
theorem zero_rows (s k : ℕ) : 0 * s + k = k := by omega

/-- The rows' block holds the rows of its grid point. -/
theorem x_apply (t : Fin (cfgM m).N) (r : Fin 512) (k : Fin 4096) (i : Fin 20480) (hi : i.val = (grid0.coords t 1).val * 512 + r.val) :
    (xOf m c t (ix2 r k) : EReal) = xs m c (ix2 i k) := by
  unfold xOf blkOf
  show (V m c main_v0 : S20480x4096.Idx → EReal) _ = _
  rw [V_v0]
  refine congrArg (xs m c) (funext fun a => Fin.ext ?_)
  match a with
  | ⟨0, _⟩ => blk_simp [hi]; exact congrArg (fun n : ℕ => n * 512 + r.val) (congrFun (idx0 m t) (0 : Fin 2))
  | ⟨1, _⟩ => blk_simp; exact (congrArg (fun n : ℕ => n * 4096 + k.val) (congrFun (idx0 m t) (1 : Fin 2))).trans (zero_rows _ _)

/-- The gate's block holds the columns of its grid point of its expert's matrix. -/
theorem g_apply (t : Fin (cfgM m).N) (k : Fin 4096) (d : Fin 256) (e : Fin 8) (he : e.val = (te m (grid0.coords t)).toNat)
    (j : Fin 1792) (hj : j.val = (grid0.coords t 0).val * 256 + d.val) :
    (gOf m c t (ix4 (0 : Fin 1) (0 : Fin 1) k d) : EReal) = wg m c (ix4 (0 : Fin 2) e k j) := by
  unfold gOf blkOf
  show (V m c main_arg2 : S2x8x4096x1792.Idx → EReal) _ = _
  rw [V_arg2]
  refine congrArg (wg m c) (funext fun a => Fin.ext ?_)
  match a with
  | ⟨0, _⟩ => blk_simp; rfl
  | ⟨1, _⟩ => blk_simp [he]; exact congrFun (idx1 m t) (1 : Fin 4)
  | ⟨2, _⟩ => blk_simp; exact (congrArg (fun n : ℕ => n * 4096 + k.val) (congrFun (idx1 m t) (2 : Fin 4))).trans (zero_rows _ _)
  | ⟨3, _⟩ => blk_simp [hj]; exact congrArg (fun n : ℕ => n * 256 + d.val) (congrFun (idx1 m t) (3 : Fin 4))

/-- The gated values' block likewise. -/
theorem u_apply (t : Fin (cfgM m).N) (k : Fin 4096) (d : Fin 256) (e : Fin 8) (he : e.val = (te m (grid0.coords t)).toNat)
    (j : Fin 1792) (hj : j.val = (grid0.coords t 0).val * 256 + d.val) :
    (uOf m c t (ix4 (0 : Fin 1) (0 : Fin 1) k d) : EReal) = wu m c (ix4 (0 : Fin 2) e k j) := by
  unfold uOf blkOf
  show (V m c main_arg3 : S2x8x4096x1792.Idx → EReal) _ = _
  rw [V_arg3]
  refine congrArg (wu m c) (funext fun a => Fin.ext ?_)
  match a with
  | ⟨0, _⟩ => blk_simp; rfl
  | ⟨1, _⟩ => blk_simp [he]; exact congrFun (idx2 m t) (1 : Fin 4)
  | ⟨2, _⟩ => blk_simp; exact (congrArg (fun n : ℕ => n * 4096 + k.val) (congrFun (idx2 m t) (2 : Fin 4))).trans (zero_rows _ _)
  | ⟨3, _⟩ => blk_simp [hj]; exact congrArg (fun n : ℕ => n * 256 + d.val) (congrFun (idx2 m t) (3 : Fin 4))

section Counts

variable {a : ℕ → ℕ} (hw : ∀ k : Fin 8, cnt m 0 (ValueIdx.ix1 k) = BitVec.ofNat 32 (a k.val)) (ha : ∀ k, a k ≤ 16384)
include hw ha

/-- An entry of the block the body leaves at a point is the entry of the result under it. -/
theorem out_apply (t : Fin (cfgM m).N) (r : Fin 512) (d : Fin 256) (i : Fin 20480) (hi : i.val = (grid0.coords t 1).val * 512 + r.val)
    (j : Fin 1792) (hj : j.val = (grid0.coords t 0).val * 256 + d.val) :
    (out (grid0.coords t) (nu m) (xOf m c t) (gOf m c t) (uOf m c t) (ix2 r d) : EReal) = spec a (xs m c) (wg m c) (wu m c) i j := by
  have hq : i.val / 512 = (grid0.coords t 1).val := by omega
  have hb := Moe.blocks_le ha 7
  have hc := cond_iff (grid0.coords t) (n := blocks a 7) (by omega)
  have he : (te m (grid0.coords t)).toNat = expert a (grid0.coords t 1).val := by
    rw [te_eq, Moe.experts_at hw ha (grid0.coords t 1), BitVec.toNat_ofNat]
    have := expert_lt a (grid0.coords t 1).val
    omega
  rw [nu_eq, Moe.used_at hw ha]
  have hs : spec a (xs m c) (wg m c) (wu m c) i j = if (grid0.coords t 1).val < blocks a 7 then
      term (xs m c) (wg m c) (wu m c) i j ⟨expert a (grid0.coords t 1).val, expert_lt a _⟩ else 0 := by
    unfold spec; simp only [hq]
  rw [hs]
  unfold out
  by_cases h : (grid0.coords t 1).val < blocks a 7
  · rw [if_pos h, if_pos (hc.2 h), pay_apply]
    refine congrArg₂ gated (Finset.sum_congr rfl fun k _ => ?_) (Finset.sum_congr rfl fun k _ => ?_)
    · exact congrArg₂ (fun u v : EReal => u * v) (x_apply m c t r k i hi) (g_apply m c t k d _ he.symm j hj)
    · exact congrArg₂ (fun u v : EReal => u * v) (x_apply m c t r k i hi) (u_apply m c t k d _ he.symm j hj)
  · rw [if_neg h, if_neg fun h' => h (hc.1 h'), pay_zero]

/-- The same at an index of the block, where the window places it. -/
theorem out_at (t : Fin (cfgM m).N) (y : S512x256.Idx) (i : Fin 20480) (j : Fin 1792)
    (hi : i.val = cc0_transform_3 (grid0.coords t) 0 * 512 + (y 0).val) (hj : j.val = cc0_transform_3 (grid0.coords t) 1 * 256 + (y 1).val) :
    (out (grid0.coords t) (nu m) (xOf m c t) (gOf m c t) (uOf m c t) y : EReal) = spec a (xs m c) (wg m c) (wu m c) i j := by
  rw [map3] at hi hj
  exact (congrArg (out (grid0.coords t) (nu m) (xOf m c t) (gOf m c t) (uOf m c t)) (Mat.ix2_eta y)).trans
    (out_apply m c hw ha t _ _ i hi j hj)

/-- The kernel's result. -/
theorem result_eq : (result m c : S20480x1792.Idx → EReal)
    = fun i : S20480x1792.Idx => spec a (xs m c) (wg m c) (wu m c) (⟨(i 0).val, (i 0).isLt⟩ : Fin 20480) (⟨(i 1).val, (i 1).isLt⟩ : Fin 1792) := by
  unfold result
  refine (dats m 0 c).arrAt_eq_of_covers 3 _ (covers m) fun t hf y => ?_
  blk_simp
  rw [after3]
  exact out_at m c hw ha t y _ _ rfl rfl

end Counts

/-! ## The reference -/

section Reference

open Cert.ReferenceMoeUpIdeal.Read

/-- The reference's slice of a stack, reshaped, holds the first layer's matrices. -/
theorem layer_apply (w : S2x8x4096x1792.Idx → EReal) (j : Cert.ReferenceMoeUpIdeal.S8x4096x1792.Idx) :
    (val_main_v1 (F := Ideal) w j : EReal)
      = w (ix4 (0 : Fin 2) (⟨(j 0).val, (j 0).isLt⟩ : Fin 8) (⟨(j 1).val, (j 1).isLt⟩ : Fin 4096) (⟨(j 2).val, (j 2).isLt⟩ : Fin 1792)) := by
  have h0 : (j 0).val < 8 := (j 0).isLt
  have h1 : (j 1).val < 4096 := (j 1).isLt
  have h2 : (j 2).val < 1792 := (j 2).isLt
  rw [val_main_v1_apply, val_main_v0_apply]
  refine congrArg w (funext fun a => Fin.ext ?_)
  match a with
  | ⟨0, _⟩ => rfl
  | ⟨1, _⟩ => show (((j 0).val * 4096 + (j 1).val) * 1792 + (j 2).val) / 7340032 % 8 = (j 0).val; omega
  | ⟨2, _⟩ => show (((j 0).val * 4096 + (j 1).val) * 1792 + (j 2).val) / 1792 % 4096 = (j 1).val; omega
  | ⟨3, _⟩ => show (((j 0).val * 4096 + (j 1).val) * 1792 + (j 2).val) % 1792 = (j 2).val; omega

/-- The reference's first product, of every row with every expert's matrix. -/
theorem gate_eq (x : S20480x4096.Idx → EReal) (w : S2x8x4096x1792.Idx → EReal) (r : Fin 20480) (e : Fin 8) (d : Fin 1792) :
    (val_main_v2 (F := Ideal) x w (ix3 r e d) : EReal) = Moe.prod x w e r d := by
  rw [val_main_v2_apply]
  exact Finset.sum_congr rfl fun k _ => congrArg₂ (fun u v : EReal => u * v) (congrArg x (Mat.ix2_eta _)) (layer_apply w _)

/-- The reference's second product: the same operations on the other stack. -/
theorem up_eq (x : S20480x4096.Idx → EReal) (w : S2x8x4096x1792.Idx → EReal) (r : Fin 20480) (e : Fin 8) (d : Fin 1792) :
    (val_main_v6 (F := Ideal) x w (ix3 r e d) : EReal) = Moe.prod x w e r d :=
  gate_eq x w r e d

/-- The reference gates the one product by the other, for every expert. -/
theorem term_eq (x : S20480x4096.Idx → EReal) (w u : S2x8x4096x1792.Idx → EReal) (r : Fin 20480) (e : Fin 8) (d : Fin 1792) :
    (val_main_v7 (F := Ideal) x w u (ix3 r e d) : EReal) = term x w u r d e := by
  rw [val_main_v7_apply, val_main_v3_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  show Moe.prod x w e r d * Ideal.div (Ideal.ofBits .f32 0x3F800000#32) (Ideal.ofBits .f32 0x3F800000#32 + Ideal.exp (-Moe.prod x w e r d)) * Moe.prod x u e r d = _
  rw [Ideal.ofBits_one_f32, ← zero_sub, term, gated]

/-- The reference pads the counts as the kernel's host code does. -/
theorem padded_eq (n : IVec S8 32) : val_main_v14 (F := Ideal) n = Moe.padded n := rfl

/-- The reference's segments end where the kernel's do. -/
theorem ends_eq (n : IVec S8 32) : val_main_v15 (F := Ideal) n = Moe.ends n := by
  unfold val_main_v15 Moe.ends
  rw [padded_eq]
  rfl

/-- What the reference keeps of expert `e` at row `r`. -/
theorem keep_eq (n : IVec S8 32) (r : Fin 20480) (e : Fin 8) (d : Fin 1792) :
    val_main_call3_v1 (F := Ideal) n (ix3 r e d)
      = IntOp.andi (IntOp.cmpi .sle (IntOp.subi (Moe.ends n (ValueIdx.ix1 e)) (Moe.padded n (ValueIdx.ix1 e))) (BitVec.ofNat 32 r.val))
          (IntOp.cmpi .slt (BitVec.ofNat 32 r.val) (Moe.ends n (ValueIdx.ix1 e))) := by
  have hi : ∀ i : S8.Idx, (i 0).val = e.val → i = ValueIdx.ix1 e := fun i h => funext fun a => Fin.ext (by
    match a with
    | ⟨0, _⟩ => exact h)
  rw [val_main_call3_v1_apply, val_main_v28_apply, val_main_v27_apply, val_main_v22_apply, val_main_v26_apply, val_main_v20_apply,
    val_main_v19_apply, val_main_v18_apply, val_main_v21_apply, val_main_v24_apply, val_main_v17_apply,
    val_main_v16_apply, val_main_v25_apply, val_main_v23_apply, padded_eq, ends_eq]
  rw [hi (idx_main_v19 _) rfl, hi (idx_main_v23 _) rfl]
  rfl

/-- The reference's result. -/
theorem reference_eq {n : IVec S8 32} {a : ℕ → ℕ} (hw : ∀ k : Fin 8, n (ValueIdx.ix1 k) = BitVec.ofNat 32 (a k.val)) (ha : ∀ k, a k ≤ 16384)
    (x : S20480x4096.Idx → EReal) (w u : S2x8x4096x1792.Idx → EReal) (i : S20480x1792.Idx) :
    (val_main_v31 (F := Ideal) n x w u i : EReal)
      = spec a x w u (⟨(i 0).val, (i 0).isLt⟩ : Fin 20480) (⟨(i 1).val, (i 1).isLt⟩ : Fin 1792) := by
  have hz : (val_main_cst_3 (F := Ideal) (Shape.Idx.first Cert.ReferenceMoeUpIdeal.Gen.h_S_) : EReal) = 0 := by
    rw [val_main_cst_3_apply]; show Ideal.ofBits .f32 0x00000000#32 = 0; simp
  have hi : ∀ e : Fin 8, idx_main_v30 i e = ix3 (⟨(i 0).val, (i 0).isLt⟩ : Fin 20480) e (⟨(i 1).val, (i 1).isLt⟩ : Fin 1792) := fun e =>
    funext fun b => by
      match b with
      | ⟨0, _⟩ => rfl
      | ⟨1, _⟩ => rfl
      | ⟨2, _⟩ => rfl
  rw [val_main_v31_apply]
  refine (val_main_v30_apply n x w u i).trans ?_
  rw [hz, zero_add, spec, ← Moe.sum_mine hw ha (i 0).val (i 0).isLt]
  refine Finset.sum_congr rfl fun e _ => ?_
  rw [hi, val_main_v29_apply, keep_eq, term_eq, val_main_call3_v2_apply, val_main_call3_v0_apply, val_main_cst_apply]
  refine ite_congr rfl (fun _ => rfl) fun _ => ?_
  show Ideal.ofBits .f32 0x00000000#32 = 0
  simp

end Reference

/-! ## The claim -/

/-- Counts the precondition admits are in range. -/
theorem counts (h : Cert.Pre_KernelMoeUpIdeal_moe_up_counts m) (k : ℕ) : num (cnt m 0) k ≤ 16384 :=
  Moe.num_le (fun k => congrFun (h 0) (ValueIdx.ix1 k)) k

/-- From the same arguments with the counts in range, over the extended reals, the kernel's program and the
    reference's have one result. -/
theorem algebraic : Cert.algebraic_KernelMoeUpIdeal_ReferenceMoeUpIdeal_pre_moe_up_counts := fun m g m' g' hp hm =>
  ⟨fun c => result m c, (θ_run _ _ _).mono (fun _ h => h.1) (MoeUpI.run m g),
    (θ_run _ _ _).mono (fun _ h c => ⟨(h c).1.trans (by
      obtain ⟨h0, h1, h2, h3⟩ := hm c
      refine (Cert.ReferenceMoeUpIdeal.Read.val_main_v31_eq (F := Ideal) _ _).trans ?_
      rw [h0, h1, h2, h3]
      obtain rfl : c = 0 := Subsingleton.elim _ _
      exact (funext fun i => reference_eq (Moe.num_eq _) (counts m hp) _ _ _ i).trans
        (result_eq m 0 (Moe.num_eq _) (counts m hp)).symm), (h c).2⟩) (Cert.ReferenceMoeUpIdeal.Value.run (F := Ideal) m' g')⟩

end Cert.Proof.MoeUpValue

end
-- ==== Proof.Moe.DownI.lean ====
/-
  The expert products' second kernel, run. The host line before the launch prepares the narrowed rows and the two
  tables; the expert table is in range whatever the counts. At a grid point the body stores the product of
  its blocks if the block of rows is in use, and zeros otherwise.
-/
module

public import proofs.«01_k».proof.Proof.Gen.KernelMoeDownIdeal.Launch
public import proofs.«01_k».proof.Proof.Gen.KernelMoeDownIdeal.Skeleton
public import proofs.«01_k».proof.Proof.Moe.Plan
public import Idealize.ShloMosaic.Lib.Pipeline.Sound
public import Idealize.ShloMosaic.Lib.Pipeline.Value
public import Idealize.ShloMosaic.Lib.Pipeline.FrameBody
public import Idealize.ShloMosaic.Lib.Pipeline.Frame
public import Idealize.ShloMosaic.Lib.Pipeline.TableIdle
public import Idealize.ShloMosaic.Lib.StableHlo.RunRead
public import Idealize.ShloMosaic.Lib.Tactic

@[expose] public section

noncomputable section

namespace Cert.Proof.MoeDownI

open Cert.KernelMoeDownIdeal Cert.KernelMoeDownIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

abbrev 𝒱₀ : Variants := Variants.nat

variable (m : (ℓ : Loc nD τ sig) → Buf (Elt F) ℓ) (ρ : Dev nD → PrngReg)

/-! ## The host line -/

/-- What a buffer holds when the launch begins. -/
def V (c : Dev nD) (b : Ref sig .tc) : Buf (Elt F) ((c.tc : Thread nD τ).loc b) :=
  StableHlo.after [hostOps0 (F := F), hostOps0_1, hostOps0_2, hostOps0_3, hostOps0_4, hostOps0_5].flatten (fun b => m (c, b)) b

/-- The counts. -/
abbrev cnt (c : Dev nD) : IVec S8 32 := m (c.tc.loc main_arg0)

theorem V_arg0 (c : Dev nD) : V m c main_arg0 = m (c.tc.loc main_arg0) := by
  show StableHlo.after (hostOps0 ++ (hostOps0_1 ++ (hostOps0_2 ++ (hostOps0_3 ++ (hostOps0_4 ++ (hostOps0_5 ++ [])))))) _ (Proc.devRef .tc main_arg0) = _
  after_reads_simp

theorem V_arg1 (c : Dev nD) : V m c main_arg1 = m (c.tc.loc main_arg1) := by
  show StableHlo.after (hostOps0 ++ (hostOps0_1 ++ (hostOps0_2 ++ (hostOps0_3 ++ (hostOps0_4 ++ (hostOps0_5 ++ [])))))) _ (Proc.devRef .tc main_arg1) = _
  after_reads_simp

theorem V_arg2 (c : Dev nD) : V m c main_arg2 = m (c.tc.loc main_arg2) := by
  show StableHlo.after (hostOps0 ++ (hostOps0_1 ++ (hostOps0_2 ++ (hostOps0_3 ++ (hostOps0_4 ++ (hostOps0_5 ++ [])))))) _ (Proc.devRef .tc main_arg2) = _
  after_reads_simp

theorem V_v0 (c : Dev nD) : V m c main_v0 = truncf (s := S20480x1792) (φ := .f32) .bf16 (m (c.tc.loc main_arg1)) bitsLt_bf16_f32 := by
  show StableHlo.after (hostOps0 ++ (hostOps0_1 ++ (hostOps0_2 ++ (hostOps0_3 ++ (hostOps0_4 ++ (hostOps0_5 ++ [])))))) _ (Proc.devRef .tc main_v0) = _
  after_reads_simp

theorem V_v20 (c : Dev nD) : V m c main_v20 = Moe.experts (cnt m c) := by
  show StableHlo.after (hostOps0 ++ (hostOps0_1 ++ (hostOps0_2 ++ (hostOps0_3 ++ (hostOps0_4 ++ (hostOps0_5 ++ [])))))) _ (Proc.devRef .tc main_v20) = _
  after_reads_simp
  simp -implicitDefEqProofs only [StableHlo.TRef.toBuf, StableHlo.TRef.ofBuf, cast_eq, id_eq]
  unfold Moe.experts Moe.ended Moe.ends Moe.padded Routing.pyDiv
  with_reducible rfl

theorem V_v22 (c : Dev nD) : V m c main_v22 = Moe.used (cnt m c) := by
  show StableHlo.after (hostOps0 ++ (hostOps0_1 ++ (hostOps0_2 ++ (hostOps0_3 ++ (hostOps0_4 ++ (hostOps0_5 ++ [])))))) _ (Proc.devRef .tc main_v22) = _
  after_reads_simp
  simp -implicitDefEqProofs only [StableHlo.TRef.toBuf, StableHlo.TRef.ofBuf, cast_eq, id_eq]
  unfold Moe.used Moe.ends Moe.padded Routing.pyDiv
  with_reducible rfl

/-! ## The tables -/

/-- The two tables as the launch finds them. -/
def tbl : (pre0.Contents (Elt F)) := fun j => V m (0 : Dev nD) (pre0.ref j)

theorem V_pre (c : Dev nD) (j : Fin 2) : V m c (pre0.ref j) = tbl m j := by
  obtain rfl : c = 0 := Subsingleton.elim _ _
  rfl

/-- How many blocks of rows are in use. -/
def nu : BitVec 32 := Moe.used (cnt m 0) (ix1 0)

/-- The expert of the block of rows of a point. -/
def te (i : grid0.Coords) : BitVec 32 := Moe.experts (cnt m 0) (ix1 (i 1))

theorem tbl_zero : tbl m 0 = Moe.experts (cnt m 0) := V_v20 m 0
theorem tbl_one : tbl m 1 = Moe.used (cnt m 0) := V_v22 m 0

theorem V_def : V m = fun (c : Dev nD) (b : Ref sig .tc) => StableHlo.after [hostOps0 (F := F), hostOps0_1, hostOps0_2, hostOps0_3, hostOps0_4, hostOps0_5].flatten
    (fun b => m (c, b)) b := rfl
theorem nu_eq : nu m = Moe.used (cnt m 0) (ix1 0) := rfl
theorem te_eq (i : grid0.Coords) : te m i = Moe.experts (cnt m 0) (ix1 (i 1)) := rfl

attribute [irreducible] V tbl nu te

/-- The one element under a point's rectangle is the point's block of rows. -/
theorem emb_eq (i : grid0.Coords) (x : S1.Idx) :
    (Rect.unit (s := S40) ![(Scalar.indexCast (BitVec.ofNat 32 (i 1).val) : Index).toNat] S1.size (k0_off1_inb i)).emb x = ix1 (i 1) := by
  refine funext fun a => Fin.ext ?_
  match a with
  | 0 =>
    have h : k0_off1 i 0 = (i 1).val := congrFun (k0_off1_eq i) 0
    have hx : (x 0).val = 0 := Nat.lt_one_iff.1 (x 0).isLt
    show (k0_off1 i 0) + 1 * (x 0).val = (i 1).val
    rw [h, hx, Nat.mul_zero, Nat.add_zero]

/-- The element of the expert table an index map reads. -/
theorem at_zero (i : grid0.Coords) :
    (tbl m).at 0 (Rect.unit (s := S40) ![(Scalar.indexCast (BitVec.ofNat 32 (i 1).val) : Index).toNat] S1.size (k0_off1_inb i)) numel1_S1
      = te m i :=
  ((congrFun (tbl_zero m) _).trans (congrArg (Moe.experts (cnt m 0)) (emb_eq i _))).trans (te_eq m i).symm

theorem transform_1_eq (i : grid0.Coords) :
    cc0_transform_1 k0_off1_inb numel1_S1 (tbl m) i = ![0, (te m i).toNat, 0, (BitVec.ofNat 32 (i 0).val).toNat] :=
  congrArg (fun v : BitVec 32 => (![0, v.toNat, 0, (BitVec.ofNat 32 (i 0).val).toNat] : Fin 4 → Nat)) (at_zero m i)

theorem te_le (i : grid0.Coords) : (te m i).toNat ≤ 7 := by rw [te_eq]; exact Moe.experts_le _ _

theorem in_range (i : grid0.Coords) (a : Fin 4) :
    ((![0, (te m i).toNat, 0, (BitVec.ofNat 32 (i 0).val).toNat] : Fin 4 → Nat) a + 1) * S1x1x1792x2048.size a ≤ S2x8x1792x4096.size a := by
  have h := te_le m i
  have h0 : (BitVec.ofNat 32 (i 0).val).toNat = (i 0).val := by
    have : (i 0).val < 2 := (i 0).isLt
    rw [BitVec.toNat_ofNat]; omega
  have h2 : (i 0).val < 2 := (i 0).isLt
  match a with
  | 0 => show (0 + 1) * 1 ≤ 2; omega
  | 1 => show ((te m i).toNat + 1) * 1 ≤ 8; omega
  | 2 => show (0 + 1) * 1792 ≤ 1792; omega
  | 3 => show ((BitVec.ofNat 32 (i 0).val).toNat + 1) * 2048 ≤ 4096; omega

/-- Whatever the counts, every block the tables name lies inside the weights. -/
theorem ok : ok0 (tbl m) := by
  unfold ok0
  exact fun i => ⟨by rw [transform_1_eq]; exact in_range m i, .inl rfl⟩

def adm : (pcfg0 (F := F)).Adm := ⟨tbl m, ok m⟩

abbrev cfgM := cfg0 (adm m)

/-! ## The word of the body's conditions -/

/-- The two conditions are each the other's negation. -/
theorem conds (i : grid0.Coords) (v : BitVec 32) : k0_cond2 i v = 1#1 ↔ ¬ k0_cond1 i v = 1#1 := by
  unfold k0_cond1 k0_cond2
  simp only [Scalar.cmpi, IntOp.cmpi, BitVec.sle_eq_not_slt]
  generalize (BitVec.ofNat 32 (i 1).val).slt v = b
  revert b; decide

theorem idle_false (i : grid0.Coords) : (idle0 (tbl m) 2 i) = false := by
  have key : ∀ b1 b2 : BitVec 1, (b2 = 1#1 ↔ ¬ b1 = 1#1) → (!(b1 == 1#1) && !(b2 == 1#1)) = false := by decide
  exact key _ _ (conds i _)

/-- What the body stores at a point. -/
def out (i : grid0.Coords) (v : BitVec 32) (X4 : Vec F S512x1792 .bf16) (X5 : Vec F S1x1x1792x2048 .f32) : Vec F S512x2048 .f32 :=
  if k0_cond1 i v = 1#1 then k0_pay1 X4 X5 else k0_pay2

/-! ## The proof data -/

/-- The block of an input at a point. -/
def blkOf (c : Dev nD) (w : Fin 3) (t : Fin (cfgM m).N) :=
  (((cfgM m).win w).blk t).view.read (Elt F) (V m c (Pipeline.arrRef spec0 w))

def xOf (c : Dev nD) (t : Fin (cfgM m).N) : Vec F S512x1792 .bf16 := blkOf m c 0 t
def wOf (c : Dev nD) (t : Fin (cfgM m).N) : Vec F S1x1x1792x2048 .f32 := blkOf m c 1 t

/-- The two tables, as the body holds them. -/
def PhiM (c : Dev nD) : sProp 𝕄 := iprop(Pipeline.ΦA spec0 c ∗ Pipeline.ΦT pre0 (tbl m) c)

/-- The proof data: the arrays at what the host line left; after the body the inputs as fetched and the result's
    block at `out`. -/
def dats (_ : Fin 1) (c : Dev nD) : Dat τ (Elt F) Unit ℕ (UR sig nD τ) ℕ (cfgM m) c where
  A w := V m c (Pipeline.arrRef spec0 w)
  after w t := match w with
    | ⟨0, _⟩ => xOf m c t
    | ⟨1, _⟩ => wOf m c t
    | ⟨2, _⟩ => out (grid0.coords t) (nu m) (xOf m c t) (wOf m c t)
  Φ _ := PhiM m c
  q w := Pipeline.shareOf spec0 w
  owed _ := 0

theorem PhiT_eq (c : Dev nD) : (Pipeline.ΦT pre0 (tbl m) c : sProp 𝕄)
    = iprop(((Memref.whole main_v20).view.loc (c : Thread nD τ) ↦{fullShare.right} tbl m 0)
      ∗ ((Memref.whole main_v22).view.loc (c : Thread nD τ) ↦{fullShare.right} tbl m 1)) := by
  unfold Pipeline.ΦT Pipeline.prefHeld
  rw [show (Finset.univ : Finset (Fin 2)) = insert (0 : Fin 2) {1} from by decide, bigSep_insert (by decide), bigSep_singleton]
  rfl

/-! ## The body -/

theorem zero2 : (![0, 0] : Fin 2 → Nat) = fun _ => 0 := funext fun a => by fin_cases a <;> rfl
theorem zero4 : (![0, 0, 0, 0] : Fin 4 → Nat) = fun _ => 0 := funext fun a => by fin_cases a <;> rfl

/-- A store over a whole block leaves the block at the payload. -/
theorem read_store {S : Shape} {e : EltTy} (m : Memref sig .tc .vmem S e) {off : Fin S.rank → Nat} (h : off = fun _ => 0)
    (inb : ∀ a, off a + S.size a ≤ S.size a) (f : m.view.ty.Contents (Elt F)) (w : S.Idx → Elt F e) :
    m.view.read (Elt F) ((m.view.slice (Rect.unit off S.size inb)).write (Elt F) f w Finset.univ) = w := by
  subst h
  funext x
  have := m.view.read_slice_write_emb (Val := Elt F) (Rect.whole S) f w (x := x) (Finset.mem_univ _)
  rwa [Rect.emb_whole_apply] at this

/-- A load over a whole block reads it. -/
theorem read_load {S : Shape} {e : EltTy} (m : Memref sig .tc .vmem S e) {off : Fin S.rank → Nat} (h : off = fun _ => 0)
    (inb : ∀ a, off a + S.size a ≤ S.size a) (X : S.Idx → Elt F e) :
    m.view.readAt (Elt F) (Rect.unit off S.size inb).toLoadRect (m.view.rep X) = X :=
  (m.view.readAt_rep _ X).trans (View.ld_unit_zero h inb X)

/-- The word the body reads is the table's one element. -/
theorem word (T : Vec F S1 .i32) (x : S1.Idx) : T x = T (ix1 0) :=
  congrArg T (funext fun a => by match a with | 0 => exact Subsingleton.elim (α := Fin 1) _ _)

section Body

variable (c : Dev nD) (i : grid0.Coords)
  (a4 : Memref sig .tc .vmem S512x1792 .bf16) (h4 : a4.IsWhole) (a5 : Memref sig .tc .vmem S1x1x1792x2048 .f32) (h5 : a5.IsWhole)
  (a6 : Memref sig .tc .vmem S512x2048 .f32) (h6 : a6.IsWhole)
  (T : Vec F S1 .i32) (X4 : Vec F S512x1792 .bf16) (X5 : Vec F S1x1x1792x2048 .f32)

set_option maxHeartbeats 1000000 in
/-- The body at a point: the inputs and the table as they were, the result's block at `out`. -/
theorem sound_body (K : PUnit → sProp 𝕄) :
    iprop((owns (c : Thread nD τ) a4 fullShare X4 ∗ owns (c : Thread nD τ) a5 fullShare X5
          ∗ (∃ X, owns (c : Thread nD τ) a6 fullShare X)
          ∗ ((Memref.whole main_v22).view.loc (c : Thread nD τ) ↦{fullShare.right} T))
        ∗ ((owns (c : Thread nD τ) a4 fullShare X4 ∗ owns (c : Thread nD τ) a5 fullShare X5
          ∗ owns (c : Thread nD τ) a6 fullShare (out i (T (ix1 0)) X4 X5)
          ∗ ((Memref.whole main_v22).view.loc (c : Thread nD τ) ↦{fullShare.right} T)) -∗ K ⟨⟩))
      ⊢ wp frame (wpE (defs₀ (F := F)) 𝒱₀ c none) Set.univ
          (cc0_moe_down i (Memref.whole main_v20) (Memref.isWhole_whole _) (Memref.whole main_v22) (Memref.isWhole_whole _) a4 h4 a5 h5 a6 h6) K := by
  rw [cc0_moe_down_eq_skeleton]
  unfold cc0_moe_down_skel
  simp only [smemLoad, smemLoadElt, Prog.lift, Prog.bind_op, Prog.bind_ret, Prog.pure_eq_ret]
  rw [owns_eq_rep, owns_eq_rep]
  simp only [owns]
  iintro ⟨⟨H4, H5, ⟨%X, %f6, -, H6⟩, HT⟩, Hk⟩
  iapply (wp_load_rect 𝒱₀ (c : Thread nD τ) none Set.univ (m := Memref.whole main_v22)
      (r := Rect.unit (s := S1) ![0] S1.size inb_S1_S1_0) (Finset.subset_univ _)) $$ HT; iintro HT
  rw [show ((Memref.whole main_v22).access (Rect.unit (s := S1) ![0] S1.size inb_S1_S1_0)).read (Elt F) T (Shape.Idx.first (numel1_S1.symm ▸ Nat.one_pos)) = T (ix1 0) from word T _]
  have hc := conds i (T (ix1 0))
  by_cases h1 : k0_cond1 i (T (ix1 0)) = 1#1
  · have h2 : ¬ k0_cond2 i (T (ix1 0)) = 1#1 := fun h => hc.1 h h1
    rw [dif_pos h1, out, if_pos h1]
    simp only [Prog.lift, Prog.bind_op, Prog.bind_ret, Prog.pure_eq_ret]
    iapply (wp_load 𝒱₀ (c : Thread nD τ) none Set.univ (m := a4) (View.setOn_subset_set _ _)) $$ H4; iintro H4
    iapply (wp_load 𝒱₀ (c : Thread nD τ) none Set.univ (m := a5) (View.setOn_subset_set _ _)) $$ H5; iintro H5
    iapply (wp_load 𝒱₀ (c : Thread nD τ) none Set.univ (m := a6) (View.setOn_subset_set _ _)) $$ H6; iintro H6
    rw [read_load a4 zero2, read_load a5 zero4]
    iapply (wp_store 𝒱₀ (c : Thread nD τ) none Set.univ (m := a6)
      (r := Rect.unit (s := S512x2048) ![0, 0] S512x2048.size inb_S512x2048_S512x2048_0_0) (Mk := Finset.univ) (S := a6.view.set)
      ((View.setOn_subset_set _ _).trans (a6.view.set_slice_subset _))) $$ H6; iintro H6
    iapply (wp_load_rect 𝒱₀ (c : Thread nD τ) none Set.univ (m := Memref.whole main_v22)
      (r := Rect.unit (s := S1) ![0] S1.size inb_S1_S1_0) (Finset.subset_univ _)) $$ HT; iintro HT
    rw [show ((Memref.whole main_v22).access (Rect.unit (s := S1) ![0] S1.size inb_S1_S1_0)).read (Elt F) T (Shape.Idx.first (numel1_S1.symm ▸ Nat.one_pos)) = T (ix1 0) from word T _]
    rw [dif_neg h2, wp_ret]; imodintro
    iapply Hk
    isplitl [H4]; · iexact H4
    isplitl [H5]; · iexact H5
    isplitl [H6]
    · iexists _; isplitr; swap; · iexact H6
      ipureintro; exact read_store a6 zero2 _ _ _
    iexact HT
  · have h2 : k0_cond2 i (T (ix1 0)) = 1#1 := hc.2 h1
    rw [dif_neg h1, out, if_neg h1]
    simp only [Prog.lift, Prog.bind_op, Prog.bind_ret, Prog.pure_eq_ret]
    iapply (wp_load_rect 𝒱₀ (c : Thread nD τ) none Set.univ (m := Memref.whole main_v22)
      (r := Rect.unit (s := S1) ![0] S1.size inb_S1_S1_0) (Finset.subset_univ _)) $$ HT; iintro HT
    rw [show ((Memref.whole main_v22).access (Rect.unit (s := S1) ![0] S1.size inb_S1_S1_0)).read (Elt F) T (Shape.Idx.first (numel1_S1.symm ▸ Nat.one_pos)) = T (ix1 0) from word T _]
    rw [dif_pos h2]
    simp only [Prog.lift, Prog.bind_op, Prog.bind_ret, Prog.pure_eq_ret]
    iapply (wp_load 𝒱₀ (c : Thread nD τ) none Set.univ (m := a6) (View.setOn_subset_set _ _)) $$ H6; iintro H6
    iapply (wp_store 𝒱₀ (c : Thread nD τ) none Set.univ (m := a6)
      (r := Rect.unit (s := S512x2048) ![0, 0] S512x2048.size inb_S512x2048_S512x2048_0_0) (Mk := Finset.univ) (S := a6.view.set)
      ((View.setOn_subset_set _ _).trans (a6.view.set_slice_subset _))) $$ H6; iintro H6
    rw [wp_ret]; imodintro
    iapply Hk
    isplitl [H4]; · iexact H4
    isplitl [H5]; · iexact H5
    isplitl [H6]
    · iexists _; isplitr; swap; · iexact H6
      ipureintro; exact read_store a6 zero2 _ _ _
    iexact HT

end Body

/-! ## The obligation and the launch -/

theorem before0 (c : Dev nD) (t : Fin (cfgM m).N) (d) : (dats m 0 c).before 0 t d = xOf m c t :=
  (dats m 0 c).before_in_eq_fetched 0 rfl (fun _ => rfl) (fun _ _ _ => rfl) (fun _ => rfl) t d
theorem before1 (c : Dev nD) (t : Fin (cfgM m).N) (d) : (dats m 0 c).before 1 t d = wOf m c t :=
  (dats m 0 c).before_in_eq_fetched 1 rfl (fun _ => rfl) (fun _ _ _ => rfl) (fun _ => rfl) t d

theorem after0 (c : Dev nD) (t : Fin (cfgM m).N) : (dats m 0 c).after 0 t = xOf m c t := rfl
theorem after1 (c : Dev nD) (t : Fin (cfgM m).N) : (dats m 0 c).after 1 t = wOf m c t := rfl
theorem after2 (c : Dev nD) (t : Fin (cfgM m).N) :
    (dats m 0 c).after 2 t = out (grid0.coords t) (nu m) (xOf m c t) (wOf m c t) := rfl

theorem owesAt_succ (c : Dev nD) (t : Fin (cfgM m).N) :
    (dats m 0 c).owesAt () t.succ = (dats m 0 c).owesAt () t.castSucc := by
  unfold Dat.owesAt Pipeline.owesWithin Dat.bound
  dsimp only [dats]

theorem Phi_at (c : Dev nD) (t : Fin ((cfgM m).N + 1)) : (dats m 0 c).Φ t
    = iprop(Pipeline.ΦA spec0 c ∗ ((Memref.whole main_v20).view.loc (c : Thread nD τ) ↦{fullShare.right} tbl m 0)
      ∗ ((Memref.whole main_v22).view.loc (c : Thread nD τ) ↦{fullShare.right} tbl m 1)) := by
  rw [← PhiT_eq]; rfl

theorem idle2 (t : Fin (cfgM m).N) : (cfgM m).idle (2 : Fin 3) ((cfgM m).grid.coords t) = false := idle_false m _

theorem body_obligation (c : Dev nD) : BodyObligation (dats m 0 c) (defs₀ (F := F)) 𝒱₀ () Set.univ := fun t => by
  rw [bigSep_W0, bigSep_W0]
  sl_whnfR [defs₀, Defs.onTc]
  rw [after0, after1, after2]
  rw [owesAt_succ, Phi_at, Phi_at]
  iintro ⟨⟨HA, HE, HT⟩, Howes, ⟨%d0, H2⟩, ⟨%d1, H3⟩, ⟨%d2, H4⟩⟩
  rw [before0 m c t d0, before1 m c t d1]
  rw [show nu m = (tbl m 1 : Vec F S1 .i32) (ix1 0) by rw [tbl_one, nu_eq]]
  iapply (sound_body c (grid0.coords t) (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2)) (tbl m 1) (xOf m c t) (wOf m c t) _)
  isplitl [H2 H3 H4 HT]
  · isplitl [H2]; · iexact H2
    isplitl [H3]; · iexact H3
    isplitl [H4]; · (iexists _; iexact H4)
    iexact HT
  iintro ⟨H2, H3, H4, HT⟩
  isplitl [HA HE HT]
  · isplitl [HA]; · iexact HA
    isplitl [HE]; · iexact HE
    iexact HT
  isplitl [Howes]; · iexact Howes
  isplitl [H2]; · iexact H2
  isplitl [H3]; · iexact H3
  dsimp only
  split
  · rename_i h; exact absurd ((idle2 m t).symm.trans h) (by decide)
  · iexact H4

/-- What the result's array holds after every point. -/
def result (c : Dev nD) := (dats m 0 c).arrAt 2 (cfgM m).N

theorem fresh : [hostOps0 (F := F), hostOps0_1, hostOps0_2, hostOps0_3, hostOps0_4, hostOps0_5].Forall fun ops => ops.Forall fun op => op.fresh = ∅ := by
  simp only [List.Forall]
  repeat' apply And.intro
  all_goals rfl

theorem hmain : Pipeline.HMainP (Ix := Unit) (Name := ℕ) (U := UR sig nD τ) (Lvl := ℕ) pcfgs 0 (defs₀ (F := F)) 𝒱₀ m main (V m) := by
  rw [V_def]
  exact Pipeline.hmainP_prefixes pcfgs 0 (defs₀ (F := F)) 𝒱₀ m main
    [hostOps0 (F := F), hostOps0_1, hostOps0_2, hostOps0_3, hostOps0_4, hostOps0_5]
    ⟨hostOps0_sub, hostOps0_1_sub, hostOps0_2_sub, hostOps0_3_sub, hostOps0_4_sub, hostOps0_5_sub⟩ fresh main_chain

/-- The whole launch: from any memory the program ends with the result's array at what the write-backs of `out` leave,
    the arguments as they were, and every semaphore at zero. -/
theorem run :
    θ_run defs (onTc main) ⟨m, fun _ => 0, ρ⟩ fun r =>
      (∀ c : Dev nD, r.2.mem ((c.tc : Thread nD τ).loc main_v23) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  Pipeline.θ_run_frameP pcfgs (fun _ => adm m) (dats m) 0 launch0 (defs₀ (F := F)) 𝒱₀ m ρ main
    (fun c => (body_obligation m c).loose)
    (fun c w => by fin_cases w <;> rfl) (fun _ _ => rfl) (V m) (hmain m)
    (fun _ _ => rfl) (fun c k => V_pre m c k) (fun _ _ => rfl) _
    (fun r h => ⟨fun c => ⟨(h.1 c).1 2,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      (((h.1 c).1 1).trans ((dats m 0 c).arrAt_in 1 rfl _)).trans (V_arg2 m c)⟩, h.2⟩)

end Cert.Proof.MoeDownI

end
-- ==== Proof.Mat.MoeDown.lean ====
module

public import proofs.«01_k».proof.Proof.Gen.KernelMoeDown.Skeleton
public import proofs.«01_k».proof.Proof.Gen.KernelMoeDown.Launch
public import proofs.«01_k».proof.Proof.Gen.KernelMoeDownIdeal.Launch
public import proofs.«01_k».proof.Proof.Gen.KernelMoeDownIdeal.Skeleton
public import proofs.«01_k».proof.Proof.Gen.ReferenceMoeDownIdeal.Read
public import proofs.«01_k».proof.Proof.Gen.Pre_moe_down_counts
public import proofs.«01_k».proof.Proof.Mat.Common
public import proofs.«01_k».proof.Proof.Moe.Prod
public import proofs.«01_k».proof.Proof.Moe.Down
public import proofs.«01_k».proof.Proof.Moe.DownI
public import proofs.«01_k».proof.Defs

@[expose] public section

/-! The expert products' second kernel. Each grid point in use multiplies 512 sorted rows by 2048 columns of the
    matrix of the expert its rows belong to; the blocks tile the result. The reference forms every expert's product and
    keeps of each row its own expert's. -/

noncomputable section

namespace Cert.Proof.MoeDownValue

open Cert.KernelMoeDownIdeal Cert.KernelMoeDownIdeal.Gen Cert.Proof.MoeDownI Idealize.ShloMosaic Idealize.ShloMosaic.TcCoe
open Cert.Proof.Moe (blocks expert expert_lt num)

variable (m : (ℓ : Loc nD τ sig) → Buf (Elt Ideal) ℓ) (c : Dev nD)

/-- The sorted rows' gated values. -/
abbrev hid : S20480x1792.Idx → EReal := m (c.tc.loc main_arg1)
/-- The experts' matrices. -/
abbrev wd : S2x8x1792x4096.Idx → EReal := m (c.tc.loc main_arg2)

/-- What both compute: the product with the matrix of the expert of the row's block, or zero if the block is not in use. -/
def spec (a : ℕ → ℕ) (x : S20480x1792.Idx → EReal) (w : S2x8x1792x4096.Idx → EReal) (r : Fin 20480) (d : Fin 4096) : EReal :=
  if r.val / 512 < blocks a 7 then Moe.prod x w ⟨expert a (r.val / 512), expert_lt a _⟩ r d else 0

/-! ## The kernel -/

/-- The rows' block at a grid point is chosen by its second coordinate. -/
theorem map0 : ∀ t : Fin grid0.N, cc0_transform_0 (grid0.coords t) = ![(grid0.coords t 1).val, 0] := by decide +kernel
/-- The result's block at a grid point is chosen by both coordinates. -/
theorem map2 : ∀ t : Fin grid0.N, cc0_transform_2 (grid0.coords t) = ![(grid0.coords t 1).val, (grid0.coords t 0).val] := by decide +kernel

/-- The index map of the rows' window. -/
theorem idx0 (t : Fin grid0.N) : ((cfgM m).win 0).index t = ![(grid0.coords t 1).val, 0] := map0 t
/-- The index map of the result's window. -/
theorem idx2 (t : Fin grid0.N) : ((cfgM m).win 2).index t = ![(grid0.coords t 1).val, (grid0.coords t 0).val] := map2 t
/-- A column's word is its number. -/
theorem col (t : Fin grid0.N) : (BitVec.ofNat 32 (grid0.coords t 0).val).toNat = (grid0.coords t 0).val := by
  have : (grid0.coords t 0).val < 2 := (grid0.coords t 0).isLt
  rw [BitVec.toNat_ofNat]; omega
/-- The weights' window follows the table of experts and the column. -/
theorem idx1 (t : Fin grid0.N) : ((cfgM m).win 1).index t = ![0, (te m (grid0.coords t)).toNat, 0, (grid0.coords t 0).val] :=
  (transform_1_eq m (grid0.coords t)).trans (by rw [col])

/-- The grid point of block row `p` and block column `q`. -/
def pt (p : Fin 40) (q : Fin 2) : Fin grid0.N := ⟨q.val * 40 + p.val, by
  have hN : grid0.N = 80 := by decide
  rw [hN]; omega⟩

/-- Every block is written back, at its grid point. -/
theorem pt_facts : ∀ (p : Fin 40) (q : Fin 2), Pipeline.Window.flushOf grid0 true cc0_transform_2 (pt p q) = true
    ∧ cc0_transform_2 (grid0.coords (pt p q)) = ![p.val, q.val] := by decide +kernel

/-- The blocks written back cover the result. -/
theorem covers : ((cfgM m).win 2).Covers := by
  refine ⟨fun a => ?_, fun β => ?_⟩
  · match a with
    | ⟨0, _⟩ => show 0 < 512; omega
    | ⟨1, _⟩ => show 0 < 2048; omega
  · have h0 : (β (0 : Fin 2)).val < 40 := (β (0 : Fin 2)).isLt.trans_eq (by show (20480 + 512 - 1) / 512 = 40; rfl)
    have h1 : (β (1 : Fin 2)).val < 2 := (β (1 : Fin 2)).isLt.trans_eq (by show (4096 + 2048 - 1) / 2048 = 2; rfl)
    obtain ⟨hf, hi⟩ := pt_facts ⟨_, h0⟩ ⟨_, h1⟩
    refine ⟨pt _ _, hf, fun a => ⟨(congrFun hi a).trans ?_, .inl rfl⟩⟩
    match a with
    | ⟨0, _⟩ => rfl
    | ⟨1, _⟩ => rfl

/-- An entry of the block the body computes is a row times a column. -/
theorem pay_apply (a : S512x1792.Idx → EReal) (w : S1x1x1792x2048.Idx → EReal) (r : Fin 512) (d : Fin 2048) :
    (k0_pay1 (F := Ideal) a w (ix2 r d) : EReal) = ∑ k : Fin 1792, a (ix2 r k) * w (ix4 (0 : Fin 1) (0 : Fin 1) k d) := by
  pointwise [k0_pay1]

/-- Past the blocks in use the body stores zeros. -/
theorem pay_zero (y : S512x2048.Idx) : (k0_pay2 (F := Ideal) y : EReal) = 0 := by
  show Ideal.ofBits .f32 0x00000000#32 = 0
  simp

/-- The body computes at the points whose block of rows is in use. -/
theorem cond_iff (i : grid0.Coords) {n : ℕ} (hn : n ≤ 256) : k0_cond1 i (BitVec.ofNat 32 n) = 1#1 ↔ (i 1).val < n := by
  have key : ∀ b : BitVec 1, Scalar.cmpi .ne (Scalar.extui b : BitVec 32) 0#32 = b := by decide
  have h1 : (i 1).val < 40 := (i 1).isLt
  unfold k0_cond1
  dsimp only
  rw [key]
  exact WordCmp.cmpi_slt_ofNat_eq_one_iff (w := 32) (by norm_num; omega) (by norm_num; omega)

/-- Block 0 of an axis starts at 0. -/
theorem zero_rows (s k : ℕ) : 0 * s + k = k := by omega

/-- The rows' block holds the rows of its grid point. -/
theorem x_apply (t : Fin (cfgM m).N) (r : Fin 512) (k : Fin 1792) (i : Fin 20480) (hi : i.val = (grid0.coords t 1).val * 512 + r.val) :
    (xOf m c t (ix2 r k) : EReal) = hid m c (ix2 i k) := by
  unfold xOf blkOf
  show (V m c main_v0 : S20480x1792.Idx → EReal) _ = _
  rw [V_v0]
  refine congrArg (hid m c) (funext fun a => Fin.ext ?_)
  match a with
  | ⟨0, _⟩ => blk_simp [hi]; exact congrArg (fun n : ℕ => n * 512 + r.val) (congrFun (idx0 m t) (0 : Fin 2))
  | ⟨1, _⟩ => blk_simp; exact (congrArg (fun n : ℕ => n * 1792 + k.val) (congrFun (idx0 m t) (1 : Fin 2))).trans (zero_rows _ _)

/-- The matrices' block holds the columns of its grid point of its expert's matrix. -/
theorem w_apply (t : Fin (cfgM m).N) (k : Fin 1792) (d : Fin 2048) (e : Fin 8) (he : e.val = (te m (grid0.coords t)).toNat)
    (j : Fin 4096) (hj : j.val = (grid0.coords t 0).val * 2048 + d.val) :
    (wOf m c t (ix4 (0 : Fin 1) (0 : Fin 1) k d) : EReal) = wd m c (ix4 (0 : Fin 2) e k j) := by
  unfold wOf blkOf
  show (V m c main_arg2 : S2x8x1792x4096.Idx → EReal) _ = _
  rw [V_arg2]
  refine congrArg (wd m c) (funext fun a => Fin.ext ?_)
  match a with
  | ⟨0, _⟩ => blk_simp; rfl
  | ⟨1, _⟩ => blk_simp [he]; exact congrFun (idx1 m t) (1 : Fin 4)
  | ⟨2, _⟩ => blk_simp; exact (congrArg (fun n : ℕ => n * 1792 + k.val) (congrFun (idx1 m t) (2 : Fin 4))).trans (zero_rows _ _)
  | ⟨3, _⟩ => blk_simp [hj]; exact congrArg (fun n : ℕ => n * 2048 + d.val) (congrFun (idx1 m t) (3 : Fin 4))

section Counts

variable {a : ℕ → ℕ} (hw : ∀ k : Fin 8, cnt m 0 (ValueIdx.ix1 k) = BitVec.ofNat 32 (a k.val)) (ha : ∀ k, a k ≤ 16384)
include hw ha

/-- An entry of the block the body leaves at a point is the entry of the result under it. -/
theorem out_apply (t : Fin (cfgM m).N) (r : Fin 512) (d : Fin 2048) (i : Fin 20480) (hi : i.val = (grid0.coords t 1).val * 512 + r.val)
    (j : Fin 4096) (hj : j.val = (grid0.coords t 0).val * 2048 + d.val) :
    (out (grid0.coords t) (nu m) (xOf m c t) (wOf m c t) (ix2 r d) : EReal) = spec a (hid m c) (wd m c) i j := by
  have hq : i.val / 512 = (grid0.coords t 1).val := by omega
  have hb := Moe.blocks_le ha 7
  have hc := cond_iff (grid0.coords t) (n := blocks a 7) (by omega)
  have he : (te m (grid0.coords t)).toNat = expert a (grid0.coords t 1).val := by
    rw [te_eq, Moe.experts_at hw ha (grid0.coords t 1), BitVec.toNat_ofNat]
    have := expert_lt a (grid0.coords t 1).val
    omega
  rw [nu_eq, Moe.used_at hw ha]
  have hs : spec a (hid m c) (wd m c) i j = if (grid0.coords t 1).val < blocks a 7 then
      Moe.prod (hid m c) (wd m c) ⟨expert a (grid0.coords t 1).val, expert_lt a _⟩ i j else 0 := by
    unfold spec; simp only [hq]
  rw [hs]
  unfold out
  by_cases h : (grid0.coords t 1).val < blocks a 7
  · rw [if_pos h, if_pos (hc.2 h), pay_apply]
    exact Finset.sum_congr rfl fun k _ => congrArg₂ (fun u v : EReal => u * v) (x_apply m c t r k i hi) (w_apply m c t k d _ he.symm j hj)
  · rw [if_neg h, if_neg fun h' => h (hc.1 h'), pay_zero]

/-- The same at an index of the block, where the window places it. -/
theorem out_at (t : Fin (cfgM m).N) (y : S512x2048.Idx) (i : Fin 20480) (j : Fin 4096)
    (hi : i.val = cc0_transform_2 (grid0.coords t) 0 * 512 + (y 0).val) (hj : j.val = cc0_transform_2 (grid0.coords t) 1 * 2048 + (y 1).val) :
    (out (grid0.coords t) (nu m) (xOf m c t) (wOf m c t) y : EReal) = spec a (hid m c) (wd m c) i j := by
  rw [map2] at hi hj
  exact (congrArg (out (grid0.coords t) (nu m) (xOf m c t) (wOf m c t)) (Mat.ix2_eta y)).trans
    (out_apply m c hw ha t _ _ i hi j hj)

/-- The kernel's result. -/
theorem result_eq : (result m c : S20480x4096.Idx → EReal)
    = fun i : S20480x4096.Idx => spec a (hid m c) (wd m c) (⟨(i 0).val, (i 0).isLt⟩ : Fin 20480) (⟨(i 1).val, (i 1).isLt⟩ : Fin 4096) := by
  unfold result
  refine (dats m 0 c).arrAt_eq_of_covers 2 _ (covers m) fun t hf y => ?_
  blk_simp
  rw [after2]
  exact out_at m c hw ha t y _ _ rfl rfl

end Counts

/-! ## The reference -/

section Reference

open Cert.ReferenceMoeDownIdeal.Read

/-- The reference's slice of a stack, reshaped, holds the first layer's matrices. -/
theorem layer_apply (w : S2x8x1792x4096.Idx → EReal) (j : Cert.ReferenceMoeDownIdeal.S8x1792x4096.Idx) :
    (val_main_v1 (F := Ideal) w j : EReal)
      = w (ix4 (0 : Fin 2) (⟨(j 0).val, (j 0).isLt⟩ : Fin 8) (⟨(j 1).val, (j 1).isLt⟩ : Fin 1792) (⟨(j 2).val, (j 2).isLt⟩ : Fin 4096)) := by
  have h0 : (j 0).val < 8 := (j 0).isLt
  have h1 : (j 1).val < 1792 := (j 1).isLt
  have h2 : (j 2).val < 4096 := (j 2).isLt
  rw [val_main_v1_apply, val_main_v0_apply]
  refine congrArg w (funext fun a => Fin.ext ?_)
  match a with
  | ⟨0, _⟩ => rfl
  | ⟨1, _⟩ => show (((j 0).val * 1792 + (j 1).val) * 4096 + (j 2).val) / 7340032 % 8 = (j 0).val; omega
  | ⟨2, _⟩ => show (((j 0).val * 1792 + (j 1).val) * 4096 + (j 2).val) / 4096 % 1792 = (j 1).val; omega
  | ⟨3, _⟩ => show (((j 0).val * 1792 + (j 1).val) * 4096 + (j 2).val) % 4096 = (j 2).val; omega

/-- The reference's product, of every row with every expert's matrix. -/
theorem prod_eq (x : S20480x1792.Idx → EReal) (w : S2x8x1792x4096.Idx → EReal) (r : Fin 20480) (e : Fin 8) (d : Fin 4096) :
    (val_main_v2 (F := Ideal) x w (ix3 r e d) : EReal) = Moe.prod x w e r d := by
  rw [val_main_v2_apply]
  exact Finset.sum_congr rfl fun k _ => congrArg₂ (fun u v : EReal => u * v) (congrArg x (Mat.ix2_eta _)) (layer_apply w _)

/-- The reference pads the counts as the kernel's host code does. -/
theorem padded_eq (n : IVec S8 32) : val_main_v9 (F := Ideal) n = Moe.padded n := rfl

/-- The reference's segments end where the kernel's do. -/
theorem ends_eq (n : IVec S8 32) : val_main_v10 (F := Ideal) n = Moe.ends n := by
  unfold val_main_v10 Moe.ends
  rw [padded_eq]
  rfl

/-- What the reference keeps of expert `e` at row `r`. -/
theorem keep_eq (n : IVec S8 32) (r : Fin 20480) (e : Fin 8) (d : Fin 4096) :
    val_main_call2_v1 (F := Ideal) n (ix3 r e d)
      = IntOp.andi (IntOp.cmpi .sle (IntOp.subi (Moe.ends n (ValueIdx.ix1 e)) (Moe.padded n (ValueIdx.ix1 e))) (BitVec.ofNat 32 r.val))
          (IntOp.cmpi .slt (BitVec.ofNat 32 r.val) (Moe.ends n (ValueIdx.ix1 e))) := by
  have hi : ∀ i : S8.Idx, (i 0).val = e.val → i = ValueIdx.ix1 e := fun i h => funext fun a => Fin.ext (by
    match a with
    | ⟨0, _⟩ => exact h)
  rw [val_main_call2_v1_apply, val_main_v23_apply, val_main_v22_apply, val_main_v17_apply, val_main_v21_apply, val_main_v15_apply,
    val_main_v14_apply, val_main_v13_apply, val_main_v16_apply, val_main_v19_apply, val_main_v12_apply,
    val_main_v11_apply, val_main_v20_apply, val_main_v18_apply, padded_eq, ends_eq]
  rw [hi (idx_main_v14 _) rfl, hi (idx_main_v18 _) rfl]
  rfl

/-- The reference's result. -/
theorem reference_eq {n : IVec S8 32} {a : ℕ → ℕ} (hw : ∀ k : Fin 8, n (ValueIdx.ix1 k) = BitVec.ofNat 32 (a k.val)) (ha : ∀ k, a k ≤ 16384)
    (x : S20480x1792.Idx → EReal) (w : S2x8x1792x4096.Idx → EReal) (i : S20480x4096.Idx) :
    (val_main_v25 (F := Ideal) n x w i : EReal)
      = spec a x w (⟨(i 0).val, (i 0).isLt⟩ : Fin 20480) (⟨(i 1).val, (i 1).isLt⟩ : Fin 4096) := by
  have hz : (val_main_cst_3 (F := Ideal) (Shape.Idx.first Cert.ReferenceMoeDownIdeal.Gen.h_S_) : EReal) = 0 := by
    rw [val_main_cst_3_apply]; show Ideal.ofBits .f32 0x00000000#32 = 0; simp
  have hi : ∀ e : Fin 8, idx_main_v25 i e = ix3 (⟨(i 0).val, (i 0).isLt⟩ : Fin 20480) e (⟨(i 1).val, (i 1).isLt⟩ : Fin 4096) := fun e =>
    funext fun b => by
      match b with
      | ⟨0, _⟩ => rfl
      | ⟨1, _⟩ => rfl
      | ⟨2, _⟩ => rfl
  refine (val_main_v25_apply n x w i).trans ?_
  rw [hz, zero_add]
  refine Eq.trans ?_ (Moe.sum_mine hw ha (i 0).val (i 0).isLt
    fun e => Moe.prod x w e (⟨(i 0).val, (i 0).isLt⟩ : Fin 20480) (⟨(i 1).val, (i 1).isLt⟩ : Fin 4096))
  refine Finset.sum_congr rfl fun e _ => ?_
  rw [hi, val_main_v24_apply, keep_eq, prod_eq, val_main_call2_v2_apply, val_main_call2_v0_apply, val_main_cst_apply]
  refine ite_congr rfl (fun _ => rfl) fun _ => ?_
  show Ideal.ofBits .f32 0x00000000#32 = 0
  simp

end Reference

/-! ## The claim -/

/-- Counts the precondition admits are in range. -/
theorem counts (h : Cert.Pre_KernelMoeDownIdeal_moe_down_counts m) (k : ℕ) : num (cnt m 0) k ≤ 16384 :=
  Moe.num_le (fun k => congrFun (h 0) (ValueIdx.ix1 k)) k

/-- From the same arguments with the counts in range, over the extended reals, the kernel's program and the
    reference's have one result. -/
theorem algebraic : Cert.algebraic_KernelMoeDownIdeal_ReferenceMoeDownIdeal_pre_moe_down_counts := fun m g m' g' hp hm =>
  ⟨fun c => result m c, (θ_run _ _ _).mono (fun _ h => h.1) (MoeDownI.run m g),
    (θ_run _ _ _).mono (fun _ h c => ⟨(h c).1.trans (by
      obtain ⟨h0, h1, h2⟩ := hm c
      refine (Cert.ReferenceMoeDownIdeal.Read.val_main_v25_eq (F := Ideal) _ _).trans ?_
      rw [h0, h1, h2]
      obtain rfl : c = 0 := Subsingleton.elim _ _
      exact (funext fun i => reference_eq (Moe.num_eq _) (counts m hp) _ _ i).trans
        (result_eq m 0 (Moe.num_eq _) (counts m hp)).symm), (h c).2⟩) (Cert.ReferenceMoeDownIdeal.Value.run (F := Ideal) m' g')⟩

end Cert.Proof.MoeDownValue

end
-- ==== Proof.lean ====
/-
  The certificate: of each program the frame, of the stick-breaking kernel the named constants, and of each pair of a
  kernel and its reference the equality of their results over the extended reals.
-/
module

public import proofs.«01_k».proof.Defs
public import proofs.«01_k».proof.Proof.K.Run
public import proofs.«01_k».proof.Proof.Alg.Reference
public import proofs.«01_k».proof.Proof.Gen.KernelEvenIn.Frame
public import proofs.«01_k».proof.Proof.Mat.EvenIn
public import proofs.«01_k».proof.Proof.Gen.KernelEvenOut.Frame
public import proofs.«01_k».proof.Proof.Mat.EvenOut
public import proofs.«01_k».proof.Proof.Gen.KernelFfnUp.Frame
public import proofs.«01_k».proof.Proof.Mat.FfnUp
public import proofs.«01_k».proof.Proof.Gen.KernelFfnDown.Frame
public import proofs.«01_k».proof.Proof.Mat.FfnDown
public import proofs.«01_k».proof.Proof.Gen.KernelOddIn.Frame
public import proofs.«01_k».proof.Proof.Mat.OddIn
public import proofs.«01_k».proof.Proof.Gen.KernelOddOut.Frame
public import proofs.«01_k».proof.Proof.Mat.OddOut
public import proofs.«01_k».proof.Proof.Gen.KernelOddTail.Frame
public import proofs.«01_k».proof.Proof.Mat.OddTail
public import proofs.«01_k».proof.Proof.Gen.KernelNorm.Frame
public import proofs.«01_k».proof.Proof.Mat.Norm
public import proofs.«01_k».proof.Proof.Gen.KernelRope.Frame
public import proofs.«01_k».proof.Proof.Mat.Rope
public import proofs.«01_k».proof.Proof.Gen.KernelCast.Frame
public import proofs.«01_k».proof.Proof.Mat.Cast
public import proofs.«01_k».proof.Proof.Gen.KernelIdxQ.Frame
public import proofs.«01_k».proof.Proof.Mat.IdxQ
public import proofs.«01_k».proof.Proof.Gen.KernelIdxTail.Frame
public import proofs.«01_k».proof.Proof.Mat.IdxTail
public import proofs.«01_k».proof.Proof.Mat.MoeUp
public import proofs.«01_k».proof.Proof.Mat.MoeDown

@[expose] public section

noncomputable section

namespace Cert.Proof

open Idealize.ShloMosaic Idealize.ShloMosaic.TcCoe Idealize.SL.Sem

/-- The stick-breaking kernel, over words: it ends with its argument unchanged and all counters at zero. -/
theorem quiescent_Kernel : Cert.quiescent_Kernel := fun m g _ =>
  (θ_run _ _ _).mono (fun _ h => ⟨fun c => (h.1 c).2, h.2⟩) (Cert.Proof.K.run (F := Bits) m g)

/-- The same over the extended reals. -/
theorem quiescent_KernelIdeal : Cert.quiescent_KernelIdeal := fun m g _ =>
  (θ_run _ _ _).mono (fun _ h => ⟨fun c => (h.1 c).2, h.2⟩) (Cert.Proof.KI.run (F := Ideal) m g)

/-- The reference names no semaphore, so all of its counters are at zero at the end. -/
theorem quiescent_ReferenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- Each named constant of the stick-breaking kernel stands where its word stood. -/
theorem preserves : Cert.preserves_Kernel_KernelIdeal :=
  ⟨IdealRules.named_const.statement _ "scale_log2e" .f32 0x3E0293EE#32 _ rfl, IdealRules.named_const.statement _ "log2e" .f32 0x3FB8AA3B#32 _ rfl,
    IdealRules.named_const.statement _ "dead" .f32 0x43200000#32 _ rfl⟩

/-- The stick-breaking kernel and its reference have one result over the extended reals. -/
theorem algebraic : Cert.algebraic_KernelIdeal_ReferenceIdeal := fun m g m' g' _ hm =>
  ⟨fun c => Cert.Proof.KI.result (F := Ideal) m c,
    (θ_run _ _ _).mono (fun _ h c => h.1 c) (Cert.Proof.KI.run (F := Ideal) m g),
    (θ_run _ _ _).mono (fun _ h c => ⟨(h c).1.trans (by
        rw [Cert.ReferenceIdeal.Read.val_main_v28_eq, hm c]
        exact (funext fun i => Alg.reference_eq _ i).trans (Alg.result_eq m c).symm), (h c).2⟩) (Cert.ReferenceIdeal.Value.run (F := Ideal) m' g')⟩

/-- The reference of the even layer's input projection names no semaphore either. -/
theorem quiescent_ReferenceEvenInIdeal : Cert.quiescent_ReferenceEvenInIdeal := fun m g _ =>
  (θ_run _ _ _).mono (fun r h => ⟨fun c => (h c).2, sem_eq_zero_of_no_sems (by decide) r.2⟩) (Cert.ReferenceEvenInIdeal.Value.run (F := Ideal) m g)

/-- The reference of the even layer's output projection names no semaphore either. -/
theorem quiescent_ReferenceEvenOutIdeal : Cert.quiescent_ReferenceEvenOutIdeal := fun m g _ =>
  (θ_run _ _ _).mono (fun r h => ⟨fun c => (h c).2, sem_eq_zero_of_no_sems (by decide) r.2⟩) (Cert.ReferenceEvenOutIdeal.Value.run (F := Ideal) m g)

/-- The reference of the gated feed-forward products names no semaphore either. -/
theorem quiescent_ReferenceFfnUpIdeal : Cert.quiescent_ReferenceFfnUpIdeal := fun m g _ =>
  (θ_run _ _ _).mono (fun r h => ⟨fun c => (h c).2, sem_eq_zero_of_no_sems (by decide) r.2⟩) (Cert.ReferenceFfnUpIdeal.Value.run (F := Ideal) m g)

/-- The reference of the feed-forward's second product names no semaphore either. -/
theorem quiescent_ReferenceFfnDownIdeal : Cert.quiescent_ReferenceFfnDownIdeal := fun m g _ =>
  (θ_run _ _ _).mono (fun r h => ⟨fun c => (h c).2, sem_eq_zero_of_no_sems (by decide) r.2⟩) (Cert.ReferenceFfnDownIdeal.Value.run (F := Ideal) m g)

/-- The reference of the odd layer's input projection names no semaphore either. -/
theorem quiescent_ReferenceOddInIdeal : Cert.quiescent_ReferenceOddInIdeal := fun m g _ =>
  (θ_run _ _ _).mono (fun r h => ⟨fun c => (h c).2, sem_eq_zero_of_no_sems (by decide) r.2⟩) (Cert.ReferenceOddInIdeal.Value.run (F := Ideal) m g)

/-- The reference of the odd layer's output projection names no semaphore either. -/
theorem quiescent_ReferenceOddOutIdeal : Cert.quiescent_ReferenceOddOutIdeal := fun m g _ =>
  (θ_run _ _ _).mono (fun r h => ⟨fun c => (h c).2, sem_eq_zero_of_no_sems (by decide) r.2⟩) (Cert.ReferenceOddOutIdeal.Value.run (F := Ideal) m g)

/-- The reference of the last columns of the odd layer's input projection names no semaphore either. -/
theorem quiescent_ReferenceOddTailIdeal : Cert.quiescent_ReferenceOddTailIdeal := fun m g _ =>
  (θ_run _ _ _).mono (fun r h => ⟨fun c => (h c).2, sem_eq_zero_of_no_sems (by decide) r.2⟩) (Cert.ReferenceOddTailIdeal.Value.run (F := Ideal) m g)

/-- The reference of the norm names no semaphore either. -/
theorem quiescent_ReferenceNormIdeal : Cert.quiescent_ReferenceNormIdeal := fun m g _ =>
  (θ_run _ _ _).mono (fun r h => ⟨fun c => (h c).2.2, sem_eq_zero_of_no_sems (by decide) r.2⟩) (Cert.ReferenceNormIdeal.Value.run (F := Ideal) m g)

/-- The reference of the rotated keys runs without faults and leaves every semaphore at zero. -/
theorem quiescent_ReferenceRopeIdeal : Cert.quiescent_ReferenceRopeIdeal := fun m g _ =>
  (θ_run _ _ _).mono (fun r h => ⟨fun c => (h c).2, sem_eq_zero_of_no_sems (by decide) r.2⟩) (Cert.ReferenceRopeIdeal.Value.run (F := Ideal) m g)

/-- The reference of the cast runs without faults and leaves every semaphore at zero. -/
theorem quiescent_ReferenceCastIdeal : Cert.quiescent_ReferenceCastIdeal := fun m g _ =>
  (θ_run _ _ _).mono (fun r h => ⟨fun c => (h c).2, sem_eq_zero_of_no_sems (by decide) r.2⟩) (Cert.ReferenceCastIdeal.Value.run (F := Ideal) m g)

/-- The reference of the indexer's queries runs without faults and leaves every semaphore at zero. -/
theorem quiescent_ReferenceIdxQIdeal : Cert.quiescent_ReferenceIdxQIdeal := fun m g _ =>
  (θ_run _ _ _).mono (fun r h => ⟨fun c => (h c).2, sem_eq_zero_of_no_sems (by decide) r.2⟩) (Cert.ReferenceIdxQIdeal.Value.run (F := Ideal) m g)

/-- The reference of the indexer's key and weights runs without faults and leaves every semaphore at zero. -/
theorem quiescent_ReferenceIdxTailIdeal : Cert.quiescent_ReferenceIdxTailIdeal := fun m g _ =>
  (θ_run _ _ _).mono (fun r h => ⟨fun c => (h c).2.2, sem_eq_zero_of_no_sems (by decide) r.2⟩) (Cert.ReferenceIdxTailIdeal.Value.run (F := Ideal) m g)

/-- The experts' first product, over words: it ends with its arguments unchanged and all counters at zero. -/
theorem quiescent_KernelMoeUp : Cert.quiescent_KernelMoeUp := fun m g _ =>
  (θ_run _ _ _).mono (fun _ h => ⟨fun c => (h.1 c).2, h.2⟩) (Cert.Proof.MoeUp.run (F := Bits) m g)

/-- The same over the extended reals. -/
theorem quiescent_KernelMoeUpIdeal : Cert.quiescent_KernelMoeUpIdeal := fun m g _ =>
  (θ_run _ _ _).mono (fun _ h => ⟨fun c => (h.1 c).2, h.2⟩) (Cert.Proof.MoeUpI.run (F := Ideal) m g)

/-- The reference of the experts' first product names no semaphore either. -/
theorem quiescent_ReferenceMoeUpIdeal : Cert.quiescent_ReferenceMoeUpIdeal := fun m g _ =>
  (θ_run _ _ _).mono (fun r h => ⟨fun c => (h c).2, sem_eq_zero_of_no_sems (by decide) r.2⟩) (Cert.ReferenceMoeUpIdeal.Value.run (F := Ideal) m g)

/-- The experts' second product, over words: it ends with its arguments unchanged and all counters at zero. -/
theorem quiescent_KernelMoeDown : Cert.quiescent_KernelMoeDown := fun m g _ =>
  (θ_run _ _ _).mono (fun _ h => ⟨fun c => (h.1 c).2, h.2⟩) (Cert.Proof.MoeDown.run (F := Bits) m g)

/-- The same over the extended reals. -/
theorem quiescent_KernelMoeDownIdeal : Cert.quiescent_KernelMoeDownIdeal := fun m g _ =>
  (θ_run _ _ _).mono (fun _ h => ⟨fun c => (h.1 c).2, h.2⟩) (Cert.Proof.MoeDownI.run (F := Ideal) m g)

/-- The reference of the experts' second product names no semaphore either. -/
theorem quiescent_ReferenceMoeDownIdeal : Cert.quiescent_ReferenceMoeDownIdeal := fun m g _ =>
  (θ_run _ _ _).mono (fun r h => ⟨fun c => (h c).2, sem_eq_zero_of_no_sems (by decide) r.2⟩) (Cert.ReferenceMoeDownIdeal.Value.run (F := Ideal) m g)

/-- Everything claimed: the stick-breaking attention, the seven dense products, the norm, the four calls that prepare the
    sparse attention's arrays and the experts' two products. -/
theorem claim : Cert.Claim := ⟨Cert.Kernel.Gen.facts, Cert.KernelIdeal.Gen.facts, Cert.ReferenceIdeal.Gen.facts,
  Cert.KernelEvenIn.Gen.facts, Cert.KernelEvenInIdeal.Gen.facts, Cert.ReferenceEvenInIdeal.Gen.facts,
  Cert.KernelEvenOut.Gen.facts, Cert.KernelEvenOutIdeal.Gen.facts, Cert.ReferenceEvenOutIdeal.Gen.facts,
  Cert.KernelFfnUp.Gen.facts, Cert.KernelFfnUpIdeal.Gen.facts, Cert.ReferenceFfnUpIdeal.Gen.facts,
  Cert.KernelFfnDown.Gen.facts, Cert.KernelFfnDownIdeal.Gen.facts, Cert.ReferenceFfnDownIdeal.Gen.facts,
  Cert.KernelOddIn.Gen.facts, Cert.KernelOddInIdeal.Gen.facts, Cert.ReferenceOddInIdeal.Gen.facts,
  Cert.KernelOddOut.Gen.facts, Cert.KernelOddOutIdeal.Gen.facts, Cert.ReferenceOddOutIdeal.Gen.facts,
  Cert.KernelOddTail.Gen.facts, Cert.KernelOddTailIdeal.Gen.facts, Cert.ReferenceOddTailIdeal.Gen.facts,
  Cert.KernelNorm.Gen.facts, Cert.KernelNormIdeal.Gen.facts, Cert.ReferenceNormIdeal.Gen.facts,
  Cert.KernelRope.Gen.facts, Cert.KernelRopeIdeal.Gen.facts, Cert.ReferenceRopeIdeal.Gen.facts,
  Cert.KernelCast.Gen.facts, Cert.KernelCastIdeal.Gen.facts, Cert.ReferenceCastIdeal.Gen.facts,
  Cert.KernelIdxQ.Gen.facts, Cert.KernelIdxQIdeal.Gen.facts, Cert.ReferenceIdxQIdeal.Gen.facts,
  Cert.KernelIdxTail.Gen.facts, Cert.KernelIdxTailIdeal.Gen.facts, Cert.ReferenceIdxTailIdeal.Gen.facts,
  Cert.KernelMoeUp.Gen.facts, Cert.KernelMoeUpIdeal.Gen.facts, Cert.ReferenceMoeUpIdeal.Gen.facts,
  Cert.KernelMoeDown.Gen.facts, Cert.KernelMoeDownIdeal.Gen.facts, Cert.ReferenceMoeDownIdeal.Gen.facts,
  Cert.Pre_moe_up_counts.Gen.facts, Cert.Pre_moe_down_counts.Gen.facts,
  quiescent_Kernel, quiescent_KernelIdeal, quiescent_ReferenceIdeal,
  fun m g _ => Cert.KernelEvenIn.Gen.frame m g, fun m g _ => Cert.KernelEvenInIdeal.Gen.frame m g, quiescent_ReferenceEvenInIdeal,
  fun m g _ => Cert.KernelEvenOut.Gen.frame m g, fun m g _ => Cert.KernelEvenOutIdeal.Gen.frame m g, quiescent_ReferenceEvenOutIdeal,
  fun m g _ => Cert.KernelFfnUp.Gen.frame m g, fun m g _ => Cert.KernelFfnUpIdeal.Gen.frame m g, quiescent_ReferenceFfnUpIdeal,
  fun m g _ => Cert.KernelFfnDown.Gen.frame m g, fun m g _ => Cert.KernelFfnDownIdeal.Gen.frame m g, quiescent_ReferenceFfnDownIdeal,
  fun m g _ => Cert.KernelOddIn.Gen.frame m g, fun m g _ => Cert.KernelOddInIdeal.Gen.frame m g, quiescent_ReferenceOddInIdeal,
  fun m g _ => Cert.KernelOddOut.Gen.frame m g, fun m g _ => Cert.KernelOddOutIdeal.Gen.frame m g, quiescent_ReferenceOddOutIdeal,
  fun m g _ => Cert.KernelOddTail.Gen.frame m g, fun m g _ => Cert.KernelOddTailIdeal.Gen.frame m g, quiescent_ReferenceOddTailIdeal,
  fun m g _ => Cert.KernelNorm.Gen.frame m g, fun m g _ => Cert.KernelNormIdeal.Gen.frame m g, quiescent_ReferenceNormIdeal,
  fun m g _ => Cert.KernelRope.Gen.frame m g, fun m g _ => Cert.KernelRopeIdeal.Gen.frame m g, quiescent_ReferenceRopeIdeal,
  fun m g _ => Cert.KernelCast.Gen.frame m g, fun m g _ => Cert.KernelCastIdeal.Gen.frame m g, quiescent_ReferenceCastIdeal,
  fun m g _ => Cert.KernelIdxQ.Gen.frame m g, fun m g _ => Cert.KernelIdxQIdeal.Gen.frame m g, quiescent_ReferenceIdxQIdeal,
  fun m g _ => Cert.KernelIdxTail.Gen.frame m g, fun m g _ => Cert.KernelIdxTailIdeal.Gen.frame m g, quiescent_ReferenceIdxTailIdeal,
  quiescent_KernelMoeUp, quiescent_KernelMoeUpIdeal, fun m g _ => quiescent_KernelMoeUpIdeal m g trivial,
  quiescent_ReferenceMoeUpIdeal, fun m g _ => quiescent_ReferenceMoeUpIdeal m g trivial,
  quiescent_KernelMoeDown, quiescent_KernelMoeDownIdeal, fun m g _ => quiescent_KernelMoeDownIdeal m g trivial,
  quiescent_ReferenceMoeDownIdeal, fun m g _ => quiescent_ReferenceMoeDownIdeal m g trivial,
  preserves, algebraic, trivial, EvenIn.algebraic, trivial, EvenOut.algebraic, trivial, FfnUp.algebraic, trivial, FfnDown.algebraic, trivial, OddIn.algebraic, trivial, OddOut.algebraic,
  trivial, OddTail.algebraic, trivial, Norm.algebraic, trivial, Rope.algebraic, trivial, Cast.algebraic, trivial, IdxQ.algebraic, trivial, IdxTail.algebraic, trivial, MoeUpValue.algebraic, trivial, MoeDownValue.algebraic⟩

end Cert.Proof

end
